-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_heads_twice [hPre_heads_twice : Cert.Pre_heads_twice.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_heads_twice.fn (F := Ideal) (m ((c.tc : Thread Cert.Kernel3Ideal.nD Cert.Kernel3Ideal.τ).loc Cert.Kernel3Ideal.main_arg0))).1 = (fun _ => 1#1)
    ∧ (Cert.Pre_heads_twice.fn (F := Ideal) (m ((c.tc : Thread Cert.Kernel3Ideal.nD Cert.Kernel3Ideal.τ).loc Cert.Kernel3Ideal.main_arg0))).2.1 = (fun _ => 1#1)
    ∧ (Cert.Pre_heads_twice.fn (F := Ideal) (m ((c.tc : Thread Cert.Kernel3Ideal.nD Cert.Kernel3Ideal.τ).loc Cert.Kernel3Ideal.main_arg0))).2.2.1 = (fun _ => 1#1)
    ∧ (Cert.Pre_heads_twice.fn (F := Ideal) (m ((c.tc : Thread Cert.Kernel3Ideal.nD Cert.Kernel3Ideal.τ).loc Cert.Kernel3Ideal.main_arg0))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_heads_twice [hPre_heads_twice : Cert.Pre_heads_twice.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_heads_twice.fn (F := Ideal) (m ((c.tc : Thread Cert.Reference3Ideal.nD Cert.Reference3Ideal.τ).loc Cert.Reference3Ideal.main_arg0))).1 = (fun _ => 1#1)
    ∧ (Cert.Pre_heads_twice.fn (F := Ideal) (m ((c.tc : Thread Cert.Reference3Ideal.nD Cert.Reference3Ideal.τ).loc Cert.Reference3Ideal.main_arg0))).2.1 = (fun _ => 1#1)
    ∧ (Cert.Pre_heads_twice.fn (F := Ideal) (m ((c.tc : Thread Cert.Reference3Ideal.nD Cert.Reference3Ideal.τ).loc Cert.Reference3Ideal.main_arg0))).2.2.1 = (fun _ => 1#1)
    ∧ (Cert.Pre_heads_twice.fn (F := Ideal) (m ((c.tc : Thread Cert.Reference3Ideal.nD Cert.Reference3Ideal.τ).loc Cert.Reference3Ideal.main_arg0))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_rotary_tables [hPre_rotary_tables : Cert.Pre_rotary_tables.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rotary_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_rotary_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_rotary_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_rotary_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_rotary_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_rotary_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rotary_tables [hPre_rotary_tables : Cert.Pre_rotary_tables.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rotary_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_rotary_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_rotary_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_rotary_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_rotary_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_rotary_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_rotary_tables_normed [hPre_rotary_tables_normed : Cert.Pre_rotary_tables_normed.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_rotary_tables_normed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_rotary_tables_normed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_rotary_tables_normed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_rotary_tables_normed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_rotary_tables_normed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_rotary_tables_normed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_rotary_tables_normed [hPre_rotary_tables_normed : Cert.Pre_rotary_tables_normed.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_rotary_tables_normed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_rotary_tables_normed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_rotary_tables_normed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_rotary_tables_normed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_rotary_tables_normed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_rotary_tables_normed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_heads_twice [hKernel3Ideal : Cert.Kernel3Ideal.Facts] [hPre_heads_twice : Cert.Pre_heads_twice.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_heads_twice m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_heads_twice [hReference3Ideal : Cert.Reference3Ideal.Facts] [hPre_heads_twice : Cert.Pre_heads_twice.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_heads_twice m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_rotary_tables [hKernel5Ideal : Cert.Kernel5Ideal.Facts] [hPre_rotary_tables : Cert.Pre_rotary_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_rotary_tables m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_rotary_tables [hReference5Ideal : Cert.Reference5Ideal.Facts] [hPre_rotary_tables : Cert.Pre_rotary_tables.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rotary_tables m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_rotary_tables_normed [hKernel7Ideal : Cert.Kernel7Ideal.Facts] [hPre_rotary_tables_normed : Cert.Pre_rotary_tables_normed.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_rotary_tables_normed m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_rotary_tables_normed [hReference7Ideal : Cert.Reference7Ideal.Facts] [hPre_rotary_tables_normed : Cert.Pre_rotary_tables_normed.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_rotary_tables_normed m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_heads_twice [hKernel3Ideal : Cert.Kernel3Ideal.Facts] [hReference3Ideal : Cert.Reference3Ideal.Facts] [hPre_heads_twice : Cert.Pre_heads_twice.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_heads_twice m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_rotary_tables [hKernel5Ideal : Cert.Kernel5Ideal.Facts] [hReference5Ideal : Cert.Reference5Ideal.Facts] [hPre_rotary_tables : Cert.Pre_rotary_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_rotary_tables m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v131) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_rotary_tables_normed [hKernel7Ideal : Cert.Kernel7Ideal.Facts] [hReference7Ideal : Cert.Reference7Ideal.Facts] [hPre_rotary_tables_normed : Cert.Pre_rotary_tables_normed.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_rotary_tables_normed m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v177) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v104) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_tables_in_range : Cert.Pre_tables_in_range.Facts) (hPre_heads_twice : Cert.Pre_heads_twice.Facts) (hPre_rotary_tables : Cert.Pre_rotary_tables.Facts) (hPre_rotary_tables_normed : Cert.Pre_rotary_tables_normed.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_heads_twice (hKernel3Ideal := hKernel3Ideal) (hPre_heads_twice := hPre_heads_twice)
    ∧ quiescent_Reference3Ideal (hReference3Ideal := hReference3Ideal)
    ∧ quiescent_Reference3Ideal_pre_heads_twice (hReference3Ideal := hReference3Ideal) (hPre_heads_twice := hPre_heads_twice)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_rotary_tables (hKernel5Ideal := hKernel5Ideal) (hPre_rotary_tables := hPre_rotary_tables)
    ∧ quiescent_Reference5Ideal (hReference5Ideal := hReference5Ideal)
    ∧ quiescent_Reference5Ideal_pre_rotary_tables (hReference5Ideal := hReference5Ideal) (hPre_rotary_tables := hPre_rotary_tables)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_rotary_tables_normed (hKernel7Ideal := hKernel7Ideal) (hPre_rotary_tables_normed := hPre_rotary_tables_normed)
    ∧ quiescent_Reference7Ideal (hReference7Ideal := hReference7Ideal)
    ∧ quiescent_Reference7Ideal_pre_rotary_tables_normed (hReference7Ideal := hReference7Ideal) (hPre_rotary_tables_normed := hPre_rotary_tables_normed)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_heads_twice (hKernel3Ideal := hKernel3Ideal) (hReference3Ideal := hReference3Ideal) (hPre_heads_twice := hPre_heads_twice)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_rotary_tables (hKernel5Ideal := hKernel5Ideal) (hReference5Ideal := hReference5Ideal) (hPre_rotary_tables := hPre_rotary_tables)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_rotary_tables_normed (hKernel7Ideal := hKernel7Ideal) (hReference7Ideal := hReference7Ideal) (hPre_rotary_tables_normed := hPre_rotary_tables_normed)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_heads_twice.lean ====
abbrev S8x2304x3072 : Shape := ⟨3, ![8, 2304, 3072]⟩
abbrev S8x2304x2048 : Shape := ⟨3, ![8, 2304, 2048]⟩
abbrev S8x2304x8x4x64 : Shape := ⟨5, ![8, 2304, 8, 4, 64]⟩
abbrev S8x2304x8x1x64 : Shape := ⟨5, ![8, 2304, 8, 1, 64]⟩
abbrev S8x2304x8x64 : Shape := ⟨4, ![8, 2304, 8, 64]⟩
abbrev S_ : Shape := ⟨0, ![]⟩

class Facts : Prop where
  bitsLt_bf16_f32 : FTy.bits .bf16 < FTy.bits .f32
  slices_S8x2304x3072_S8x2304x2048_0_0_1024 : S8x2304x3072.Slices ![0, 0, 1024] S8x2304x2048
  shapeCasts_S8x2304x2048_S8x2304x8x4x64 : S8x2304x2048.ShapeCasts S8x2304x8x4x64
  slices_S8x2304x3072_S8x2304x2048_0_0_0 : S8x2304x3072.Slices ![0, 0, 0] S8x2304x2048
  slices_S8x2304x8x4x64_S8x2304x8x1x64_0_0_0_1_0 : S8x2304x8x4x64.Slices ![0, 0, 0, 1, 0] S8x2304x8x1x64
  shapeCasts_S8x2304x8x1x64_S8x2304x8x64 : S8x2304x8x1x64.ShapeCasts S8x2304x8x64
  bcast_S_S8x2304x8x64 : S_.BroadcastsInDim S8x2304x8x64 (![] : Fin 0 → Fin S8x2304x8x64.rank)
  slices_S8x2304x8x4x64_S8x2304x8x1x64_0_0_0_2_0 : S8x2304x8x4x64.Slices ![0, 0, 0, 2, 0] S8x2304x8x1x64
  slices_S8x2304x8x4x64_S8x2304x8x1x64_0_0_0_3_0 : S8x2304x8x4x64.Slices ![0, 0, 0, 3, 0] S8x2304x8x1x64
  slices_S8x2304x8x4x64_S8x2304x8x1x64_0_0_0_0_0 : S8x2304x8x4x64.Slices ![0, 0, 0, 0, 0] S8x2304x8x1x64
  bcast_S_S8x2304x2048 : S_.BroadcastsInDim S8x2304x2048 (![] : Fin 0 → Fin S8x2304x2048.rank)

variable [Facts]

def fn_part1 {F : FTy → Type} [FloatOps F] (main_v3 : FVec F S8x2304x2048 .f32) (main_v7 : IVec S8x2304x8x64 1) (main_v11 : IVec S8x2304x8x64 1) (main_v16 : IVec S8x2304x8x64 1) (main_v18 : IVec S8x2304x2048 1) (main_v19 : FVec F S8x2304x2048 .f32) : IVec S8x2304x8x64 1 × IVec S8x2304x8x64 1 × IVec S8x2304x8x64 1 × IVec S8x2304x2048 1 :=
  let main_v20 : IVec S8x2304x2048 1 := cmpf .olt main_v3 main_v19
  let main_v21 : IVec S8x2304x2048 1 := andi main_v18 main_v20
  (main_v7, main_v11, main_v16, main_v21)

def fn {F : FTy → Type} [FloatOps F] (main_arg0 : FVec F S8x2304x3072 .bf16) : IVec S8x2304x8x64 1 × IVec S8x2304x8x64 1 × IVec S8x2304x8x64 1 × IVec S8x2304x2048 1 :=
  let main_v0 : FVec F S8x2304x3072 .f32 := (extf .f32 · bitsLt_bf16_f32) main_arg0
  let main_v1 : FVec F S8x2304x2048 .f32 := (extractStridedSlice S8x2304x2048 ![0, 0, 1024] · slices_S8x2304x3072_S8x2304x2048_0_0_1024) main_v0
  let main_v2 : FVec F S8x2304x8x4x64 .f32 := shapeCast S8x2304x8x4x64 main_v1 shapeCasts_S8x2304x2048_S8x2304x8x4x64
  let main_v3 : FVec F S8x2304x2048 .f32 := (extractStridedSlice S8x2304x2048 ![0, 0, 0] · slices_S8x2304x3072_S8x2304x2048_0_0_0) main_v0
  let main_v4 : FVec F S8x2304x8x1x64 .f32 := (extractStridedSlice S8x2304x8x1x64 ![0, 0, 0, 1, 0] · slices_S8x2304x8x4x64_S8x2304x8x1x64_0_0_0_1_0) main_v2
  let main_v5 : FVec F S8x2304x8x64 .f32 := shapeCast S8x2304x8x64 main_v4 shapeCasts_S8x2304x8x1x64_S8x2304x8x64
  let main_cst : FVec F S_ .f32 := constant S_ .f32 0x00000000#32
  let main_v6 : FVec F S8x2304x8x64 .f32 := broadcastInDim S8x2304x8x64 ![] bcast_S_S8x2304x8x64 main_cst
  let main_v7 : IVec S8x2304x8x64 1 := cmpf .oeq main_v5 main_v6
  let main_v8 : FVec F S8x2304x8x1x64 .f32 := (extractStridedSlice S8x2304x8x1x64 ![0, 0, 0, 2, 0] · slices_S8x2304x8x4x64_S8x2304x8x1x64_0_0_0_2_0) main_v2
  let main_v9 : FVec F S8x2304x8x64 .f32 := shapeCast S8x2304x8x64 main_v8 shapeCasts_S8x2304x8x1x64_S8x2304x8x64
  let main_cst_0 : FVec F S_ .f32 := constant S_ .f32 0x00000000#32
  let main_v10 : FVec F S8x2304x8x64 .f32 := broadcastInDim S8x2304x8x64 ![] bcast_S_S8x2304x8x64 main_cst_0
  let main_v11 : IVec S8x2304x8x64 1 := cmpf .oeq main_v9 main_v10
  let main_v12 : FVec F S8x2304x8x1x64 .f32 := (extractStridedSlice S8x2304x8x1x64 ![0, 0, 0, 3, 0] · slices_S8x2304x8x4x64_S8x2304x8x1x64_0_0_0_3_0) main_v2
  let main_v13 : FVec F S8x2304x8x64 .f32 := shapeCast S8x2304x8x64 main_v12 shapeCasts_S8x2304x8x1x64_S8x2304x8x64
  let main_v14 : FVec F S8x2304x8x1x64 .f32 := (extractStridedSlice S8x2304x8x1x64 ![0, 0, 0, 0, 0] · slices_S8x2304x8x4x64_S8x2304x8x1x64_0_0_0_0_0) main_v2
  let main_v15 : FVec F S8x2304x8x64 .f32 := shapeCast S8x2304x8x64 main_v14 shapeCasts_S8x2304x8x1x64_S8x2304x8x64
  let main_v16 : IVec S8x2304x8x64 1 := cmpf .oeq main_v13 main_v15
  let main_cst_1 : FVec F S_ .f32 := constant S_ .f32 0xFF800000#32
  let main_v17 : FVec F S8x2304x2048 .f32 := broadcastInDim S8x2304x2048 ![] bcast_S_S8x2304x2048 main_cst_1
  let main_v18 : IVec S8x2304x2048 1 := cmpf .ogt main_v3 main_v17
  let main_cst_2 : FVec F S_ .f32 := constant S_ .f32 0x7F800000#32
  let main_v19 : FVec F S8x2304x2048 .f32 := broadcastInDim S8x2304x2048 ![] bcast_S_S8x2304x2048 main_cst_2
  fn_part1 (F := F) main_v3 main_v7 main_v11 main_v16 main_v18 main_v19
-- ==== Pre_rotary_tables.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x1536 : Shape := ⟨2, ![1024, 1536]⟩
abbrev S1536 : Shape := ⟨1, ![1536]⟩
abbrev S2304x128 : Shape := ⟨2, ![2304, 128]⟩
abbrev S2304x2x2x2x16 : Shape := ⟨5, ![2304, 2, 2, 2, 16]⟩
abbrev S2304x1x2x2x16 : Shape := ⟨5, ![2304, 1, 2, 2, 16]⟩
abbrev S2304x2x2x16 : Shape := ⟨4, ![2304, 2, 2, 16]⟩
abbrev S2304x2x2x1x16 : Shape := ⟨5, ![2304, 2, 2, 1, 16]⟩
abbrev S256x128 : Shape := ⟨2, ![256, 128]⟩
abbrev S_ : Shape := ⟨0, ![]⟩

class Facts : Prop where
  shapeCasts_S2304x128_S2304x2x2x2x16 : S2304x128.ShapeCasts S2304x2x2x2x16
  slices_S2304x2x2x2x16_S2304x1x2x2x16_0_1_0_0_0 : S2304x2x2x2x16.Slices ![0, 1, 0, 0, 0] S2304x1x2x2x16
  shapeCasts_S2304x1x2x2x16_S2304x2x2x16 : S2304x1x2x2x16.ShapeCasts S2304x2x2x16
  slices_S2304x2x2x2x16_S2304x1x2x2x16_0_0_0_0_0 : S2304x2x2x2x16.Slices ![0, 0, 0, 0, 0] S2304x1x2x2x16
  slices_S2304x2x2x2x16_S2304x2x2x1x16_0_0_0_0_0 : S2304x2x2x2x16.Slices ![0, 0, 0, 0, 0] S2304x2x2x1x16
  shapeCasts_S2304x2x2x1x16_S2304x2x2x16 : S2304x2x2x1x16.ShapeCasts S2304x2x2x16
  slices_S2304x2x2x2x16_S2304x2x2x1x16_0_0_0_1_0 : S2304x2x2x2x16.Slices ![0, 0, 0, 1, 0] S2304x2x2x1x16
  slices_S2304x128_S256x128_0_0 : S2304x128.Slices ![0, 0] S256x128
  bcast_S_S256x128 : S_.BroadcastsInDim S256x128 (![] : Fin 0 → Fin S256x128.rank)

variable [Facts]

def fn_part1 {F : FTy → Type} [FloatOps F] (main_arg6 : FVec F S2304x128 .f32) (main_v6 : IVec S2304x2x2x16 1) (main_v11 : IVec S2304x2x2x16 1) (main_v16 : IVec S2304x2x2x16 1) (main_v22 : IVec S2304x2x2x16 1) (main_v23 : FVec F S256x128 .f32) : IVec S2304x2x2x16 1 × IVec S2304x2x2x16 1 × IVec S2304x2x2x16 1 × IVec S2304x2x2x16 1 × IVec S256x128 1 × IVec S256x128 1 :=
  let main_cst : FVec F S_ .f32 := constant S_ .f32 0x3F800000#32
  let main_v24 : FVec F S256x128 .f32 := broadcastInDim S256x128 ![] bcast_S_S256x128 main_cst
  let main_v25 : IVec S256x128 1 := cmpf .oeq main_v23 main_v24
  let main_v26 : FVec F S256x128 .f32 := (extractStridedSlice S256x128 ![0, 0] · slices_S2304x128_S256x128_0_0) main_arg6
  let main_cst_0 : FVec F S_ .f32 := constant S_ .f32 0x00000000#32
  let main_v27 : FVec F S256x128 .f32 := broadcastInDim S256x128 ![] bcast_S_S256x128 main_cst_0
  let main_v28 : IVec S256x128 1 := cmpf .oeq main_v26 main_v27
  (main_v6, main_v11, main_v16, main_v22, main_v25, main_v28)

def fn {F : FTy → Type} [FloatOps F] (main_arg0 : FVec F S8x2304x1024 .f32) (main_arg1 : FVec F S8x2x6x1024 .f32) (main_arg2 : FVec F S1024 .f32) (main_arg3 : FVec F S1024x1536 .f32) (main_arg4 : FVec F S1536 .f32) (main_arg5 : FVec F S2304x128 .f32) (main_arg6 : FVec F S2304x128 .f32) : IVec S2304x2x2x16 1 × IVec S2304x2x2x16 1 × IVec S2304x2x2x16 1 × IVec S2304x2x2x16 1 × IVec S256x128 1 × IVec S256x128 1 :=
  let main_v0 : FVec F S2304x2x2x2x16 .f32 := shapeCast S2304x2x2x2x16 main_arg5 shapeCasts_S2304x128_S2304x2x2x2x16
  let main_v1 : FVec F S2304x2x2x2x16 .f32 := shapeCast S2304x2x2x2x16 main_arg6 shapeCasts_S2304x128_S2304x2x2x2x16
  let main_v2 : FVec F S2304x1x2x2x16 .f32 := (extractStridedSlice S2304x1x2x2x16 ![0, 1, 0, 0, 0] · slices_S2304x2x2x2x16_S2304x1x2x2x16_0_1_0_0_0) main_v0
  let main_v3 : FVec F S2304x2x2x16 .f32 := shapeCast S2304x2x2x16 main_v2 shapeCasts_S2304x1x2x2x16_S2304x2x2x16
  let main_v4 : FVec F S2304x1x2x2x16 .f32 := (extractStridedSlice S2304x1x2x2x16 ![0, 0, 0, 0, 0] · slices_S2304x2x2x2x16_S2304x1x2x2x16_0_0_0_0_0) main_v0
  let main_v5 : FVec F S2304x2x2x16 .f32 := shapeCast S2304x2x2x16 main_v4 shapeCasts_S2304x1x2x2x16_S2304x2x2x16
  let main_v6 : IVec S2304x2x2x16 1 := cmpf .oeq main_v3 main_v5
  let main_v7 : FVec F S2304x1x2x2x16 .f32 := (extractStridedSlice S2304x1x2x2x16 ![0, 1, 0, 0, 0] · slices_S2304x2x2x2x16_S2304x1x2x2x16_0_1_0_0_0) main_v1
  let main_v8 : FVec F S2304x2x2x16 .f32 := shapeCast S2304x2x2x16 main_v7 shapeCasts_S2304x1x2x2x16_S2304x2x2x16
  let main_v9 : FVec F S2304x1x2x2x16 .f32 := (extractStridedSlice S2304x1x2x2x16 ![0, 0, 0, 0, 0] · slices_S2304x2x2x2x16_S2304x1x2x2x16_0_0_0_0_0) main_v1
  let main_v10 : FVec F S2304x2x2x16 .f32 := shapeCast S2304x2x2x16 main_v9 shapeCasts_S2304x1x2x2x16_S2304x2x2x16
  let main_v11 : IVec S2304x2x2x16 1 := cmpf .oeq main_v8 main_v10
  let main_v12 : FVec F S2304x2x2x1x16 .f32 := (extractStridedSlice S2304x2x2x1x16 ![0, 0, 0, 0, 0] · slices_S2304x2x2x2x16_S2304x2x2x1x16_0_0_0_0_0) main_v0
  let main_v13 : FVec F S2304x2x2x16 .f32 := shapeCast S2304x2x2x16 main_v12 shapeCasts_S2304x2x2x1x16_S2304x2x2x16
  let main_v14 : FVec F S2304x2x2x1x16 .f32 := (extractStridedSlice S2304x2x2x1x16 ![0, 0, 0, 1, 0] · slices_S2304x2x2x2x16_S2304x2x2x1x16_0_0_0_1_0) main_v0
  let main_v15 : FVec F S2304x2x2x16 .f32 := shapeCast S2304x2x2x16 main_v14 shapeCasts_S2304x2x2x1x16_S2304x2x2x16
  let main_v16 : IVec S2304x2x2x16 1 := cmpf .oeq main_v13 main_v15
  let main_v17 : FVec F S2304x2x2x1x16 .f32 := (extractStridedSlice S2304x2x2x1x16 ![0, 0, 0, 0, 0] · slices_S2304x2x2x2x16_S2304x2x2x1x16_0_0_0_0_0) main_v1
  let main_v18 : FVec F S2304x2x2x16 .f32 := shapeCast S2304x2x2x16 main_v17 shapeCasts_S2304x2x2x1x16_S2304x2x2x16
  let main_v19 : FVec F S2304x2x2x1x16 .f32 := (extractStridedSlice S2304x2x2x1x16 ![0, 0, 0, 1, 0] · slices_S2304x2x2x2x16_S2304x2x2x1x16_0_0_0_1_0) main_v1
  let main_v20 : FVec F S2304x2x2x16 .f32 := shapeCast S2304x2x2x16 main_v19 shapeCasts_S2304x2x2x1x16_S2304x2x2x16
  let main_v21 : FVec F S2304x2x2x16 .f32 := Host.negf main_v20
  let main_v22 : IVec S2304x2x2x16 1 := cmpf .oeq main_v18 main_v21
  let main_v23 : FVec F S256x128 .f32 := (extractStridedSlice S256x128 ![0, 0] · slices_S2304x128_S256x128_0_0) main_arg5
  fn_part1 (F := F) main_arg6 main_v6 main_v11 main_v16 main_v22 main_v23
-- ==== Pre_rotary_tables_normed.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x1536 : Shape := ⟨2, ![1024, 1536]⟩
abbrev S64 : Shape := ⟨1, ![64]⟩
abbrev S2304x128 : Shape := ⟨2, ![2304, 128]⟩
abbrev S2304x2x2x2x16 : Shape := ⟨5, ![2304, 2, 2, 2, 16]⟩
abbrev S2304x1x2x2x16 : Shape := ⟨5, ![2304, 1, 2, 2, 16]⟩
abbrev S2304x2x2x16 : Shape := ⟨4, ![2304, 2, 2, 16]⟩
abbrev S2304x2x2x1x16 : Shape := ⟨5, ![2304, 2, 2, 1, 16]⟩
abbrev S256x128 : Shape := ⟨2, ![256, 128]⟩
abbrev S_ : Shape := ⟨0, ![]⟩

class Facts : Prop where
  shapeCasts_S2304x128_S2304x2x2x2x16 : S2304x128.ShapeCasts S2304x2x2x2x16
  slices_S2304x2x2x2x16_S2304x1x2x2x16_0_1_0_0_0 : S2304x2x2x2x16.Slices ![0, 1, 0, 0, 0] S2304x1x2x2x16
  shapeCasts_S2304x1x2x2x16_S2304x2x2x16 : S2304x1x2x2x16.ShapeCasts S2304x2x2x16
  slices_S2304x2x2x2x16_S2304x1x2x2x16_0_0_0_0_0 : S2304x2x2x2x16.Slices ![0, 0, 0, 0, 0] S2304x1x2x2x16
  slices_S2304x2x2x2x16_S2304x2x2x1x16_0_0_0_0_0 : S2304x2x2x2x16.Slices ![0, 0, 0, 0, 0] S2304x2x2x1x16
  shapeCasts_S2304x2x2x1x16_S2304x2x2x16 : S2304x2x2x1x16.ShapeCasts S2304x2x2x16
  slices_S2304x2x2x2x16_S2304x2x2x1x16_0_0_0_1_0 : S2304x2x2x2x16.Slices ![0, 0, 0, 1, 0] S2304x2x2x1x16
  slices_S2304x128_S256x128_0_0 : S2304x128.Slices ![0, 0] S256x128
  bcast_S_S256x128 : S_.BroadcastsInDim S256x128 (![] : Fin 0 → Fin S256x128.rank)

variable [Facts]

def fn_part1 {F : FTy → Type} [FloatOps F] (main_arg7 : FVec F S2304x128 .f32) (main_v6 : IVec S2304x2x2x16 1) (main_v11 : IVec S2304x2x2x16 1) (main_v16 : IVec S2304x2x2x16 1) (main_v22 : IVec S2304x2x2x16 1) (main_v23 : FVec F S256x128 .f32) : IVec S2304x2x2x16 1 × IVec S2304x2x2x16 1 × IVec S2304x2x2x16 1 × IVec S2304x2x2x16 1 × IVec S256x128 1 × IVec S256x128 1 :=
  let main_cst : FVec F S_ .f32 := constant S_ .f32 0x3F800000#32
  let main_v24 : FVec F S256x128 .f32 := broadcastInDim S256x128 ![] bcast_S_S256x128 main_cst
  let main_v25 : IVec S256x128 1 := cmpf .oeq main_v23 main_v24
  let main_v26 : FVec F S256x128 .f32 := (extractStridedSlice S256x128 ![0, 0] · slices_S2304x128_S256x128_0_0) main_arg7
  let main_cst_0 : FVec F S_ .f32 := constant S_ .f32 0x00000000#32
  let main_v27 : FVec F S256x128 .f32 := broadcastInDim S256x128 ![] bcast_S_S256x128 main_cst_0
  let main_v28 : IVec S256x128 1 := cmpf .oeq main_v26 main_v27
  (main_v6, main_v11, main_v16, main_v22, main_v25, main_v28)

def fn {F : FTy → Type} [FloatOps F] (main_arg0 : FVec F S8x2304x1024 .f32) (main_arg1 : FVec F S8x2x6x1024 .f32) (main_arg2 : FVec F S1024 .f32) (main_arg3 : FVec F S1024x1536 .f32) (main_arg4 : FVec F S64 .f32) (main_arg5 : FVec F S64 .f32) (main_arg6 : FVec F S2304x128 .f32) (main_arg7 : FVec F S2304x128 .f32) : IVec S2304x2x2x16 1 × IVec S2304x2x2x16 1 × IVec S2304x2x2x16 1 × IVec S2304x2x2x16 1 × IVec S256x128 1 × IVec S256x128 1 :=
  let main_v0 : FVec F S2304x2x2x2x16 .f32 := shapeCast S2304x2x2x2x16 main_arg6 shapeCasts_S2304x128_S2304x2x2x2x16
  let main_v1 : FVec F S2304x2x2x2x16 .f32 := shapeCast S2304x2x2x2x16 main_arg7 shapeCasts_S2304x128_S2304x2x2x2x16
  let main_v2 : FVec F S2304x1x2x2x16 .f32 := (extractStridedSlice S2304x1x2x2x16 ![0, 1, 0, 0, 0] · slices_S2304x2x2x2x16_S2304x1x2x2x16_0_1_0_0_0) main_v0
  let main_v3 : FVec F S2304x2x2x16 .f32 := shapeCast S2304x2x2x16 main_v2 shapeCasts_S2304x1x2x2x16_S2304x2x2x16
  let main_v4 : FVec F S2304x1x2x2x16 .f32 := (extractStridedSlice S2304x1x2x2x16 ![0, 0, 0, 0, 0] · slices_S2304x2x2x2x16_S2304x1x2x2x16_0_0_0_0_0) main_v0
  let main_v5 : FVec F S2304x2x2x16 .f32 := shapeCast S2304x2x2x16 main_v4 shapeCasts_S2304x1x2x2x16_S2304x2x2x16
  let main_v6 : IVec S2304x2x2x16 1 := cmpf .oeq main_v3 main_v5
  let main_v7 : FVec F S2304x1x2x2x16 .f32 := (extractStridedSlice S2304x1x2x2x16 ![0, 1, 0, 0, 0] · slices_S2304x2x2x2x16_S2304x1x2x2x16_0_1_0_0_0) main_v1
  let main_v8 : FVec F S2304x2x2x16 .f32 := shapeCast S2304x2x2x16 main_v7 shapeCasts_S2304x1x2x2x16_S2304x2x2x16
  let main_v9 : FVec F S2304x1x2x2x16 .f32 := (extractStridedSlice S2304x1x2x2x16 ![0, 0, 0, 0, 0] · slices_S2304x2x2x2x16_S2304x1x2x2x16_0_0_0_0_0) main_v1
  let main_v10 : FVec F S2304x2x2x16 .f32 := shapeCast S2304x2x2x16 main_v9 shapeCasts_S2304x1x2x2x16_S2304x2x2x16
  let main_v11 : IVec S2304x2x2x16 1 := cmpf .oeq main_v8 main_v10
  let main_v12 : FVec F S2304x2x2x1x16 .f32 := (extractStridedSlice S2304x2x2x1x16 ![0, 0, 0, 0, 0] · slices_S2304x2x2x2x16_S2304x2x2x1x16_0_0_0_0_0) main_v0
  let main_v13 : FVec F S2304x2x2x16 .f32 := shapeCast S2304x2x2x16 main_v12 shapeCasts_S2304x2x2x1x16_S2304x2x2x16
  let main_v14 : FVec F S2304x2x2x1x16 .f32 := (extractStridedSlice S2304x2x2x1x16 ![0, 0, 0, 1, 0] · slices_S2304x2x2x2x16_S2304x2x2x1x16_0_0_0_1_0) main_v0
  let main_v15 : FVec F S2304x2x2x16 .f32 := shapeCast S2304x2x2x16 main_v14 shapeCasts_S2304x2x2x1x16_S2304x2x2x16
  let main_v16 : IVec S2304x2x2x16 1 := cmpf .oeq main_v13 main_v15
  let main_v17 : FVec F S2304x2x2x1x16 .f32 := (extractStridedSlice S2304x2x2x1x16 ![0, 0, 0, 0, 0] · slices_S2304x2x2x2x16_S2304x2x2x1x16_0_0_0_0_0) main_v1
  let main_v18 : FVec F S2304x2x2x16 .f32 := shapeCast S2304x2x2x16 main_v17 shapeCasts_S2304x2x2x1x16_S2304x2x2x16
  let main_v19 : FVec F S2304x2x2x1x16 .f32 := (extractStridedSlice S2304x2x2x1x16 ![0, 0, 0, 1, 0] · slices_S2304x2x2x2x16_S2304x2x2x1x16_0_0_0_1_0) main_v1
  let main_v20 : FVec F S2304x2x2x16 .f32 := shapeCast S2304x2x2x16 main_v19 shapeCasts_S2304x2x2x1x16_S2304x2x2x16
  let main_v21 : FVec F S2304x2x2x16 .f32 := Host.negf main_v20
  let main_v22 : IVec S2304x2x2x16 1 := cmpf .oeq main_v18 main_v21
  let main_v23 : FVec F S256x128 .f32 := (extractStridedSlice S256x128 ![0, 0] · slices_S2304x128_S256x128_0_0) main_arg6
  fn_part1 (F := F) main_arg7 main_v6 main_v11 main_v16 main_v22 main_v23
-- ==== Pre_tables_in_range.lean ====
abbrev S81920x1024 : Shape := ⟨2, ![81920, 1024]⟩
abbrev S320 : Shape := ⟨1, ![320]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S320 : S_.BroadcastsInDim S320 (![] : Fin 0 → Fin S320.rank)
  bcast_S_S1 : S_.BroadcastsInDim S1 (![] : Fin 0 → Fin S1.rank)

variable [Facts]

def fn {F : FTy → Type} [FloatOps F] (main_arg0 : FVec F S81920x1024 .bf16) (main_arg1 : IVec S320 32) (main_arg2 : IVec S1 32) (main_arg3 : FVec F S32x1024x2048 .f32) (main_arg4 : FVec F S32x2048 .f32) (main_arg5 : FVec F S32x1024x1024 .f32) (main_arg6 : FVec F S32x1024 .f32) : IVec S320 1 × IVec S1 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 32#32
  let main_v2 : IVec S320 32 := broadcastInDim S320 ![] bcast_S_S320 main_c_0
  let main_v3 : IVec S320 1 := cmpi .slt main_arg1 main_v2
  let main_v4 : IVec S320 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S81920x1024 : Shape := ⟨2, ![81920, 1024]⟩
abbrev S320 : Shape := ⟨1, ![320]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S81920x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S81920x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .smem, ⟨0, _⟩ => ⟨S320, .i32⟩
  | .local _ .smem, ⟨1, _⟩ => ⟨S1, .i32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S81920x1024 : Shape := ⟨2, ![81920, 1024]⟩
abbrev S320 : Shape := ⟨1, ![320]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S320x256x1024 : Shape := ⟨3, ![320, 256, 1024]⟩
abbrev S_ : Shape := ⟨0, ![]⟩
abbrev S320x1 : Shape := ⟨2, ![320, 1]⟩
abbrev S320x1024x2048 : Shape := ⟨3, ![320, 1024, 2048]⟩
abbrev S320x256x2048 : Shape := ⟨3, ![320, 256, 2048]⟩
abbrev S320x2048 : Shape := ⟨2, ![320, 2048]⟩
abbrev S320x1x2048 : Shape := ⟨3, ![320, 1, 2048]⟩
abbrev S320x1024x1024 : Shape := ⟨3, ![320, 1024, 1024]⟩
abbrev S320x1024 : Shape := ⟨2, ![320, 1024]⟩
abbrev S320x1x1024 : Shape := ⟨3, ![320, 1, 1024]⟩
abbrev S320x1x1 : Shape := ⟨3, ![320, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S320, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S81920x1024, .f32⟩
  | .hbm, ⟨8, _⟩ => ⟨S320x256x1024, .f32⟩
  | .hbm, ⟨9, _⟩ => ⟨S_, .i32⟩
  | .hbm, ⟨10, _⟩ => ⟨S320, .i32⟩
  | .hbm, ⟨11, _⟩ => ⟨S320, .i1⟩
  | .hbm, ⟨12, _⟩ => ⟨S_, .i32⟩
  | .hbm, ⟨13, _⟩ => ⟨S320, .i32⟩
  | .hbm, ⟨14, _⟩ => ⟨S320, .i32⟩
  | .hbm, ⟨15, _⟩ => ⟨S320, .i32⟩
  | .hbm, ⟨16, _⟩ => ⟨S320x1, .i32⟩
  | .hbm, ⟨17, _⟩ => ⟨S320x1024x2048, .f32⟩
  | .hbm, ⟨18, _⟩ => ⟨S320x256x2048, .f32⟩
  | .hbm, ⟨19, _⟩ => ⟨S_, .i32⟩
  | .hbm, ⟨20, _⟩ => ⟨S320, .i32⟩
  | .hbm, ⟨21, _⟩ => ⟨S320, .i1⟩
  | .hbm, ⟨22, _⟩ => ⟨S_, .i32⟩
  | .hbm, ⟨23, _⟩ => ⟨S320, .i32⟩
  | .hbm, ⟨24, _⟩ => ⟨S320, .i32⟩
  | .hbm, ⟨25, _⟩ => ⟨S320, .i32⟩
  | .hbm, ⟨26, _⟩ => ⟨S320x1, .i32⟩
  | .hbm, ⟨27, _⟩ => ⟨S320x2048, .f32⟩
  | .hbm, ⟨28, _⟩ => ⟨S320x1x2048, .f32⟩
  | .hbm, ⟨29, _⟩ => ⟨S320x256x2048, .f32⟩
  | .hbm, ⟨30, _⟩ => ⟨S320x256x2048, .f32⟩
  | .hbm, ⟨31, _⟩ => ⟨S320x256x1024, .f32⟩
  | .hbm, ⟨32, _⟩ => ⟨S_, .f32⟩
  | .hbm, ⟨33, _⟩ => ⟨S320x256x1024, .f32⟩
  | .hbm, ⟨34, _⟩ => ⟨S320x256x1024, .f32⟩
  | .hbm, ⟨35, _⟩ => ⟨S320x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S320x256x1024, .f32⟩
  | .hbm, ⟨40, _⟩ => ⟨S320x256x1024, .f32⟩
  | .hbm, ⟨41, _⟩ => ⟨S_, .f32⟩
  | .hbm, ⟨42, _⟩ => ⟨S320x256x1024, .f32⟩
  | .hbm, ⟨43, _⟩ => ⟨S320x256x1024, .f32⟩
  | .hbm, ⟨44, _⟩ => ⟨S_, .f32⟩
  | .hbm, ⟨45, _⟩ => ⟨S320x256x1024, .f32⟩
  | .hbm, ⟨46, _⟩ => ⟨S320x256x1024, .f32⟩
  | .hbm, ⟨47, _⟩ => ⟨S320x256x1024, .f32⟩
  | .hbm, ⟨48, _⟩ => ⟨S320x256x1024, .f32⟩
  | .hbm, ⟨49, _⟩ => ⟨S_, .f32⟩
  | .hbm, ⟨50, _⟩ => ⟨S320x256x1024, .f32⟩
  | .hbm, ⟨51, _⟩ => ⟨S320x256x1024, .f32⟩
  | .hbm, ⟨52, _⟩ => ⟨S_, .f32⟩
  | .hbm, ⟨53, _⟩ => ⟨S320x256x1024, .f32⟩
  | .hbm, ⟨54, _⟩ => ⟨S320x256x1024, .f32⟩
  | .hbm, ⟨55, _⟩ => ⟨S320x256x1024, .f32⟩
  | .hbm, ⟨56, _⟩ => ⟨S_, .f32⟩
  | .hbm, ⟨57, _⟩ => ⟨S320x256x1024, .f32⟩
  | .hbm, ⟨58, _⟩ => ⟨S320x256x1024, .f32⟩
  | .hbm, ⟨59, _⟩ => ⟨S320x256x1024, .f32⟩
  | .hbm, ⟨60, _⟩ => ⟨S_, .i32⟩
  | .hbm, ⟨61, _⟩ => ⟨S320, .i32⟩
  | .hbm, ⟨62, _⟩ => ⟨S320, .i1⟩
  | .hbm, ⟨63, _⟩ => ⟨S_, .i32⟩
  | .hbm, ⟨64, _⟩ => ⟨S320, .i32⟩
  | .hbm, ⟨65, _⟩ => ⟨S320, .i32⟩
  | .hbm, ⟨66, _⟩ => ⟨S320, .i32⟩
  | .hbm, ⟨67, _⟩ => ⟨S320x1, .i32⟩
  | .hbm, ⟨68, _⟩ => ⟨S320x1024x1024, .f32⟩
  | .hbm, ⟨69, _⟩ => ⟨S320x256x1024, .f32⟩
  | .hbm, ⟨70, _⟩ => ⟨S_, .i32⟩
  | .hbm, ⟨71, _⟩ => ⟨S320, .i32⟩
  | .hbm, ⟨72, _⟩ => ⟨S320, .i1⟩
  | .hbm, ⟨73, _⟩ => ⟨S_, .i32⟩
  | .hbm, ⟨74, _⟩ => ⟨S320, .i32⟩
  | .hbm, ⟨75, _⟩ => ⟨S320, .i32⟩
  | .hbm, ⟨76, _⟩ => ⟨S320, .i32⟩
  | .hbm, ⟨77, _⟩ => ⟨S320x1, .i32⟩
  | .hbm, ⟨78, _⟩ => ⟨S320x1024, .f32⟩
  | .hbm, ⟨79, _⟩ => ⟨S320x1x1024, .f32⟩
  | .hbm, ⟨80, _⟩ => ⟨S320x256x1024, .f32⟩
  | .hbm, ⟨81, _⟩ => ⟨S320x256x1024, .f32⟩
  | .hbm, ⟨82, _⟩ => ⟨S320, .i32⟩
  | .hbm, ⟨83, _⟩ => ⟨S320, .i32⟩
  | .hbm, ⟨84, _⟩ => ⟨S320, .i1⟩
  | .hbm, ⟨85, _⟩ => ⟨S320x1x1, .i1⟩
  | .hbm, ⟨86, _⟩ => ⟨S_, .f32⟩
  | .hbm, ⟨87, _⟩ => ⟨S_, .f32⟩
  | .hbm, ⟨88, _⟩ => ⟨S320x256x1024, .i1⟩
  | .hbm, ⟨89, _⟩ => ⟨S320x256x1024, .f32⟩
  | .hbm, ⟨90, _⟩ => ⟨S320x256x1024, .f32⟩
  | .hbm, ⟨91, _⟩ => ⟨S81920x1024, .f32⟩
  | .hbm, ⟨92, _⟩ => ⟨S81920x1024, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel2.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x4128 : Shape := ⟨2, ![1024, 4128]⟩
abbrev S_ : Shape := ⟨0, ![]⟩
abbrev S1024x4224 : Shape := ⟨2, ![1024, 4224]⟩
abbrev S1x1024 : Shape := ⟨2, ![1, 1024]⟩
abbrev S8x2304x4096 : Shape := ⟨3, ![8, 2304, 4096]⟩
abbrev S8x2304x128 : Shape := ⟨3, ![8, 2304, 128]⟩
abbrev S1x256x1024 : Shape := ⟨3, ![1, 256, 1024]⟩
abbrev S1x1x6x1024 : Shape := ⟨4, ![1, 1, 6, 1024]⟩
abbrev S1x256x4096 : Shape := ⟨3, ![1, 256, 4096]⟩
abbrev S1x256x128 : Shape := ⟨3, ![1, 256, 128]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x4224 : Shape := ⟨2, ![256, 4224]⟩
abbrev S256x4096 : Shape := ⟨2, ![256, 4096]⟩
abbrev S256x128 : Shape := ⟨2, ![256, 128]⟩

abbrev nBuf : Space → Nat
  | .hbm => 11
  | .vmem => 10
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1024, .f32⟩
  | .hbm, ⟨3, _⟩ => ⟨S1024x4128, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S1x1024, .f32⟩
  | .hbm, ⟨9, _⟩ => ⟨S8x2304x4096, .bf16⟩
  | .hbm, ⟨10, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x4224, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x128, .f32⟩
  | .local _ .vmem, ⟨9, _⟩ => ⟨S1x256x128, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x4128 : Shape := ⟨2, ![1024, 4128]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S8x2304x4128 : Shape := ⟨3, ![8, 2304, 4128]⟩
abbrev S8x2304x4096 : Shape := ⟨3, ![8, 2304, 4096]⟩
abbrev S8x2304x32 : Shape := ⟨3, ![8, 2304, 32]⟩
abbrev S8x2304x128 : Shape := ⟨3, ![8, 2304, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1024, .f32⟩
  | .hbm, ⟨3, _⟩ => ⟨S1024x4128, .f32⟩
  | .hbm, ⟨4, _⟩ => ⟨S8x1x1x1024, .f32⟩
  | .hbm, ⟨5, _⟩ => ⟨S8x1024, .f32⟩
  | .hbm, ⟨6, _⟩ => ⟨S8x1x1024, .f32⟩
  | .hbm, ⟨7, _⟩ => ⟨S8x1x1x1024, .f32⟩
  | .hbm, ⟨8, _⟩ => ⟨S8x1024, .f32⟩
  | .hbm, ⟨9, _⟩ => ⟨S8x1x1024, .f32⟩
  | .hbm, ⟨10, _⟩ => ⟨S8x1x1x1024, .f32⟩
  | .hbm, ⟨11, _⟩ => ⟨S8x1024, .f32⟩
  | .hbm, ⟨12, _⟩ => ⟨S8x1x1024, .f32⟩
  | .hbm, ⟨13, _⟩ => ⟨S8x1x1x1024, .f32⟩
  | .hbm, ⟨14, _⟩ => ⟨S8x1024, .f32⟩
  | .hbm, ⟨15, _⟩ => ⟨S8x1x1024, .f32⟩
  | .hbm, ⟨16, _⟩ => ⟨S8x256x1024, .f32⟩
  | .hbm, ⟨17, _⟩ => ⟨S8x256x1024, .f32⟩
  | .hbm, ⟨18, _⟩ => ⟨S_, .f32⟩
  | .hbm, ⟨19, _⟩ => ⟨S8x256, .f32⟩
  | .hbm, ⟨20, _⟩ => ⟨S8x256x1, .f32⟩
  | .hbm, ⟨21, _⟩ => ⟨S_, .f32⟩
  | .hbm, ⟨22, _⟩ => ⟨S8x256x1, .f32⟩
  | .hbm, ⟨23, _⟩ => ⟨S8x256x1, .f32⟩
  | .hbm, ⟨24, _⟩ => ⟨S_, .f32⟩
  | .hbm, ⟨25, _⟩ => ⟨S8x256x1, .f32⟩
  | .hbm, ⟨26, _⟩ => ⟨S8x256x1, .f32⟩
  | .hbm, ⟨27, _⟩ => ⟨S8x256x1, .f32⟩
  | .hbm, ⟨28, _⟩ => ⟨S8x256x1024, .f32⟩
  | .hbm, ⟨29, _⟩ => ⟨S8x256x1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x256x1024, .f32⟩
  | .hbm, ⟨37, _⟩ => ⟨S8x256x1024, .f32⟩
  | .hbm, ⟨38, _⟩ => ⟨S8x256x1024, .f32⟩
  | .hbm, ⟨39, _⟩ => ⟨S8x256x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2304x1024, .f32⟩
  | .hbm, ⟨65, _⟩ => ⟨S8x2304x4128, .f32⟩
  | .hbm, ⟨66, _⟩ => ⟨S8x2304x4096, .f32⟩
  | .hbm, ⟨67, _⟩ => ⟨S8x2304x4096, .bf16⟩
  | .hbm, ⟨68, _⟩ => ⟨S8x2304x32, .f32⟩
  | .hbm, ⟨69, _⟩ => ⟨S_, .i32⟩
  | .hbm, ⟨70, _⟩ => ⟨S_, .f32⟩
  | .hbm, ⟨71, _⟩ => ⟨S8x2304x128, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c : Ref sig .tc := ⟨.hbm, 69, rfl⟩
abbrev main_call0_v0 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel3.lean ====
abbrev S8x2304x3072 : Shape := ⟨3, ![8, 2304, 3072]⟩
abbrev S_ : Shape := ⟨0, ![]⟩
abbrev S16 : Shape := ⟨1, ![16]⟩
abbrev S8x2304x1024 : Shape := ⟨3, ![8, 2304, 1024]⟩
abbrev S1x128x256 : Shape := ⟨3, ![1, 128, 256]⟩
abbrev S1x2304x256 : Shape := ⟨3, ![1, 2304, 256]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x2304x128 : Shape := ⟨3, ![1, 2304, 128]⟩
abbrev S2304x128 : Shape := ⟨2, ![2304, 128]⟩
abbrev S256x2304 : Shape := ⟨2, ![256, 2304]⟩

abbrev nBuf : Space → Nat
  | .hbm => 4
  | .vmem => 8
  | .smem => 1
  | _ => 0

abbrev bufTy : (tb : Table) → Fin (tcTables nBuf tb) → BufTy
  | .hbm, ⟨0, _⟩ => ⟨S8x2304x3072, .bf16⟩
  | .hbm, ⟨1, _⟩ => ⟨S_, .f32⟩
  | .hbm, ⟨2, _⟩ => ⟨S16, .f32⟩
  | .hbm, ⟨3, _⟩ => ⟨S8x2304x1024, .bf16⟩
  | .local _ .vmem, ⟨0, _⟩ => ⟨S1x128x256, .bf16⟩
  | .local _ .vmem, ⟨1, _⟩ => ⟨S1x128x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S1x128x256, .bf16⟩
  | .local _ .vmem, ⟨7, _⟩ => ⟨S1x128x256, .bf16⟩
  | .local _ .smem, ⟨0, _⟩ => ⟨S16, .f32⟩
  | _, _ => ⟨S8x2304x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 18], ![false, false, false]⟩

def k0_cond1 (i : grid0.Coords) : BitVec 1 :=
  let arg2 : BitVec 32 := BitVec.ofNat 32 (i 2).val
  let c2_i32 : BitVec 32 := 2#32
  let v5 : BitVec 1 := Scalar.cmpi .slt arg2 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg2 : BitVec 32 := BitVec.ofNat 32 (i 2).val
  let c2_i32_4 : BitVec 32 := 2#32
  let v8 : BitVec 1 := Scalar.cmpi .sge arg2 c2_i32_4
  let v9 : BitVec 32 := Scalar.extui v8
  let c0_i32_5 : BitVec 32 := 0#32
  let v10 : BitVec 1 := Scalar.cmpi .ne v9 c0_i32_5
  v10

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S8x2304x3072 : Shape := ⟨3, ![8, 2304, 3072]⟩
abbrev S8x2304x1024 : Shape := ⟨3, ![8, 2304, 1024]⟩
abbrev S8x2304x16x64 : Shape := ⟨4, ![8, 2304, 16, 64]⟩
abbrev S8x2304x4x4x64 : Shape := ⟨5, ![8, 2304, 4, 4, 64]⟩
abbrev S8x2304x4x1x64 : Shape := ⟨5, ![8, 2304, 4, 1, 64]⟩
abbrev S8x2304x4x64 : Shape := ⟨4, ![8, 2304, 4, 64]⟩
abbrev S8x256x16x64 : Shape := ⟨4, ![8, 256, 16, 64]⟩
abbrev S8x256x4x64 : Shape := ⟨4, ![8, 256, 4, 64]⟩
abbrev S8x256x4x4x64 : Shape := ⟨5, ![8, 256, 4, 4, 64]⟩
abbrev S8x4x256x256x4 : Shape := ⟨5, ![8, 4, 256, 256, 4]⟩
abbrev S8x4x4x256x256 : Shape := ⟨5, ![8, 4, 4, 256, 256]⟩
abbrev S_ : Shape := ⟨0, ![]⟩
abbrev S8x4x4x256 : Shape := ⟨4, ![8, 4, 4, 256]⟩
abbrev S8x4x4x256x1 : Shape := ⟨5, ![8, 4, 4, 256, 1]⟩
abbrev S8x4x64x4x256 : Shape := ⟨5, ![8, 4, 64, 4, 256]⟩
abbrev S8x256x1024 : Shape := ⟨3, ![8, 256, 1024]⟩
abbrev S8x2048x16x64 : Shape := ⟨4, ![8, 2048, 16, 64]⟩
abbrev S8x2048x4x4x64 : Shape := ⟨5, ![8, 2048, 4, 4, 64]⟩
abbrev S8x4x2304x2048x4 : Shape := ⟨5, ![8, 4, 2304, 2048, 4]⟩
abbrev S8x4x4x2048x2304 : Shape := ⟨5, ![8, 4, 4, 2048, 2304]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩
abbrev S8x2048x1024 : Shape := ⟨3, ![8, 2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x2304x3072, .bf16⟩
  | .hbm, ⟨1, _⟩ => ⟨S8x2304x3072, .f32⟩
  | .hbm, ⟨2, _⟩ => ⟨S8x2304x1024, .f32⟩
  | .hbm, ⟨3, _⟩ => ⟨S8x2304x16x64, .f32⟩
  | .hbm, ⟨4, _⟩ => ⟨S8x2304x1024, .f32⟩
  | .hbm, ⟨5, _⟩ => ⟨S8x2304x4x4x64, .f32⟩
  | .hbm, ⟨6, _⟩ => ⟨S8x2304x4x1x64, .f32⟩
  | .hbm, ⟨7, _⟩ => ⟨S8x2304x4x64, .f32⟩
  | .hbm, ⟨8, _⟩ => ⟨S8x2304x1024, .f32⟩
  | .hbm, ⟨9, _⟩ => ⟨S8x2304x4x4x64, .f32⟩
  | .hbm, ⟨10, _⟩ => ⟨S8x2304x4x1x64, .f32⟩
  | .hbm, ⟨11, _⟩ => ⟨S8x2304x4x64, .f32⟩
  | .hbm, ⟨12, _⟩ => ⟨S8x256x16x64, .f32⟩
  | .hbm, ⟨13, _⟩ => ⟨S8x256x4x64, .f32⟩
  | .hbm, ⟨14, _⟩ => ⟨S8x256x4x64, .f32⟩
  | .hbm, ⟨15, _⟩ => ⟨S8x256x4x4x64, .f32⟩
  | .hbm, ⟨16, _⟩ => ⟨S8x4x256x256x4, .f32⟩
  | .hbm, ⟨17, _⟩ => ⟨S8x4x4x256x256, .f32⟩
  | .hbm, ⟨18, _⟩ => ⟨S_, .f32⟩
  | .hbm, ⟨19, _⟩ => ⟨S8x4x4x256, .f32⟩
  | .hbm, ⟨20, _⟩ => ⟨S8x4x4x256x1, .f32⟩
  | .hbm, ⟨21, _⟩ => ⟨S8x4x4x256x256, .f32⟩
  | .hbm, ⟨22, _⟩ => ⟨S8x4x4x256x256, .f32⟩
  | .hbm, ⟨23, _⟩ => ⟨S8x4x4x256x256, .f32⟩
  | .hbm, ⟨24, _⟩ => ⟨S_, .f32⟩
  | .hbm, ⟨25, _⟩ => ⟨S8x4x4x256, .f32⟩
  | .hbm, ⟨26, _⟩ => ⟨S8x4x4x256x1, .f32⟩
  | .hbm, ⟨27, _⟩ => ⟨S8x4x4x256x256, .f32⟩
  | .hbm, ⟨28, _⟩ => ⟨S8x4x4x256x256, .f32⟩
  | .hbm, ⟨29, _⟩ => ⟨S8x4x64x4x256, .f32⟩
  | .hbm, ⟨30, _⟩ => ⟨S8x256x4x4x64, .f32⟩
  | .hbm, ⟨31, _⟩ => ⟨S8x256x1024, .f32⟩
  | .hbm, ⟨32, _⟩ => ⟨S8x2048x16x64, .f32⟩
  | .hbm, ⟨33, _⟩ => ⟨S8x2048x4x4x64, .f32⟩
  | .hbm, ⟨34, _⟩ => ⟨S8x4x2304x2048x4, .f32⟩
  | .hbm, ⟨35, _⟩ => ⟨S8x4x4x2048x2304, .f32⟩
  | .hbm, ⟨36, _⟩ => ⟨S_, .f32⟩
  | .hbm, ⟨37, _⟩ => ⟨S8x4x4x2048, .f32⟩
  | .hbm, ⟨38, _⟩ => ⟨S8x4x4x2048x1, .f32⟩
  | .hbm, ⟨39, _⟩ => ⟨S8x4x4x2048x2304, .f32⟩
  | .hbm, ⟨40, _⟩ => ⟨S8x4x4x2048x2304, .f32⟩
  | .hbm, ⟨41, _⟩ => ⟨S8x4x4x2048x2304, .f32⟩
  | .hbm, ⟨42, _⟩ => ⟨S_, .f32⟩
  | .hbm, ⟨43, _⟩ => ⟨S8x4x4x2048, .f32⟩
  | .hbm, ⟨44, _⟩ => ⟨S8x4x4x2048x1, .f32⟩
  | .hbm, ⟨45, _⟩ => ⟨S8x4x4x2048x2304, .f32⟩
  | .hbm, ⟨46, _⟩ => ⟨S8x4x4x2048x2304, .f32⟩
  | .hbm, ⟨47, _⟩ => ⟨S8x4x64x4x2048, .f32⟩
  | .hbm, ⟨48, _⟩ => ⟨S8x2048x4x4x64, .f32⟩
  | .hbm, ⟨49, _⟩ => ⟨S8x2048x1024, .f32⟩
  | .hbm, ⟨50, _⟩ => ⟨S8x2304x1024, .f32⟩
  | .hbm, ⟨51, _⟩ => ⟨S8x2304x1024, .bf16⟩
  | _, _ => ⟨S8x2304x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst_0 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩

abbrev nD : Nat := 1
abbrev τ : Topo := Topo.v7x

variable {F : FTy → Type} [FloatOps F]
-- ==== Kernel4.lean ====
abbrev S8x2304x1024 : Shape := ⟨3, ![8, 2304, 1024]⟩
abbrev S8x2x6x1024 : Shape := ⟨4, ![8, 2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S1x1024 : Shape := ⟨2, ![1, 1024]⟩
abbrev S8x2304x128 : Shape := ⟨3, ![8, 2304, 128]⟩
abbrev S1x256x1024 : Shape := ⟨3, ![1, 256, 1024]⟩
abbrev S1x1x6x1024 : Shape := ⟨4, ![1, 1, 6, 1024]⟩
abbrev S1x256x128 : Shape := ⟨3, ![1, 256, 128]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x128 : Shape := ⟨2, ![256, 128]⟩

abbrev nBuf : Space → Nat
  | .hbm => 22
  | .vmem => 19
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .f32⟩
  | .hbm, ⟨2, _⟩ => ⟨S8x2x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S_, .f32⟩
  | .hbm, ⟨12, _⟩ => ⟨S96, .f32⟩
  | .hbm, ⟨13, _⟩ => ⟨S128, .f32⟩
  | .hbm, ⟨14, _⟩ => ⟨S1x128, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S8x2304x1024, .f32⟩
  | .hbm, ⟨19, _⟩ => ⟨S8x2304x1024, .bf16⟩
  | .hbm, ⟨20, _⟩ => ⟨S8x2304x128, .i32⟩
  | .hbm, ⟨21, _⟩ => ⟨S8x2304x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .f32⟩
  | .local _ .vmem, ⟨10, _⟩ => ⟨S1x128, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x128, .i32⟩
  | .local _ .vmem, ⟨16, _⟩ => ⟨S1x256x128, .i32⟩
  | .local _ .vmem, ⟨17, _⟩ => ⟨S1x256x128, .f32⟩
  | .local _ .vmem, ⟨18, _⟩ => ⟨S1x256x128, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8x2304x1024 : Shape := ⟨3, ![8, 2304, 1024]⟩
abbrev S8x2x6x1024 : Shape := ⟨4, ![8, 2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x1x1x1024 : Shape := ⟨4, ![8, 1, 1, 1024]⟩
abbrev S8x1024 : Shape := ⟨2, ![8, 1024]⟩
abbrev S8x1x1024 : Shape := ⟨3, ![8, 1, 1024]⟩
abbrev S1x1x1024 : Shape := ⟨3, ![1, 1, 1024]⟩
abbrev S8x256x1024 : Shape := ⟨3, ![8, 256, 1024]⟩
abbrev S8x2048x1024 : Shape := ⟨3, ![8, 2048, 1024]⟩
abbrev S_ : Shape := ⟨0, ![]⟩
abbrev S8x256 : Shape := ⟨2, ![8, 256]⟩
abbrev S8x256x1 : Shape := ⟨3, ![8, 256, 1]⟩
abbrev S8x2048 : Shape := ⟨2, ![8, 2048]⟩
abbrev S8x2048x1 : Shape := ⟨3, ![8, 2048, 1]⟩

abbrev nBuf : Space → Nat
  | .hbm => 90
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .f32⟩
  | .hbm, ⟨2, _⟩ => ⟨S8x2x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S8x1x1x1024, .f32⟩
  | .hbm, ⟨9, _⟩ => ⟨S8x1024, .f32⟩
  | .hbm, ⟨10, _⟩ => ⟨S8x1x1024, .f32⟩
  | .hbm, ⟨11, _⟩ => ⟨S8x1x1x1024, .f32⟩
  | .hbm, ⟨12, _⟩ => ⟨S8x1024, .f32⟩
  | .hbm, ⟨13, _⟩ => ⟨S8x1x1024, .f32⟩
  | .hbm, ⟨14, _⟩ => ⟨S8x1x1x1024, .f32⟩
  | .hbm, ⟨15, _⟩ => ⟨S8x1024, .f32⟩
  | .hbm, ⟨16, _⟩ => ⟨S8x1x1024, .f32⟩
  | .hbm, ⟨17, _⟩ => ⟨S8x1x1x1024, .f32⟩
  | .hbm, ⟨18, _⟩ => ⟨S8x1024, .f32⟩
  | .hbm, ⟨19, _⟩ => ⟨S8x1x1024, .f32⟩
  | .hbm, ⟨20, _⟩ => ⟨S8x1x1x1024, .f32⟩
  | .hbm, ⟨21, _⟩ => ⟨S8x1024, .f32⟩
  | .hbm, ⟨22, _⟩ => ⟨S8x1x1024, .f32⟩
  | .hbm, ⟨23, _⟩ => ⟨S8x1x1x1024, .f32⟩
  | .hbm, ⟨24, _⟩ => ⟨S8x1024, .f32⟩
  | .hbm, ⟨25, _⟩ => ⟨S8x1x1024, .f32⟩
  | .hbm, ⟨26, _⟩ => ⟨S8x2304x1024, .f32⟩
  | .hbm, ⟨27, _⟩ => ⟨S8x2304x1024, .f32⟩
  | .hbm, ⟨28, _⟩ => ⟨S1x1x1024, .f32⟩
  | .hbm, ⟨29, _⟩ => ⟨S8x2304x1024, .f32⟩
  | .hbm, ⟨30, _⟩ => ⟨S8x2304x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S8x256x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x256x1024, .f32⟩
  | .hbm, ⟨42, _⟩ => ⟨S_, .f32⟩
  | .hbm, ⟨43, _⟩ => ⟨S8x256, .f32⟩
  | .hbm, ⟨44, _⟩ => ⟨S8x256x1, .f32⟩
  | .hbm, ⟨45, _⟩ => ⟨S_, .f32⟩
  | .hbm, ⟨46, _⟩ => ⟨S8x256x1, .f32⟩
  | .hbm, ⟨47, _⟩ => ⟨S8x256x1, .f32⟩
  | .hbm, ⟨48, _⟩ => ⟨S_, .f32⟩
  | .hbm, ⟨49, _⟩ => ⟨S8x256x1, .f32⟩
  | .hbm, ⟨50, _⟩ => ⟨S8x256x1, .f32⟩
  | .hbm, ⟨51, _⟩ => ⟨S8x256x1, .f32⟩
  | .hbm, ⟨52, _⟩ => ⟨S8x256x1024, .f32⟩
  | .hbm, ⟨53, _⟩ => ⟨S8x256x1024, .f32⟩
  | .hbm, ⟨54, _⟩ => ⟨S1x1x1024, .f32⟩
  | .hbm, ⟨55, _⟩ => ⟨S8x256x1024, .f32⟩
  | .hbm, ⟨56, _⟩ => ⟨S8x256x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S8x256x1024, .f32⟩
  | .hbm, ⟨64, _⟩ => ⟨S8x2048x1024, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x1x1024, .f32⟩
  | .hbm, ⟨82, _⟩ => ⟨S8x1x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S8x2304x1024, .f32⟩
  | .hbm, ⟨88, _⟩ => ⟨S8x2304x1024, .f32⟩
  | .hbm, ⟨89, _⟩ => ⟨S8x2304x1024, .bf16⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== Kernel5.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x1536 : Shape := ⟨2, ![1024, 1536]⟩
abbrev S1536 : Shape := ⟨1, ![1536]⟩
abbrev S2304x128 : Shape := ⟨2, ![2304, 128]⟩
abbrev S1x1024 : Shape := ⟨2, ![1, 1024]⟩
abbrev S1x1536 : Shape := ⟨2, ![1, 1536]⟩
abbrev S_ : Shape := ⟨0, ![]⟩
abbrev S1x1280 : Shape := ⟨2, ![1, 1280]⟩
abbrev S8x2304x3072 : Shape := ⟨3, ![8, 2304, 3072]⟩
abbrev S1x256x1024 : Shape := ⟨3, ![1, 256, 1024]⟩
abbrev S1x1x6x1024 : Shape := ⟨4, ![1, 1, 6, 1024]⟩
abbrev S256x128 : Shape := ⟨2, ![256, 128]⟩
abbrev S1x256x3072 : Shape := ⟨3, ![1, 256, 3072]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x1536 : Shape := ⟨2, ![256, 1536]⟩
abbrev S1x256x128 : Shape := ⟨3, ![1, 256, 128]⟩

abbrev nBuf : Space → Nat
  | .hbm => 13
  | .vmem => 14
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1024, .f32⟩
  | .hbm, ⟨3, _⟩ => ⟨S1024x1536, .f32⟩
  | .hbm, ⟨4, _⟩ => ⟨S1536, .f32⟩
  | .hbm, ⟨5, _⟩ => ⟨S2304x128, .f32⟩
  | .hbm, ⟨6, _⟩ => ⟨S2304x128, .f32⟩
  | .hbm, ⟨7, _⟩ => ⟨S1x1024, .f32⟩
  | .hbm, ⟨8, _⟩ => ⟨S1024x1536, .bf16⟩
  | .hbm, ⟨9, _⟩ => ⟨S1x1536, .f32⟩
  | .hbm, ⟨10, _⟩ => ⟨S_, .f32⟩
  | .hbm, ⟨11, _⟩ => ⟨S1x1280, .f32⟩
  | .hbm, ⟨12, _⟩ => ⟨S8x2304x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x1536, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x1280, .f32⟩
  | .local _ .vmem, ⟨12, _⟩ => ⟨S1x256x3072, .bf16⟩
  | .local _ .vmem, ⟨13, _⟩ => ⟨S1x256x3072, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x1536 : Shape := ⟨2, ![1024, 1536]⟩
abbrev S1536 : Shape := ⟨1, ![1536]⟩
abbrev S2304x128 : Shape := ⟨2, ![2304, 128]⟩
abbrev S2048x64 : Shape := ⟨2, ![2048, 64]⟩
abbrev S2048x1x2x2x16 : Shape := ⟨5, ![2048, 1, 2, 2, 16]⟩
abbrev S2048x1x2x1x16 : Shape := ⟨5, ![2048, 1, 2, 1, 16]⟩
abbrev S2048x1x2x16 : Shape := ⟨4, ![2048, 1, 2, 16]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S8x2048x1536 : Shape := ⟨3, ![8, 2048, 1536]⟩
abbrev S1x1x1536 : Shape := ⟨3, ![1, 1, 1536]⟩
abbrev S8x2048x16x64 : Shape := ⟨4, ![8, 2048, 16, 64]⟩
abbrev S8x2048x256 : Shape := ⟨3, ![8, 2048, 256]⟩
abbrev S8x2048x4x64 : Shape := ⟨4, ![8, 2048, 4, 64]⟩
abbrev S8x2048x16x2x32 : Shape := ⟨5, ![8, 2048, 16, 2, 32]⟩
abbrev S8x2048x16x2x16 : Shape := ⟨5, ![8, 2048, 16, 2, 16]⟩
abbrev S1x2048x1x2x16 : Shape := ⟨5, ![1, 2048, 1, 2, 16]⟩
abbrev S8x2048x4x2x32 : Shape := ⟨5, ![8, 2048, 4, 2, 32]⟩
abbrev S8x2048x4x2x16 : Shape := ⟨5, ![8, 2048, 4, 2, 16]⟩
abbrev S8x256x1536 : Shape := ⟨3, ![8, 256, 1536]⟩
abbrev S8x256x16x64 : Shape := ⟨4, ![8, 256, 16, 64]⟩
abbrev S8x256x256 : Shape := ⟨3, ![8, 256, 256]⟩
abbrev S8x256x4x64 : Shape := ⟨4, ![8, 256, 4, 64]⟩
abbrev S8x2304x16x64 : Shape := ⟨4, ![8, 2304, 16, 64]⟩
abbrev S8x2304x4x64 : Shape := ⟨4, ![8, 2304, 4, 64]⟩
abbrev S8x2304x4x256 : Shape := ⟨4, ![8, 2304, 4, 256]⟩
abbrev S8x2304x3072 : Shape := ⟨3, ![8, 2304, 3072]⟩

abbrev nBuf : Space → Nat
  | .hbm => 150
  | .vmem => 0
  | .smem => 0
  | _ => 0

abbrev hbmTy0_0 (i : Nat) : BufTy := match i % 128 with
  | 0 => ⟨S8x2304x1024, .f32⟩
  | 1 => ⟨S8x2x6x1024, .f32⟩
  | 2 => ⟨S1024, .f32⟩
  | 3 => ⟨S1024x1536, .f32⟩
  | 4 => ⟨S1536, .f32⟩
  | 5 => ⟨S2304x128, .f32⟩
  | 6 => ⟨S2304x128, .f32⟩
  | 7 => ⟨S2048x64, .f32⟩
  | 8 => ⟨S2048x1x2x2x16, .f32⟩
  | 9 => ⟨S2048x1x2x1x16, .f32⟩
  | 10 => ⟨S2048x1x2x16, .f32⟩
  | 11 => ⟨S2048x64, .f32⟩
  | 12 => ⟨S2048x1x2x2x16, .f32⟩
  | 13 => ⟨S2048x1x2x1x16, .f32⟩
  | 14 => ⟨S2048x1x2x16, .f32⟩
  | 15 => ⟨S8x1x1x1024, .f32⟩
  | 16 => ⟨S8x1024, .f32⟩
  | 17 => ⟨S8x1x1024, .f32⟩
  | 18 => ⟨S8x1x1x1024, .f32⟩
  | 19 => ⟨S8x1024, .f32⟩
  | 20 => ⟨S8x1x1024, .f32⟩
  | 21 => ⟨S8x1x1x1024, .f32⟩
  | 22 => ⟨S8x1024, .f32⟩
  | 23 => ⟨S8x1x1024, .f32⟩
  | 24 => ⟨S8x1x1x1024, .f32⟩
  | 25 => ⟨S8x1024, .f32⟩
  | 26 => ⟨S8x1x1024, .f32⟩
  | 27 => ⟨S8x256x1024, .f32⟩
  | 28 => ⟨S8x256x1024, .f32⟩
  | 29 => ⟨S_, .f32⟩
  | 30 => ⟨S8x256, .f32⟩
  | 31 => ⟨S8x256x1, .f32⟩
  | 32 => ⟨S_, .f32⟩
  | 33 => ⟨S8x256x1, .f32⟩
  | 34 => ⟨S8x256x1, .f32⟩
  | 35 => ⟨S_, .f32⟩
  | 36 => ⟨S8x256x1, .f32⟩
  | 37 => ⟨S8x256x1, .f32⟩
  | 38 => ⟨S8x256x1, .f32⟩
  | 39 => ⟨S8x256x1024, .f32⟩
  | 40 => ⟨S8x256x1024, .f32⟩
  | 41 => ⟨S1x1x1024, .f32⟩
  | 42 => ⟨S8x256x1024, .f32⟩
  | 43 => ⟨S8x256x1024, .f32⟩
  | 44 => ⟨S_, .f32⟩
  | 45 => ⟨S8x1x1024, .f32⟩
  | 46 => ⟨S8x1x1024, .f32⟩
  | 47 => ⟨S8x256x1024, .f32⟩
  | 48 => ⟨S8x256x1024, .f32⟩
  | 49 => ⟨S8x256x1024, .f32⟩
  | 50 => ⟨S8x256x1024, .f32⟩
  | 51 => ⟨S8x2048x1024, .f32⟩
  | 52 => ⟨S8x2048x1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S_, .f32⟩
  | 60 => ⟨S8x2048x1, .f32⟩
  | 61 => ⟨S8x2048x1, .f32⟩
  | 62 => ⟨S8x2048x1, .f32⟩
  | 63 => ⟨S8x2048x1024, .f32⟩
  | 64 => ⟨S8x2048x1024, .f32⟩
  | 65 => ⟨S1x1x1024, .f32⟩
  | 66 => ⟨S8x2048x1024, .f32⟩
  | 67 => ⟨S8x2048x1024, .f32⟩
  | 68 => ⟨S_, .f32⟩
  | 69 => ⟨S8x1x1024, .f32⟩
  | 70 => ⟨S8x1x1024, .f32⟩
  | 71 => ⟨S8x2048x1024, .f32⟩
  | 72 => ⟨S8x2048x1024, .f32⟩
  | 73 => ⟨S8x2048x1024, .f32⟩
  | 74 => ⟨S8x2048x1024, .f32⟩
  | 75 => ⟨S8x2048x1536, .f32⟩
  | 76 => ⟨S1x1x1536, .f32⟩
  | 77 => ⟨S8x2048x1536, .f32⟩
  | 78 => ⟨S8x2048x1536, .f32⟩
  | 79 => ⟨S8x2048x1024, .f32⟩
  | 80 => ⟨S8x2048x16x64, .f32⟩
  | 81 => ⟨S8x2048x256, .f32⟩
  | 82 => ⟨S8x2048x4x64, .f32⟩
  | 83 => ⟨S8x2048x256, .f32⟩
  | 84 => ⟨S8x2048x4x64, .f32⟩
  | 85 => ⟨S8x2048x16x2x32, .f32⟩
  | 86 => ⟨S8x2048x16x2x16, .f32⟩
  | 87 => ⟨S8x2048x16x2x16, .f32⟩
  | 88 => ⟨S1x2048x1x2x16, .f32⟩
  | 89 => ⟨S8x2048x16x2x16, .f32⟩
  | 90 => ⟨S8x2048x16x2x16, .f32⟩
  | 91 => ⟨S1x2048x1x2x16, .f32⟩
  | 92 => ⟨S8x2048x16x2x16, .f32⟩
  | 93 => ⟨S8x2048x16x2x16, .f32⟩
  | 94 => ⟨S8x2048x16x2x16, .f32⟩
  | 95 => ⟨S1x2048x1x2x16, .f32⟩
  | 96 => ⟨S8x2048x16x2x16, .f32⟩
  | 97 => ⟨S8x2048x16x2x16, .f32⟩
  | 98 => ⟨S1x2048x1x2x16, .f32⟩
  | 99 => ⟨S8x2048x16x2x16, .f32⟩
  | 100 => ⟨S8x2048x16x2x16, .f32⟩
  | 101 => ⟨S8x2048x16x2x16, .f32⟩
  | 102 => ⟨S8x2048x16x2x32, .f32⟩
  | 103 => ⟨S8x2048x16x64, .f32⟩
  | 104 => ⟨S8x2048x4x2x32, .f32⟩
  | 105 => ⟨S8x2048x4x2x16, .f32⟩
  | 106 => ⟨S8x2048x4x2x16, .f32⟩
  | 107 => ⟨S1x2048x1x2x16, .f32⟩
  | 108 => ⟨S8x2048x4x2x16, .f32⟩
  | 109 => ⟨S8x2048x4x2x16, .f32⟩
  | 110 => ⟨S1x2048x1x2x16, .f32⟩
  | 111 => ⟨S8x2048x4x2x16, .f32⟩
  | 112 => ⟨S8x2048x4x2x16, .f32⟩
  | 113 => ⟨S8x2048x4x2x16, .f32⟩
  | 114 => ⟨S1x2048x1x2x16, .f32⟩
  | 115 => ⟨S8x2048x4x2x16, .f32⟩
  | 116 => ⟨S8x2048x4x2x16, .f32⟩
  | 117 => ⟨S1x2048x1x2x16, .f32⟩
  | 118 => ⟨S8x2048x4x2x16, .f32⟩
  | 119 => ⟨S8x2048x4x2x16, .f32⟩
  | 120 => ⟨S8x2048x4x2x16, .f32⟩
  | 121 => ⟨S8x2048x4x2x32, .f32⟩
  | 122 => ⟨S8x2048x4x64, .f32⟩
  | 123 => ⟨S8x256x1536, .f32⟩
  | 124 => ⟨S1x1x1536, .f32⟩
  | 125 => ⟨S8x256x1536, .f32⟩
  | 126 => ⟨S8x256x1536, .f32⟩
  | 127 => ⟨S8x256x1024, .f32⟩
  | _ => ⟨S8x2304x1024, .f32⟩

abbrev hbmTy0_1 (i : Nat) : BufTy := match i % 128 with
  | 0 => ⟨S8x256x16x64, .f32⟩
  | 1 => ⟨S8x256x256, .f32⟩
  | 2 => ⟨S8x256x4x64, .f32⟩
  | 3 => ⟨S8x256x256, .f32⟩
  | 4 => ⟨S8x256x4x64, .f32⟩
  | 5 => ⟨S8x2304x16x64, .f32⟩
  | 6 => ⟨S8x2304x1024, .f32⟩
  | 7 => ⟨S_, .f32⟩
  | 8 => ⟨S8x2304x1024, .f32⟩
  | 9 => ⟨S8x2304x1024, .f32⟩
  | 10 => ⟨S8x2304x4x64, .f32⟩
  | 11 => ⟨S8x2304x4x64, .f32⟩
  | 12 => ⟨S_, .f32⟩
  | 13 => ⟨S8x2304x4x64, .f32⟩
  | 14 => ⟨S8x2304x4x256, .f32⟩
  | 15 => ⟨S8x2304x1024, .f32⟩
  | 16 => ⟨S_, .f32⟩
  | 17 => ⟨S8x2304x4x64, .f32⟩
  | 18 => ⟨S8x2304x4x256, .f32⟩
  | 19 => ⟨S8x2304x1024, .f32⟩
  | 20 => ⟨S8x2304x3072, .f32⟩
  | 21 => ⟨S8x2304x3072, .bf16⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_cst_7 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_cst_8 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_cst_9 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩

abbrev nD : Nat := 1
abbrev τ : Topo := Topo.v7x

variable {F : FTy → Type} [FloatOps F]
-- ==== Kernel6.lean ====
abbrev S8x2304x1024 : Shape := ⟨3, ![8, 2304, 1024]⟩
abbrev S8x2304x4096 : Shape := ⟨3, ![8, 2304, 4096]⟩
abbrev S128 : Shape := ⟨1, ![128]⟩
abbrev S8x2x6x1024 : Shape := ⟨4, ![8, 2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S96 : Shape := ⟨1, ![96]⟩
abbrev S1x128 : Shape := ⟨2, ![1, 128]⟩
abbrev S1x1024 : Shape := ⟨2, ![1, 1024]⟩
abbrev S8x2304x128 : Shape := ⟨3, ![8, 2304, 128]⟩
abbrev S1x256x1024 : Shape := ⟨3, ![1, 256, 1024]⟩
abbrev S1x1x6x1024 : Shape := ⟨4, ![1, 1, 6, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S6x1024 : Shape := ⟨2, ![6, 1024]⟩

abbrev nBuf : Space → Nat
  | .hbm => 26
  | .vmem => 24
  | .smem => 0
  | _ => 0

abbrev bufTy : (tb : Table) → Fin (tcTables nBuf tb) → BufTy
  | .hbm, ⟨0, _⟩ => ⟨S8x2304x1024, .f32⟩
  | .hbm, ⟨1, _⟩ => ⟨S8x2304x1024, .f32⟩
  | .hbm, ⟨2, _⟩ => ⟨S8x2304x4096, .bf16⟩
  | .hbm, ⟨3, _⟩ => ⟨S128, .f32⟩
  | .hbm, ⟨4, _⟩ => ⟨S8x2304x1024, .f32⟩
  | .hbm, ⟨5, _⟩ => ⟨S8x2x6x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S_, .f32⟩
  | .hbm, ⟨14, _⟩ => ⟨S96, .f32⟩
  | .hbm, ⟨15, _⟩ => ⟨S128, .f32⟩
  | .hbm, ⟨16, _⟩ => ⟨S1x128, .f32⟩
  | .hbm, ⟨17, _⟩ => ⟨S1024x1024, .bf16⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x128, .f32⟩
  | .hbm, ⟨22, _⟩ => ⟨S8x2304x1024, .f32⟩
  | .hbm, ⟨23, _⟩ => ⟨S8x2304x1024, .bf16⟩
  | .hbm, ⟨24, _⟩ => ⟨S8x2304x128, .i32⟩
  | .hbm, ⟨25, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x128, .f32⟩
  | .local _ .vmem, ⟨7, _⟩ => ⟨S1x256x1024, .f32⟩
  | .local _ .vmem, ⟨8, _⟩ => ⟨S1x256x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x128, .f32⟩
  | .local _ .vmem, ⟨15, _⟩ => ⟨S1x128, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x128, .i32⟩
  | .local _ .vmem, ⟨21, _⟩ => ⟨S1x256x128, .i32⟩
  | .local _ .vmem, ⟨22, _⟩ => ⟨S1x256x128, .f32⟩
  | .local _ .vmem, ⟨23, _⟩ => ⟨S1x256x128, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S8x2304x1024 : Shape := ⟨3, ![8, 2304, 1024]⟩
abbrev S8x2304x4096 : Shape := ⟨3, ![8, 2304, 4096]⟩
abbrev S128 : Shape := ⟨1, ![128]⟩
abbrev S8x2x6x1024 : Shape := ⟨4, ![8, 2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x2304x8x128 : Shape := ⟨4, ![8, 2304, 8, 128]⟩
abbrev S_ : Shape := ⟨0, ![]⟩
abbrev S8x2304x8 : Shape := ⟨3, ![8, 2304, 8]⟩
abbrev S8x2304x8x1 : Shape := ⟨4, ![8, 2304, 8, 1]⟩
abbrev S1x1x1x128 : Shape := ⟨4, ![1, 1, 1, 128]⟩
abbrev S8x256x1024 : Shape := ⟨3, ![8, 256, 1024]⟩
abbrev S8x2048x1024 : Shape := ⟨3, ![8, 2048, 1024]⟩
abbrev S8x256 : Shape := ⟨2, ![8, 256]⟩
abbrev S8x256x1 : Shape := ⟨3, ![8, 256, 1]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 120
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2304x1024, .f32⟩
  | .hbm, ⟨2, _⟩ => ⟨S8x2304x4096, .bf16⟩
  | .hbm, ⟨3, _⟩ => ⟨S128, .f32⟩
  | .hbm, ⟨4, _⟩ => ⟨S8x2304x1024, .f32⟩
  | .hbm, ⟨5, _⟩ => ⟨S8x2x6x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S8x1x1x1024, .f32⟩
  | .hbm, ⟨11, _⟩ => ⟨S8x1024, .f32⟩
  | .hbm, ⟨12, _⟩ => ⟨S8x1x1024, .f32⟩
  | .hbm, ⟨13, _⟩ => ⟨S8x1x1x1024, .f32⟩
  | .hbm, ⟨14, _⟩ => ⟨S8x1024, .f32⟩
  | .hbm, ⟨15, _⟩ => ⟨S8x1x1024, .f32⟩
  | .hbm, ⟨16, _⟩ => ⟨S8x1x1x1024, .f32⟩
  | .hbm, ⟨17, _⟩ => ⟨S8x1024, .f32⟩
  | .hbm, ⟨18, _⟩ => ⟨S8x1x1024, .f32⟩
  | .hbm, ⟨19, _⟩ => ⟨S8x1x1x1024, .f32⟩
  | .hbm, ⟨20, _⟩ => ⟨S8x1024, .f32⟩
  | .hbm, ⟨21, _⟩ => ⟨S8x1x1024, .f32⟩
  | .hbm, ⟨22, _⟩ => ⟨S8x1x1x1024, .f32⟩
  | .hbm, ⟨23, _⟩ => ⟨S8x1024, .f32⟩
  | .hbm, ⟨24, _⟩ => ⟨S8x1x1024, .f32⟩
  | .hbm, ⟨25, _⟩ => ⟨S8x1x1x1024, .f32⟩
  | .hbm, ⟨26, _⟩ => ⟨S8x1024, .f32⟩
  | .hbm, ⟨27, _⟩ => ⟨S8x1x1024, .f32⟩
  | .hbm, ⟨28, _⟩ => ⟨S8x2304x1024, .bf16⟩
  | .hbm, ⟨29, _⟩ => ⟨S8x2304x1024, .f32⟩
  | .hbm, ⟨30, _⟩ => ⟨S8x2304x8x128, .f32⟩
  | .hbm, ⟨31, _⟩ => ⟨S8x2304x1024, .f32⟩
  | .hbm, ⟨32, _⟩ => ⟨S8x2304x8x128, .f32⟩
  | .hbm, ⟨33, _⟩ => ⟨S8x2304x8x128, .f32⟩
  | .hbm, ⟨34, _⟩ => ⟨S_, .f32⟩
  | .hbm, ⟨35, _⟩ => ⟨S8x2304x8, .f32⟩
  | .hbm, ⟨36, _⟩ => ⟨S8x2304x8x1, .f32⟩
  | .hbm, ⟨37, _⟩ => ⟨S_, .f32⟩
  | .hbm, ⟨38, _⟩ => ⟨S8x2304x8x1, .f32⟩
  | .hbm, ⟨39, _⟩ => ⟨S8x2304x8x1, .f32⟩
  | .hbm, ⟨40, _⟩ => ⟨S_, .f32⟩
  | .hbm, ⟨41, _⟩ => ⟨S8x2304x8x1, .f32⟩
  | .hbm, ⟨42, _⟩ => ⟨S8x2304x8x1, .f32⟩
  | .hbm, ⟨43, _⟩ => ⟨S8x2304x8x1, .f32⟩
  | .hbm, ⟨44, _⟩ => ⟨S8x2304x8x128, .f32⟩
  | .hbm, ⟨45, _⟩ => ⟨S8x2304x8x128, .f32⟩
  | .hbm, ⟨46, _⟩ => ⟨S1x1x1x128, .f32⟩
  | .hbm, ⟨47, _⟩ => ⟨S8x2304x8x128, .f32⟩
  | .hbm, ⟨48, _⟩ => ⟨S8x2304x8x128, .f32⟩
  | .hbm, ⟨49, _⟩ => ⟨S8x2304x8x128, .f32⟩
  | .hbm, ⟨50, _⟩ => ⟨S8x2304x8x128, .f32⟩
  | .hbm, ⟨51, _⟩ => ⟨S_, .f32⟩
  | .hbm, ⟨52, _⟩ => ⟨S8x2304x8x128, .f32⟩
  | .hbm, ⟨53, _⟩ => ⟨S8x2304x8x128, .f32⟩
  | .hbm, ⟨54, _⟩ => ⟨S_, .f32⟩
  | .hbm, ⟨55, _⟩ => ⟨S8x2304x8x128, .f32⟩
  | .hbm, ⟨56, _⟩ => ⟨S8x2304x8x128, .f32⟩
  | .hbm, ⟨57, _⟩ => ⟨S8x2304x8x128, .f32⟩
  | .hbm, ⟨58, _⟩ => ⟨S8x2304x8x128, .f32⟩
  | .hbm, ⟨59, _⟩ => ⟨S8x2304x1024, .f32⟩
  | .hbm, ⟨60, _⟩ => ⟨S8x2304x1024, .f32⟩
  | .hbm, ⟨61, _⟩ => ⟨S8x256x1024, .f32⟩
  | .hbm, ⟨62, _⟩ => ⟨S8x256x1024, .f32⟩
  | .hbm, ⟨63, _⟩ => ⟨S8x256x1024, .f32⟩
  | .hbm, ⟨64, _⟩ => ⟨S8x256x1024, .f32⟩
  | .hbm, ⟨65, _⟩ => ⟨S8x256x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x256x1024, .f32⟩
  | .hbm, ⟨72, _⟩ => ⟨S_, .f32⟩
  | .hbm, ⟨73, _⟩ => ⟨S8x256, .f32⟩
  | .hbm, ⟨74, _⟩ => ⟨S8x256x1, .f32⟩
  | .hbm, ⟨75, _⟩ => ⟨S_, .f32⟩
  | .hbm, ⟨76, _⟩ => ⟨S8x256x1, .f32⟩
  | .hbm, ⟨77, _⟩ => ⟨S8x256x1, .f32⟩
  | .hbm, ⟨78, _⟩ => ⟨S_, .f32⟩
  | .hbm, ⟨79, _⟩ => ⟨S8x256x1, .f32⟩
  | .hbm, ⟨80, _⟩ => ⟨S8x256x1, .f32⟩
  | .hbm, ⟨81, _⟩ => ⟨S8x256x1, .f32⟩
  | .hbm, ⟨82, _⟩ => ⟨S8x256x1024, .f32⟩
  | .hbm, ⟨83, _⟩ => ⟨S8x256x1024, .f32⟩
  | .hbm, ⟨84, _⟩ => ⟨S1x1x1024, .f32⟩
  | .hbm, ⟨85, _⟩ => ⟨S8x256x1024, .f32⟩
  | .hbm, ⟨86, _⟩ => ⟨S8x256x1024, .f32⟩
  | .hbm, ⟨87, _⟩ => ⟨S_, .f32⟩
  | .hbm, ⟨88, _⟩ => ⟨S8x1x1024, .f32⟩
  | .hbm, ⟨89, _⟩ => ⟨S8x1x1024, .f32⟩
  | .hbm, ⟨90, _⟩ => ⟨S8x256x1024, .f32⟩
  | .hbm, ⟨91, _⟩ => ⟨S8x256x1024, .f32⟩
  | .hbm, ⟨92, _⟩ => ⟨S8x256x1024, .f32⟩
  | .hbm, ⟨93, _⟩ => ⟨S8x256x1024, .f32⟩
  | .hbm, ⟨94, _⟩ => ⟨S8x2048x1024, .f32⟩
  | .hbm, ⟨95, _⟩ => ⟨S_, .f32⟩
  | .hbm, ⟨96, _⟩ => ⟨S8x2048, .f32⟩
  | .hbm, ⟨97, _⟩ => ⟨S8x2048x1, .f32⟩
  | .hbm, ⟨98, _⟩ => ⟨S_, .f32⟩
  | .hbm, ⟨99, _⟩ => ⟨S8x2048x1, .f32⟩
  | .hbm, ⟨100, _⟩ => ⟨S8x2048x1, .f32⟩
  | .hbm, ⟨101, _⟩ => ⟨S_, .f32⟩
  | .hbm, ⟨102, _⟩ => ⟨S8x2048x1, .f32⟩
  | .hbm, ⟨103, _⟩ => ⟨S8x2048x1, .f32⟩
  | .hbm, ⟨104, _⟩ => ⟨S8x2048x1, .f32⟩
  | .hbm, ⟨105, _⟩ => ⟨S8x2048x1024, .f32⟩
  | .hbm, ⟨106, _⟩ => ⟨S8x2048x1024, .f32⟩
  | .hbm, ⟨107, _⟩ => ⟨S1x1x1024, .f32⟩
  | .hbm, ⟨108, _⟩ => ⟨S8x2048x1024, .f32⟩
  | .hbm, ⟨109, _⟩ => ⟨S8x2048x1024, .f32⟩
  | .hbm, ⟨110, _⟩ => ⟨S_, .f32⟩
  | .hbm, ⟨111, _⟩ => ⟨S8x1x1024, .f32⟩
  | .hbm, ⟨112, _⟩ => ⟨S8x1x1024, .f32⟩
  | .hbm, ⟨113, _⟩ => ⟨S8x2048x1024, .f32⟩
  | .hbm, ⟨114, _⟩ => ⟨S8x2048x1024, .f32⟩
  | .hbm, ⟨115, _⟩ => ⟨S8x2048x1024, .f32⟩
  | .hbm, ⟨116, _⟩ => ⟨S8x2048x1024, .f32⟩
  | .hbm, ⟨117, _⟩ => ⟨S8x2304x1024, .f32⟩
  | .hbm, ⟨118, _⟩ => ⟨S8x2304x1024, .f32⟩
  | .hbm, ⟨119, _⟩ => ⟨S8x2304x1024, .bf16⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_2 : Ref sig .tc := ⟨.hbm, 72, rfl⟩
abbrev main_v51 : Ref sig .tc := ⟨.hbm, 73, rfl⟩
abbrev main_v52 : Ref sig .tc := ⟨.hbm, 74, rfl⟩
abbrev main_cst_3 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_6 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_cst_8 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_9 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Kernel7.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x1536 : Shape := ⟨2, ![1024, 1536]⟩
abbrev S64 : Shape := ⟨1, ![64]⟩
abbrev S2304x128 : Shape := ⟨2, ![2304, 128]⟩
abbrev S1x64 : Shape := ⟨2, ![1, 64]⟩
abbrev S16x64 : Shape := ⟨2, ![16, 64]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S1x1024 : Shape := ⟨2, ![1, 1024]⟩
abbrev S_ : Shape := ⟨0, ![]⟩
abbrev S1x1536 : Shape := ⟨2, ![1, 1536]⟩
abbrev S8x2304x3072 : Shape := ⟨3, ![8, 2304, 3072]⟩
abbrev S1x256x1024 : Shape := ⟨3, ![1, 256, 1024]⟩
abbrev S1x1x6x1024 : Shape := ⟨4, ![1, 1, 6, 1024]⟩
abbrev S256x128 : Shape := ⟨2, ![256, 128]⟩
abbrev S1x256x3072 : Shape := ⟨3, ![1, 256, 3072]⟩
abbrev S256x1024 : Shape := ⟨2, ![256, 1024]⟩
abbrev S6x1024 : Shape := ⟨2, ![6, 1024]⟩
abbrev S256x1 : Shape := ⟨2, ![256, 1]⟩
abbrev S256x1536 : Shape := ⟨2, ![256, 1536]⟩
abbrev S128x128 : Shape := ⟨2, ![128, 128]⟩
abbrev S1x128 : Shape := ⟨2, ![1, 128]⟩
abbrev S1x256x128 : Shape := ⟨3, ![1, 256, 128]⟩

abbrev nBuf : Space → Nat
  | .hbm => 21
  | .vmem => 14
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S2304x128, .f32⟩
  | .hbm, ⟨7, _⟩ => ⟨S2304x128, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x64, .f32⟩
  | .hbm, ⟨12, _⟩ => ⟨S4x64, .f32⟩
  | .hbm, ⟨13, _⟩ => ⟨S256, .f32⟩
  | .hbm, ⟨14, _⟩ => ⟨S1280, .f32⟩
  | .hbm, ⟨15, _⟩ => ⟨S1x1280, .f32⟩
  | .hbm, ⟨16, _⟩ => ⟨S1x1024, .f32⟩
  | .hbm, ⟨17, _⟩ => ⟨S1024x1536, .bf16⟩
  | .hbm, ⟨18, _⟩ => ⟨S_, .f32⟩
  | .hbm, ⟨19, _⟩ => ⟨S1x1536, .f32⟩
  | .hbm, ⟨20, _⟩ => ⟨S8x2304x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x1536, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x1280, .f32⟩
  | .local _ .vmem, ⟨12, _⟩ => ⟨S1x256x3072, .bf16⟩
  | .local _ .vmem, ⟨13, _⟩ => ⟨S1x256x3072, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x1536 : Shape := ⟨2, ![1024, 1536]⟩
abbrev S64 : Shape := ⟨1, ![64]⟩
abbrev S2304x128 : Shape := ⟨2, ![2304, 128]⟩
abbrev S2048x64 : Shape := ⟨2, ![2048, 64]⟩
abbrev S2048x1x2x2x16 : Shape := ⟨5, ![2048, 1, 2, 2, 16]⟩
abbrev S2048x1x2x1x16 : Shape := ⟨5, ![2048, 1, 2, 1, 16]⟩
abbrev S2048x1x2x16 : Shape := ⟨4, ![2048, 1, 2, 16]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S8x2048x1536 : Shape := ⟨3, ![8, 2048, 1536]⟩
abbrev S8x2048x16x64 : Shape := ⟨4, ![8, 2048, 16, 64]⟩
abbrev S8x2048x256 : Shape := ⟨3, ![8, 2048, 256]⟩
abbrev S8x2048x4x64 : Shape := ⟨4, ![8, 2048, 4, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x16x2x32 : Shape := ⟨5, ![8, 2048, 16, 2, 32]⟩
abbrev S8x2048x16x2x16 : Shape := ⟨5, ![8, 2048, 16, 2, 16]⟩
abbrev S1x2048x1x2x16 : Shape := ⟨5, ![1, 2048, 1, 2, 16]⟩
abbrev S8x2048x4 : Shape := ⟨3, ![8, 2048, 4]⟩
abbrev S8x2048x4x1 : Shape := ⟨4, ![8, 2048, 4, 1]⟩
abbrev S8x2048x4x2x32 : Shape := ⟨5, ![8, 2048, 4, 2, 32]⟩
abbrev S8x2048x4x2x16 : Shape := ⟨5, ![8, 2048, 4, 2, 16]⟩
abbrev S8x256x1536 : Shape := ⟨3, ![8, 256, 1536]⟩
abbrev S8x256x16x64 : Shape := ⟨4, ![8, 256, 16, 64]⟩
abbrev S8x256x256 : Shape := ⟨3, ![8, 256, 256]⟩
abbrev S8x256x4x64 : Shape := ⟨4, ![8, 256, 4, 64]⟩
abbrev S8x256x16 : Shape := ⟨3, ![8, 256, 16]⟩
abbrev S8x256x16x1 : Shape := ⟨4, ![8, 256, 16, 1]⟩
abbrev S8x256x4 : Shape := ⟨3, ![8, 256, 4]⟩
abbrev S8x256x4x1 : Shape := ⟨4, ![8, 256, 4, 1]⟩
abbrev S8x2304x16x64 : Shape := ⟨4, ![8, 2304, 16, 64]⟩
abbrev S8x2304x4x64 : Shape := ⟨4, ![8, 2304, 4, 64]⟩
abbrev S8x2304x4x256 : Shape := ⟨4, ![8, 2304, 4, 256]⟩
abbrev S8x2304x3072 : Shape := ⟨3, ![8, 2304, 3072]⟩

abbrev nBuf : Space → Nat
  | .hbm => 209
  | .vmem => 0
  | .smem => 0
  | _ => 0

abbrev hbmTy0_0 (i : Nat) : BufTy := match i % 128 with
  | 0 => ⟨S8x2304x1024, .f32⟩
  | 1 => ⟨S8x2x6x1024, .f32⟩
  | 2 => ⟨S1024, .f32⟩
  | 3 => ⟨S1024x1536, .f32⟩
  | 4 => ⟨S64, .f32⟩
  | 5 => ⟨S64, .f32⟩
  | 6 => ⟨S2304x128, .f32⟩
  | 7 => ⟨S2304x128, .f32⟩
  | 8 => ⟨S2048x64, .f32⟩
  | 9 => ⟨S2048x1x2x2x16, .f32⟩
  | 10 => ⟨S2048x1x2x1x16, .f32⟩
  | 11 => ⟨S2048x1x2x16, .f32⟩
  | 12 => ⟨S2048x64, .f32⟩
  | 13 => ⟨S2048x1x2x2x16, .f32⟩
  | 14 => ⟨S2048x1x2x1x16, .f32⟩
  | 15 => ⟨S2048x1x2x16, .f32⟩
  | 16 => ⟨S8x1x1x1024, .f32⟩
  | 17 => ⟨S8x1024, .f32⟩
  | 18 => ⟨S8x1x1024, .f32⟩
  | 19 => ⟨S8x1x1x1024, .f32⟩
  | 20 => ⟨S8x1024, .f32⟩
  | 21 => ⟨S8x1x1024, .f32⟩
  | 22 => ⟨S8x1x1x1024, .f32⟩
  | 23 => ⟨S8x1024, .f32⟩
  | 24 => ⟨S8x1x1024, .f32⟩
  | 25 => ⟨S8x1x1x1024, .f32⟩
  | 26 => ⟨S8x1024, .f32⟩
  | 27 => ⟨S8x1x1024, .f32⟩
  | 28 => ⟨S8x256x1024, .f32⟩
  | 29 => ⟨S8x256x1024, .f32⟩
  | 30 => ⟨S_, .f32⟩
  | 31 => ⟨S8x256, .f32⟩
  | 32 => ⟨S8x256x1, .f32⟩
  | 33 => ⟨S_, .f32⟩
  | 34 => ⟨S8x256x1, .f32⟩
  | 35 => ⟨S8x256x1, .f32⟩
  | 36 => ⟨S_, .f32⟩
  | 37 => ⟨S8x256x1, .f32⟩
  | 38 => ⟨S8x256x1, .f32⟩
  | 39 => ⟨S8x256x1, .f32⟩
  | 40 => ⟨S8x256x1024, .f32⟩
  | 41 => ⟨S8x256x1024, .f32⟩
  | 42 => ⟨S1x1x1024, .f32⟩
  | 43 => ⟨S8x256x1024, .f32⟩
  | 44 => ⟨S8x256x1024, .f32⟩
  | 45 => ⟨S_, .f32⟩
  | 46 => ⟨S8x1x1024, .f32⟩
  | 47 => ⟨S8x1x1024, .f32⟩
  | 48 => ⟨S8x256x1024, .f32⟩
  | 49 => ⟨S8x256x1024, .f32⟩
  | 50 => ⟨S8x256x1024, .f32⟩
  | 51 => ⟨S8x256x1024, .f32⟩
  | 52 => ⟨S8x2048x1024, .f32⟩
  | 53 => ⟨S8x2048x1024, .f32⟩
  | 54 => ⟨S_, .f32⟩
  | 55 => ⟨S8x2048, .f32⟩
  | 56 => ⟨S8x2048x1, .f32⟩
  | 57 => ⟨S_, .f32⟩
  | 58 => ⟨S8x2048x1, .f32⟩
  | 59 => ⟨S8x2048x1, .f32⟩
  | 60 => ⟨S_, .f32⟩
  | 61 => ⟨S8x2048x1, .f32⟩
  | 62 => ⟨S8x2048x1, .f32⟩
  | 63 => ⟨S8x2048x1, .f32⟩
  | 64 => ⟨S8x2048x1024, .f32⟩
  | 65 => ⟨S8x2048x1024, .f32⟩
  | 66 => ⟨S1x1x1024, .f32⟩
  | 67 => ⟨S8x2048x1024, .f32⟩
  | 68 => ⟨S8x2048x1024, .f32⟩
  | 69 => ⟨S_, .f32⟩
  | 70 => ⟨S8x1x1024, .f32⟩
  | 71 => ⟨S8x1x1024, .f32⟩
  | 72 => ⟨S8x2048x1024, .f32⟩
  | 73 => ⟨S8x2048x1024, .f32⟩
  | 74 => ⟨S8x2048x1024, .f32⟩
  | 75 => ⟨S8x2048x1024, .f32⟩
  | 76 => ⟨S8x2048x1536, .f32⟩
  | 77 => ⟨S8x2048x1024, .f32⟩
  | 78 => ⟨S8x2048x16x64, .f32⟩
  | 79 => ⟨S8x2048x256, .f32⟩
  | 80 => ⟨S8x2048x4x64, .f32⟩
  | 81 => ⟨S8x2048x256, .f32⟩
  | 82 => ⟨S8x2048x4x64, .f32⟩
  | 83 => ⟨S8x2048x16x64, .f32⟩
  | 84 => ⟨S_, .f32⟩
  | 85 => ⟨S8x2048x16, .f32⟩
  | 86 => ⟨S8x2048x16x1, .f32⟩
  | 87 => ⟨S_, .f32⟩
  | 88 => ⟨S8x2048x16x1, .f32⟩
  | 89 => ⟨S8x2048x16x1, .f32⟩
  | 90 => ⟨S_, .f32⟩
  | 91 => ⟨S8x2048x16x1, .f32⟩
  | 92 => ⟨S8x2048x16x1, .f32⟩
  | 93 => ⟨S8x2048x16x1, .f32⟩
  | 94 => ⟨S8x2048x16x64, .f32⟩
  | 95 => ⟨S8x2048x16x64, .f32⟩
  | 96 => ⟨S1x1x1x64, .f32⟩
  | 97 => ⟨S8x2048x16x64, .f32⟩
  | 98 => ⟨S8x2048x16x64, .f32⟩
  | 99 => ⟨S8x2048x16x2x32, .f32⟩
  | 100 => ⟨S8x2048x16x2x16, .f32⟩
  | 101 => ⟨S8x2048x16x2x16, .f32⟩
  | 102 => ⟨S1x2048x1x2x16, .f32⟩
  | 103 => ⟨S8x2048x16x2x16, .f32⟩
  | 104 => ⟨S8x2048x16x2x16, .f32⟩
  | 105 => ⟨S1x2048x1x2x16, .f32⟩
  | 106 => ⟨S8x2048x16x2x16, .f32⟩
  | 107 => ⟨S8x2048x16x2x16, .f32⟩
  | 108 => ⟨S8x2048x16x2x16, .f32⟩
  | 109 => ⟨S1x2048x1x2x16, .f32⟩
  | 110 => ⟨S8x2048x16x2x16, .f32⟩
  | 111 => ⟨S8x2048x16x2x16, .f32⟩
  | 112 => ⟨S1x2048x1x2x16, .f32⟩
  | 113 => ⟨S8x2048x16x2x16, .f32⟩
  | 114 => ⟨S8x2048x16x2x16, .f32⟩
  | 115 => ⟨S8x2048x16x2x16, .f32⟩
  | 116 => ⟨S8x2048x16x2x32, .f32⟩
  | 117 => ⟨S8x2048x16x64, .f32⟩
  | 118 => ⟨S8x2048x4x64, .f32⟩
  | 119 => ⟨S_, .f32⟩
  | 120 => ⟨S8x2048x4, .f32⟩
  | 121 => ⟨S8x2048x4x1, .f32⟩
  | 122 => ⟨S_, .f32⟩
  | 123 => ⟨S8x2048x4x1, .f32⟩
  | 124 => ⟨S8x2048x4x1, .f32⟩
  | 125 => ⟨S_, .f32⟩
  | 126 => ⟨S8x2048x4x1, .f32⟩
  | 127 => ⟨S8x2048x4x1, .f32⟩
  | _ => ⟨S8x2304x1024, .f32⟩

abbrev hbmTy0_1 (i : Nat) : BufTy := match i % 128 with
  | 0 => ⟨S8x2048x4x1, .f32⟩
  | 1 => ⟨S8x2048x4x64, .f32⟩
  | 2 => ⟨S8x2048x4x64, .f32⟩
  | 3 => ⟨S1x1x1x64, .f32⟩
  | 4 => ⟨S8x2048x4x64, .f32⟩
  | 5 => ⟨S8x2048x4x64, .f32⟩
  | 6 => ⟨S8x2048x4x2x32, .f32⟩
  | 7 => ⟨S8x2048x4x2x16, .f32⟩
  | 8 => ⟨S8x2048x4x2x16, .f32⟩
  | 9 => ⟨S1x2048x1x2x16, .f32⟩
  | 10 => ⟨S8x2048x4x2x16, .f32⟩
  | 11 => ⟨S8x2048x4x2x16, .f32⟩
  | 12 => ⟨S1x2048x1x2x16, .f32⟩
  | 13 => ⟨S8x2048x4x2x16, .f32⟩
  | 14 => ⟨S8x2048x4x2x16, .f32⟩
  | 15 => ⟨S8x2048x4x2x16, .f32⟩
  | 16 => ⟨S1x2048x1x2x16, .f32⟩
  | 17 => ⟨S8x2048x4x2x16, .f32⟩
  | 18 => ⟨S8x2048x4x2x16, .f32⟩
  | 19 => ⟨S1x2048x1x2x16, .f32⟩
  | 20 => ⟨S8x2048x4x2x16, .f32⟩
  | 21 => ⟨S8x2048x4x2x16, .f32⟩
  | 22 => ⟨S8x2048x4x2x16, .f32⟩
  | 23 => ⟨S8x2048x4x2x32, .f32⟩
  | 24 => ⟨S8x2048x4x64, .f32⟩
  | 25 => ⟨S8x256x1536, .f32⟩
  | 26 => ⟨S8x256x1024, .f32⟩
  | 27 => ⟨S8x256x16x64, .f32⟩
  | 28 => ⟨S8x256x256, .f32⟩
  | 29 => ⟨S8x256x4x64, .f32⟩
  | 30 => ⟨S8x256x256, .f32⟩
  | 31 => ⟨S8x256x4x64, .f32⟩
  | 32 => ⟨S8x256x16x64, .f32⟩
  | 33 => ⟨S_, .f32⟩
  | 34 => ⟨S8x256x16, .f32⟩
  | 35 => ⟨S8x256x16x1, .f32⟩
  | 36 => ⟨S_, .f32⟩
  | 37 => ⟨S8x256x16x1, .f32⟩
  | 38 => ⟨S8x256x16x1, .f32⟩
  | 39 => ⟨S_, .f32⟩
  | 40 => ⟨S8x256x16x1, .f32⟩
  | 41 => ⟨S8x256x16x1, .f32⟩
  | 42 => ⟨S8x256x16x1, .f32⟩
  | 43 => ⟨S8x256x16x64, .f32⟩
  | 44 => ⟨S8x256x16x64, .f32⟩
  | 45 => ⟨S1x1x1x64, .f32⟩
  | 46 => ⟨S8x256x16x64, .f32⟩
  | 47 => ⟨S8x256x16x64, .f32⟩
  | 48 => ⟨S8x256x4x64, .f32⟩
  | 49 => ⟨S_, .f32⟩
  | 50 => ⟨S8x256x4, .f32⟩
  | 51 => ⟨S8x256x4x1, .f32⟩
  | 52 => ⟨S_, .f32⟩
  | 53 => ⟨S8x256x4x1, .f32⟩
  | 54 => ⟨S8x256x4x1, .f32⟩
  | 55 => ⟨S_, .f32⟩
  | 56 => ⟨S8x256x4x1, .f32⟩
  | 57 => ⟨S8x256x4x1, .f32⟩
  | 58 => ⟨S8x256x4x1, .f32⟩
  | 59 => ⟨S8x256x4x64, .f32⟩
  | 60 => ⟨S8x256x4x64, .f32⟩
  | 61 => ⟨S1x1x1x64, .f32⟩
  | 62 => ⟨S8x256x4x64, .f32⟩
  | 63 => ⟨S8x256x4x64, .f32⟩
  | 64 => ⟨S8x2304x16x64, .f32⟩
  | 65 => ⟨S8x2304x1024, .f32⟩
  | 66 => ⟨S_, .f32⟩
  | 67 => ⟨S8x2304x1024, .f32⟩
  | 68 => ⟨S8x2304x1024, .f32⟩
  | 69 => ⟨S8x2304x4x64, .f32⟩
  | 70 => ⟨S8x2304x4x64, .f32⟩
  | 71 => ⟨S_, .f32⟩
  | 72 => ⟨S8x2304x4x64, .f32⟩
  | 73 => ⟨S8x2304x4x256, .f32⟩
  | 74 => ⟨S8x2304x1024, .f32⟩
  | 75 => ⟨S_, .f32⟩
  | 76 => ⟨S8x2304x4x64, .f32⟩
  | 77 => ⟨S8x2304x4x256, .f32⟩
  | 78 => ⟨S8x2304x1024, .f32⟩
  | 79 => ⟨S8x2304x3072, .f32⟩
  | 80 => ⟨S8x2304x3072, .bf16⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_10 : Ref sig .tc := ⟨.hbm, 119, rfl⟩
abbrev main_v100 : Ref sig .tc := ⟨.hbm, 120, rfl⟩
abbrev main_v101 : Ref sig .tc := ⟨.hbm, 121, rfl⟩
abbrev main_cst_11 : Ref sig .tc := ⟨.hbm, 122, rfl⟩
abbrev main_v102 : Ref sig .tc := ⟨.hbm, 123, rfl⟩
abbrev main_v103 : Ref sig .tc := ⟨.hbm, 124, rfl⟩
abbrev main_cst_12 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_13 : Ref sig .tc := ⟨.hbm, 161, rfl⟩
abbrev main_v139 : Ref sig .tc := ⟨.hbm, 162, rfl⟩
abbrev main_v140 : Ref sig .tc := ⟨.hbm, 163, rfl⟩
abbrev main_cst_14 : Ref sig .tc := ⟨.hbm, 164, rfl⟩
abbrev main_v141 : Ref sig .tc := ⟨.hbm, 165, rfl⟩
abbrev main_v142 : Ref sig .tc := ⟨.hbm, 166, rfl⟩
abbrev main_cst_15 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_16 : Ref sig .tc := ⟨.hbm, 177, rfl⟩
abbrev main_v152 : Ref sig .tc := ⟨.hbm, 178, rfl⟩
abbrev main_v153 : Ref sig .tc := ⟨.hbm, 179, rfl⟩
abbrev main_cst_17 : Ref sig .tc := ⟨.hbm, 180, rfl⟩
abbrev main_v154 : Ref sig .tc := ⟨.hbm, 181, rfl⟩
abbrev main_v155 : Ref sig .tc := ⟨.hbm, 182, rfl⟩
abbrev main_cst_18 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_cst_19 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_20 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_cst_21 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩

abbrev nD : Nat := 1
abbrev τ : Topo := Topo.v7x

variable {F : FTy → Type} [FloatOps F]
-- ==== Kernel8.lean ====
abbrev S8x2304x1024 : Shape := ⟨3, ![8, 2304, 1024]⟩
abbrev S1024 : Shape := ⟨1, ![1024]⟩
abbrev S1x1024 : Shape := ⟨2, ![1, 1024]⟩
abbrev S8x2048x1024 : Shape := ⟨3, ![8, 2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x2304x1024, .f32⟩
  | .hbm, ⟨1, _⟩ => ⟨S1024, .f32⟩
  | .hbm, ⟨2, _⟩ => ⟨S1x1024, .f32⟩
  | .hbm, ⟨3, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8x2304x1024 : Shape := ⟨3, ![8, 2304, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S1024, .f32⟩
  | .hbm, ⟨2, _⟩ => ⟨S8x2048x1024, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8x2304x1024 : Shape := ⟨3, ![8, 2304, 1024]⟩
abbrev S18432x4096 : Shape := ⟨2, ![18432, 4096]⟩
abbrev S8x2304x128 : Shape := ⟨3, ![8, 2304, 128]⟩
abbrev S8x2x6x1024 : Shape := ⟨4, ![8, 2, 6, 1024]⟩
abbrev S1x256x1024 : Shape := ⟨3, ![1, 256, 1024]⟩
abbrev S256x4096 : Shape := ⟨2, ![256, 4096]⟩
abbrev S1x256x128 : Shape := ⟨3, ![1, 256, 128]⟩
abbrev S1x1x6x1024 : Shape := ⟨4, ![1, 1, 6, 1024]⟩
abbrev S256x128 : Shape := ⟨2, ![256, 128]⟩
abbrev S256x1 : Shape := ⟨2, ![256, 1]⟩
abbrev S256x1024 : Shape := ⟨2, ![256, 1024]⟩
abbrev S6x1024 : Shape := ⟨2, ![6, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x2304x1024, .f32⟩
  | .hbm, ⟨1, _⟩ => ⟨S18432x4096, .bf16⟩
  | .hbm, ⟨2, _⟩ => ⟨S8x2304x128, .f32⟩
  | .hbm, ⟨3, _⟩ => ⟨S8x2x6x1024, .f32⟩
  | .hbm, ⟨4, _⟩ => ⟨S8x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x4096, .bf16⟩
  | .local _ .vmem, ⟨3, _⟩ => ⟨S256x4096, .bf16⟩
  | .local _ .vmem, ⟨4, _⟩ => ⟨S1x256x128, .f32⟩
  | .local _ .vmem, ⟨5, _⟩ => ⟨S1x256x128, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x256x1024, .f32⟩
  | .local _ .vmem, ⟨9, _⟩ => ⟨S1x256x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8x2304x1024 : Shape := ⟨3, ![8, 2304, 1024]⟩
abbrev S18432x4096 : Shape := ⟨2, ![18432, 4096]⟩
abbrev S8x2304x128 : Shape := ⟨3, ![8, 2304, 128]⟩
abbrev S8x2x6x1024 : Shape := ⟨4, ![8, 2, 6, 1024]⟩
abbrev S8x2304x4 : Shape := ⟨3, ![8, 2304, 4]⟩
abbrev S8x2304x4x1 : Shape := ⟨4, ![8, 2304, 4, 1]⟩
abbrev S8x2304x4x1024 : Shape := ⟨4, ![8, 2304, 4, 1024]⟩
abbrev S_ : Shape := ⟨0, ![]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x256x1024 : Shape := ⟨3, ![8, 256, 1024]⟩
abbrev S8x2048x1024 : Shape := ⟨3, ![8, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S18432x4096, .bf16⟩
  | .hbm, ⟨2, _⟩ => ⟨S8x2304x128, .f32⟩
  | .hbm, ⟨3, _⟩ => ⟨S8x2x6x1024, .f32⟩
  | .hbm, ⟨4, _⟩ => ⟨S8x2304x4, .f32⟩
  | .hbm, ⟨5, _⟩ => ⟨S8x2304x4x1, .f32⟩
  | .hbm, ⟨6, _⟩ => ⟨S18432x4096, .f32⟩
  | .hbm, ⟨7, _⟩ => ⟨S8x2304x4x1024, .f32⟩
  | .hbm, ⟨8, _⟩ => ⟨S8x2304x4x1024, .f32⟩
  | .hbm, ⟨9, _⟩ => ⟨S8x2304x4x1024, .f32⟩
  | .hbm, ⟨10, _⟩ => ⟨S_, .f32⟩
  | .hbm, ⟨11, _⟩ => ⟨S8x2304x1024, .f32⟩
  | .hbm, ⟨12, _⟩ => ⟨S8x1x1x1024, .f32⟩
  | .hbm, ⟨13, _⟩ => ⟨S8x1024, .f32⟩
  | .hbm, ⟨14, _⟩ => ⟨S8x1x1024, .f32⟩
  | .hbm, ⟨15, _⟩ => ⟨S8x1x1x1024, .f32⟩
  | .hbm, ⟨16, _⟩ => ⟨S8x1024, .f32⟩
  | .hbm, ⟨17, _⟩ => ⟨S8x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S8x256x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2304x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel10.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S8x2304x4096 : Shape := ⟨3, ![8, 2304, 4096]⟩
abbrev S5x3072 : Shape := ⟨2, ![5, 3072]⟩
abbrev S8x2304x3072 : Shape := ⟨3, ![8, 2304, 3072]⟩
abbrev S1x2304x512 : Shape := ⟨3, ![1, 2304, 512]⟩
abbrev S5x512 : Shape := ⟨2, ![5, 512]⟩
abbrev S2304x512 : Shape := ⟨2, ![2304, 512]⟩
abbrev S2304x1 : Shape := ⟨2, ![2304, 1]⟩
abbrev S1x512 : Shape := ⟨2, ![1, 512]⟩
abbrev S2304x128 : Shape := ⟨2, ![2304, 128]⟩
abbrev S2304 : Shape := ⟨1, ![2304]⟩
abbrev S1x2304x128 : Shape := ⟨3, ![1, 2304, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x2304x4096, .bf16⟩
  | .hbm, ⟨1, _⟩ => ⟨S5x3072, .f32⟩
  | .hbm, ⟨2, _⟩ => ⟨S8x2304x3072, .bf16⟩
  | .local _ .vmem, ⟨0, _⟩ => ⟨S1x2304x512, .bf16⟩
  | .local _ .vmem, ⟨1, _⟩ => ⟨S1x2304x512, .bf16⟩
  | .local _ .vmem, ⟨2, _⟩ => ⟨S5x512, .f32⟩
  | .local _ .vmem, ⟨3, _⟩ => ⟨S5x512, .f32⟩
  | .local _ .vmem, ⟨4, _⟩ => ⟨S1x2304x512, .bf16⟩
  | .local _ .vmem, ⟨5, _⟩ => ⟨S1x2304x512, .bf16⟩
  | _, _ => ⟨S8x2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8x2304x4096 : Shape := ⟨3, ![8, 2304, 4096]⟩
abbrev S5x3072 : Shape := ⟨2, ![5, 3072]⟩
abbrev S8x2304x3072 : Shape := ⟨3, ![8, 2304, 3072]⟩
abbrev S8x256x3072 : Shape := ⟨3, ![8, 256, 3072]⟩
abbrev S_ : Shape := ⟨0, ![]⟩
abbrev S8x260x3072 : Shape := ⟨3, ![8, 260, 3072]⟩
abbrev S1x3072 : Shape := ⟨2, ![1, 3072]⟩
abbrev S3072 : Shape := ⟨1, ![3072]⟩
abbrev S1x1x3072 : Shape := ⟨3, ![1, 1, 3072]⟩
abbrev S8x2048x3072 : Shape := ⟨3, ![8, 2048, 3072]⟩
abbrev S8x2052x3072 : Shape := ⟨3, ![8, 2052, 3072]⟩
abbrev S8x2304x24x128 : Shape := ⟨4, ![8, 2304, 24, 128]⟩
abbrev S8x2304x8x128 : Shape := ⟨4, ![8, 2304, 8, 128]⟩
abbrev S8x2304x8 : Shape := ⟨3, ![8, 2304, 8]⟩
abbrev S8x2304x8x1 : Shape := ⟨4, ![8, 2304, 8, 1]⟩

abbrev nBuf : Space → Nat
  | .hbm => 126
  | .vmem => 0
  | .smem => 0
  | _ => 0

abbrev bufTy : (tb : Table) → Fin (tcTables nBuf tb) → BufTy
  | .hbm, ⟨0, _⟩ => ⟨S8x2304x4096, .bf16⟩
  | .hbm, ⟨1, _⟩ => ⟨S5x3072, .f32⟩
  | .hbm, ⟨2, _⟩ => ⟨S8x2304x3072, .bf16⟩
  | .hbm, ⟨3, _⟩ => ⟨S8x2304x3072, .f32⟩
  | .hbm, ⟨4, _⟩ => ⟨S8x256x3072, .f32⟩
  | .hbm, ⟨5, _⟩ => ⟨S_, .i32⟩
  | .hbm, ⟨6, _⟩ => ⟨S_, .f32⟩
  | .hbm, ⟨7, _⟩ => ⟨S8x260x3072, .f32⟩
  | .hbm, ⟨8, _⟩ => ⟨S8x256x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S8x256x3072, .f32⟩
  | .hbm, ⟨13, _⟩ => ⟨S8x256x3072, .f32⟩
  | .hbm, ⟨14, _⟩ => ⟨S_, .f32⟩
  | .hbm, ⟨15, _⟩ => ⟨S8x256x3072, .f32⟩
  | .hbm, ⟨16, _⟩ => ⟨S8x256x3072, .f32⟩
  | .hbm, ⟨17, _⟩ => ⟨S8x256x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S8x256x3072, .f32⟩
  | .hbm, ⟨22, _⟩ => ⟨S8x256x3072, .f32⟩
  | .hbm, ⟨23, _⟩ => ⟨S8x256x3072, .f32⟩
  | .hbm, ⟨24, _⟩ => ⟨S8x256x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S8x256x3072, .f32⟩
  | .hbm, ⟨29, _⟩ => ⟨S8x256x3072, .f32⟩
  | .hbm, ⟨30, _⟩ => ⟨S8x256x3072, .f32⟩
  | .hbm, ⟨31, _⟩ => ⟨S8x256x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S8x256x3072, .f32⟩
  | .hbm, ⟨36, _⟩ => ⟨S8x256x3072, .f32⟩
  | .hbm, ⟨37, _⟩ => ⟨S8x256x3072, .f32⟩
  | .hbm, ⟨38, _⟩ => ⟨S8x256x3072, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S8x256x3072, .f32⟩
  | .hbm, ⟨43, _⟩ => ⟨S8x256x3072, .f32⟩
  | .hbm, ⟨44, _⟩ => ⟨S8x256x3072, .f32⟩
  | .hbm, ⟨45, _⟩ => ⟨S8x2048x3072, .f32⟩
  | .hbm, ⟨46, _⟩ => ⟨S_, .i32⟩
  | .hbm, ⟨47, _⟩ => ⟨S_, .f32⟩
  | .hbm, ⟨48, _⟩ => ⟨S8x2052x3072, .f32⟩
  | .hbm, ⟨49, _⟩ => ⟨S8x2048x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S8x2048x3072, .f32⟩
  | .hbm, ⟨54, _⟩ => ⟨S8x2048x3072, .f32⟩
  | .hbm, ⟨55, _⟩ => ⟨S_, .f32⟩
  | .hbm, ⟨56, _⟩ => ⟨S8x2048x3072, .f32⟩
  | .hbm, ⟨57, _⟩ => ⟨S8x2048x3072, .f32⟩
  | .hbm, ⟨58, _⟩ => ⟨S8x2048x3072, .f32⟩
  | .hbm, ⟨59, _⟩ => ⟨S1x3072, .f32⟩
  | .hbm, ⟨60, _⟩ => ⟨S3072, .f32⟩
  | .hbm, ⟨61, _⟩ => ⟨S1x1x3072, .f32⟩
  | .hbm, ⟨62, _⟩ => ⟨S8x2048x3072, .f32⟩
  | .hbm, ⟨63, _⟩ => ⟨S8x2048x3072, .f32⟩
  | .hbm, ⟨64, _⟩ => ⟨S8x2048x3072, .f32⟩
  | .hbm, ⟨65, _⟩ => ⟨S8x2048x3072, .f32⟩
  | .hbm, ⟨66, _⟩ => ⟨S1x3072, .f32⟩
  | .hbm, ⟨67, _⟩ => ⟨S3072, .f32⟩
  | .hbm, ⟨68, _⟩ => ⟨S1x1x3072, .f32⟩
  | .hbm, ⟨69, _⟩ => ⟨S8x2048x3072, .f32⟩
  | .hbm, ⟨70, _⟩ => ⟨S8x2048x3072, .f32⟩
  | .hbm, ⟨71, _⟩ => ⟨S8x2048x3072, .f32⟩
  | .hbm, ⟨72, _⟩ => ⟨S8x2048x3072, .f32⟩
  | .hbm, ⟨73, _⟩ => ⟨S1x3072, .f32⟩
  | .hbm, ⟨74, _⟩ => ⟨S3072, .f32⟩
  | .hbm, ⟨75, _⟩ => ⟨S1x1x3072, .f32⟩
  | .hbm, ⟨76, _⟩ => ⟨S8x2048x3072, .f32⟩
  | .hbm, ⟨77, _⟩ => ⟨S8x2048x3072, .f32⟩
  | .hbm, ⟨78, _⟩ => ⟨S8x2048x3072, .f32⟩
  | .hbm, ⟨79, _⟩ => ⟨S8x2048x3072, .f32⟩
  | .hbm, ⟨80, _⟩ => ⟨S1x3072, .f32⟩
  | .hbm, ⟨81, _⟩ => ⟨S3072, .f32⟩
  | .hbm, ⟨82, _⟩ => ⟨S1x1x3072, .f32⟩
  | .hbm, ⟨83, _⟩ => ⟨S8x2048x3072, .f32⟩
  | .hbm, ⟨84, _⟩ => ⟨S8x2048x3072, .f32⟩
  | .hbm, ⟨85, _⟩ => ⟨S8x2048x3072, .f32⟩
  | .hbm, ⟨86, _⟩ => ⟨S8x2304x3072, .f32⟩
  | .hbm, ⟨87, _⟩ => ⟨S8x2304x3072, .f32⟩
  | .hbm, ⟨88, _⟩ => ⟨S8x2304x3072, .f32⟩
  | .hbm, ⟨89, _⟩ => ⟨S_, .f32⟩
  | .hbm, ⟨90, _⟩ => ⟨S8x2304x3072, .f32⟩
  | .hbm, ⟨91, _⟩ => ⟨S8x2304x3072, .f32⟩
  | .hbm, ⟨92, _⟩ => ⟨S_, .f32⟩
  | .hbm, ⟨93, _⟩ => ⟨S8x2304x3072, .f32⟩
  | .hbm, ⟨94, _⟩ => ⟨S8x2304x3072, .f32⟩
  | .hbm, ⟨95, _⟩ => ⟨S8x2304x3072, .f32⟩
  | .hbm, ⟨96, _⟩ => ⟨S8x2304x24x128, .f32⟩
  | .hbm, ⟨97, _⟩ => ⟨S8x2304x8x128, .f32⟩
  | .hbm, ⟨98, _⟩ => ⟨S8x2304x8x128, .f32⟩
  | .hbm, ⟨99, _⟩ => ⟨S_, .f32⟩
  | .hbm, ⟨100, _⟩ => ⟨S8x2304x8, .f32⟩
  | .hbm, ⟨101, _⟩ => ⟨S8x2304x8x1, .f32⟩
  | .hbm, ⟨102, _⟩ => ⟨S_, .f32⟩
  | .hbm, ⟨103, _⟩ => ⟨S8x2304x8x1, .f32⟩
  | .hbm, ⟨104, _⟩ => ⟨S8x2304x8x1, .f32⟩
  | .hbm, ⟨105, _⟩ => ⟨S8x2304x8x1, .f32⟩
  | .hbm, ⟨106, _⟩ => ⟨S8x2304x8x128, .f32⟩
  | .hbm, ⟨107, _⟩ => ⟨S8x2304x8x128, .f32⟩
  | .hbm, ⟨108, _⟩ => ⟨S_, .f32⟩
  | .hbm, ⟨109, _⟩ => ⟨S8x2304x8x128, .f32⟩
  | .hbm, ⟨110, _⟩ => ⟨S8x2304x8x128, .f32⟩
  | .hbm, ⟨111, _⟩ => ⟨S8x2304x8x128, .f32⟩
  | .hbm, ⟨112, _⟩ => ⟨S8x2304x8x128, .f32⟩
  | .hbm, ⟨113, _⟩ => ⟨S_, .f32⟩
  | .hbm, ⟨114, _⟩ => ⟨S8x2304x8, .f32⟩
  | .hbm, ⟨115, _⟩ => ⟨S8x2304x8x1, .f32⟩
  | .hbm, ⟨116, _⟩ => ⟨S_, .f32⟩
  | .hbm, ⟨117, _⟩ => ⟨S8x2304x8x1, .f32⟩
  | .hbm, ⟨118, _⟩ => ⟨S8x2304x8x1, .f32⟩
  | .hbm, ⟨119, _⟩ => ⟨S8x2304x8x1, .f32⟩
  | .hbm, ⟨120, _⟩ => ⟨S8x2304x8x128, .f32⟩
  | .hbm, ⟨121, _⟩ => ⟨S8x2304x8x128, .f32⟩
  | .hbm, ⟨122, _⟩ => ⟨S8x2304x8x128, .f32⟩
  | .hbm, ⟨123, _⟩ => ⟨S8x2304x24x128, .f32⟩
  | .hbm, ⟨124, _⟩ => ⟨S8x2304x3072, .f32⟩
  | .hbm, ⟨125, _⟩ => ⟨S8x2304x3072, .bf16⟩
  | _, _ => ⟨S8x2304x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c_0 : Ref sig .tc := ⟨.hbm, 46, rfl⟩
abbrev main_call1_v0 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_2 : Ref sig .tc := ⟨.hbm, 99, rfl⟩
abbrev main_v83 : Ref sig .tc := ⟨.hbm, 100, rfl⟩
abbrev main_v84 : Ref sig .tc := ⟨.hbm, 101, rfl⟩
abbrev main_cst_3 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_4 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_5 : Ref sig .tc := ⟨.hbm, 113, rfl⟩
abbrev main_v94 : Ref sig .tc := ⟨.hbm, 114, rfl⟩
abbrev main_v95 : Ref sig .tc := ⟨.hbm, 115, rfl⟩
abbrev main_cst_6 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩

abbrev nD : Nat := 1
abbrev τ : Topo := Topo.v7x

variable {F : FTy → Type} [FloatOps F]
-- ==== Proof.ExpertsKernelIdeal.lean ====
/- The expert feed-forward call as the pipeline runs it: the tables' contents, the windows' blocks, what the body leaves
   in its output block at a grid point, the body's triple at every point, and the run of the whole program. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the region is entered -/

/-- Core `c`'s buffers when the region is entered: the host lines done. -/
abbrev V (c : Dev nD) (b : Ref sig .tc) : Buf (Elt F) ((c : Thread nD τ).loc b) := StableHlo.after hostOps0 (fun b => m (c, b)) b

/-- None of the host lines needs a buffer not yet there. -/
theorem hostOps0_fresh : (hostOps0 : List (HloOp τ sig (Elt F))).Forall fun op => op.fresh = ∅ := by
  simp only [List.Forall]; repeat' constructor

set_option maxHeartbeats 800000 in
/-- The program is its host lines and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the four host lines writes is found by the region as launched. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The tables -/

/-- The two tables' contents when the region is entered: the tiles' experts and the number of tiles in use. -/
def tbl : pre0.Contents (Elt F) := fun j => V m (0 : Dev nD) (pre0.ref j)

/-- Every device holds those tables (there is one device). -/
theorem V_pre (c : Dev nD) (j : Fin 2) : V m c (pre0.ref j) = tbl m j := by
  obtain rfl : c = 0 := Subsingleton.elim _ _; rfl

/-- Every window lies inside its array at the tables' contents. -/
abbrev Ok : Prop := ok0 (F := F) (tbl m)

/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tab0 : Memref sig .tc .smem S320 .i32 := Memref.whole main_arg1
abbrev htab0 : tab0.IsWhole := Memref.isWhole_whole _
abbrev tab1 : Memref sig .tc .smem S1 .i32 := Memref.whole main_arg2
abbrev htab1 : tab1.IsWhole := Memref.isWhole_whole _

/-- A table's contents on core `c`, and the half of it the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The region's invariant on the tables, table by table. -/
theorem PhiT0_eq (c : Dev nD) : (Pipeline.ΦT pre0 (tbl m) c : sProp 𝕄) = iprop(tabPt c tab0 (tbl m 0) ∗ tabPt c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The body at a grid point -/

/-- The number of tiles in use, as the body reads it from its table. -/
abbrev nuWord (c : Dev nD) (xt1 : TabBuf (F := F) c tab1) : BitVec 32 := (show S1.Idx → BitVec 32 from xt1) (Shape.Idx.first (by decide))

/-- The second branch is taken exactly where the first is not. -/
theorem cond2_iff (i : grid0.Coords) (w : BitVec 32) : k0_cond2 i w = 1#1 ↔ ¬ k0_cond1 i w = 1#1 := by
  unfold k0_cond1 k0_cond2
  simp only [Scalar.cmpi, Scalar.extui, IntOp.cmpi]
  generalize BitVec.ofNat 32 (i 0).val = x
  by_cases h : x.slt w <;> simp [h, BitVec.sle_eq_not_slt]

/-- A one-element table has one position. -/
theorem one_idx (i j : S1.Idx) : i = j := funext fun a => Fin.ext (by
  have hi : (i a).val < ![1] a := (i a).isLt
  have hj : (j a).val < ![1] a := (j a).isLt
  have : ![1] a = 1 := by fin_cases a; rfl
  omega)

/-- What the body leaves in its output block: the expert's feed-forward of its blocks on a tile in use, zeros elsewhere. -/
def bodyOut (i : grid0.Coords) (w : BitVec 32) (x0 : Vec F S256x1024 .bf16) (x1 : Vec F S1x1024x2048 .bf16) (x2 : Vec F S1x1x2048 .f32)
    (x3 : Vec F S1x1024x1024 .bf16) (x4 : Vec F S1x1x1024 .f32) : Vec F S256x1024 .bf16 :=
  if k0_cond1 i w = 1#1 then k0_pay1 x0 x1 x2 x3 x4 else k0_pay2

set_option maxHeartbeats 1000000 in
/-- The body's triple: the inputs' buffers and the tables come back as they were, the output's holds `bodyOut`. -/
theorem bodyRun (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .bf16) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TabBuf (F := F) c tab0) (xt1 : TabBuf (F := F) c tab1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tabPt c tab0 xt0 ∗ tabPt c tab1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (bodyOut i (nuWord c xt1) x0 x1 x2 x3 x4) ∗ tabPt c tab0 xt0 ∗ tabPt c tab1 xt1) -∗ K ⟨⟩))
      ⊢ wp frame (wpE (defs₀ (F := F)) Variants.none c none) E (cc0_moe_experts i tab0 htab0 tab1 htab1 arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    have hw : bodyRun.sl.r c xt1 = nuWord c xt1 := by
      sl_unfold_run_names
      exact congrArg (show S1.Idx → BitVec 32 from xt1) (one_idx _ _)
    rw [hw]
    by_cases h : k0_cond1 i (nuWord c xt1) = 1#1
    · rw [dif_neg (fun h2 => (cond2_iff i _).mp h2 h), dif_pos h, View.read_writes_full, bodyOut, if_pos h]
      congr 1
      · exact (View.readAt_full _ _ _).trans hf0
      · exact (View.readAt_full _ _ _).trans hf1
      · exact (View.readAt_full _ _ _).trans hf2
      · exact (View.readAt_full _ _ _).trans hf3
      · exact (View.readAt_full _ _ _).trans hf4
    · rw [dif_pos ((cond2_iff i _).mpr h), View.read_writes_full, bodyOut, if_neg h]
  isplitl [HT0]; · iexact HT0
  iexact HT1

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's buffer holds after the body at point `t`. -/
def outAt (hO : Ok m) (c : Dev nD) (t : Fin (cfgM m hO).N) : Vec F S256x1024 .bf16 :=
  bodyOut (grid0.coords t) (nuWord c (tbl m 1)) (iblk m hO c 0 t) (iblk m hO c 1 t) (iblk m hO c 2 t) (iblk m hO c 3 t) (iblk m hO c 4 t)

/-- The pipeline's data: the arrays as the region finds them, each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.ΦA spec0 c ∗ Pipeline.ΦT pre0 (tbl m) c)
  q _ := fullShare
  owed _ := 0

/-- The arrays are the region's at entry. -/
theorem A_eq (hO : Ok m) (c : Dev nD) (w : Fin (cfgM m hO).W) : (dats m hO 0 c).A w = V m c (Pipeline.arrRef spec0 w) := by
  dsimp only [dats]

/-! What the body leaves in each window's buffer. -/
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = outAt m hO c t := by dsimp only [dats]; try rfl

/-! Each input's buffer holds its block at every point, fetched there or carried from the point before. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- No point is idle for any window: one of the two branches is taken. -/
theorem idle0_false (pf : pre0.Contents (Elt F)) (w : Fin 6) (i : grid0.Coords) : idle0 pf w i = false := by
  have key : ∀ x : BitVec 32, (!(k0_cond1 i x == 1#1) && !(k0_cond2 i x == 1#1)) = false := fun x => by
    by_cases h : k0_cond1 i x = 1#1
    · simp [h]
    · simp [(cond2_iff i x).mpr h]
  fin_cases w
  · rfl
  · rfl
  · rfl
  · rfl
  · rfl
  · dsimp only [idle0]
    exact key _

theorem never_idle (hO : Ok m) (w : Fin (cfgM m hO).W) (i : (cfgM m hO).grid.Coords) : (cfgM m hO).idle w i = false :=
  idle0_false (tbl m) w i

/-! ## The body obligation -/

/-- The current staging memref of each window, as the pipeline passes it. -/
abbrev ms0 (hO : Ok m) (t : Fin (cfgM m hO).N) : Memref sig .tc .vmem S256x1024 .bf16 := spec0_0.stage ((cfgM m hO).slots t 0)
abbrev ms1 (hO : Ok m) (t : Fin (cfgM m hO).N) : Memref sig .tc .vmem S1x1024x2048 .bf16 := spec0_1.stage ((cfgM m hO).slots t 1)
abbrev ms2 (hO : Ok m) (t : Fin (cfgM m hO).N) : Memref sig .tc .vmem S1x1x2048 .f32 := spec0_2.stage ((cfgM m hO).slots t 2)
abbrev ms3 (hO : Ok m) (t : Fin (cfgM m hO).N) : Memref sig .tc .vmem S1x1024x1024 .bf16 := spec0_3.stage ((cfgM m hO).slots t 3)
abbrev ms4 (hO : Ok m) (t : Fin (cfgM m hO).N) : Memref sig .tc .vmem S1x1x1024 .f32 := spec0_4.stage ((cfgM m hO).slots t 4)
abbrev ms5 (hO : Ok m) (t : Fin (cfgM m hO).N) : Memref sig .tc .vmem S256x1024 .bf16 := spec0_5.stage ((cfgM m hO).slots t 5)

/-- The body at point `t`, on the buffers the pipeline calls it with. -/
abbrev bodyAt (a : (pcfg0 (F := F)).Adm) (t : Fin (cfg0 a).N) : Prog (TpuEff nD τ sig (Elt F) Λ₀ .tc) PUnit :=
  cc0_moe_experts (grid0.coords t) tab0 htab0 tab1 htab1 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The body at any point takes the one to the other. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4]
  rw [show (dats m hO 0 c).Φ t.succ = (dats m hO 0 c).Φ t.castSucc from rfl,
    show (dats m hO 0 c).owesAt () t.succ = (dats m hO 0 c).owesAt () t.castSucc from rfl,
    after0, after1, after2, after3, after4, after5]
  rw [show (dats m hO 0 c).Φ t.castSucc = iprop(Pipeline.ΦA spec0 c ∗ Pipeline.ΦT pre0 (tbl m) c) from rfl, PhiT0_eq]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (bodyRun c (grid0.coords t) _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The program's body table holds that body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- A body that is idle nowhere owes every buffer at what the data say it leaves. -/
theorem obligation_of_never_idle {cfg : Pipeline.Cfg sig Λ₀} {c : Dev nD} (dat : Dat τ (Elt F) Unit ℕ (UR sig nD τ) ℕ cfg c)
    (hid : ∀ w i, cfg.idle w i = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t => by
  refine triple_restated (h t) rfl .rfl fun _ => ?_
  simp only [hid]
  exact .rfl

/-- The pipeline's obligation on the body, at every point. -/
theorem body_obligation (hO : Ok m) (c : Dev nD) : BodyObligation (dats (F := F) m hO 0 c) (defs₀ (F := F)) Variants.none () Set.univ :=
  obligation_of_never_idle _ (never_idle m hO) fun t => by
    rw [bigSep_W0, bigSep_W0, defs₀_row m hO]
    exact triple_restated (sound_body m hO c t) rfl .rfl fun _ => .rfl

/-! ## The run and the frame -/

set_option backward.isDefEq.respectTransparency.types false in
/-- Every execution ends, with the arrays at what the pipeline's data say and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run: the result array as the pipeline leaves it, the arguments unchanged, the counters at zero. -/
theorem run (hO : Ok m) : θ_run defs (onTc (τ := τ) (main (F := F))) ⟨m, fun _ => 0, ρ⟩ (fun r => (∀ c : Dev nD,
      r.2.mem ((c.tc : Thread nD τ).loc main_v4) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).1 0).trans (((dats m hO 0 c).arrAt_in 0 rfl _).trans ((A_eq m hO c 0).trans (V_kept m c main_arg0 (by decide) (by decide) (by decide) (by decide)))),
      ((h.1 c).2 main_arg1 (by decide : main_arg1 ∈ Pipeline.restRefs sig spec0)).trans (V_kept m c _ (by decide) (by decide) (by decide) (by decide)),
      ((h.1 c).2 main_arg2 (by decide : main_arg2 ∈ Pipeline.restRefs sig spec0)).trans (V_kept m c _ (by decide) (by decide) (by decide) (by decide)),
      ((h.1 c).2 main_arg3 (by decide : main_arg3 ∈ Pipeline.restRefs sig spec0)).trans (V_kept m c _ (by decide) (by decide) (by decide) (by decide)),
      ((h.1 c).2 main_arg4 (by decide : main_arg4 ∈ Pipeline.restRefs sig spec0)).trans (V_kept m c _ (by decide) (by decide) (by decide) (by decide)),
      ((h.1 c).2 main_arg5 (by decide : main_arg5 ∈ Pipeline.restRefs sig spec0)).trans (V_kept m c _ (by decide) (by decide) (by decide) (by decide)),
      ((h.1 c).2 main_arg6 (by decide : main_arg6 ∈ Pipeline.restRefs sig spec0)).trans (V_kept m c _ (by decide) (by decide) (by decide) (by decide))⟩, h.2⟩)
    (run_main_quiescent m ρ hO)

end Cert.KernelIdeal.Experts

end
-- ==== Proof.ExpertsTablesIdeal.lean ====
/- The tables' ranges and what they give: each window's block index in closed form, and every block inside its array. -/
module

public import proofs.«01_k».proof.Proof.ExpertsKernelIdeal
public import proofs.«01_k».proof.Proof.Gen.Pre_tables_in_range
public import Idealize.ShloMosaic.Lib.Pointwise
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.TcCoe Idealize.ShloMosaic.WordCmp

variable {F : FTy → Type} [FloatOps F]

/-- The tables' ranges: every tile names one of the 32 experts, and at least one tile is in use. -/
def InRange (T : IVec S320 32) (U : IVec S1 32) : Prop := (∀ t : Fin 320, (T (ix1 t)).toNat < 32) ∧ 1 ≤ (U (ix1 0)).toInt

/-- The printed precondition says that. -/
theorem inRange_of_pre [Cert.Pre_tables_in_range.Facts] {G : FTy → Type} [FloatOps G] {X T U W B W' B'}
    (h1 : (Cert.Pre_tables_in_range.fn (F := G) X T U W B W' B').1 = fun _ => 1#1) (h2 : (Cert.Pre_tables_in_range.fn (F := G) X T U W B W' B').2 = fun _ => 1#1) :
    InRange T U := by
  refine ⟨fun t => ?_, ?_⟩
  · have h := congrFun h1 (ix1 t)
    simp only [Cert.Pre_tables_in_range.fn] at h
    pointwise at h
    rw [andi_sge_zero_slt_ofNat (k := 32) (by decide)] at h
    exact of_decide_eq_true ((ofBool_eq_one_iff _).mp h)
  · have h := congrFun h2 (ix1 0)
    simp only [Cert.Pre_tables_in_range.fn] at h
    pointwise at h
    rw [cmpi_sge_eq] at h
    exact of_decide_eq_true ((ofBool_eq_one_iff _).mp h)

/-- A word with a positive signed reading reads the same unsigned. -/
theorem toInt_of_pos (u : BitVec 32) (hu : 1 ≤ u.toInt) : u.toInt = u.toNat ∧ 1 ≤ u.toNat ∧ u.toNat < 2 ^ 31 := by
  have h : 0 ≤ u.toInt := by omega
  rw [toInt_nonneg_iff_lt_half] at h
  have h2 := toInt_eq_toNat_of_lt_half (x := u) h
  refine ⟨h2, by omega, h⟩

/-- The smaller of a tile's number and the last tile in use. -/
theorem minsi_sub_one (n : ℕ) (hn : n < 320) (u : BitVec 32) (hu : 1 ≤ u.toInt) :
    (Scalar.minsi (BitVec.ofNat 32 n) (Scalar.subi u 1#32)).toNat = min n (u.toNat - 1) := by
  obtain ⟨-, h1, h2⟩ := toInt_of_pos u hu
  have hs : (u - 1#32).toNat = u.toNat - 1 := by
    rw [BitVec.toNat_sub]; simp only [BitVec.toNat_ofNat]; omega
  have hx : (BitVec.ofNat 32 n).toNat = n := by rw [BitVec.toNat_ofNat]; omega
  have ix : (BitVec.ofNat 32 n).toInt = n := by
    rw [toInt_eq_toNat_of_lt_half (by rw [hx]; omega), hx]
  have iy : (u - 1#32).toInt = (u.toNat - 1 : ℕ) := by
    rw [toInt_eq_toNat_of_lt_half (by rw [hs]; omega), hs]
  simp only [Scalar.minsi, Scalar.subi, IntOp.minsi, IntOp.subi, BitVec.slt, BitVec.sle, ix, iy]
  split <;> rename_i hc <;> simp only [decide_eq_true_eq] at hc <;> simp only [hs, hx] <;> omega

section
variable (pf : pre0.Contents (Elt F))

/-- The table of the tiles' experts. -/
def tilesOf : IVec S320 32 := pf 0
/-- The number of tiles in use. -/
def usedOf : IVec S1 32 := pf 1

variable (h : InRange (tilesOf pf) (usedOf pf))

/-- The expert of the tile at a grid point. -/
def expertOf (i : grid0.Coords) : ℕ := (tilesOf pf (ix1 (i 0))).toNat
/-- The tile whose rows a grid point reads: its own, or the last one in use. -/
def tileOf (i : grid0.Coords) : ℕ := (Scalar.minsi (BitVec.ofNat 32 (i 0).val) (Scalar.subi (usedOf pf (ix1 0)) 1#32)).toNat

theorem transform_0_eq (i : grid0.Coords) : cc0_transform_0 inb_S1_S1_0 numel1_S1 pf i = ![tileOf pf i, 0] := by
  have : (pf.at 1 (Rect.unit (s := S1) ![0] S1.size inb_S1_S1_0) numel1_S1 : BitVec 32) = usedOf pf (ix1 0) :=
    congrArg (usedOf pf) (one_idx _ _)
  exact congrArg (fun x : BitVec 32 => ![(Scalar.minsi (BitVec.ofNat 32 (i 0).val) (Scalar.subi x 1#32)).toNat, 0]) this

theorem at_expert (i : grid0.Coords) : pf.at 0 (Rect.unit (s := S320) ![(Scalar.indexCast (BitVec.ofNat 32 (i 0).val) : Index).toNat] S1.size (k0_off1_inb i)) numel1_S1
    = tilesOf pf (ix1 (i 0)) := by
  refine congrArg (tilesOf pf) (funext fun a => Fin.ext ?_)
  have ha : a = (0 : Fin 1) := (Subsingleton.elim (α := Fin 1) a 0)
  subst ha
  show (BitVec.ofNat 32 (i 0).val).toNat + 1 * 0 = (i 0).val
  have hi : (i 0).val < 320 := (i 0).isLt
  rw [BitVec.toNat_ofNat]
  omega

theorem transform_1_eq (i : grid0.Coords) : cc0_transform_1 k0_off1_inb numel1_S1 pf i = ![expertOf pf i, 0, 0] := by
  exact congrArg (fun x : BitVec 32 => ![x.toNat, 0, 0]) (at_expert pf i)
theorem transform_2_eq (i : grid0.Coords) : cc0_transform_2 k0_off1_inb numel1_S1 pf i = ![expertOf pf i, 0, 0] := by
  exact congrArg (fun x : BitVec 32 => ![x.toNat, 0, 0]) (at_expert pf i)
theorem transform_3_eq (i : grid0.Coords) : cc0_transform_3 k0_off1_inb numel1_S1 pf i = ![expertOf pf i, 0, 0] := by
  exact congrArg (fun x : BitVec 32 => ![x.toNat, 0, 0]) (at_expert pf i)
theorem transform_4_eq (i : grid0.Coords) : cc0_transform_4 k0_off1_inb numel1_S1 pf i = ![expertOf pf i, 0, 0] := by
  exact congrArg (fun x : BitVec 32 => ![x.toNat, 0, 0]) (at_expert pf i)

include h in
theorem expertOf_lt (i : grid0.Coords) : expertOf pf i < 32 := h.1 (i 0)

include h in
theorem tileOf_eq (i : grid0.Coords) : tileOf pf i = min (i 0).val ((usedOf pf (ix1 0)).toNat - 1) :=
  minsi_sub_one _ (i 0).isLt _ h.2

include h in
theorem tileOf_lt (i : grid0.Coords) : tileOf pf i < 320 := by
  have hi : (i 0).val < 320 := (i 0).isLt
  rw [tileOf_eq pf h]; omega

include h in
/-- On a tile in use a point reads its own tile. -/
theorem tileOf_of_used (i : grid0.Coords) (hu : (BitVec.ofNat 32 (i 0).val).slt (usedOf pf (ix1 0)) = true) : tileOf pf i = (i 0).val := by
  have hi : (i 0).val < 320 := (i 0).isLt
  obtain ⟨h0, h1, h2⟩ := toInt_of_pos _ h.2
  have hx : (BitVec.ofNat 32 (i 0).val).toNat = (i 0).val := by rw [BitVec.toNat_ofNat]; omega
  have ix : (BitVec.ofNat 32 (i 0).val).toInt = (i 0).val := by
    rw [toInt_eq_toNat_of_lt_half (by rw [hx]; omega), hx]
  simp only [BitVec.slt, ix, h0, decide_eq_true_eq] at hu
  rw [tileOf_eq pf h]; omega

include h in
/-- Every block lies inside its array and covers whole words. -/
theorem ok_of_inRange : ok0 pf := by
  refine ⟨fun i => ⟨fun a => ?_, .inr (Affine.block_words_dvd (of_decide_eq_true rfl) (by decide))⟩, fun i => ⟨fun a => ?_, .inr (Affine.block_words_dvd (of_decide_eq_true rfl) (by decide))⟩,
    fun i => ⟨fun a => ?_, .inl rfl⟩, fun i => ⟨fun a => ?_, .inr (Affine.block_words_dvd (of_decide_eq_true rfl) (by decide))⟩, fun i => ⟨fun a => ?_, .inl rfl⟩⟩
  · rw [transform_0_eq]
    have := tileOf_lt pf h i
    fin_cases a
    · show (tileOf pf i + 1) * 256 ≤ 81920
      omega
    · exact (by decide : (0 + 1) * 1024 ≤ 1024)
  · rw [transform_1_eq]
    have := expertOf_lt pf h i
    fin_cases a
    · show (expertOf pf i + 1) * 1 ≤ 32
      omega
    · exact (by decide : (0 + 1) * 1024 ≤ 1024)
    · exact (by decide : (0 + 1) * 2048 ≤ 2048)
  · rw [transform_2_eq]
    have := expertOf_lt pf h i
    fin_cases a
    · show (expertOf pf i + 1) * 1 ≤ 32
      omega
    · exact (by decide : (0 + 1) * 1 ≤ 1)
    · exact (by decide : (0 + 1) * 2048 ≤ 2048)
  · rw [transform_3_eq]
    have := expertOf_lt pf h i
    fin_cases a
    · show (expertOf pf i + 1) * 1 ≤ 32
      omega
    · exact (by decide : (0 + 1) * 1024 ≤ 1024)
    · exact (by decide : (0 + 1) * 1024 ≤ 1024)
  · rw [transform_4_eq]
    have := expertOf_lt pf h i
    fin_cases a
    · show (expertOf pf i + 1) * 1 ≤ 32
      omega
    · exact (by decide : (0 + 1) * 1 ≤ 1)
    · exact (by decide : (0 + 1) * 1024 ≤ 1024)

end

end Cert.KernelIdeal.Experts

end
-- ==== Proof.Ffn.lean ====
/- The clamped SwiGLU feed-forward of one row as a formula, and the reading of a table of matrices or vectors at a column of
   start indices. -/
module

public import Idealize.ShloMosaic.Lib.Pointwise
public import Idealize.ShloMosaic.Lib.Pipeline.ValueKit

@[expose] public section

set_option maxRecDepth 16384

noncomputable section

namespace Cert.Ffn

open Idealize.ShloMosaic

/-! ## The feed-forward of one row -/

/-- The up projection of a row: its products with the 2048 columns, and the bias. -/
def up (x : Fin 1024 → EReal) (wu : Fin 1024 → Fin 2048 → EReal) (bu : Fin 2048 → EReal) (f : Fin 2048) : EReal :=
  (∑ k, x k * wu k f) + bu f

/-- The gate's column of a hidden unit. -/
def gateCol (f : Fin 1024) : Fin 2048 := ⟨f.val, by omega⟩
/-- The linear part's column of a hidden unit. -/
def linCol (f : Fin 1024) : Fin 2048 := ⟨1024 + f.val, by omega⟩

/-- The clamped SwiGLU of a gate and a linear part: `g · sigmoid (1.702 g) · (l + 1)` with the gate cut at 7 and the linear part
    between −7 and 7. -/
def act (gate lin : EReal) : EReal :=
  min gate (Ideal.ofBits .f32 0x40E00000#32)
      * Ideal.div 1 (1 + Ideal.exp (-(Ideal.ofBits .f32 0x3FD9DB23#32 * min gate (Ideal.ofBits .f32 0x40E00000#32))))
    * (min (Ideal.ofBits .f32 0x40E00000#32) (max (Ideal.ofBits .f32 0xC0E00000#32) lin) + 1)

/-- The expert's feed-forward of a row, at one output column. -/
def ffn (x : Fin 1024 → EReal) (wu : Fin 1024 → Fin 2048 → EReal) (bu : Fin 2048 → EReal) (wd : Fin 1024 → Fin 1024 → EReal)
    (bd : Fin 1024 → EReal) (j : Fin 1024) : EReal :=
  (∑ f, act (up x wu bu (gateCol f)) (up x wu bu (linCol f)) * wd f j) + bd j

/-! ## Reading a table at a column of start indices -/

/-- `table[e]` of matrices: the dimension numbers. -/
abbrev matDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the start index of result matrix `c` is `e`, its entries are matrix `e`'s. -/
theorem gather_mat {α : Type} {N A B n : ℕ} (wf) (x : (⟨3, ![N, A, B]⟩ : Shape).Idx → α) (idx : IVec ⟨2, ![n, 1]⟩ 32)
    (c : Fin n) (a : Fin A) (b : Fin B) (e : Fin N) (he : (idx (ix2 c 0)).toInt = e.val) :
    Host.gather (matDims N A B n wf) x idx (ix3 c a b) = x (ix3 e a b) := by
  unfold Host.gather
  refine congrArg x (funext fun d => Fin.ext ?_)
  show (matDims N A B n wf).start (ix3 c a b) idx d + (matDims N A B n wf).batchCoord (ix3 c a b) d
      + (matDims N A B n wf).offCoord (ix3 c a b) d = _
  rw [GatherDims.batchCoord_eq_zero _ _ _ (fun h => by simp at h)]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (matDims N A B n wf).startIndexMap from List.mem_singleton.mpr rfl)]
    have hsi : (matDims N A B n wf).siIdx (ix3 c a b) ⟨List.idxOf (0 : Fin 3) (matDims N A B n wf).startIndexMap,
        List.idxOf_lt_length_iff.2 (List.mem_singleton.mpr rfl)⟩ = ix2 c 0 := by
      funext k; refine Fin.ext ?_
      match k with
      | ⟨0, _⟩ => rfl
      | ⟨1, _⟩ => rfl
    rw [hsi, he]
    show min ((e.val : ℤ)).toNat (N - 1) = e.val
    have := e.isLt; omega
  · unfold GatherDims.start
    rw [dif_neg (show (1 : Fin 3) ∉ (matDims N A B n wf).startIndexMap from fun h => by simp at h)]
    show 0 + 0 + _ = a.val
    rw [Nat.zero_add]
    unfold GatherDims.offCoord
    rw [dif_pos ((GatherDims.mem_sKept _ _).mpr ⟨fun h => by simp at h, fun h => by simp at h⟩)]
    rfl
  · unfold GatherDims.start
    rw [dif_neg (show (2 : Fin 3) ∉ (matDims N A B n wf).startIndexMap from fun h => by simp at h)]
    show 0 + 0 + _ = b.val
    rw [Nat.zero_add]
    unfold GatherDims.offCoord
    rw [dif_pos ((GatherDims.mem_sKept _ _).mpr ⟨fun h => by simp at h, fun h => by simp at h⟩)]
    rfl

/-- `table[e]` of vectors: the dimension numbers. -/
abbrev rowDims (N A n : ℕ) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- Where the start index of result row `c` is `e`, its entries are row `e`'s. -/
theorem gather_row {α : Type} {N A n : ℕ} (wf) (x : (⟨2, ![N, A]⟩ : Shape).Idx → α) (idx : IVec ⟨2, ![n, 1]⟩ 32)
    (c : Fin n) (a : Fin A) (e : Fin N) (he : (idx (ix2 c 0)).toInt = e.val) :
    Host.gather (rowDims N A n wf) x idx (ix2 c a) = x (ix2 e a) := by
  unfold Host.gather
  refine congrArg x (funext fun d => Fin.ext ?_)
  show (rowDims N A n wf).start (ix2 c a) idx d + (rowDims N A n wf).batchCoord (ix2 c a) d
      + (rowDims N A n wf).offCoord (ix2 c a) d = _
  rw [GatherDims.batchCoord_eq_zero _ _ _ (fun h => by simp at h)]
  have hd : d = 0 ∨ d = 1 := by
    match d with
    | ⟨0, _⟩ => exact Or.inl rfl
    | ⟨1, _⟩ => exact Or.inr rfl
  rcases hd with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N A n wf).startIndexMap from List.mem_singleton.mpr rfl)]
    have hsi : (rowDims N A n wf).siIdx (ix2 c a) ⟨List.idxOf (0 : Fin 2) (rowDims N A n wf).startIndexMap,
        List.idxOf_lt_length_iff.2 (List.mem_singleton.mpr rfl)⟩ = ix2 c 0 := by
      funext k; refine Fin.ext ?_
      match k with
      | ⟨0, _⟩ => rfl
      | ⟨1, _⟩ => rfl
    rw [hsi, he]
    show min ((e.val : ℤ)).toNat (N - 1) = e.val
    have := e.isLt; omega
  · unfold GatherDims.start
    rw [dif_neg (show (1 : Fin 2) ∉ (rowDims N A n wf).startIndexMap from fun h => by simp at h)]
    show 0 + 0 + _ = a.val
    rw [Nat.zero_add]
    unfold GatherDims.offCoord
    rw [dif_pos ((GatherDims.mem_sKept _ _).mpr ⟨fun h => by simp at h, fun h => by simp at h⟩)]
    rfl

end Cert.Ffn

end
-- ==== Proof.ExpertsRef.lean ====
/- The two computations as formulas: what the body stores, read at an entry, and what the reference computes, read at an
   entry, are the row's expert feed-forward. -/
module

public import proofs.«01_k».proof.Proof.Gen.KernelIdeal.Skeleton
public import proofs.«01_k».proof.Proof.Gen.ReferenceIdeal.Run
public import proofs.«01_k».proof.Proof.Ffn

@[expose] public section

set_option maxRecDepth 16384

noncomputable section

open Idealize.ShloMosaic Cert.Ffn

namespace Cert.KernelIdeal.Experts

open Cert.KernelIdeal Cert.KernelIdeal.Gen

set_option maxHeartbeats 1000000 in
/-- The body's stored block at row `r` and column `j` is the feed-forward of row `r`. -/
theorem pay1_apply (x0 : FVec Ideal S256x1024 .bf16) (x1 : FVec Ideal S1x1024x2048 .bf16) (x2 : FVec Ideal S1x1x2048 .f32)
    (x3 : FVec Ideal S1x1024x1024 .bf16) (x4 : FVec Ideal S1x1x1024 .f32) (r : Fin 256) (j : Fin 1024) :
    k0_pay1 (F := Ideal) x0 x1 x2 x3 x4 (ix2 r j)
      = ffn (fun k => x0 (ix2 r k)) (fun k f => x1 (ix3 0 k f)) (fun f => x2 (ix3 0 0 f)) (fun f j => x3 (ix3 0 f j)) (fun j => x4 (ix3 0 0 j)) j := by
  pointwise [k0_pay1, ffn, up, act, gateCol, linCol]
  rfl

end Cert.KernelIdeal.Experts

namespace Cert.ReferenceIdeal.Experts

open Cert.ReferenceIdeal Cert.ReferenceIdeal.Gen

/-- The tiles' experts as the reference looks them up: a negative number counts from the end. -/
def starts (T : IVec S320 32) : IVec S320x1 32 :=
  broadcastInDim S320x1 ![0] bcast_S320_S320x1_0 (select (cmpi .slt T (broadcastInDim S320 ![] bcast_S_S320 (constantI S_ 32 0#32))) (addi T (broadcastInDim S320 ![] bcast_S_S320 (constantI S_ 32 32#32))) T)

/-- A number that is not negative is kept by the look-up's wrap. -/
theorem select_of_nonneg (x : BitVec 32) (hx : 0 ≤ x.toInt) : Scalar.select (IntOp.cmpi CmpIPredicate.slt x 0#32) (IntOp.addi x 32#32) x = x := by
  have : IntOp.cmpi CmpIPredicate.slt x 0#32 = 0#1 := by
    simp only [IntOp.cmpi, BitVec.slt]
    simp [not_lt.mpr hx]
  rw [this]; rfl

/-- A word in `[0, 32)` is looked up as itself. -/
theorem starts_apply (T : IVec S320 32) (t : Fin 320) (e : Fin 32) (he : (T (ix1 t)).toInt = e.val) : (starts T (ix2 t 0)).toInt = e.val := by
  have h : starts T (ix2 t 0) = T (ix1 t) := by
    pointwise [starts]
    rw [select_of_nonneg]
    have := e.isLt; omega
  rw [h, he]

/-- The up projections of all tiles' rows. -/
def ups (X : FVec Ideal S81920x1024 .bf16) (T : IVec S320 32) (W : FVec Ideal S32x1024x2048 .f32) (B : FVec Ideal S32x2048 .f32) : FVec Ideal S320x256x2048 .f32 :=
  addf (Host.dotGeneral dot_S320x256x1024_S320x1024x2048_S320x256x2048_2_1_1_2_0_0 none (shapeCast _ (extf .f32 X bitsLt_bf16_f32) shapeCasts_S81920x1024_S320x256x1024) (Host.gather gather_S32x1024x2048_S320x1_S320x1024x2048_12_0_n_n_0_1_110242048 W (starts T))) (broadcastInDim S320x256x2048 ![0, 1, 2] bcast_S320x1x2048_S320x256x2048_0_1_2 (broadcastInDim S320x1x2048 ![0, 2] bcast_S320x2048_S320x1x2048_0_2 (Host.gather gather_S32x2048_S320x1_S320x2048_1_0_n_n_0_1_12048 B (starts T))))

set_option maxHeartbeats 1000000 in
/-- An up projection at an entry. -/
theorem ups_apply (X : FVec Ideal S81920x1024 .bf16) (T : IVec S320 32) (W : FVec Ideal S32x1024x2048 .f32) (B : FVec Ideal S32x2048 .f32)
    (t : Fin 320) (r : Fin 256) (f : Fin 2048) (e : Fin 32) (he : (T (ix1 t)).toInt = e.val) :
    ups X T W B (ix3 t r f) = up (fun k => X (ix2 ⟨t.val * 256 + r.val, by omega⟩ k)) (fun k f => W (ix3 e k f)) (fun f => B (ix2 e f)) f := by
  have hs := starts_apply T t e he
  have hW : ∀ x f, Host.gather gather_S32x1024x2048_S320x1_S320x1024x2048_12_0_n_n_0_1_110242048 W (starts T) (ix3 t x f) = W (ix3 e x f) :=
    fun x f => gather_mat _ W (starts T) t x f e hs
  have hB : ∀ f, Host.gather gather_S32x2048_S320x1_S320x2048_1_0_n_n_0_1_12048 B (starts T) (ix2 t f) = B (ix2 e f) :=
    fun f => gather_row _ B (starts T) t f e hs
  pointwise [ups, up]
  simp only [hW, hB]

/-- The reference's result as a term of its arguments. -/
def REF (X : FVec Ideal S81920x1024 .bf16) (T : IVec S320 32) (U : IVec S1 32) (W : FVec Ideal S32x1024x2048 .f32) (B : FVec Ideal S32x2048 .f32)
    (W' : FVec Ideal S32x1024x1024 .f32) (B' : FVec Ideal S32x1024 .f32) : FVec Ideal S81920x1024 .bf16 :=
  truncf .bf16 (shapeCast _ (select (broadcastInDim S320x256x1024 ![0, 1, 2] bcast_S320x1x1_S320x256x1024_0_1_2 (broadcastInDim S320x1x1 ![0] bcast_S320_S320x1x1_0 (cmpi .slt (iotaInDim S320 32 0) (broadcastInDim S320 ![0] bcast_S1_S320_0 U)))) (addf (Host.dotGeneral dot_S320x256x1024_S320x1024x1024_S320x256x1024_2_1_1_2_0_0 none (mulf (mulf (minimumf (extractStridedSlice S320x256x1024 ![0, 0, 0] (ups X T W B) slices_S320x256x2048_S320x256x1024_0_0_0) (broadcastInDim S320x256x1024 ![] bcast_S_S320x256x1024 (constant S_ .f32 0x40E00000#32))) (Host.divf (broadcastInDim S320x256x1024 ![] bcast_S_S320x256x1024 (constant S_ .f32 0x3F800000#32)) (addf (broadcastInDim S320x256x1024 ![] bcast_S_S320x256x1024 (constant S_ .f32 0x3F800000#32)) (Host.exp (Host.negf (mulf (broadcastInDim S320x256x1024 ![] bcast_S_S320x256x1024 (constant S_ .f32 0x3FD9DB23#32)) (minimumf (extractStridedSlice S320x256x1024 ![0, 0, 0] (ups X T W B) slices_S320x256x2048_S320x256x1024_0_0_0) (broadcastInDim S320x256x1024 ![] bcast_S_S320x256x1024 (constant S_ .f32 0x40E00000#32))))))))) (addf (minimumf (broadcastInDim S320x256x1024 ![] bcast_S_S320x256x1024 (id (constant S_ .f32 0x40E00000#32))) (maximumf (broadcastInDim S320x256x1024 ![] bcast_S_S320x256x1024 (id (constant S_ .f32 0xC0E00000#32))) (extractStridedSlice S320x256x1024 ![0, 0, 1024] (ups X T W B) slices_S320x256x2048_S320x256x1024_0_0_1024))) (broadcastInDim S320x256x1024 ![] bcast_S_S320x256x1024 (constant S_ .f32 0x3F800000#32)))) (Host.gather gather_S32x1024x1024_S320x1_S320x1024x1024_12_0_n_n_0_1_110241024 W' (starts T))) (broadcastInDim S320x256x1024 ![0, 1, 2] bcast_S320x1x1024_S320x256x1024_0_1_2 (broadcastInDim S320x1x1024 ![0, 2] bcast_S320x1024_S320x1x1024_0_2 (Host.gather gather_S32x1024_S320x1_S320x1024_1_0_n_n_0_1_11024 B' (starts T))))) (broadcastInDim S320x256x1024 ![] bcast_S_S320x256x1024 (id (constant S_ .f32 0x00000000#32)))) shapeCasts_S320x256x1024_S81920x1024) bitsLt_bf16_f32

set_option maxHeartbeats 1000000 in
/-- The reference at an entry: the row's expert feed-forward on a tile in use, zero elsewhere. -/
theorem REF_apply (X : FVec Ideal S81920x1024 .bf16) (T : IVec S320 32) (U : IVec S1 32) (W : FVec Ideal S32x1024x2048 .f32) (B : FVec Ideal S32x2048 .f32)
    (W' : FVec Ideal S32x1024x1024 .f32) (B' : FVec Ideal S32x1024 .f32) (R : Fin 81920) (j : Fin 1024) (e : Fin 32) (he : (T (ix1 ⟨R.val / 256, by omega⟩)).toInt = e.val) :
    REF X T U W B W' B' (ix2 R j) = if (BitVec.ofNat 32 (R.val / 256)).slt (U (ix1 0)) = true
      then ffn (fun k => X (ix2 R k)) (fun k f => W (ix3 e k f)) (fun f => B (ix2 e f)) (fun f j => W' (ix3 e f j)) (fun j => B' (ix2 e j)) j else 0 := by
  have hR : R.val / 256 < 320 := by omega
  have hs := starts_apply T ⟨R.val / 256, hR⟩ e he
  have hW : ∀ x f, Host.gather gather_S32x1024x1024_S320x1_S320x1024x1024_12_0_n_n_0_1_110241024 W' (starts T) (ix3 ⟨R.val / 256, hR⟩ x f) = W' (ix3 e x f) :=
    fun x f => gather_mat _ W' (starts T) _ x f e hs
  have hB : ∀ f, Host.gather gather_S32x1024_S320x1_S320x1024_1_0_n_n_0_1_11024 B' (starts T) (ix2 ⟨R.val / 256, hR⟩ f) = B' (ix2 e f) :=
    fun f => gather_row _ B' (starts T) _ f e hs
  have hrow : ∀ h, (⟨R.val / 256 * 256 + R.val % 256, h⟩ : Fin 81920) = R := fun h => Fin.ext (by show R.val / 256 * 256 + R.val % 256 = R.val; omega)
  have hU : ∀ (h : R.val % 256 < 256) f, ups X T W B (ix3 ⟨R.val / 256, hR⟩ ⟨R.val % 256, h⟩ f)
      = up (fun k => X (ix2 R k)) (fun k f => W (ix3 e k f)) (fun f => B (ix2 e f)) f := fun h f =>
    (ups_apply X T W B ⟨R.val / 256, hR⟩ ⟨R.val % 256, h⟩ f e he).trans (by simp only [hrow])
  pointwise [REF, ffn, act, gateCol, linCol, id_eq]
  simp only [hW, hB, hU]
  by_cases h : (BitVec.ofNat 32 (R.val / 256)).slt (U (ix1 0)) = true
  · rw [if_pos h, show IntOp.cmpi CmpIPredicate.slt (BitVec.ofNat 32 (R.val / 256)) (U (ix1 0)) = 1#1 by simp only [IntOp.cmpi, h]; rfl]
    rfl
  · rw [if_neg h, show IntOp.cmpi CmpIPredicate.slt (BitVec.ofNat 32 (R.val / 256)) (U (ix1 0)) = 0#1 by simp only [IntOp.cmpi, Bool.eq_false_iff.mpr h]; rfl]
    rfl

end Cert.ReferenceIdeal.Experts
end
-- ==== Proof.ExpertsValue.lean ====
/- The result array after the run is the reference's term of the arguments. -/
module

public import proofs.«01_k».proof.Proof.ExpertsTablesIdeal
public import proofs.«01_k».proof.Proof.ExpertsRef

@[expose] public section

set_option maxRecDepth 16384

noncomputable section

namespace Cert.KernelIdeal.Experts

open Cert.KernelIdeal Cert.KernelIdeal.Gen
open Idealize.ShloMosaic Idealize.ShloMosaic.TcCoe Cert.Ffn
open Idealize.ShloMosaic.Pipeline (Dat)

variable (m : (ℓ : Loc nD τ sig) → Buf (Elt Ideal) ℓ)

/-- The output is written back at every point. -/
theorem flush5 (hO : Ok m) (t : Fin (cfgM m hO).N) : ((cfgM m hO).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true) t

/-- Point `t` is tile `t`. -/
theorem coords_val : ∀ t : Fin grid0.N, (grid0.coords t 0).val = t.val := by decide +kernel

/-- The output's block index at a point. -/
theorem index5 : ∀ t : Fin grid0.N, cc0_transform_5 (grid0.coords t) = ![t.val, 0] := by decide +kernel

/-- The written blocks cover the array. -/
theorem covers5 (hO : Ok m) : ((cfgM m hO).win 5).Covers := by
  refine ⟨fun a => ?_, fun β => ?_⟩
  · revert a
    exact (by decide : ∀ a : Fin 2, 0 < S256x1024.size a)
  let z0 : Fin ((cfgM m hO).win 5).shape.rank := (⟨0, by decide⟩ : Fin 2)
  let z1 : Fin ((cfgM m hO).win 5).shape.rank := (⟨1, by decide⟩ : Fin 2)
  have e0 : ((cfgM m hO).win 5).nblk z0 = 320 := by
    show (81920 + 256 - 1) / 256 = 320
    norm_num
  have e1 : ((cfgM m hO).win 5).nblk z1 = 1 := by
    show (1024 + 1024 - 1) / 1024 = 1
    norm_num
  have hβ0 : (β z0).val < 320 := lt_of_lt_of_eq (β z0).isLt e0
  have hβ1 : (β z1).val < 1 := lt_of_lt_of_eq (β z1).isLt e1
  have key : ∀ a : Fin 2, ((cfgM m hO).win 5).index ⟨(β z0).val, hβ0⟩ a = β a := by
    intro a
    refine (congrFun (index5 ⟨(β z0).val, hβ0⟩) a).trans ?_
    fin_cases a
    · rfl
    · show 0 = (β z1).val
      omega
  exact ⟨⟨(β z0).val, hβ0⟩, flush5 m hO _, fun a => ⟨key a, .inl rfl⟩⟩

/-! ## The blocks -/

/-- The rows of a point's tile. -/
theorem iblk0_apply (hO : Ok m) (c : Dev nD) (t : Fin (cfgM m hO).N) (r : Fin 256) (k : Fin 1024) (R : Fin 81920) (hR : R.val = tileOf (tbl m) (grid0.coords t) * 256 + r.val) :
    iblk m hO c 0 t (ix2 r k) = m ((c : Thread nD τ).loc main_arg0) (ix2 R k) := by
  have h0 := congrFun (V_kept m c main_arg0 (by decide) (by decide) (by decide) (by decide))
  refine Eq.trans ?_ (h0 _)
  refine congrArg (V m c main_arg0) (funext fun a => Fin.ext ?_)
  refine (Pipeline.Window.rect_emb_val ((cfgM m hO).win 0) t (ix2 r k) a).trans ?_
  have hi : ((cfgM m hO).win 0).index t = ![tileOf (tbl m) (grid0.coords t), 0] := transform_0_eq _ _
  rw [hi]
  revert a
  refine Fin.forall_fin_two.mpr ⟨?_, ?_⟩
  · exact hR.symm
  · show 0 * 1024 + k.val = k.val
    omega

/-- A point's expert's up weights. -/
theorem iblk1_apply (hO : Ok m) (c : Dev nD) (t : Fin (cfgM m hO).N) (k : Fin 1024) (f : Fin 2048) (e : Fin 32) (he : e.val = expertOf (tbl m) (grid0.coords t)) :
    iblk m hO c 1 t (ix3 0 k f) = m ((c : Thread nD τ).loc main_arg3) (ix3 e k f) := by
  have h0 : V m c main_v0 (ix3 e k f) = m ((c : Thread nD τ).loc main_arg3) (ix3 e k f) := by entry_read; rfl
  refine Eq.trans ?_ h0
  refine congrArg (V m c main_v0) (funext fun a => Fin.ext ?_)
  refine (Pipeline.Window.rect_emb_val ((cfgM m hO).win 1) t (ix3 0 k f) a).trans ?_
  have hi : ((cfgM m hO).win 1).index t = ![expertOf (tbl m) (grid0.coords t), 0, 0] := transform_1_eq _ _
  rw [hi]
  revert a
  refine Fin.forall_fin_succ.mpr ⟨?_, Fin.forall_fin_two.mpr ⟨?_, ?_⟩⟩
  · show expertOf (tbl m) (grid0.coords t) * 1 + 0 = e.val
    omega
  · show 0 * 1024 + k.val = k.val
    omega
  · show 0 * 2048 + f.val = f.val
    omega

/-- A point's expert's up biases. -/
theorem iblk2_apply (hO : Ok m) (c : Dev nD) (t : Fin (cfgM m hO).N) (f : Fin 2048) (e : Fin 32) (he : e.val = expertOf (tbl m) (grid0.coords t)) :
    iblk m hO c 2 t (ix3 0 0 f) = m ((c : Thread nD τ).loc main_arg4) (ix2 e f) := by
  have h0 : V m c main_v2 (ix3 e 0 f) = m ((c : Thread nD τ).loc main_arg4) (ix2 e f) := by
    entry_read
    show shapeCast S32x1x2048 (m ((c : Thread nD τ).loc main_arg4)) shapeCasts_S32x2048_S32x1x2048 (ix3 e 0 f) = _
    pointwise
  refine Eq.trans ?_ h0
  refine congrArg (V m c main_v2) (funext fun a => Fin.ext ?_)
  refine (Pipeline.Window.rect_emb_val ((cfgM m hO).win 2) t (ix3 0 0 f) a).trans ?_
  have hi : ((cfgM m hO).win 2).index t = ![expertOf (tbl m) (grid0.coords t), 0, 0] := transform_2_eq _ _
  rw [hi]
  revert a
  refine Fin.forall_fin_succ.mpr ⟨?_, Fin.forall_fin_two.mpr ⟨?_, ?_⟩⟩
  · show expertOf (tbl m) (grid0.coords t) * 1 + 0 = e.val
    omega
  · rfl
  · show 0 * 2048 + f.val = f.val
    omega

/-- A point's expert's down weights. -/
theorem iblk3_apply (hO : Ok m) (c : Dev nD) (t : Fin (cfgM m hO).N) (f : Fin 1024) (j : Fin 1024) (e : Fin 32) (he : e.val = expertOf (tbl m) (grid0.coords t)) :
    iblk m hO c 3 t (ix3 0 f j) = m ((c : Thread nD τ).loc main_arg5) (ix3 e f j) := by
  have h0 : V m c main_v1 (ix3 e f j) = m ((c : Thread nD τ).loc main_arg5) (ix3 e f j) := by entry_read; rfl
  refine Eq.trans ?_ h0
  refine congrArg (V m c main_v1) (funext fun a => Fin.ext ?_)
  refine (Pipeline.Window.rect_emb_val ((cfgM m hO).win 3) t (ix3 0 f j) a).trans ?_
  have hi : ((cfgM m hO).win 3).index t = ![expertOf (tbl m) (grid0.coords t), 0, 0] := transform_3_eq _ _
  rw [hi]
  revert a
  refine Fin.forall_fin_succ.mpr ⟨?_, Fin.forall_fin_two.mpr ⟨?_, ?_⟩⟩
  · show expertOf (tbl m) (grid0.coords t) * 1 + 0 = e.val
    omega
  · show 0 * 1024 + f.val = f.val
    omega
  · show 0 * 1024 + j.val = j.val
    omega

/-- A point's expert's down biases. -/
theorem iblk4_apply (hO : Ok m) (c : Dev nD) (t : Fin (cfgM m hO).N) (j : Fin 1024) (e : Fin 32) (he : e.val = expertOf (tbl m) (grid0.coords t)) :
    iblk m hO c 4 t (ix3 0 0 j) = m ((c : Thread nD τ).loc main_arg6) (ix2 e j) := by
  have h0 : V m c main_v3 (ix3 e 0 j) = m ((c : Thread nD τ).loc main_arg6) (ix2 e j) := by
    entry_read
    show shapeCast S32x1x1024 (m ((c : Thread nD τ).loc main_arg6)) shapeCasts_S32x1024_S32x1x1024 (ix3 e 0 j) = _
    pointwise
  refine Eq.trans ?_ h0
  refine congrArg (V m c main_v3) (funext fun a => Fin.ext ?_)
  refine (Pipeline.Window.rect_emb_val ((cfgM m hO).win 4) t (ix3 0 0 j) a).trans ?_
  have hi : ((cfgM m hO).win 4).index t = ![expertOf (tbl m) (grid0.coords t), 0, 0] := transform_4_eq _ _
  rw [hi]
  revert a
  refine Fin.forall_fin_succ.mpr ⟨?_, Fin.forall_fin_two.mpr ⟨?_, ?_⟩⟩
  · show expertOf (tbl m) (grid0.coords t) * 1 + 0 = e.val
    omega
  · rfl
  · show 0 * 1024 + j.val = j.val
    omega

/-- The tile table, as the launch reads it, is the argument. -/
theorem tilesOf_eq (c : Dev nD) : tilesOf (tbl m) = m ((c : Thread nD τ).loc main_arg1) :=
  (V_pre m c 0).symm.trans (V_kept m c main_arg1 (by decide) (by decide) (by decide) (by decide))

/-- So is the count of tiles in use. -/
theorem usedOf_eq (c : Dev nD) : usedOf (tbl m) = m ((c : Thread nD τ).loc main_arg2) :=
  (V_pre m c 1).symm.trans (V_kept m c main_arg2 (by decide) (by decide) (by decide) (by decide))

/-- The body computes exactly on the tiles in use. -/
theorem cond1_iff (i : grid0.Coords) (w : BitVec 32) : k0_cond1 i w = 1#1 ↔ (BitVec.ofNat 32 (i 0).val).slt w = true := by
  unfold k0_cond1
  simp only [Scalar.cmpi, Scalar.extui, IntOp.cmpi]
  generalize BitVec.ofNat 32 (i 0).val = x
  by_cases h : x.slt w <;> simp [h]

/-- The value stored on the other tiles is zero. -/
theorem pay2_apply (y : S256x1024.Idx) : (k0_pay2 (F := Ideal)) y = 0 := by
  pointwise [k0_pay2]

set_option maxHeartbeats 1000000 in
/-- The result array after the run is the reference's term of the arguments. -/
theorem final (hO : Ok m) (c : Dev nD) (h : InRange (m ((c : Thread nD τ).loc main_arg1)) (m ((c : Thread nD τ).loc main_arg2))) :
    (dats m hO 0 c).arrAt 5 (cfgM m hO).N = Cert.ReferenceIdeal.Experts.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 5 _ (covers5 m hO) fun t hf y => ?_
  blk_simp
  rw [after5]
  have ht : t.val < 320 := t.isLt
  obtain ⟨r, j, rfl⟩ : ∃ (r : Fin 256) (j : Fin 1024), y = ix2 r j := ⟨y (0 : Fin 2), y (1 : Fin 2), funext (Fin.forall_fin_two.mpr ⟨rfl, rfl⟩)⟩
  have hc : (grid0.coords t 0).val = t.val := coords_val t
  have hR : t.val * 256 + r.val < 81920 := by omega
  have hemb : (((cfgM m hO).win 5).blk t).view.emb (ix2 r j) = ix2 (⟨t.val * 256 + r.val, hR⟩ : Fin 81920) j := by
    refine funext fun a => Fin.ext ?_
    refine (Pipeline.Window.rect_emb_val ((cfgM m hO).win 5) t (ix2 r j) a).trans ?_
    have hi : ((cfgM m hO).win 5).index t = ![t.val, 0] := index5 t
    rw [hi]
    revert a
    refine Fin.forall_fin_two.mpr ⟨rfl, ?_⟩
    show 0 * 1024 + j.val = j.val
    omega
  have hT : tilesOf (tbl m) = m ((c : Thread nD τ).loc main_arg1) := tilesOf_eq m c
  have hU : usedOf (tbl m) = m ((c : Thread nD τ).loc main_arg2) := usedOf_eq m c
  have hIn : InRange (tilesOf (tbl m)) (usedOf (tbl m)) := by rw [hT, hU]; exact h
  have hlt := expertOf_lt (tbl m) hIn (grid0.coords t)
  have hq : (t.val * 256 + r.val) / 256 = t.val := by omega
  have hcoord : grid0.coords t 0 = (⟨(t.val * 256 + r.val) / 256, by omega⟩ : Fin 320) := Fin.ext (hc.trans hq.symm)
  have he : (m ((c : Thread nD τ).loc main_arg1) (ix1 (⟨(t.val * 256 + r.val) / 256, by omega⟩ : Fin 320))).toInt = ((⟨expertOf (tbl m) (grid0.coords t), hlt⟩ : Fin 32).val : ℤ) := by
    rw [← hcoord, ← hT]
    exact WordCmp.toInt_eq_toNat_of_lt_half (lt_trans (hIn.1 (grid0.coords t 0)) (by decide))
  have hw : nuWord c (tbl m 1) = m ((c : Thread nD τ).loc main_arg2) (ix1 0) :=
    (congrArg (usedOf (tbl m)) (one_idx _ (ix1 0))).trans (congrFun hU _)
  rw [hemb, Cert.ReferenceIdeal.Experts.REF_apply _ _ _ _ _ _ _ (⟨t.val * 256 + r.val, hR⟩ : Fin 81920) j ⟨expertOf (tbl m) (grid0.coords t), hlt⟩ he]
  show bodyOut (grid0.coords t) (nuWord c (tbl m 1)) (iblk m hO c 0 t) (iblk m hO c 1 t) (iblk m hO c 2 t) (iblk m hO c 3 t) (iblk m hO c 4 t) (ix2 r j) = _
  unfold bodyOut
  rw [hw]
  simp only [hq]
  by_cases hu : (BitVec.ofNat 32 t.val).slt (m ((c : Thread nD τ).loc main_arg2) (ix1 0)) = true
  · rw [if_pos hu, if_pos ((cond1_iff _ _).mpr (by rw [hc]; exact hu))]
    refine (pay1_apply (iblk m hO c 0 t) (iblk m hO c 1 t) (iblk m hO c 2 t) (iblk m hO c 3 t) (iblk m hO c 4 t) r j).trans ?_
    have htile : tileOf (tbl m) (grid0.coords t) = t.val :=
      (tileOf_of_used (tbl m) hIn _ (by rw [hc, hU]; exact hu)).trans hc
    have b0 := fun k => iblk0_apply m hO c t r k ⟨t.val * 256 + r.val, hR⟩ (by rw [htile])
    have b1 := fun k f => iblk1_apply m hO c t k f ⟨expertOf (tbl m) (grid0.coords t), hlt⟩ rfl
    have b2 := fun f => iblk2_apply m hO c t f ⟨expertOf (tbl m) (grid0.coords t), hlt⟩ rfl
    have b3 := fun f j => iblk3_apply m hO c t f j ⟨expertOf (tbl m) (grid0.coords t), hlt⟩ rfl
    have b4 := fun j => iblk4_apply m hO c t j ⟨expertOf (tbl m) (grid0.coords t), hlt⟩ rfl
    simp only [b0, b1, b2, b3, b4]
  · rw [if_neg hu, if_neg (fun hh => hu (by rw [← hc]; exact (cond1_iff _ _).mp hh))]
    exact pay2_apply _

end Cert.KernelIdeal.Experts

end
-- ==== Proof.InProj.lean ====
/- The input projection of the gated delta rule as formulas: what the body stores, read at an entry, and what the reference
   computes, read at an entry, are the modulated norm of the row times the weights. -/
module

public import proofs.«01_k».proof.Proof.Gen.Kernel2Ideal.Skeleton
public import proofs.«01_k».proof.Proof.Gen.Reference2Ideal.Run
public import Idealize.ShloMosaic.Lib.Pointwise
public import Idealize.ShloMosaic.Lib.Pipeline.ValueKit

@[expose] public section

set_option maxRecDepth 16384

noncomputable section

open Idealize.ShloMosaic

namespace Cert.Norm

/-- The modulated root-mean-square norm of a row: the row over its root mean square, times the gain, scaled and shifted. -/
def normMod (x g s b : Fin 1024 → EReal) (k : Fin 1024) : EReal :=
  x k * Ideal.rsqrt (Ideal.div (∑ j, x j * x j) (Ideal.ofBits .f32 0x44800000#32) + Ideal.ofBits .f32 0x358637BD#32) * g k * (1 + s k) + b k

end Cert.Norm

open Cert.Norm

namespace Cert.Kernel2Ideal.InProj

open Cert.Kernel2Ideal Cert.Kernel2Ideal.Gen

set_option maxHeartbeats 1000000 in
/-- The body's product at row `r` and column `f`. -/
theorem pay2_apply (x0 : FVec Ideal S1x256x1024 .f32) (x1 : FVec Ideal S1x1x6x1024 .f32) (x2 : FVec Ideal S1x1024 .f32) (x3 : FVec Ideal S1024x4224 .bf16) (r : Fin 256) (f : Fin 4224) :
    k0_pay2 (F := Ideal) x0 x1 x2 x3 (ix2 r f)
      = ∑ k, normMod (fun k => x0 (ix3 0 r k)) (fun k => x2 (ix2 0 k)) (fun k => x1 (ix4 0 0 1 k)) (fun k => x1 (ix4 0 0 0 k)) k * x3 (ix2 k f) := by
  pointwise [k0_pay2, normMod]

end Cert.Kernel2Ideal.InProj

namespace Cert.Reference2Ideal.InProj

open Cert.Reference2Ideal Cert.Reference2Ideal.Gen

/-- The context rows, normed and modulated. -/
def hCtx (X : FVec Ideal S8x2304x1024 .f32) (M : FVec Ideal S8x2x6x1024 .f32) (G : FVec Ideal S1024 .f32) : FVec Ideal S8x256x1024 .f32 :=
  addf (mulf (mulf (mulf (extractStridedSlice S8x256x1024 ![0, 0, 0] X slices_S8x2304x1024_S8x256x1024_0_0_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 0, 0] X slices_S8x2304x1024_S8x256x1024_0_0_0) (extractStridedSlice S8x256x1024 ![0, 0, 0] X slices_S8x2304x1024_S8x256x1024_0_0_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S8x1x1024_S8x256x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 0, 1, 0] M slices_S8x2x6x1024_S8x1x1x1024_0_0_1_0) shapeCasts_S8x1x1x1024_S8x1024))))) (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 0, 0] M slices_S8x2x6x1024_S8x1x1x1024_0_0_0_0) shapeCasts_S8x1x1x1024_S8x1024)))

/-- The latent rows, normed and modulated. -/
def hLat (X : FVec Ideal S8x2304x1024 .f32) (M : FVec Ideal S8x2x6x1024 .f32) (G : FVec Ideal S1024 .f32) : FVec Ideal S8x2048x1024 .f32 :=
  addf (mulf (mulf (mulf (extractStridedSlice S8x2048x1024 ![0, 256, 0] X slices_S8x2304x1024_S8x2048x1024_0_256_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 256, 0] X slices_S8x2304x1024_S8x2048x1024_0_256_0) (extractStridedSlice S8x2048x1024 ![0, 256, 0] X slices_S8x2304x1024_S8x2048x1024_0_256_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 1, 1, 0] M slices_S8x2x6x1024_S8x1x1x1024_0_1_1_0) shapeCasts_S8x1x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 0, 0] M slices_S8x2x6x1024_S8x1x1x1024_0_1_0_0) shapeCasts_S8x1x1x1024_S8x1024)))

set_option maxHeartbeats 1000000 in
/-- A context row's entry. -/
theorem hCtx_apply (X : FVec Ideal S8x2304x1024 .f32) (M : FVec Ideal S8x2x6x1024 .f32) (G : FVec Ideal S1024 .f32) (b : Fin 8) (r : Fin 256) (k : Fin 1024) :
    hCtx X M G (ix3 b r k) = normMod (fun k => X (ix3 b ⟨r.val, by omega⟩ k)) (fun k => G (ix1 k)) (fun k => M (ix4 b 0 1 k)) (fun k => M (ix4 b 0 0 k)) k := by
  pointwise [hCtx, normMod]

set_option maxHeartbeats 1000000 in
/-- A latent row's entry. -/
theorem hLat_apply (X : FVec Ideal S8x2304x1024 .f32) (M : FVec Ideal S8x2x6x1024 .f32) (G : FVec Ideal S1024 .f32) (b : Fin 8) (r : Fin 2048) (k : Fin 1024) :
    hLat X M G (ix3 b r k) = normMod (fun k => X (ix3 b ⟨256 + r.val, by omega⟩ k)) (fun k => G (ix1 k)) (fun k => M (ix4 b 1 1 k)) (fun k => M (ix4 b 1 0 k)) k := by
  pointwise [hLat, normMod]

/-- The projection of all rows. -/
def proj (X : FVec Ideal S8x2304x1024 .f32) (M : FVec Ideal S8x2x6x1024 .f32) (G : FVec Ideal S1024 .f32) (W : FVec Ideal S1024x4128 .f32) : FVec Ideal S8x2304x4128 .f32 :=
  Host.dotGeneral dot_S8x2304x1024_S1024x4128_S8x2304x4128_2_0_01_1_n_n none (concatenate S8x2304x1024 1 [⟨S8x256x1024, (hCtx X M G)⟩, ⟨S8x2048x1024, (hLat X M G)⟩] concatenates_S8x256x1024_S8x2048x1024_S8x2304x1024_d1) W

/-- The projection at an entry: a row's modulation is the context's on the first 256 rows, the latent's after them. -/
theorem proj_apply (X : FVec Ideal S8x2304x1024 .f32) (M : FVec Ideal S8x2x6x1024 .f32) (G : FVec Ideal S1024 .f32) (W : FVec Ideal S1024x4128 .f32) (b : Fin 8) (r : Fin 2304) (f : Fin 4128) :
    proj X M G W (ix3 b r f) = ∑ k, normMod (fun k => X (ix3 b r k)) (fun k => G (ix1 k)) (fun k => M (ix4 b (if r.val < 256 then 0 else 1) 1 k)) (fun k => M (ix4 b (if r.val < 256 then 0 else 1) 0 k)) k * W (ix2 k f) := by
  pointwise [proj]
  refine Finset.sum_congr rfl fun k _ => ?_
  by_cases h : r.val < 256
  · simp only [dif_pos h, if_pos h, hCtx_apply]
  · have hr : ∀ w, (⟨256 + (r.val - 256), w⟩ : Fin 2304) = r := fun w => Fin.ext (by show 256 + (r.val - 256) = r.val; omega)
    simp only [dif_neg h, if_neg h, hLat_apply, hr]

/-- The first result: the columns of queries, keys, values and gates. -/
def REF4 (X : FVec Ideal S8x2304x1024 .f32) (M : FVec Ideal S8x2x6x1024 .f32) (G : FVec Ideal S1024 .f32) (W : FVec Ideal S1024x4128 .f32) : FVec Ideal S8x2304x4096 .bf16 :=
  truncf .bf16 (extractStridedSlice S8x2304x4096 ![0, 0, 0] (proj X M G W) slices_S8x2304x4128_S8x2304x4096_0_0_0) bitsLt_bf16_f32

/-- The second result: the columns of the decays, with zeros up to 128 columns. -/
def REF5 (X : FVec Ideal S8x2304x1024 .f32) (M : FVec Ideal S8x2x6x1024 .f32) (G : FVec Ideal S1024 .f32) (W : FVec Ideal S1024x4128 .f32) : FVec Ideal S8x2304x128 .f32 :=
  pad S8x2304x128 ![0, 0, 0] ![0, 0, 96] ![0, 0, 0] (extractStridedSlice S8x2304x32 ![0, 0, 4096] (proj X M G W) slices_S8x2304x4128_S8x2304x32_0_0_4096) (sitofp .f32 (constantI S_ 32 0#32)) pads_S8x2304x32_S8x2304x128_000_000_0960 h_S_

/-- The first result at an entry. -/
theorem REF4_apply (X : FVec Ideal S8x2304x1024 .f32) (M : FVec Ideal S8x2x6x1024 .f32) (G : FVec Ideal S1024 .f32) (W : FVec Ideal S1024x4128 .f32) (b : Fin 8) (r : Fin 2304) (f : Fin 4096) :
    REF4 X M G W (ix3 b r f) = proj X M G W (ix3 b r ⟨f.val, by omega⟩) := by
  pointwise [REF4]

/-- The second result at an entry. -/
theorem REF5_apply (X : FVec Ideal S8x2304x1024 .f32) (M : FVec Ideal S8x2x6x1024 .f32) (G : FVec Ideal S1024 .f32) (W : FVec Ideal S1024x4128 .f32) (b : Fin 8) (r : Fin 2304) (f : Fin 128) :
    REF5 X M G W (ix3 b r f) = if h : f.val < 32 then proj X M G W (ix3 b r ⟨4096 + f.val, by omega⟩) else 0 := by
  pointwise [REF5]
  split
  · rfl
  · show ((((0#32 : BitVec 32).toInt : ℝ)) : EReal) = 0
    simp

end Cert.Reference2Ideal.InProj

end
-- ==== Proof.InProjValue.lean ====
/- The input projection of the gated delta rule: the result arrays after the run are the reference's terms of the arguments. -/
module

public import proofs.«01_k».proof.Proof.Gen.Kernel2Ideal.Value
public import proofs.«01_k».proof.Proof.InProj

@[expose] public section

set_option maxRecDepth 16384

noncomputable section

open Idealize.ShloMosaic Idealize.ShloMosaic.TcCoe Idealize.SL.Sem Cert.Norm
open Idealize.ShloMosaic.Pipeline (Dat)

namespace Cert.Kernel2Ideal.InProj

open Cert.Kernel2Ideal Cert.Kernel2Ideal.Gen

variable (m : (ℓ : Loc nD τ sig) → Buf (Elt Ideal) ℓ) (c : Dev nD)

/-- The windows' block indices at point `t`: batch `t / 9`, row block `t % 9`; the modulation is the context's on row block 0. -/
theorem idx : ∀ t : Fin cfg0.N, win0_0.index t = ![t.val / 9, t.val % 9, 0] ∧ win0_1.index t = ![t.val / 9, if t.val % 9 = 0 then 0 else 1, 0, 0]
    ∧ win0_2.index t = ![0, 0] ∧ win0_3.index t = ![0, 0] ∧ win0_4.index t = ![t.val / 9, t.val % 9, 0] ∧ win0_5.index t = ![t.val / 9, t.val % 9, 0] :=
  (by decide +kernel : ∀ t : Fin grid0.N, _)

/-- A point's batch. -/
def bat (t : Fin cfg0.N) : Fin 8 := ⟨t.val / 9, by have h : t.val < 72 := t.isLt; omega⟩
/-- A point's row of the array. -/
def row (t : Fin cfg0.N) (r : Fin 256) : Fin 2304 := ⟨t.val % 9 * 256 + r.val, by omega⟩

/-- The rows of a point's block. -/
theorem blk0 (t : Fin cfg0.N) (r : Fin 256) (k : Fin 1024) : iblk m c 0 t (ix3 0 r k) = m ((c : Thread nD τ).loc main_arg0) (ix3 (bat t) (row t r) k) := by
  unfold bat row
  blk_ext [iblk, V, idx t]

/-- The modulation of a point's rows. -/
theorem blk1 (t : Fin cfg0.N) (r : Fin 256) (s : Fin 6) (k : Fin 1024) :
    iblk m c 1 t (ix4 0 0 s k) = m ((c : Thread nD τ).loc main_arg1) (ix4 (bat t) (if (row t r).val < 256 then 0 else 1) s k) := by
  have hr : (if (row t r).val < 256 then (0 : Fin 2) else 1) = (⟨if t.val % 9 = 0 then 0 else 1, by split <;> omega⟩ : Fin 2) := by
    unfold row
    by_cases h : t.val % 9 = 0
    · simp [h]
    · have : ¬ (t.val % 9 * 256 + r.val < 256) := by omega
      simp [h, this]
  rw [hr]
  unfold bat
  blk_ext [iblk, V, idx t]

/-- The gain. -/
theorem blk2 (t : Fin cfg0.N) (k : Fin 1024) : iblk m c 2 t (ix2 0 k) = m ((c : Thread nD τ).loc main_arg2) (ix1 k) := by
  have h0 : V m c main_v2 (ix2 0 k) = m ((c : Thread nD τ).loc main_arg2) (ix1 k) := by
    entry_read
    show shapeCast S1x1024 (m ((c : Thread nD τ).loc main_arg2)) shapeCasts_S1024_S1x1024 (ix2 0 k) = _
    pointwise
  rw [← h0]
  blk_ext [iblk, idx t]

/-- The padded weights at an entry. -/
theorem pad_read (W : FVec Ideal S1024x4128 .f32) (k : Fin 1024) (f : Fin 4224) :
    truncf (F := Ideal) (φ := .f32) .bf16 (pad S1024x4224 ![0, 0] ![0, 96] ![0, 0] W (sitofp (F := Ideal) .f32 (constantI S_ 32 0#32)) pads_S1024x4128_S1024x4224_000_0960 h_S_) (by decide) (ix2 k f)
      = if h : f.val < 4128 then W (ix2 k ⟨f.val, h⟩) else (0 : EReal) := by
  pointwise
  split
  · rfl
  · show ((((0#32 : BitVec 32).toInt : ℝ)) : EReal) = 0
    simp

/-- The weights, with zeros in the columns from 4128 on. -/
theorem blk3 (t : Fin cfg0.N) (k : Fin 1024) (f : Fin 4224) :
    iblk m c 3 t (ix2 k f) = if h : f.val < 4128 then m ((c : Thread nD τ).loc main_arg3) (ix2 k ⟨f.val, h⟩) else (0 : EReal) := by
  have h0 : V m c main_v1 (ix2 k f) = if h : f.val < 4128 then m ((c : Thread nD τ).loc main_arg3) (ix2 k ⟨f.val, h⟩) else (0 : EReal) := by
    have e : V m c main_v1 = truncf (F := Ideal) (φ := .f32) .bf16 (pad S1024x4224 ![0, 0] ![0, 96] ![0, 0] (m ((c : Thread nD τ).loc main_arg3))
        (sitofp (F := Ideal) .f32 (constantI S_ 32 0#32)) pads_S1024x4128_S1024x4224_000_0960 h_S_) := by
      first | (entry_read; rfl) | rfl | (hlo_run; rfl)
    rw [e]
    exact pad_read _ k f
  rw [← h0]
  blk_ext [iblk, idx t]

/-- The product at a point's row is the reference's projection of that row, zero in the columns from 4128 on. -/
theorem prod_apply (t : Fin cfg0.N) (r : Fin 256) (f : Fin 4224) :
    k0_pay2 (F := Ideal) (iblk m c 0 t) (iblk m c 1 t) (iblk m c 2 t) (iblk m c 3 t) (ix2 r f)
      = if h : f.val < 4128 then Cert.Reference2Ideal.InProj.proj (m ((c : Thread nD τ).loc main_arg0)) (m ((c : Thread nD τ).loc main_arg1)) (m ((c : Thread nD τ).loc main_arg2)) (m ((c : Thread nD τ).loc main_arg3)) (ix3 (bat t) (row t r) ⟨f.val, h⟩) else 0 := by
  refine (pay2_apply (iblk m c 0 t) (iblk m c 1 t) (iblk m c 2 t) (iblk m c 3 t) r f).trans ?_
  simp only [fun k => blk0 m c t r k, fun s k => blk1 m c t r s k, fun k => blk2 m c t k, fun k f => blk3 m c t k f]
  by_cases h : f.val < 4128
  · simp only [dif_pos h, Cert.Reference2Ideal.InProj.proj_apply]
  · simp only [dif_neg h, mul_zero, Finset.sum_const_zero]

/-- The first output of a body is the product's first 4096 columns. -/
theorem pay3_apply (x0 x1 x2 x3) (r : Fin 256) (f : Fin 4096) : k0_pay3 (F := Ideal) x0 x1 x2 x3 (ix3 0 r f) = k0_pay2 (F := Ideal) x0 x1 x2 x3 (ix2 r ⟨f.val, by omega⟩) := by
  unfold k0_pay3
  pointwise

/-- The second output of a body is the product's last 128 columns. -/
theorem pay14_apply (x0 x1 x2 x3) (r : Fin 256) (f : Fin 128) : k0_pay1 (F := Ideal) (k0_pay4 (F := Ideal) x0 x1 x2 x3) (ix3 0 r f) = k0_pay2 (F := Ideal) x0 x1 x2 x3 (ix2 r ⟨4096 + f.val, by omega⟩) := by
  unfold k0_pay1 k0_pay4
  pointwise

/-- Where a point's block lies in the first result. -/
theorem emb4 (t : Fin cfg0.N) (r : Fin 256) (f : Fin 4096) : ((View.whole main_v3_0).slice (win0_4.rect t)).emb (ix3 0 r f) = ix3 (bat t) (row t r) f := by
  obtain ⟨-, -, -, -, h, -⟩ := idx t
  funext a
  apply Fin.ext
  refine (Pipeline.Window.rect_emb_val win0_4 t (ix3 0 r f) a).trans ?_
  rw [h]
  fin_cases a <;> simp [bat, row, win0_4]

/-- Where a point's block lies in the second result. -/
theorem emb5 (t : Fin cfg0.N) (r : Fin 256) (f : Fin 128) : ((View.whole main_v3_1).slice (win0_5.rect t)).emb (ix3 0 r f) = ix3 (bat t) (row t r) f := by
  obtain ⟨-, -, -, -, -, h⟩ := idx t
  funext a
  apply Fin.ext
  refine (Pipeline.Window.rect_emb_val win0_5 t (ix3 0 r f) a).trans ?_
  rw [h]
  fin_cases a <;> simp [bat, row, win0_5]

/-- The first result at a point's entry. -/
theorem point4 (t : Fin cfg0.N) (y : S1x256x4096.Idx) : k0_pay3 (F := Ideal) (iblk m c 0 t) (iblk m c 1 t) (iblk m c 2 t) (iblk m c 3 t) y
    = Cert.Reference2Ideal.InProj.REF4 (m ((c : Thread nD τ).loc main_arg0)) (m ((c : Thread nD τ).loc main_arg1)) (m ((c : Thread nD τ).loc main_arg2)) (m ((c : Thread nD τ).loc main_arg3)) (((View.whole main_v3_0).slice (win0_4.rect t)).emb y) := by
  obtain ⟨r, f, rfl⟩ : ∃ (r : Fin 256) (f : Fin 4096), y = ix3 0 r f :=
    ⟨y 1, y 2, by funext a; fin_cases a <;> first | rfl | exact Subsingleton.elim (α := Fin 1) _ _⟩
  refine (pay3_apply (iblk m c 0 t) (iblk m c 1 t) (iblk m c 2 t) (iblk m c 3 t) r f).trans ?_
  refine (prod_apply m c t r ⟨f.val, by omega⟩).trans ?_
  refine (dif_pos (show f.val < 4128 by omega)).trans ?_
  refine Eq.trans ?_ (congrArg (Cert.Reference2Ideal.InProj.REF4 (m ((c : Thread nD τ).loc main_arg0)) (m ((c : Thread nD τ).loc main_arg1)) (m ((c : Thread nD τ).loc main_arg2)) (m ((c : Thread nD τ).loc main_arg3))) (emb4 t r f)).symm
  exact (Cert.Reference2Ideal.InProj.REF4_apply _ _ _ _ (bat t) (row t r) f).symm

/-- The second result at a point's entry. -/
theorem point5 (t : Fin cfg0.N) (y : S1x256x128.Idx) : k0_pay1 (F := Ideal) (k0_pay4 (F := Ideal) (iblk m c 0 t) (iblk m c 1 t) (iblk m c 2 t) (iblk m c 3 t)) y
    = Cert.Reference2Ideal.InProj.REF5 (m ((c : Thread nD τ).loc main_arg0)) (m ((c : Thread nD τ).loc main_arg1)) (m ((c : Thread nD τ).loc main_arg2)) (m ((c : Thread nD τ).loc main_arg3)) (((View.whole main_v3_1).slice (win0_5.rect t)).emb y) := by
  obtain ⟨r, f, rfl⟩ : ∃ (r : Fin 256) (f : Fin 128), y = ix3 0 r f :=
    ⟨y 1, y 2, by funext a; fin_cases a <;> first | rfl | exact Subsingleton.elim (α := Fin 1) _ _⟩
  refine (pay14_apply (iblk m c 0 t) (iblk m c 1 t) (iblk m c 2 t) (iblk m c 3 t) r f).trans ?_
  refine (prod_apply m c t r ⟨4096 + f.val, by omega⟩).trans ?_
  refine Eq.trans ?_ (congrArg (Cert.Reference2Ideal.InProj.REF5 (m ((c : Thread nD τ).loc main_arg0)) (m ((c : Thread nD τ).loc main_arg1)) (m ((c : Thread nD τ).loc main_arg2)) (m ((c : Thread nD τ).loc main_arg3))) (emb5 t r f)).symm
  refine Eq.trans ?_ (Cert.Reference2Ideal.InProj.REF5_apply _ _ _ _ (bat t) (row t r) f).symm
  by_cases h : f.val < 32
  · rw [dif_pos h, dif_pos (show 4096 + f.val < 4128 by omega)]
  · rw [dif_neg h, dif_neg (show ¬ 4096 + f.val < 4128 by omega)]

/-- The first result array after the run. -/
theorem final4 : (dats m 0 c).arrAt 4 (cfgs 0).N = Cert.Reference2Ideal.InProj.REF4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

/-- The second result array after the run. -/
theorem final5 : (dats m 0 c).arrAt 5 (cfgs 0).N = Cert.Reference2Ideal.InProj.REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point5 m c t y

end Cert.Kernel2Ideal.InProj

end
-- ==== Proof.Attn.lean ====
/- The soft-max average that both attention programs compute, and what the kernel's stored tiles read at an entry. -/
module

public import proofs.«01_k».proof.Proof.Gen.Kernel3Ideal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.Kernel3Ideal.Attn

/-- The largest score of a row, as a running maximum that starts at minus infinity. -/
def top {n : ℕ} (s : Fin n → EReal) : EReal :=
  Finset.fold max (Ideal.ofBits FTy.f32 4286578688#32) s Finset.univ

/-- The total weight of a row. -/
def den {n : ℕ} (s : Fin n → EReal) : EReal := ∑ x, Ideal.exp (s x - top s)

/-- The average with the division made once, after the sum over the keys. -/
def late {n : ℕ} (s v : Fin n → EReal) : EReal :=
  (∑ x, Ideal.exp (s x - top s) * v x) * Ideal.div 1 (den s)

/-- The average with every weight divided by the total weight before the sum over the keys. -/
def early {n : ℕ} (s v : Fin n → EReal) : EReal :=
  ∑ x, v x * Ideal.div (Ideal.exp (s x - top s)) (den s)

/-- Zero values average to zero, whatever the scores. -/
theorem late_zero {n : ℕ} (s : Fin n → EReal) : late s (fun _ => 0) = 0 := by
  simp [late]

/-- The pattern of minus infinity reads as the least extended real. -/
theorem neg_inf : Ideal.ofBits FTy.f32 4286578688#32 = ⊥ := by
  simp [Ideal.ofBits, Ideal.ieee]

/-- The largest of finitely many finite scores is finite. -/
theorem top_real {n : ℕ} (s : Fin n → EReal) (i : Fin n) (h : ∀ x, s x ≠ ⊤ ∧ s x ≠ ⊥) :
    ∃ r : ℝ, top s = (r : EReal) := by
  have h1 : top s < ⊤ := by
    unfold top
    rw [Finset.fold_max_lt, neg_inf]
    exact ⟨bot_lt_top, fun x _ => lt_top_iff_ne_top.mpr (h x).1⟩
  have h2 : ⊥ < top s := by
    unfold top
    rw [Finset.lt_fold_max]
    exact Or.inr ⟨i, Finset.mem_univ i, bot_lt_iff_ne_bot.mpr (h i).2⟩
  exact ⟨(top s).toReal, (EReal.coe_toReal h1.ne h2.ne').symm⟩

/-- A nonnegative real factor moves into a finite sum of extended reals. -/
theorem sum_mul_real {n : ℕ} (f : Fin n → EReal) (c : ℝ) (hc : 0 ≤ c) :
    (∑ x, f x) * (c : EReal) = ∑ x, f x * (c : EReal) := by
  classical
  refine Finset.induction_on (Finset.univ : Finset (Fin n)) (by simp) fun a t ha ih => ?_
  rw [Finset.sum_insert ha, Finset.sum_insert ha,
    EReal.right_distrib_of_nonneg_of_ne_top (EReal.coe_nonneg.mpr hc) (EReal.coe_ne_top c), ih]

/-- A finite sum of reals is the same sum taken in the extended reals. -/
theorem sum_real {n : ℕ} (f : Fin n → ℝ) : (∑ x, (f x : EReal)) = ((∑ x, f x : ℝ) : EReal) := by
  classical
  refine Finset.induction_on (Finset.univ : Finset (Fin n)) (by simp) fun a t ha ih => ?_
  rw [Finset.sum_insert ha, Finset.sum_insert ha, EReal.coe_add, ih]

/-- For finite scores, dividing after the sum and dividing before it give the same average. -/
theorem late_eq_early {n : ℕ} (s v : Fin n → EReal) (i : Fin n) (h : ∀ x, s x ≠ ⊤ ∧ s x ≠ ⊥) :
    late s v = early s v := by
  obtain ⟨M, hM⟩ := top_real s i h
  have hw : ∀ x, Ideal.exp (s x - top s) = ((Real.exp ((s x).toReal - M) : ℝ) : EReal) := by
    intro x
    rw [hM]
    conv_lhs => rw [← EReal.coe_toReal (h x).1 (h x).2]
    rw [← EReal.coe_sub]
    rfl
  have hd : den s = ((∑ x, Real.exp ((s x).toReal - M) : ℝ) : EReal) := by
    unfold den
    simp only [hw]
    exact sum_real _
  have hp : 0 < ∑ x, Real.exp ((s x).toReal - M) :=
    Finset.sum_pos (fun x _ => Real.exp_pos _) ⟨i, Finset.mem_univ i⟩
  set D := ∑ x, Real.exp ((s x).toReal - M) with hD
  have hdiv : ∀ y : EReal, Ideal.div y (D : EReal) = y * ((D⁻¹ : ℝ) : EReal) := by
    intro y
    unfold Ideal.div
    rw [if_neg (by exact_mod_cast hp.ne'), EReal.coe_inv]
  unfold late early
  rw [hd, hdiv, one_mul, sum_mul_real _ _ (inv_nonneg.mpr hp.le)]
  refine Finset.sum_congr rfl fun x _ => ?_
  rw [hdiv, mul_comm (Ideal.exp _) (v x), mul_assoc]

open Cert.Kernel3Ideal Cert.Kernel3Ideal.Gen

/-- The upper half of the stacked queries is the first tile. -/
theorem stack_top (q0 q1 : FVec Ideal S1x128x128 .bf16) (r : Fin 128) (y : Fin 128) :
    k0_pay1 (F := Ideal) q0 q1 (ix2 (⟨r.val, by omega⟩ : Fin 256) y) = q0 (ix3 0 r y) := by
  pointwise [k0_pay1]

/-- The lower half is the second tile. -/
theorem stack_bot (q0 q1 : FVec Ideal S1x128x128 .bf16) (r : Fin 128) (y : Fin 128) :
    k0_pay1 (F := Ideal) q0 q1 (ix2 (⟨128 + r.val, by omega⟩ : Fin 256) y) = q1 (ix3 0 r y) := by
  pointwise [k0_pay1]

/-- The accumulated tile of a context step, at an entry. -/
theorem acc_ctx (Q : FVec Ideal S256x128 .bf16) (kA vA kB vB : FVec Ideal S1x256x128 .bf16) (r : Fin 256) (l : Fin 128) :
    k0_pay2 (F := Ideal) (k0_pay8 Q kA vA) k0_pay9 (k0_pay11 Q kB) (k0_pay12 Q kB) vB (ix2 r l)
      = late (fun x : Fin 256 => ∑ y, Q (ix2 r y) * kA (ix3 0 x y)) (fun x => vA (ix3 0 x l))
        + late (fun x : Fin 256 => ∑ y, Q (ix2 r y) * kB (ix3 0 x y)) (fun x => vB (ix3 0 x l)) := by
  unfold late den top
  pointwise [k0_pay2, k0_pay8, k0_pay9, k0_pay10, k0_pay11, k0_pay12]

/-- The accumulated tile of a latent step, at an entry. -/
theorem acc_lat (Q : FVec Ideal S256x128 .bf16) (kA vA kB vB : FVec Ideal S1x2304x128 .bf16) (r : Fin 256) (l : Fin 128) :
    k0_pay5 (F := Ideal) (k0_pay13 Q kA vA) k0_pay14 (k0_pay16 Q kB) (k0_pay17 Q kB) vB (ix2 r l)
      = late (fun x : Fin 2304 => ∑ y, Q (ix2 r y) * kA (ix3 0 x y)) (fun x => vA (ix3 0 x l))
        + late (fun x : Fin 2304 => ∑ y, Q (ix2 r y) * kB (ix3 0 x y)) (fun x => vB (ix3 0 x l)) := by
  unfold late den top
  pointwise [k0_pay5, k0_pay13, k0_pay14, k0_pay15, k0_pay16, k0_pay17]

/-- The first tile it stores, at an entry. -/
theorem tile_ctx_top (q0 q1 : FVec Ideal S1x128x128 .bf16) (kA vA kB vB : FVec Ideal S1x256x128 .bf16) (r l : Fin 128) :
    k0_pay3 (F := Ideal) (k0_pay8 (k0_pay1 q0 q1) kA vA) k0_pay9 (k0_pay11 (k0_pay1 q0 q1) kB) (k0_pay12 (k0_pay1 q0 q1) kB) vB (ix3 0 r l)
      = late (fun x : Fin 256 => ∑ y, q0 (ix3 0 r y) * kA (ix3 0 x y)) (fun x => vA (ix3 0 x l))
        + late (fun x : Fin 256 => ∑ y, q0 (ix3 0 r y) * kB (ix3 0 x y)) (fun x => vB (ix3 0 x l)) := by
  have h : k0_pay3 (F := Ideal) (k0_pay8 (k0_pay1 q0 q1) kA vA) k0_pay9 (k0_pay11 (k0_pay1 q0 q1) kB) (k0_pay12 (k0_pay1 q0 q1) kB) vB (ix3 0 r l)
      = k0_pay2 (F := Ideal) (k0_pay8 (k0_pay1 q0 q1) kA vA) k0_pay9 (k0_pay11 (k0_pay1 q0 q1) kB) (k0_pay12 (k0_pay1 q0 q1) kB) vB (ix2 (⟨r.val, by omega⟩ : Fin 256) l) := by
    pointwise [k0_pay3]
  refine h.trans ((acc_ctx _ kA vA kB vB _ l).trans ?_)
  simp only [stack_top]

/-- The second tile it stores, at an entry. -/
theorem tile_ctx_bot (q0 q1 : FVec Ideal S1x128x128 .bf16) (kA vA kB vB : FVec Ideal S1x256x128 .bf16) (r l : Fin 128) :
    k0_pay4 (F := Ideal) (k0_pay8 (k0_pay1 q0 q1) kA vA) k0_pay9 (k0_pay11 (k0_pay1 q0 q1) kB) (k0_pay12 (k0_pay1 q0 q1) kB) vB (ix3 0 r l)
      = late (fun x : Fin 256 => ∑ y, q1 (ix3 0 r y) * kA (ix3 0 x y)) (fun x => vA (ix3 0 x l))
        + late (fun x : Fin 256 => ∑ y, q1 (ix3 0 r y) * kB (ix3 0 x y)) (fun x => vB (ix3 0 x l)) := by
  have h : k0_pay4 (F := Ideal) (k0_pay8 (k0_pay1 q0 q1) kA vA) k0_pay9 (k0_pay11 (k0_pay1 q0 q1) kB) (k0_pay12 (k0_pay1 q0 q1) kB) vB (ix3 0 r l)
      = k0_pay2 (F := Ideal) (k0_pay8 (k0_pay1 q0 q1) kA vA) k0_pay9 (k0_pay11 (k0_pay1 q0 q1) kB) (k0_pay12 (k0_pay1 q0 q1) kB) vB (ix2 (⟨128 + r.val, by omega⟩ : Fin 256) l) := by
    pointwise [k0_pay4]
  refine h.trans ((acc_ctx _ kA vA kB vB _ l).trans ?_)
  simp only [stack_bot]

/-- The first tile it stores, at an entry. -/
theorem tile_lat_top (q0 q1 : FVec Ideal S1x128x128 .bf16) (kA vA kB vB : FVec Ideal S1x2304x128 .bf16) (r l : Fin 128) :
    k0_pay6 (F := Ideal) (k0_pay13 (k0_pay1 q0 q1) kA vA) k0_pay14 (k0_pay16 (k0_pay1 q0 q1) kB) (k0_pay17 (k0_pay1 q0 q1) kB) vB (ix3 0 r l)
      = late (fun x : Fin 2304 => ∑ y, q0 (ix3 0 r y) * kA (ix3 0 x y)) (fun x => vA (ix3 0 x l))
        + late (fun x : Fin 2304 => ∑ y, q0 (ix3 0 r y) * kB (ix3 0 x y)) (fun x => vB (ix3 0 x l)) := by
  have h : k0_pay6 (F := Ideal) (k0_pay13 (k0_pay1 q0 q1) kA vA) k0_pay14 (k0_pay16 (k0_pay1 q0 q1) kB) (k0_pay17 (k0_pay1 q0 q1) kB) vB (ix3 0 r l)
      = k0_pay5 (F := Ideal) (k0_pay13 (k0_pay1 q0 q1) kA vA) k0_pay14 (k0_pay16 (k0_pay1 q0 q1) kB) (k0_pay17 (k0_pay1 q0 q1) kB) vB (ix2 (⟨r.val, by omega⟩ : Fin 256) l) := by
    pointwise [k0_pay6]
  refine h.trans ((acc_lat _ kA vA kB vB _ l).trans ?_)
  simp only [stack_top]

/-- The second tile it stores, at an entry. -/
theorem tile_lat_bot (q0 q1 : FVec Ideal S1x128x128 .bf16) (kA vA kB vB : FVec Ideal S1x2304x128 .bf16) (r l : Fin 128) :
    k0_pay7 (F := Ideal) (k0_pay13 (k0_pay1 q0 q1) kA vA) k0_pay14 (k0_pay16 (k0_pay1 q0 q1) kB) (k0_pay17 (k0_pay1 q0 q1) kB) vB (ix3 0 r l)
      = late (fun x : Fin 2304 => ∑ y, q1 (ix3 0 r y) * kA (ix3 0 x y)) (fun x => vA (ix3 0 x l))
        + late (fun x : Fin 2304 => ∑ y, q1 (ix3 0 r y) * kB (ix3 0 x y)) (fun x => vB (ix3 0 x l)) := by
  have h : k0_pay7 (F := Ideal) (k0_pay13 (k0_pay1 q0 q1) kA vA) k0_pay14 (k0_pay16 (k0_pay1 q0 q1) kB) (k0_pay17 (k0_pay1 q0 q1) kB) vB (ix3 0 r l)
      = k0_pay5 (F := Ideal) (k0_pay13 (k0_pay1 q0 q1) kA vA) k0_pay14 (k0_pay16 (k0_pay1 q0 q1) kB) (k0_pay17 (k0_pay1 q0 q1) kB) vB (ix2 (⟨128 + r.val, by omega⟩ : Fin 256) l) := by
    pointwise [k0_pay7]
  refine h.trans ((acc_lat _ kA vA kB vB _ l).trans ?_)
  simp only [stack_bot]

end Cert.Kernel3Ideal.Attn
end
-- ==== Proof.AttnRef.lean ====
/- The attention's reference: its result as a term of the packed queries, keys and values, read at an entry. -/
module

public import proofs.«01_k».proof.Proof.Gen.Reference3Ideal.Run
public import proofs.«01_k».proof.Proof.Attn
public import Idealize.ShloMosaic.Lib.Pointwise

@[expose] public section
set_option maxRecDepth 16384
noncomputable section
open Idealize.ShloMosaic Idealize.ShloMosaic.TcCoe Idealize.SL.Sem
open Cert.Kernel3Ideal.Attn (top den late early)

namespace Cert.Reference3Ideal.Attn

open Cert.Reference3Ideal Cert.Reference3Ideal.Gen

/-- The queries, sixteen heads of 64 lanes. -/
def qh (X : FVec Ideal S8x2304x3072 .bf16) : FVec Ideal S8x2304x16x64 .f32 :=
  shapeCast _ (extractStridedSlice S8x2304x1024 ![0, 0, 0] (extf .f32 X bitsLt_bf16_f32) slices_S8x2304x3072_S8x2304x1024_0_0_0) shapeCasts_S8x2304x1024_S8x2304x16x64

/-- The keys, four heads of 64 lanes, the first copy of each. -/
def kh (X : FVec Ideal S8x2304x3072 .bf16) : FVec Ideal S8x2304x4x64 .f32 :=
  shapeCast _ (extractStridedSlice S8x2304x4x1x64 ![0, 0, 0, 0, 0] (shapeCast _ (extractStridedSlice S8x2304x1024 ![0, 0, 1024] (extf .f32 X bitsLt_bf16_f32) slices_S8x2304x3072_S8x2304x1024_0_0_1024) shapeCasts_S8x2304x1024_S8x2304x4x4x64) slices_S8x2304x4x4x64_S8x2304x4x1x64_0_0_0_0_0) shapeCasts_S8x2304x4x1x64_S8x2304x4x64

/-- The values, likewise. -/
def vh (X : FVec Ideal S8x2304x3072 .bf16) : FVec Ideal S8x2304x4x64 .f32 :=
  shapeCast _ (extractStridedSlice S8x2304x4x1x64 ![0, 0, 0, 0, 0] (shapeCast _ (extractStridedSlice S8x2304x1024 ![0, 0, 2048] (extf .f32 X bitsLt_bf16_f32) slices_S8x2304x3072_S8x2304x1024_0_0_2048) shapeCasts_S8x2304x1024_S8x2304x4x4x64) slices_S8x2304x4x4x64_S8x2304x4x1x64_0_0_0_0_0) shapeCasts_S8x2304x4x1x64_S8x2304x4x64

theorem qh_apply (X : FVec Ideal S8x2304x3072 .bf16) (b : Fin 8) (r : Fin 2304) (h : Fin 16) (d : Fin 64) :
    qh X (ix4 b r h d) = X (ix3 b r ⟨h.val * 64 + d.val, by omega⟩) := by
  pointwise [qh]

theorem kh_apply (X : FVec Ideal S8x2304x3072 .bf16) (b : Fin 8) (r : Fin 2304) (g : Fin 4) (d : Fin 64) :
    kh X (ix4 b r g d) = X (ix3 b r ⟨1024 + (g.val * 256 + d.val), by omega⟩) := by
  pointwise [kh]

theorem vh_apply (X : FVec Ideal S8x2304x3072 .bf16) (b : Fin 8) (r : Fin 2304) (g : Fin 4) (d : Fin 64) :
    vh X (ix4 b r g d) = X (ix3 b r ⟨2048 + (g.val * 256 + d.val), by omega⟩) := by
  pointwise [vh]

/-- The scores of the context rows. -/
def ctxScore (Q : FVec Ideal S8x2304x16x64 .f32) (K : FVec Ideal S8x2304x4x64 .f32) : FVec Ideal S8x4x4x256x256 .f32 :=
  transpose S8x4x4x256x256 [0, 1, 4, 3, 2] (Host.dotGeneral dot_S8x256x4x64_S8x256x4x4x64_S8x4x256x256x4_3_4_1_13_02_02 none (extractStridedSlice S8x256x4x64 ![0, 0, 0, 0] K slices_S8x2304x4x64_S8x256x4x64_0_0_0_0) (shapeCast _ (extractStridedSlice S8x256x16x64 ![0, 0, 0, 0] Q slices_S8x2304x16x64_S8x256x16x64_0_0_0_0) shapeCasts_S8x256x16x64_S8x256x4x4x64)) transposes_S8x4x256x256x4_S8x4x4x256x256_0_1_4_3_2

/-- Their exponentials. -/
def ctxExp (S : FVec Ideal S8x4x4x256x256 .f32) : FVec Ideal S8x4x4x256x256 .f32 :=
  Host.exp (subf S (broadcastInDim S8x4x4x256x256 ![0, 1, 2, 3, 4] bcast_S8x4x4x256x1_S8x4x4x256x256_0_1_2_3_4 (broadcastInDim S8x4x4x256x1 ![0, 1, 2, 3] bcast_S8x4x4x256_S8x4x4x256x1_0_1_2_3 (Host.reduce FloatOps.maximumf S (constant S_ .f32 0xFF800000#32) reducesTo_S8x4x4x256x256_S8x4x4x256_d4 h_S_))))

/-- The weights: each exponential over the row's sum. -/
def ctxWeight (E : FVec Ideal S8x4x4x256x256 .f32) : FVec Ideal S8x4x4x256x256 .f32 :=
  Host.divf E (broadcastInDim S8x4x4x256x256 ![0, 1, 2, 3, 4] bcast_S8x4x4x256x1_S8x4x4x256x256_0_1_2_3_4 (broadcastInDim S8x4x4x256x1 ![0, 1, 2, 3] bcast_S8x4x4x256_S8x4x4x256x1_0_1_2_3 (Host.reduceAdd E (constant S_ .f32 0x00000000#32) reducesTo_S8x4x4x256x256_S8x4x4x256_d4 h_S_)))

/-- The weighted values, heads side by side. -/
def ctxOut (P : FVec Ideal S8x4x4x256x256 .f32) (V : FVec Ideal S8x2304x4x64 .f32) : FVec Ideal S8x256x1024 .f32 :=
  shapeCast _ (transpose S8x256x4x4x64 [0, 4, 1, 3, 2] (Host.dotGeneral dot_S8x256x4x64_S8x4x4x256x256_S8x4x64x4x256_1_4_3_23_02_01 none (extractStridedSlice S8x256x4x64 ![0, 0, 0, 0] V slices_S8x2304x4x64_S8x256x4x64_0_0_0_0) P) transposes_S8x4x64x4x256_S8x256x4x4x64_0_4_1_3_2) shapeCasts_S8x256x4x4x64_S8x256x1024

theorem ctxScore_apply (Q : FVec Ideal S8x2304x16x64 .f32) (K : FVec Ideal S8x2304x4x64 .f32) (b : Fin 8) (g j : Fin 4) (r : Fin 256) (x : Fin 256) :
    ctxScore Q K (ix5 b g j r x) = ∑ d, K (ix4 b ⟨x.val, by omega⟩ g d) * Q (ix4 b ⟨r.val, by omega⟩ ⟨g.val * 4 + j.val, by omega⟩ d) := by
  pointwise [ctxScore]

theorem ctxExp_apply (S : FVec Ideal S8x4x4x256x256 .f32) (b : Fin 8) (g j : Fin 4) (r : Fin 256) (x : Fin 256) :
    ctxExp S (ix5 b g j r x) = Ideal.exp (S (ix5 b g j r x) - top (fun x : Fin 256 => S (ix5 b g j r x))) := by
  unfold top
  pointwise [ctxExp]

theorem ctxWeight_apply (E : FVec Ideal S8x4x4x256x256 .f32) (b : Fin 8) (g j : Fin 4) (r : Fin 256) (x : Fin 256) :
    ctxWeight E (ix5 b g j r x) = Ideal.div (E (ix5 b g j r x)) (∑ x : Fin 256, E (ix5 b g j r x)) := by
  pointwise [ctxWeight]

theorem ctxOut_apply (P : FVec Ideal S8x4x4x256x256 .f32) (V : FVec Ideal S8x2304x4x64 .f32) (b : Fin 8) (r : Fin 256) (g j : Fin 4) (d : Fin 64) :
    ctxOut P V (ix3 b r ⟨(g.val * 4 + j.val) * 64 + d.val, by omega⟩) = ∑ x : Fin 256, V (ix4 b ⟨x.val, by omega⟩ g d) * P (ix5 b g j r x) := by
  pointwise [ctxOut]

/-- The scores of the latent rows. -/
def latScore (Q : FVec Ideal S8x2304x16x64 .f32) (K : FVec Ideal S8x2304x4x64 .f32) : FVec Ideal S8x4x4x2048x2304 .f32 :=
  transpose S8x4x4x2048x2304 [0, 1, 4, 3, 2] (Host.dotGeneral dot_S8x2304x4x64_S8x2048x4x4x64_S8x4x2304x2048x4_3_4_1_13_02_02 none K (shapeCast _ (extractStridedSlice S8x2048x16x64 ![0, 256, 0, 0] Q slices_S8x2304x16x64_S8x2048x16x64_0_256_0_0) shapeCasts_S8x2048x16x64_S8x2048x4x4x64)) transposes_S8x4x2304x2048x4_S8x4x4x2048x2304_0_1_4_3_2

/-- Their exponentials. -/
def latExp (S : FVec Ideal S8x4x4x2048x2304 .f32) : FVec Ideal S8x4x4x2048x2304 .f32 :=
  Host.exp (subf S (broadcastInDim S8x4x4x2048x2304 ![0, 1, 2, 3, 4] bcast_S8x4x4x2048x1_S8x4x4x2048x2304_0_1_2_3_4 (broadcastInDim S8x4x4x2048x1 ![0, 1, 2, 3] bcast_S8x4x4x2048_S8x4x4x2048x1_0_1_2_3 (Host.reduce FloatOps.maximumf S (constant S_ .f32 0xFF800000#32) reducesTo_S8x4x4x2048x2304_S8x4x4x2048_d4 h_S_))))

/-- The weights: each exponential over the row's sum. -/
def latWeight (E : FVec Ideal S8x4x4x2048x2304 .f32) : FVec Ideal S8x4x4x2048x2304 .f32 :=
  Host.divf E (broadcastInDim S8x4x4x2048x2304 ![0, 1, 2, 3, 4] bcast_S8x4x4x2048x1_S8x4x4x2048x2304_0_1_2_3_4 (broadcastInDim S8x4x4x2048x1 ![0, 1, 2, 3] bcast_S8x4x4x2048_S8x4x4x2048x1_0_1_2_3 (Host.reduceAdd E (constant S_ .f32 0x00000000#32) reducesTo_S8x4x4x2048x2304_S8x4x4x2048_d4 h_S_)))

/-- The weighted values, heads side by side. -/
def latOut (P : FVec Ideal S8x4x4x2048x2304 .f32) (V : FVec Ideal S8x2304x4x64 .f32) : FVec Ideal S8x2048x1024 .f32 :=
  shapeCast _ (transpose S8x2048x4x4x64 [0, 4, 1, 3, 2] (Host.dotGeneral dot_S8x2304x4x64_S8x4x4x2048x2304_S8x4x64x4x2048_1_4_3_23_02_01 none V P) transposes_S8x4x64x4x2048_S8x2048x4x4x64_0_4_1_3_2) shapeCasts_S8x2048x4x4x64_S8x2048x1024

theorem latScore_apply (Q : FVec Ideal S8x2304x16x64 .f32) (K : FVec Ideal S8x2304x4x64 .f32) (b : Fin 8) (g j : Fin 4) (r : Fin 2048) (x : Fin 2304) :
    latScore Q K (ix5 b g j r x) = ∑ d, K (ix4 b x g d) * Q (ix4 b ⟨256 + r.val, by omega⟩ ⟨g.val * 4 + j.val, by omega⟩ d) := by
  pointwise [latScore]

theorem latExp_apply (S : FVec Ideal S8x4x4x2048x2304 .f32) (b : Fin 8) (g j : Fin 4) (r : Fin 2048) (x : Fin 2304) :
    latExp S (ix5 b g j r x) = Ideal.exp (S (ix5 b g j r x) - top (fun x : Fin 2304 => S (ix5 b g j r x))) := by
  unfold top
  pointwise [latExp]

theorem latWeight_apply (E : FVec Ideal S8x4x4x2048x2304 .f32) (b : Fin 8) (g j : Fin 4) (r : Fin 2048) (x : Fin 2304) :
    latWeight E (ix5 b g j r x) = Ideal.div (E (ix5 b g j r x)) (∑ x : Fin 2304, E (ix5 b g j r x)) := by
  pointwise [latWeight]

theorem latOut_apply (P : FVec Ideal S8x4x4x2048x2304 .f32) (V : FVec Ideal S8x2304x4x64 .f32) (b : Fin 8) (r : Fin 2048) (g j : Fin 4) (d : Fin 64) :
    latOut P V (ix3 b r ⟨(g.val * 4 + j.val) * 64 + d.val, by omega⟩) = ∑ x : Fin 2304, V (ix4 b x g d) * P (ix5 b g j r x) := by
  pointwise [latOut]

/-- The context rows of the result. -/
def ctxRows (X : FVec Ideal S8x2304x3072 .bf16) : FVec Ideal S8x256x1024 .f32 :=
  ctxOut (ctxWeight (ctxExp (ctxScore (qh X) (kh X)))) (vh X)

/-- The latent rows of the result. -/
def latRows (X : FVec Ideal S8x2304x3072 .bf16) : FVec Ideal S8x2048x1024 .f32 :=
  latOut (latWeight (latExp (latScore (qh X) (kh X)))) (vh X)

/-- The result. -/
def REF (X : FVec Ideal S8x2304x3072 .bf16) : FVec Ideal S8x2304x1024 .bf16 :=
  truncf .bf16 (concatenate S8x2304x1024 1 [⟨S8x256x1024, ctxRows X⟩, ⟨S8x2048x1024, latRows X⟩] concatenates_S8x256x1024_S8x2048x1024_S8x2304x1024_d1) bitsLt_bf16_f32

/-- A context row attends to the 256 context rows. -/
theorem REF_ctx (X : FVec Ideal S8x2304x3072 .bf16) (b : Fin 8) (r : Fin 2304) (hr : r.val < 256) (g j : Fin 4) (d : Fin 64) :
    REF X (ix3 b r ⟨(g.val * 4 + j.val) * 64 + d.val, by omega⟩)
      = early (fun x : Fin 256 => ∑ d : Fin 64, X (ix3 b ⟨x.val, by omega⟩ ⟨1024 + (g.val * 256 + d.val), by omega⟩) * X (ix3 b r ⟨(g.val * 4 + j.val) * 64 + d.val, by omega⟩))
          (fun x : Fin 256 => X (ix3 b ⟨x.val, by omega⟩ ⟨2048 + (g.val * 256 + d.val), by omega⟩)) := by
  have h : REF X (ix3 b r ⟨(g.val * 4 + j.val) * 64 + d.val, by omega⟩) = ctxRows X (ix3 b ⟨r.val, hr⟩ ⟨(g.val * 4 + j.val) * 64 + d.val, by omega⟩) := by
    pointwise [REF]
    simp [hr]
  rw [h]
  unfold ctxRows early den
  simp only [ctxOut_apply, ctxWeight_apply, ctxExp_apply, ctxScore_apply, qh_apply, kh_apply, vh_apply]

/-- A latent row attends to all rows. -/
theorem REF_lat (X : FVec Ideal S8x2304x3072 .bf16) (b : Fin 8) (r : Fin 2304) (hr : ¬ r.val < 256) (g j : Fin 4) (d : Fin 64) :
    REF X (ix3 b r ⟨(g.val * 4 + j.val) * 64 + d.val, by omega⟩)
      = early (fun x : Fin 2304 => ∑ d : Fin 64, X (ix3 b x ⟨1024 + (g.val * 256 + d.val), by omega⟩) * X (ix3 b r ⟨(g.val * 4 + j.val) * 64 + d.val, by omega⟩))
          (fun x : Fin 2304 => X (ix3 b x ⟨2048 + (g.val * 256 + d.val), by omega⟩)) := by
  have h : REF X (ix3 b r ⟨(g.val * 4 + j.val) * 64 + d.val, by omega⟩) = latRows X (ix3 b ⟨r.val - 256, by omega⟩ ⟨(g.val * 4 + j.val) * 64 + d.val, by omega⟩) := by
    pointwise [REF]
    simp [hr]
  rw [h]
  unfold latRows early den
  simp only [latOut_apply, latWeight_apply, latExp_apply, latScore_apply, qh_apply, kh_apply, vh_apply]
  have e : (⟨256 + (r.val - 256), by omega⟩ : Fin 2304) = r := Fin.ext (by show 256 + (r.val - 256) = r.val; omega)
  simp only [e]

end Cert.Reference3Ideal.Attn
end
-- ==== Proof.AttnPre.lean ====
/- What the precondition of the attention says of the packed array, entry by entry. -/
module

public import proofs.«01_k».proof.Proof.Gen.Pre_heads_twice
public import Idealize.ShloMosaic.Lib.Pointwise

@[expose] public section
set_option maxRecDepth 16384
noncomputable section
open Idealize.ShloMosaic Idealize.ShloMosaic.TcCoe Idealize.SL.Sem

namespace Cert.Pre_heads_twice.Attn

open Cert.Pre_heads_twice Cert.Pre_heads_twice.Gen

variable (X : FVec Ideal S8x2304x3072 .bf16)

/-- A true bit comes from a true proposition. -/
theorem of_bit {p : Prop} [Decidable p] (h : BitVec.ofBool (decide p) = 1#1) : p := by
  by_contra hp
  rw [decide_eq_false hp] at h
  exact absurd h (by decide)

/-- Two bits whose conjunction is true are true. -/
theorem of_and : ∀ {a b : BitVec 1}, IntOp.andi a b = 1#1 → a = 1#1 ∧ b = 1#1 := by
  decide

/-- The second quarter of a head's 256 lanes holds zeros. -/
theorem second (h : (fn (F := Ideal) X).1 = fun _ => 1#1) (b : Fin 8) (r : Fin 2304) (g : Fin 8) (d : Fin 64) :
    X (ix3 b r ⟨1024 + (g.val * 256 + 64 + d.val), by omega⟩) = 0 := by
  have h1 := congrFun h (ix4 b r g d)
  simp only [fn, fn_part1] at h1
  pointwise at h1
  exact of_bit h1

/-- So does the third. -/
theorem third (h : (fn (F := Ideal) X).2.1 = fun _ => 1#1) (b : Fin 8) (r : Fin 2304) (g : Fin 8) (d : Fin 64) :
    X (ix3 b r ⟨1024 + (g.val * 256 + 128 + d.val), by omega⟩) = 0 := by
  have h1 := congrFun h (ix4 b r g d)
  simp only [fn, fn_part1] at h1
  pointwise at h1
  exact of_bit h1

/-- The fourth repeats the first. -/
theorem fourth (h : (fn (F := Ideal) X).2.2.1 = fun _ => 1#1) (b : Fin 8) (r : Fin 2304) (g : Fin 8) (d : Fin 64) :
    X (ix3 b r ⟨1024 + (g.val * 256 + 192 + d.val), by omega⟩) = X (ix3 b r ⟨1024 + (g.val * 256 + d.val), by omega⟩) := by
  have h1 := congrFun h (ix4 b r g d)
  simp only [fn, fn_part1] at h1
  pointwise at h1
  exact of_bit h1

/-- Queries and keys are finite. -/
theorem finite (h : (fn (F := Ideal) X).2.2.2 = fun _ => 1#1) (b : Fin 8) (r : Fin 2304) (c : Fin 2048) :
    X (ix3 b r ⟨c.val, by omega⟩) ≠ ⊤ ∧ X (ix3 b r ⟨c.val, by omega⟩) ≠ ⊥ := by
  have h1 := congrFun h (ix3 b r c)
  simp only [fn, fn_part1] at h1
  pointwise at h1
  obtain ⟨ha, hb⟩ := of_and h1
  exact ⟨(lt_of_lt_of_le (of_bit hb) le_top).ne, (lt_of_le_of_lt bot_le (of_bit ha)).ne'⟩

end Cert.Pre_heads_twice.Attn
end
-- ==== Proof.AttnValue.lean ====
/- The attention: the result array after the run is the reference's term of the packed queries, keys and values. -/
module

public import proofs.«01_k».proof.Proof.Attn
public import proofs.«01_k».proof.Proof.AttnRef
public import proofs.«01_k».proof.Proof.AttnPre

@[expose] public section
set_option maxRecDepth 16384
noncomputable section
open Idealize.ShloMosaic Idealize.ShloMosaic.TcCoe Idealize.SL.Sem
open Idealize.ShloMosaic.Pipeline (Dat)

namespace Cert.Kernel3Ideal.Attn

/-- A sum of products of finite factors is finite. -/
theorem dot_finite {n : ℕ} (a b : Fin n → EReal) (ha : ∀ i, a i ≠ ⊤ ∧ a i ≠ ⊥) (hb : ∀ i, b i ≠ ⊤ ∧ b i ≠ ⊥) :
    (∑ i, a i * b i) ≠ ⊤ ∧ (∑ i, a i * b i) ≠ ⊥ := by
  have h : (∑ i, a i * b i) = ((∑ i, (a i).toReal * (b i).toReal : ℝ) : EReal) := by
    rw [← sum_real]
    refine Finset.sum_congr rfl fun i _ => ?_
    rw [EReal.coe_mul, EReal.coe_toReal (ha i).1 (ha i).2, EReal.coe_toReal (hb i).1 (hb i).2]
  rw [h]
  exact ⟨EReal.coe_ne_top _, EReal.coe_ne_bot _⟩

/-- A sum over 128 lanes, as the sum over the first 64 and the sum over the last 64. -/
theorem sum_lanes (f : Fin 128 → EReal) :
    ∑ y, f y = (∑ d : Fin 64, f ⟨d.val, by omega⟩) + ∑ d : Fin 64, f ⟨64 + d.val, by omega⟩ :=
  Fin.sum_univ_add (a := 64) (b := 64) f

/-- On the first 64 lanes the kernel's two averages add up to the average of the first query head. -/
theorem halves_first {n : ℕ} (q : Fin 128 → EReal) (k v : Fin n → Fin 256 → EReal)
    (k2 : ∀ x (d : Fin 64), k x ⟨64 + d.val, by omega⟩ = 0) (v3 : ∀ x (d : Fin 64), v x ⟨128 + d.val, by omega⟩ = 0) (d : Fin 64) :
    late (fun x => ∑ y : Fin 128, q y * k x ⟨y.val, by omega⟩) (fun x => v x ⟨d.val, by omega⟩)
      + late (fun x => ∑ y : Fin 128, q y * k x ⟨128 + y.val, by omega⟩) (fun x => v x ⟨128 + d.val, by omega⟩)
      = late (fun x => ∑ e : Fin 64, k x ⟨e.val, by omega⟩ * q ⟨e.val, by omega⟩) (fun x => v x ⟨d.val, by omega⟩) := by
  simp only [v3, late_zero, add_zero]
  congr 1
  funext x
  rw [sum_lanes]
  simp only [k2, mul_zero, Finset.sum_const_zero, add_zero]
  exact Finset.sum_congr rfl fun e _ => mul_comm _ _

/-- On the last 64 lanes they add up to the average of the second query head. -/
theorem halves_second {n : ℕ} (q : Fin 128 → EReal) (k v : Fin n → Fin 256 → EReal)
    (k3 : ∀ x (d : Fin 64), k x ⟨128 + d.val, by omega⟩ = 0) (k4 : ∀ x (d : Fin 64), k x ⟨192 + d.val, by omega⟩ = k x ⟨d.val, by omega⟩)
    (v2 : ∀ x (d : Fin 64), v x ⟨64 + d.val, by omega⟩ = 0) (v4 : ∀ x (d : Fin 64), v x ⟨192 + d.val, by omega⟩ = v x ⟨d.val, by omega⟩) (d : Fin 64) :
    late (fun x => ∑ y : Fin 128, q y * k x ⟨y.val, by omega⟩) (fun x => v x ⟨64 + d.val, by omega⟩)
      + late (fun x => ∑ y : Fin 128, q y * k x ⟨128 + y.val, by omega⟩) (fun x => v x ⟨192 + d.val, by omega⟩)
      = late (fun x => ∑ e : Fin 64, k x ⟨e.val, by omega⟩ * q ⟨64 + e.val, by omega⟩) (fun x => v x ⟨d.val, by omega⟩) := by
  simp only [v2, late_zero, zero_add, v4]
  congr 1
  funext x
  rw [sum_lanes]
  simp only [k3, mul_zero, Finset.sum_const_zero, zero_add]
  refine Finset.sum_congr rfl fun e _ => ?_
  rw [← k4 x e, mul_comm]
  have h : (⟨128 + (64 + e.val), by omega⟩ : Fin 256) = ⟨192 + e.val, by omega⟩ := Fin.ext (by dsimp only; omega)
  rw [h]

open Cert.Kernel3Ideal Cert.Kernel3Ideal.Gen

/-- The layout and range the precondition gives: each head as (head, zeros, zeros, head), queries and keys finite. -/
structure Twice (X : FVec Ideal S8x2304x3072 .bf16) : Prop where
  second : ∀ (b : Fin 8) (r : Fin 2304) (g : Fin 8) (d : Fin 64), X (ix3 b r ⟨1024 + (g.val * 256 + 64 + d.val), by omega⟩) = 0
  third : ∀ (b : Fin 8) (r : Fin 2304) (g : Fin 8) (d : Fin 64), X (ix3 b r ⟨1024 + (g.val * 256 + 128 + d.val), by omega⟩) = 0
  fourth : ∀ (b : Fin 8) (r : Fin 2304) (g : Fin 8) (d : Fin 64),
    X (ix3 b r ⟨1024 + (g.val * 256 + 192 + d.val), by omega⟩) = X (ix3 b r ⟨1024 + (g.val * 256 + d.val), by omega⟩)
  finite : ∀ (b : Fin 8) (r : Fin 2304) (c : Fin 2048), X (ix3 b r ⟨c.val, by omega⟩) ≠ ⊤ ∧ X (ix3 b r ⟨c.val, by omega⟩) ≠ ⊥

/-- One row of a tile: the two averages of the kernel, over the keys `e x` of group `g`, are the average of query head `4 g + 2 p + ` (0 for the lanes below 64, 1 for the others). -/
theorem row_eq {n : ℕ} (i0 : Fin n) (e : Fin n → Fin 2304) (X : FVec Ideal S8x2304x3072 .bf16) (hX : Twice X) (b : Fin 8) (r : Fin 2304) (g : Fin 4) (p : Fin 2) (l : Fin 128) :
    late (fun x => ∑ y : Fin 128, X (ix3 b r ⟨g.val * 256 + (128 * p.val + y.val), by omega⟩) * X (ix3 b (e x) ⟨1024 + (g.val * 256 + y.val), by omega⟩))
        (fun x => X (ix3 b (e x) ⟨2048 + (g.val * 256 + l.val), by omega⟩))
      + late (fun x => ∑ y : Fin 128, X (ix3 b r ⟨g.val * 256 + (128 * p.val + y.val), by omega⟩) * X (ix3 b (e x) ⟨1024 + (g.val * 256 + (128 + y.val)), by omega⟩))
        (fun x => X (ix3 b (e x) ⟨2048 + (g.val * 256 + (128 + l.val)), by omega⟩))
      = early (fun x => ∑ d : Fin 64, X (ix3 b (e x) ⟨1024 + (g.val * 256 + d.val), by omega⟩) * X (ix3 b r ⟨(g.val * 4 + (2 * p.val + l.val / 64)) * 64 + d.val, by omega⟩))
          (fun x => X (ix3 b (e x) ⟨2048 + (g.val * 256 + l.val % 64), by omega⟩)) := by
  rw [← late_eq_early _ _ i0 fun x => dot_finite _ _ (fun d => hX.finite b (e x) ⟨1024 + (g.val * 256 + d.val), by omega⟩)
    (fun d => hX.finite b r ⟨(g.val * 4 + (2 * p.val + l.val / 64)) * 64 + d.val, by omega⟩)]
  have at_eq : ∀ (x : Fin 2304) (c c' : Fin 3072), c.val = c'.val → X (ix3 b x c) = X (ix3 b x c') := by
    intro x c c' hc; rw [Fin.ext hc]
  by_cases hl : l.val < 64
  · refine Eq.trans ?_ ((halves_first (fun y => X (ix3 b r ⟨g.val * 256 + (128 * p.val + y.val), by omega⟩))
      (fun x y => X (ix3 b (e x) ⟨1024 + (g.val * 256 + y.val), by omega⟩)) (fun x y => X (ix3 b (e x) ⟨2048 + (g.val * 256 + y.val), by omega⟩))
      (fun x d => (at_eq _ _ _ (by dsimp only; omega)).trans (hX.second b (e x) ⟨g.val, by omega⟩ d))
      (fun x d => (at_eq _ _ _ (by dsimp only; omega)).trans (hX.third b (e x) ⟨4 + g.val, by omega⟩ d))
      ⟨l.val, hl⟩).trans ?_)
    · rfl
    · congr 1
      · funext x
        refine Finset.sum_congr rfl fun d _ => congrArg _ (at_eq _ _ _ (by dsimp only; omega))
      · funext x
        exact at_eq _ _ _ (by dsimp only; omega)
  · refine Eq.trans ?_ ((halves_second (fun y => X (ix3 b r ⟨g.val * 256 + (128 * p.val + y.val), by omega⟩))
      (fun x y => X (ix3 b (e x) ⟨1024 + (g.val * 256 + y.val), by omega⟩)) (fun x y => X (ix3 b (e x) ⟨2048 + (g.val * 256 + y.val), by omega⟩))
      (fun x d => (at_eq _ _ _ (by dsimp only; omega)).trans (hX.third b (e x) ⟨g.val, by omega⟩ d))
      (fun x d => (at_eq _ _ _ (by dsimp only; omega)).trans (hX.fourth b (e x) ⟨g.val, by omega⟩ d))
      (fun x d => (at_eq _ _ _ (by dsimp only; omega)).trans (hX.second b (e x) ⟨4 + g.val, by omega⟩ d))
      (fun x d => ((at_eq _ _ _ (by dsimp only; omega)).trans (hX.fourth b (e x) ⟨4 + g.val, by omega⟩ d)).trans
        (at_eq _ _ _ (by dsimp only; omega)))
      ⟨l.val - 64, by omega⟩).trans ?_)
    · congr 1
      · congr 1
        funext x
        exact at_eq _ _ _ (by dsimp only; omega)
      · congr 1
        funext x
        exact at_eq _ _ _ (by dsimp only; omega)
    · congr 1
      · funext x
        refine Finset.sum_congr rfl fun d _ => congrArg _ (at_eq _ _ _ (by dsimp only; omega))
      · funext x
        exact at_eq _ _ _ (by dsimp only; omega)

/-- The precondition gives that layout. -/
theorem twice_of_pre (X : FVec Ideal S8x2304x3072 .bf16) (h1 : (Cert.Pre_heads_twice.fn (F := Ideal) X).1 = fun _ => 1#1) (h2 : (Cert.Pre_heads_twice.fn (F := Ideal) X).2.1 = fun _ => 1#1)
    (h3 : (Cert.Pre_heads_twice.fn (F := Ideal) X).2.2.1 = fun _ => 1#1) (h4 : (Cert.Pre_heads_twice.fn (F := Ideal) X).2.2.2 = fun _ => 1#1) : Twice X :=
  ⟨Cert.Pre_heads_twice.Attn.second X h1, Cert.Pre_heads_twice.Attn.third X h2, Cert.Pre_heads_twice.Attn.fourth X h3, Cert.Pre_heads_twice.Attn.finite X h4⟩

/-- The first 128 lanes of a query block. -/
theorem ld_q_lo (B : Vec Ideal S1x128x256 .bf16) (r : Fin 128) (y : Fin 128) :
    View.ld B (Rect.unit ![0, 0, 0] ![1, 128, 128] inb_S1x128x256_S1x128x128_0_0_0) (ix3 0 r y) = B (ix3 0 r ⟨y.val, by omega⟩) := by
  pointwise

/-- The second 128 lanes of a query block. -/
theorem ld_q_hi (B : Vec Ideal S1x128x256 .bf16) (r : Fin 128) (y : Fin 128) :
    View.ld B (Rect.unit ![0, 0, 128] ![1, 128, 128] inb_S1x128x256_S1x128x128_0_0_128) (ix3 0 r y) = B (ix3 0 r ⟨128 + y.val, by omega⟩) := by
  pointwise

/-- The first 128 lanes of the first 256 rows of a key or value block. -/
theorem ld_ctx_lo (B : Vec Ideal S1x2304x256 .bf16) (r : Fin 256) (y : Fin 128) :
    View.ld B (Rect.unit ![0, 0, 0] ![1, 256, 128] inb_S1x2304x256_S1x256x128_0_0_0) (ix3 0 r y) = B (ix3 0 ⟨r.val, by omega⟩ ⟨y.val, by omega⟩) := by
  pointwise

/-- The second 128 lanes of the first 256 rows of a key or value block. -/
theorem ld_ctx_hi (B : Vec Ideal S1x2304x256 .bf16) (r : Fin 256) (y : Fin 128) :
    View.ld B (Rect.unit ![0, 0, 128] ![1, 256, 128] inb_S1x2304x256_S1x256x128_0_0_128) (ix3 0 r y) = B (ix3 0 ⟨r.val, by omega⟩ ⟨128 + y.val, by omega⟩) := by
  pointwise

/-- The first 128 lanes of a key or value block. -/
theorem ld_lat_lo (B : Vec Ideal S1x2304x256 .bf16) (r : Fin 2304) (y : Fin 128) :
    View.ld B (Rect.unit ![0, 0, 0] ![1, 2304, 128] inb_S1x2304x256_S1x2304x128_0_0_0) (ix3 0 r y) = B (ix3 0 r ⟨y.val, by omega⟩) := by
  pointwise

/-- The second 128 lanes of a key or value block. -/
theorem ld_lat_hi (B : Vec Ideal S1x2304x256 .bf16) (r : Fin 2304) (y : Fin 128) :
    View.ld B (Rect.unit ![0, 0, 128] ![1, 2304, 128] inb_S1x2304x256_S1x2304x128_0_0_128) (ix3 0 r y) = B (ix3 0 r ⟨128 + y.val, by omega⟩) := by
  pointwise

/-- The first tile of a context step holds the reference's entries. -/
theorem eq_ctx_top (X : FVec Ideal S8x2304x3072 .bf16) (hX : Twice X) (q0 q1 : FVec Ideal S1x128x128 .bf16) (kA vA kB vB : FVec Ideal S1x256x128 .bf16) (b : Fin 8) (g : Fin 4) (R : Fin 128 → Fin 2304)
    (hq : ∀ (r k : Fin 128), q0 (ix3 0 r k) = X (ix3 b (R r) ⟨g.val * 256 + k.val, by omega⟩))
    (hkA : ∀ (x : Fin 256) (k : Fin 128), kA (ix3 0 x k) = X (ix3 b ⟨x.val, by omega⟩ ⟨1024 + (g.val * 256 + k.val), by omega⟩))
    (hvA : ∀ (x : Fin 256) (k : Fin 128), vA (ix3 0 x k) = X (ix3 b ⟨x.val, by omega⟩ ⟨2048 + (g.val * 256 + k.val), by omega⟩))
    (hkB : ∀ (x : Fin 256) (k : Fin 128), kB (ix3 0 x k) = X (ix3 b ⟨x.val, by omega⟩ ⟨1024 + (g.val * 256 + (128 + k.val)), by omega⟩))
    (hvB : ∀ (x : Fin 256) (k : Fin 128), vB (ix3 0 x k) = X (ix3 b ⟨x.val, by omega⟩ ⟨2048 + (g.val * 256 + (128 + k.val)), by omega⟩))
    (r l : Fin 128) (hr : (R r).val < 256) :
    k0_pay3 (F := Ideal) (k0_pay8 (k0_pay1 q0 q1) kA vA) k0_pay9 (k0_pay11 (k0_pay1 q0 q1) kB) (k0_pay12 (k0_pay1 q0 q1) kB) vB (ix3 0 r l)
      = Cert.Reference3Ideal.Attn.REF X (ix3 b (R r) ⟨g.val * 256 + l.val, by omega⟩) := by
  refine (tile_ctx_top q0 q1 kA vA kB vB r l).trans ?_
  simp only [hq, hkA, hvA, hkB, hvB]
  refine Eq.trans ?_ ((row_eq (⟨0, by omega⟩ : Fin 256) (fun x : Fin 256 => ⟨x.val, by omega⟩) X hX b (R r) g 0 l).trans ((Cert.Reference3Ideal.Attn.REF_ctx X b (R r) hr g ⟨2 * 0 + l.val / 64, by omega⟩ ⟨l.val % 64, by omega⟩).symm.trans ?_))
  · simp only [Fin.val_zero, Nat.mul_zero, Nat.zero_add]
  · congr 2
    apply Fin.ext
    dsimp only
    omega

/-- The second tile of a context step holds the reference's entries. -/
theorem eq_ctx_bot (X : FVec Ideal S8x2304x3072 .bf16) (hX : Twice X) (q0 q1 : FVec Ideal S1x128x128 .bf16) (kA vA kB vB : FVec Ideal S1x256x128 .bf16) (b : Fin 8) (g : Fin 4) (R : Fin 128 → Fin 2304)
    (hq : ∀ (r k : Fin 128), q1 (ix3 0 r k) = X (ix3 b (R r) ⟨g.val * 256 + (128 + k.val), by omega⟩))
    (hkA : ∀ (x : Fin 256) (k : Fin 128), kA (ix3 0 x k) = X (ix3 b ⟨x.val, by omega⟩ ⟨1024 + (g.val * 256 + k.val), by omega⟩))
    (hvA : ∀ (x : Fin 256) (k : Fin 128), vA (ix3 0 x k) = X (ix3 b ⟨x.val, by omega⟩ ⟨2048 + (g.val * 256 + k.val), by omega⟩))
    (hkB : ∀ (x : Fin 256) (k : Fin 128), kB (ix3 0 x k) = X (ix3 b ⟨x.val, by omega⟩ ⟨1024 + (g.val * 256 + (128 + k.val)), by omega⟩))
    (hvB : ∀ (x : Fin 256) (k : Fin 128), vB (ix3 0 x k) = X (ix3 b ⟨x.val, by omega⟩ ⟨2048 + (g.val * 256 + (128 + k.val)), by omega⟩))
    (r l : Fin 128) (hr : (R r).val < 256) :
    k0_pay4 (F := Ideal) (k0_pay8 (k0_pay1 q0 q1) kA vA) k0_pay9 (k0_pay11 (k0_pay1 q0 q1) kB) (k0_pay12 (k0_pay1 q0 q1) kB) vB (ix3 0 r l)
      = Cert.Reference3Ideal.Attn.REF X (ix3 b (R r) ⟨g.val * 256 + (128 + l.val), by omega⟩) := by
  refine (tile_ctx_bot q0 q1 kA vA kB vB r l).trans ?_
  simp only [hq, hkA, hvA, hkB, hvB]
  refine Eq.trans ?_ ((row_eq (⟨0, by omega⟩ : Fin 256) (fun x : Fin 256 => ⟨x.val, by omega⟩) X hX b (R r) g 1 l).trans ((Cert.Reference3Ideal.Attn.REF_ctx X b (R r) hr g ⟨2 * 1 + l.val / 64, by omega⟩ ⟨l.val % 64, by omega⟩).symm.trans ?_))
  · rfl
  · congr 2
    apply Fin.ext
    dsimp only
    omega

/-- The first tile of a latent step holds the reference's entries. -/
theorem eq_lat_top (X : FVec Ideal S8x2304x3072 .bf16) (hX : Twice X) (q0 q1 : FVec Ideal S1x128x128 .bf16) (kA vA kB vB : FVec Ideal S1x2304x128 .bf16) (b : Fin 8) (g : Fin 4) (R : Fin 128 → Fin 2304)
    (hq : ∀ (r k : Fin 128), q0 (ix3 0 r k) = X (ix3 b (R r) ⟨g.val * 256 + k.val, by omega⟩))
    (hkA : ∀ (x : Fin 2304) (k : Fin 128), kA (ix3 0 x k) = X (ix3 b x ⟨1024 + (g.val * 256 + k.val), by omega⟩))
    (hvA : ∀ (x : Fin 2304) (k : Fin 128), vA (ix3 0 x k) = X (ix3 b x ⟨2048 + (g.val * 256 + k.val), by omega⟩))
    (hkB : ∀ (x : Fin 2304) (k : Fin 128), kB (ix3 0 x k) = X (ix3 b x ⟨1024 + (g.val * 256 + (128 + k.val)), by omega⟩))
    (hvB : ∀ (x : Fin 2304) (k : Fin 128), vB (ix3 0 x k) = X (ix3 b x ⟨2048 + (g.val * 256 + (128 + k.val)), by omega⟩))
    (r l : Fin 128) (hr : ¬ (R r).val < 256) :
    k0_pay6 (F := Ideal) (k0_pay13 (k0_pay1 q0 q1) kA vA) k0_pay14 (k0_pay16 (k0_pay1 q0 q1) kB) (k0_pay17 (k0_pay1 q0 q1) kB) vB (ix3 0 r l)
      = Cert.Reference3Ideal.Attn.REF X (ix3 b (R r) ⟨g.val * 256 + l.val, by omega⟩) := by
  refine (tile_lat_top q0 q1 kA vA kB vB r l).trans ?_
  simp only [hq, hkA, hvA, hkB, hvB]
  refine Eq.trans ?_ ((row_eq (⟨0, by omega⟩ : Fin 2304) (fun x : Fin 2304 => x) X hX b (R r) g 0 l).trans ((Cert.Reference3Ideal.Attn.REF_lat X b (R r) hr g ⟨2 * 0 + l.val / 64, by omega⟩ ⟨l.val % 64, by omega⟩).symm.trans ?_))
  · simp only [Fin.val_zero, Nat.mul_zero, Nat.zero_add]
  · congr 2
    apply Fin.ext
    dsimp only
    omega

/-- The second tile of a latent step holds the reference's entries. -/
theorem eq_lat_bot (X : FVec Ideal S8x2304x3072 .bf16) (hX : Twice X) (q0 q1 : FVec Ideal S1x128x128 .bf16) (kA vA kB vB : FVec Ideal S1x2304x128 .bf16) (b : Fin 8) (g : Fin 4) (R : Fin 128 → Fin 2304)
    (hq : ∀ (r k : Fin 128), q1 (ix3 0 r k) = X (ix3 b (R r) ⟨g.val * 256 + (128 + k.val), by omega⟩))
    (hkA : ∀ (x : Fin 2304) (k : Fin 128), kA (ix3 0 x k) = X (ix3 b x ⟨1024 + (g.val * 256 + k.val), by omega⟩))
    (hvA : ∀ (x : Fin 2304) (k : Fin 128), vA (ix3 0 x k) = X (ix3 b x ⟨2048 + (g.val * 256 + k.val), by omega⟩))
    (hkB : ∀ (x : Fin 2304) (k : Fin 128), kB (ix3 0 x k) = X (ix3 b x ⟨1024 + (g.val * 256 + (128 + k.val)), by omega⟩))
    (hvB : ∀ (x : Fin 2304) (k : Fin 128), vB (ix3 0 x k) = X (ix3 b x ⟨2048 + (g.val * 256 + (128 + k.val)), by omega⟩))
    (r l : Fin 128) (hr : ¬ (R r).val < 256) :
    k0_pay7 (F := Ideal) (k0_pay13 (k0_pay1 q0 q1) kA vA) k0_pay14 (k0_pay16 (k0_pay1 q0 q1) kB) (k0_pay17 (k0_pay1 q0 q1) kB) vB (ix3 0 r l)
      = Cert.Reference3Ideal.Attn.REF X (ix3 b (R r) ⟨g.val * 256 + (128 + l.val), by omega⟩) := by
  refine (tile_lat_bot q0 q1 kA vA kB vB r l).trans ?_
  simp only [hq, hkA, hvA, hkB, hvB]
  refine Eq.trans ?_ ((row_eq (⟨0, by omega⟩ : Fin 2304) (fun x : Fin 2304 => x) X hX b (R r) g 1 l).trans ((Cert.Reference3Ideal.Attn.REF_lat X b (R r) hr g ⟨2 * 1 + l.val / 64, by omega⟩ ⟨l.val % 64, by omega⟩).symm.trans ?_))
  · rfl
  · congr 2
    apply Fin.ext
    dsimp only
    omega

variable (m : (ℓ : Loc nD τ sig) → Buf (Elt Ideal) ℓ) (c : Dev nD)

/-- The windows' block indices at point `t`: batch `t / 72`, head group `t / 18 % 4`, row tile `t % 18`. -/
theorem idx : ∀ t : Fin cfg0.N, win0_1.index t = ![t.val / 72, t.val % 18, t.val / 18 % 4] ∧ win0_2.index t = ![t.val / 72, 0, 4 + t.val / 18 % 4]
    ∧ win0_3.index t = ![t.val / 72, 0, 8 + t.val / 18 % 4] ∧ win0_4.index t = ![t.val / 72, t.val % 18, t.val / 18 % 4] :=
  (by decide +kernel : ∀ t : Fin grid0.N, _)

/-- A point's batch. -/
def bat (t : Fin cfg0.N) : Fin 8 := ⟨t.val / 72, by have h : t.val < 576 := t.isLt; omega⟩
/-- A point's head group. -/
def grp (t : Fin cfg0.N) : Fin 4 := ⟨t.val / 18 % 4, by omega⟩
/-- A point's row of the array. -/
def row (t : Fin cfg0.N) (r : Fin 128) : Fin 2304 := ⟨t.val % 18 * 128 + r.val, by omega⟩

/-- The queries of a point. -/
theorem blk1 (t : Fin cfg0.N) (r : Fin 128) (k : Fin 256) :
    iblk m c 1 t (ix3 0 r k) = m ((c : Thread nD τ).loc main_arg0) (ix3 (bat t) (row t r) ⟨(grp t).val * 256 + k.val, by omega⟩) := by
  unfold bat row grp
  blk_ext [iblk, V, idx t]

/-- The keys of a point's group. -/
theorem blk2 (t : Fin cfg0.N) (r : Fin 2304) (k : Fin 256) :
    iblk m c 2 t (ix3 0 r k) = m ((c : Thread nD τ).loc main_arg0) (ix3 (bat t) r ⟨1024 + ((grp t).val * 256 + k.val), by omega⟩) := by
  unfold bat grp
  blk_ext [iblk, V, idx t]

/-- The values of a point's group. -/
theorem blk3 (t : Fin cfg0.N) (r : Fin 2304) (k : Fin 256) :
    iblk m c 3 t (ix3 0 r k) = m ((c : Thread nD τ).loc main_arg0) (ix3 (bat t) r ⟨2048 + ((grp t).val * 256 + k.val), by omega⟩) := by
  unfold bat grp
  blk_ext [iblk, V, idx t]

/-- Where a point's block lies in the result. -/
theorem emb4 (t : Fin cfg0.N) (r : Fin 128) (f : Fin 256) : ((View.whole main_v1).slice (win0_4.rect t)).emb (ix3 0 r f) = ix3 (bat t) (row t r) ⟨(grp t).val * 256 + f.val, by omega⟩ := by
  obtain ⟨-, -, -, h⟩ := idx t
  funext a
  apply Fin.ext
  refine (Pipeline.Window.rect_emb_val win0_4 t (ix3 0 r f) a).trans ?_
  rw [h]
  fin_cases a <;> simp [bat, row, grp, win0_4]

/-- Where an entry of a point's tile lies in the result. -/
theorem emb4_at (t : Fin cfg0.N) (y : S1x128x256.Idx) (x : S1x128x128.Idx) (o : Fin 2) (h1 : (y 1 : ℕ) = (x 1 : ℕ)) (h2 : (y 2 : ℕ) = 128 * o.val + (x 2 : ℕ)) :
    ((View.whole main_v1).slice (win0_4.rect t)).emb y = ix3 (bat t) (row t ⟨(x 1).val, (x 1).isLt⟩) ⟨(grp t).val * 256 + (128 * o.val + (x 2).val), by have h := (x 2).isLt; change (x 2).val < 128 at h; omega⟩ := by
  have hy : y = ix3 0 ⟨(y 1).val, (y 1).isLt⟩ ⟨(y 2).val, (y 2).isLt⟩ := by
    funext a; fin_cases a <;> first | rfl | exact Subsingleton.elim (α := Fin 1) _ _
  rw [hy]
  refine (emb4 t _ _).trans ?_
  funext a
  apply Fin.ext
  fin_cases a
  · rfl
  · show t.val % 18 * 128 + (y 1).val = t.val % 18 * 128 + (x 1).val
    rw [h1]
  · show (grp t).val * 256 + (y 2).val = (grp t).val * 256 + (128 * o.val + (x 2).val)
    rw [h2]

/-- The first tile of a context point. -/
theorem point_ctx_top (hX : Twice (m ((c : Thread nD τ).loc main_arg0))) (t : Fin cfg0.N) (h : t.val % 18 ≤ 1) (y : S1x128x256.Idx) (x : S1x128x128.Idx) (h1 : (y 1 : ℕ) = (x 1 : ℕ)) (h2 : (y 2 : ℕ) = (x 2 : ℕ)) :
    k0_pay3 (F := Ideal) (k0_pay8 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 0] ![1, 256, 128] inb_S1x2304x256_S1x256x128_0_0_0)) (View.ld (iblk m c 3 t) (Rect.unit ![0, 0, 0] ![1, 256, 128] inb_S1x2304x256_S1x256x128_0_0_0))) k0_pay9 (k0_pay11 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 256, 128] inb_S1x2304x256_S1x256x128_0_0_128))) (k0_pay12 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 256, 128] inb_S1x2304x256_S1x256x128_0_0_128))) (View.ld (iblk m c 3 t) (Rect.unit ![0, 0, 128] ![1, 256, 128] inb_S1x2304x256_S1x256x128_0_0_128)) x
      = Cert.Reference3Ideal.Attn.REF (m ((c : Thread nD τ).loc main_arg0)) (((View.whole main_v1).slice (win0_4.rect t)).emb y) := by
  obtain ⟨r, l, rfl⟩ : ∃ (r l : Fin 128), x = ix3 0 r l :=
    ⟨x 1, x 2, by funext a; fin_cases a <;> first | rfl | exact Subsingleton.elim (α := Fin 1) _ _⟩
  refine Eq.trans ?_ (congrArg (Cert.Reference3Ideal.Attn.REF (m ((c : Thread nD τ).loc main_arg0))) (emb4_at t y (ix3 0 r l) 0 h1 (h2.trans (by simp)))).symm
  refine (eq_ctx_top (m ((c : Thread nD τ).loc main_arg0)) hX _ _ _ _ _ _ (bat t) (grp t) (row t)
    (fun r k => (ld_q_lo _ r k).trans (blk1 m c t r _))
    (fun x k => (ld_ctx_lo _ x k).trans (blk2 m c t _ _)) (fun x k => (ld_ctx_lo _ x k).trans (blk3 m c t _ _))
    (fun x k => (ld_ctx_hi _ x k).trans (blk2 m c t _ _)) (fun x k => (ld_ctx_hi _ x k).trans (blk3 m c t _ _)) r l
    (by show t.val % 18 * 128 + r.val < 256; omega)).trans ?_
  congr 2; apply Fin.ext; dsimp only; show _ = (grp t).val * 256 + (128 * 0 + l.val); omega

/-- The second tile of a context point. -/
theorem point_ctx_bot (hX : Twice (m ((c : Thread nD τ).loc main_arg0))) (t : Fin cfg0.N) (h : t.val % 18 ≤ 1) (y : S1x128x256.Idx) (x : S1x128x128.Idx) (h1 : (y 1 : ℕ) = (x 1 : ℕ)) (h2 : (y 2 : ℕ) = 128 + (x 2 : ℕ)) :
    k0_pay4 (F := Ideal) (k0_pay8 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 0] ![1, 256, 128] inb_S1x2304x256_S1x256x128_0_0_0)) (View.ld (iblk m c 3 t) (Rect.unit ![0, 0, 0] ![1, 256, 128] inb_S1x2304x256_S1x256x128_0_0_0))) k0_pay9 (k0_pay11 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 256, 128] inb_S1x2304x256_S1x256x128_0_0_128))) (k0_pay12 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 256, 128] inb_S1x2304x256_S1x256x128_0_0_128))) (View.ld (iblk m c 3 t) (Rect.unit ![0, 0, 128] ![1, 256, 128] inb_S1x2304x256_S1x256x128_0_0_128)) x
      = Cert.Reference3Ideal.Attn.REF (m ((c : Thread nD τ).loc main_arg0)) (((View.whole main_v1).slice (win0_4.rect t)).emb y) := by
  obtain ⟨r, l, rfl⟩ : ∃ (r l : Fin 128), x = ix3 0 r l :=
    ⟨x 1, x 2, by funext a; fin_cases a <;> first | rfl | exact Subsingleton.elim (α := Fin 1) _ _⟩
  refine Eq.trans ?_ (congrArg (Cert.Reference3Ideal.Attn.REF (m ((c : Thread nD τ).loc main_arg0))) (emb4_at t y (ix3 0 r l) 1 h1 (h2.trans (by rfl)))).symm
  refine (eq_ctx_bot (m ((c : Thread nD τ).loc main_arg0)) hX _ _ _ _ _ _ (bat t) (grp t) (row t)
    (fun r k => (ld_q_hi _ r k).trans (blk1 m c t r _))
    (fun x k => (ld_ctx_lo _ x k).trans (blk2 m c t _ _)) (fun x k => (ld_ctx_lo _ x k).trans (blk3 m c t _ _))
    (fun x k => (ld_ctx_hi _ x k).trans (blk2 m c t _ _)) (fun x k => (ld_ctx_hi _ x k).trans (blk3 m c t _ _)) r l
    (by show t.val % 18 * 128 + r.val < 256; omega)).trans ?_
  rfl

/-- The first tile of a latent point. -/
theorem point_lat_top (hX : Twice (m ((c : Thread nD τ).loc main_arg0))) (t : Fin cfg0.N) (h : ¬ t.val % 18 ≤ 1) (y : S1x128x256.Idx) (x : S1x128x128.Idx) (h1 : (y 1 : ℕ) = (x 1 : ℕ)) (h2 : (y 2 : ℕ) = (x 2 : ℕ)) :
    k0_pay6 (F := Ideal) (k0_pay13 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 0] ![1, 2304, 128] inb_S1x2304x256_S1x2304x128_0_0_0)) (View.ld (iblk m c 3 t) (Rect.unit ![0, 0, 0] ![1, 2304, 128] inb_S1x2304x256_S1x2304x128_0_0_0))) k0_pay14 (k0_pay16 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 2304, 128] inb_S1x2304x256_S1x2304x128_0_0_128))) (k0_pay17 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 2304, 128] inb_S1x2304x256_S1x2304x128_0_0_128))) (View.ld (iblk m c 3 t) (Rect.unit ![0, 0, 128] ![1, 2304, 128] inb_S1x2304x256_S1x2304x128_0_0_128)) x
      = Cert.Reference3Ideal.Attn.REF (m ((c : Thread nD τ).loc main_arg0)) (((View.whole main_v1).slice (win0_4.rect t)).emb y) := by
  obtain ⟨r, l, rfl⟩ : ∃ (r l : Fin 128), x = ix3 0 r l :=
    ⟨x 1, x 2, by funext a; fin_cases a <;> first | rfl | exact Subsingleton.elim (α := Fin 1) _ _⟩
  refine Eq.trans ?_ (congrArg (Cert.Reference3Ideal.Attn.REF (m ((c : Thread nD τ).loc main_arg0))) (emb4_at t y (ix3 0 r l) 0 h1 (h2.trans (by simp)))).symm
  refine (eq_lat_top (m ((c : Thread nD τ).loc main_arg0)) hX _ _ _ _ _ _ (bat t) (grp t) (row t)
    (fun r k => (ld_q_lo _ r k).trans (blk1 m c t r _))
    (fun x k => (ld_lat_lo _ x k).trans (blk2 m c t _ _)) (fun x k => (ld_lat_lo _ x k).trans (blk3 m c t _ _))
    (fun x k => (ld_lat_hi _ x k).trans (blk2 m c t _ _)) (fun x k => (ld_lat_hi _ x k).trans (blk3 m c t _ _)) r l
    (by show ¬ t.val % 18 * 128 + r.val < 256; omega)).trans ?_
  congr 2; apply Fin.ext; dsimp only; show _ = (grp t).val * 256 + (128 * 0 + l.val); omega

/-- The second tile of a latent point. -/
theorem point_lat_bot (hX : Twice (m ((c : Thread nD τ).loc main_arg0))) (t : Fin cfg0.N) (h : ¬ t.val % 18 ≤ 1) (y : S1x128x256.Idx) (x : S1x128x128.Idx) (h1 : (y 1 : ℕ) = (x 1 : ℕ)) (h2 : (y 2 : ℕ) = 128 + (x 2 : ℕ)) :
    k0_pay7 (F := Ideal) (k0_pay13 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 0] ![1, 2304, 128] inb_S1x2304x256_S1x2304x128_0_0_0)) (View.ld (iblk m c 3 t) (Rect.unit ![0, 0, 0] ![1, 2304, 128] inb_S1x2304x256_S1x2304x128_0_0_0))) k0_pay14 (k0_pay16 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 2304, 128] inb_S1x2304x256_S1x2304x128_0_0_128))) (k0_pay17 (k0_pay1 (View.ld (iblk m c 1 t) (Rect.unit ![0, 0, 0] ![1, 128, 128] inb_S1x128x256_S1x128x128_0_0_0)) (View.ld (iblk m c 1 t) (Rect.unit ![0, 0, 128] ![1, 128, 128] inb_S1x128x256_S1x128x128_0_0_128))) (View.ld (iblk m c 2 t) (Rect.unit ![0, 0, 128] ![1, 2304, 128] inb_S1x2304x256_S1x2304x128_0_0_128))) (View.ld (iblk m c 3 t) (Rect.unit ![0, 0, 128] ![1, 2304, 128] inb_S1x2304x256_S1x2304x128_0_0_128)) x
      = Cert.Reference3Ideal.Attn.REF (m ((c : Thread nD τ).loc main_arg0)) (((View.whole main_v1).slice (win0_4.rect t)).emb y) := by
  obtain ⟨r, l, rfl⟩ : ∃ (r l : Fin 128), x = ix3 0 r l :=
    ⟨x 1, x 2, by funext a; fin_cases a <;> first | rfl | exact Subsingleton.elim (α := Fin 1) _ _⟩
  refine Eq.trans ?_ (congrArg (Cert.Reference3Ideal.Attn.REF (m ((c : Thread nD τ).loc main_arg0))) (emb4_at t y (ix3 0 r l) 1 h1 (h2.trans (by rfl)))).symm
  refine (eq_lat_bot (m ((c : Thread nD τ).loc main_arg0)) hX _ _ _ _ _ _ (bat t) (grp t) (row t)
    (fun r k => (ld_q_hi _ r k).trans (blk1 m c t r _))
    (fun x k => (ld_lat_lo _ x k).trans (blk2 m c t _ _)) (fun x k => (ld_lat_lo _ x k).trans (blk3 m c t _ _))
    (fun x k => (ld_lat_hi _ x k).trans (blk2 m c t _ _)) (fun x k => (ld_lat_hi _ x k).trans (blk3 m c t _ _)) r l
    (by show ¬ t.val % 18 * 128 + r.val < 256; omega)).trans ?_
  rfl

/-- The result array after the run. -/
theorem final (hX : Twice (m ((c : Thread nD τ).loc main_arg0))) : (dats m 0 c).arrAt 4 (cfgs 0).N = Cert.Reference3Ideal.Attn.REF (m ((c : Thread nD τ).loc main_arg0)) := by
  refine (dats m 0 c).arrAt_eq_of_covers 4 _ (by decide +kernel) fun t _ y => ?_
  blk_simp
  rw [after0_4]
  by_cases h : t.val % 18 ≤ 1
  · rw [outsAt0_A m c t h (by omega)]
    frame_out
    canon_tiles x k
    · exact point_ctx_bot m c hX t h y x k1 k2
    · exact point_ctx_top m c hX t h y x k1 k2
  · rw [outsAt0_B m c t h (by omega)]
    frame_out
    canon_tiles x k
    · exact point_lat_bot m c hX t h y x k1 k2
    · exact point_lat_top m c hX t h y x k1 k2

end Cert.Kernel3Ideal.Attn

end
-- ==== Proof.MixOut.lean ====
/- The output projection of the attention as formulas: what the body stores, read at an entry, and what the reference computes,
   read at an entry, are the gated projection added to the row, and the modulated norm of that row. -/
module

public import proofs.«01_k».proof.Proof.InProj
public import proofs.«01_k».proof.Proof.Gen.Kernel4Ideal.Skeleton
public import proofs.«01_k».proof.Proof.Gen.Reference4Ideal.Run

@[expose] public section

set_option maxRecDepth 16384

noncomputable section

open Idealize.ShloMosaic Cert.Norm

namespace Cert.MixOut

/-- A row with its gated projection added: the row, plus the gate times the product of the mixer's row with the weights and the bias. -/
def midRow (o x gate b : Fin 1024 → EReal) (w : Fin 1024 → Fin 1024 → EReal) (f : Fin 1024) : EReal :=
  x f + gate f * ((∑ k, o k * w k f) + b f)

end Cert.MixOut

open Cert.MixOut

namespace Cert.Kernel4Ideal.MixOut

open Cert.Kernel4Ideal Cert.Kernel4Ideal.Gen

set_option maxHeartbeats 1000000 in
/-- The body's row with its gated projection. -/
theorem pay4_apply (x0 : FVec Ideal S1x256x1024 .bf16) (x3 : FVec Ideal S1024x1024 .bf16) (x4 : FVec Ideal S1x1024 .f32) (x2 : FVec Ideal S1x1x6x1024 .f32) (x1 : FVec Ideal S1x256x1024 .f32) (r : Fin 256) (f : Fin 1024) :
    k0_pay4 (F := Ideal) x0 x3 x4 x2 x1 (ix2 r f)
      = midRow (fun k => x0 (ix3 0 r k)) (fun k => x1 (ix3 0 r k)) (fun k => x2 (ix4 0 0 2 k)) (fun k => x4 (ix2 0 k)) (fun k f => x3 (ix2 k f)) f := by
  pointwise [k0_pay4, k0_pay3, midRow]

/-- The first store is that row. -/
theorem pay5_apply (x0 : FVec Ideal S1x256x1024 .bf16) (x3 : FVec Ideal S1024x1024 .bf16) (x4 : FVec Ideal S1x1024 .f32) (x2 : FVec Ideal S1x1x6x1024 .f32) (x1 : FVec Ideal S1x256x1024 .f32) (r : Fin 256) (f : Fin 1024) :
    k0_pay5 (F := Ideal) x0 x3 x4 x2 x1 (ix3 0 r f) = k0_pay4 (F := Ideal) x0 x3 x4 x2 x1 (ix2 r f) := by
  unfold k0_pay5
  pointwise

set_option maxHeartbeats 1000000 in
/-- The second store is that row's modulated norm. -/
theorem pay8_apply (x0 : FVec Ideal S1x256x1024 .bf16) (x3 : FVec Ideal S1024x1024 .bf16) (x4 : FVec Ideal S1x1024 .f32) (x2 : FVec Ideal S1x1x6x1024 .f32) (x1 : FVec Ideal S1x256x1024 .f32) (x5 : FVec Ideal S1x1024 .f32) (r : Fin 256) (f : Fin 1024) :
    k0_pay8 (F := Ideal) (k0_pay3 (F := Ideal) x2) (k0_pay6 (F := Ideal) x0 x3 x4 x2 x1 x5) (ix3 0 r f)
      = normMod (fun k => k0_pay4 (F := Ideal) x0 x3 x4 x2 x1 (ix2 r k)) (fun k => x5 (ix2 0 k)) (fun k => x2 (ix4 0 0 4 k)) (fun k => x2 (ix4 0 0 3 k)) f := by
  pointwise [k0_pay8, k0_pay7, k0_pay6, k0_pay3, normMod]

end Cert.Kernel4Ideal.MixOut

namespace Cert.Reference4Ideal.MixOut

open Cert.Reference4Ideal Cert.Reference4Ideal.Gen

/-- The projection with its bias. -/
def yRef (O : FVec Ideal S8x2304x1024 .bf16) (W : FVec Ideal S1024x1024 .f32) (B : FVec Ideal S1024 .f32) : FVec Ideal S8x2304x1024 .f32 :=
  addf (Host.dotGeneral dot_S8x2304x1024_S1024x1024_S8x2304x1024_2_0_01_1_n_n none (extf .f32 O bitsLt_bf16_f32) W) (broadcastInDim S8x2304x1024 ![0, 1, 2] bcast_S1x1x1024_S8x2304x1024_0_1_2 (broadcastInDim S1x1x1024 ![2] bcast_S1024_S1x1x1024_2 B))

/-- The context rows with their gated projection. -/
def xCtx (O : FVec Ideal S8x2304x1024 .bf16) (X : FVec Ideal S8x2304x1024 .f32) (M : FVec Ideal S8x2x6x1024 .f32) (W : FVec Ideal S1024x1024 .f32) (B : FVec Ideal S1024 .f32) : FVec Ideal S8x256x1024 .f32 :=
  addf (extractStridedSlice S8x256x1024 ![0, 0, 0] X slices_S8x2304x1024_S8x256x1024_0_0_0) (mulf (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 2, 0] M slices_S8x2x6x1024_S8x1x1x1024_0_0_2_0) shapeCasts_S8x1x1x1024_S8x1024))) (extractStridedSlice S8x256x1024 ![0, 0, 0] (yRef O W B) slices_S8x2304x1024_S8x256x1024_0_0_0))

/-- The latent rows with their gated projection. -/
def xLat (O : FVec Ideal S8x2304x1024 .bf16) (X : FVec Ideal S8x2304x1024 .f32) (M : FVec Ideal S8x2x6x1024 .f32) (W : FVec Ideal S1024x1024 .f32) (B : FVec Ideal S1024 .f32) : FVec Ideal S8x2048x1024 .f32 :=
  addf (extractStridedSlice S8x2048x1024 ![0, 256, 0] X slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 2, 0] M slices_S8x2x6x1024_S8x1x1x1024_0_1_2_0) shapeCasts_S8x1x1x1024_S8x1024))) (extractStridedSlice S8x2048x1024 ![0, 256, 0] (yRef O W B) slices_S8x2304x1024_S8x2048x1024_0_256_0))

/-- The modulated norm of context rows. -/
def hCtx (T : FVec Ideal S8x256x1024 .f32) (M : FVec Ideal S8x2x6x1024 .f32) (G : FVec Ideal S1024 .f32) : FVec Ideal S8x256x1024 .f32 :=
  addf (mulf (mulf (mulf T (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf T T) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S8x1x1024_S8x256x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 0, 4, 0] M slices_S8x2x6x1024_S8x1x1x1024_0_0_4_0) shapeCasts_S8x1x1x1024_S8x1024))))) (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 3, 0] M slices_S8x2x6x1024_S8x1x1x1024_0_0_3_0) shapeCasts_S8x1x1x1024_S8x1024)))

/-- The modulated norm of latent rows. -/
def hLat (T : FVec Ideal S8x2048x1024 .f32) (M : FVec Ideal S8x2x6x1024 .f32) (G : FVec Ideal S1024 .f32) : FVec Ideal S8x2048x1024 .f32 :=
  addf (mulf (mulf (mulf T (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf T T) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 1, 4, 0] M slices_S8x2x6x1024_S8x1x1x1024_0_1_4_0) shapeCasts_S8x1x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 3, 0] M slices_S8x2x6x1024_S8x1x1x1024_0_1_3_0) shapeCasts_S8x1x1x1024_S8x1024)))

/-- The projection at an entry. -/
theorem yRef_apply (O : FVec Ideal S8x2304x1024 .bf16) (W : FVec Ideal S1024x1024 .f32) (B : FVec Ideal S1024 .f32) (b : Fin 8) (r : Fin 2304) (f : Fin 1024) :
    yRef O W B (ix3 b r f) = (∑ k, O (ix3 b r k) * W (ix2 k f)) + B (ix1 f) := by
  pointwise [yRef]

/-- A context row's entry. -/
theorem xCtx_apply (O : FVec Ideal S8x2304x1024 .bf16) (X : FVec Ideal S8x2304x1024 .f32) (M : FVec Ideal S8x2x6x1024 .f32) (W : FVec Ideal S1024x1024 .f32) (B : FVec Ideal S1024 .f32) (b : Fin 8) (r : Fin 256) (f : Fin 1024) :
    xCtx O X M W B (ix3 b r f) = midRow (fun k => O (ix3 b ⟨r.val, by omega⟩ k)) (fun k => X (ix3 b ⟨r.val, by omega⟩ k)) (fun k => M (ix4 b 0 2 k)) (fun k => B (ix1 k)) (fun k f => W (ix2 k f)) f := by
  unfold midRow
  rw [← yRef_apply O W B b ⟨r.val, by omega⟩ f]
  pointwise [xCtx]

/-- A latent row's entry. -/
theorem xLat_apply (O : FVec Ideal S8x2304x1024 .bf16) (X : FVec Ideal S8x2304x1024 .f32) (M : FVec Ideal S8x2x6x1024 .f32) (W : FVec Ideal S1024x1024 .f32) (B : FVec Ideal S1024 .f32) (b : Fin 8) (r : Fin 2048) (f : Fin 1024) :
    xLat O X M W B (ix3 b r f) = midRow (fun k => O (ix3 b ⟨256 + r.val, by omega⟩ k)) (fun k => X (ix3 b ⟨256 + r.val, by omega⟩ k)) (fun k => M (ix4 b 1 2 k)) (fun k => B (ix1 k)) (fun k f => W (ix2 k f)) f := by
  unfold midRow
  rw [← yRef_apply O W B b ⟨256 + r.val, by omega⟩ f]
  pointwise [xLat]

set_option maxHeartbeats 1000000 in
/-- A context row's norm at an entry. -/
theorem hCtx_apply (T : FVec Ideal S8x256x1024 .f32) (M : FVec Ideal S8x2x6x1024 .f32) (G : FVec Ideal S1024 .f32) (b : Fin 8) (r : Fin 256) (k : Fin 1024) :
    hCtx T M G (ix3 b r k) = normMod (fun k => T (ix3 b r k)) (fun k => G (ix1 k)) (fun k => M (ix4 b 0 4 k)) (fun k => M (ix4 b 0 3 k)) k := by
  pointwise [hCtx, normMod]

set_option maxHeartbeats 1000000 in
/-- A latent row's norm at an entry. -/
theorem hLat_apply (T : FVec Ideal S8x2048x1024 .f32) (M : FVec Ideal S8x2x6x1024 .f32) (G : FVec Ideal S1024 .f32) (b : Fin 8) (r : Fin 2048) (k : Fin 1024) :
    hLat T M G (ix3 b r k) = normMod (fun k => T (ix3 b r k)) (fun k => G (ix1 k)) (fun k => M (ix4 b 1 4 k)) (fun k => M (ix4 b 1 3 k)) k := by
  pointwise [hLat, normMod]

/-- The first result: the rows with their gated projection. -/
def REFX (O : FVec Ideal S8x2304x1024 .bf16) (X : FVec Ideal S8x2304x1024 .f32) (M : FVec Ideal S8x2x6x1024 .f32) (W : FVec Ideal S1024x1024 .f32) (B : FVec Ideal S1024 .f32) : FVec Ideal S8x2304x1024 .f32 :=
  concatenate S8x2304x1024 1 [⟨S8x256x1024, (xCtx O X M W B)⟩, ⟨S8x2048x1024, (xLat O X M W B)⟩] concatenates_S8x256x1024_S8x2048x1024_S8x2304x1024_d1

/-- The second result: their modulated norms. -/
def REFH (O : FVec Ideal S8x2304x1024 .bf16) (X : FVec Ideal S8x2304x1024 .f32) (M : FVec Ideal S8x2x6x1024 .f32) (W : FVec Ideal S1024x1024 .f32) (B : FVec Ideal S1024 .f32) (G : FVec Ideal S1024 .f32) : FVec Ideal S8x2304x1024 .bf16 :=
  truncf .bf16 (concatenate S8x2304x1024 1 [⟨S8x256x1024, (hCtx (xCtx O X M W B) M G)⟩, ⟨S8x2048x1024, (hLat (xLat O X M W B) M G)⟩] concatenates_S8x256x1024_S8x2048x1024_S8x2304x1024_d1) bitsLt_bf16_f32

/-- The first result at an entry: a row's gate is the context's on the first 256 rows, the latent's after them. -/
theorem REFX_apply (O : FVec Ideal S8x2304x1024 .bf16) (X : FVec Ideal S8x2304x1024 .f32) (M : FVec Ideal S8x2x6x1024 .f32) (W : FVec Ideal S1024x1024 .f32) (B : FVec Ideal S1024 .f32) (b : Fin 8) (r : Fin 2304) (f : Fin 1024) :
    REFX O X M W B (ix3 b r f) = midRow (fun k => O (ix3 b r k)) (fun k => X (ix3 b r k)) (fun k => M (ix4 b (if r.val < 256 then 0 else 1) 2 k)) (fun k => B (ix1 k)) (fun k f => W (ix2 k f)) f := by
  pointwise [REFX]
  by_cases h : r.val < 256
  · simp only [dif_pos h, if_pos h, xCtx_apply]
  · have hr : ∀ w, (⟨256 + (r.val - 256), w⟩ : Fin 2304) = r := fun w => Fin.ext (by show 256 + (r.val - 256) = r.val; omega)
    simp only [dif_neg h, if_neg h, xLat_apply, hr]

/-- The second result at an entry: the modulated norm of the first result's row. -/
theorem REFH_apply (O : FVec Ideal S8x2304x1024 .bf16) (X : FVec Ideal S8x2304x1024 .f32) (M : FVec Ideal S8x2x6x1024 .f32) (W : FVec Ideal S1024x1024 .f32) (B : FVec Ideal S1024 .f32) (G : FVec Ideal S1024 .f32) (b : Fin 8) (r : Fin 2304) (f : Fin 1024) :
    REFH O X M W B G (ix3 b r f) = normMod (fun k => REFX O X M W B (ix3 b r k)) (fun k => G (ix1 k)) (fun k => M (ix4 b (if r.val < 256 then 0 else 1) 4 k)) (fun k => M (ix4 b (if r.val < 256 then 0 else 1) 3 k)) f := by
  simp only [REFX_apply]
  pointwise [REFH]
  by_cases h : r.val < 256
  · simp only [dif_pos h, if_pos h, hCtx_apply, xCtx_apply]
  · have hr : ∀ w, (⟨256 + (r.val - 256), w⟩ : Fin 2304) = r := fun w => Fin.ext (by show 256 + (r.val - 256) = r.val; omega)
    simp only [dif_neg h, if_neg h, hLat_apply, xLat_apply, hr]

end Cert.Reference4Ideal.MixOut

end
-- ==== Proof.MixOutValue.lean ====
/- The output projection of the attention: the two result arrays after the run are the reference's terms of the arguments. -/
module

public import proofs.«01_k».proof.Proof.Gen.Kernel4Ideal.Frame
public import Idealize.ShloMosaic.Lib.Pipeline.Value
public import proofs.«01_k».proof.Proof.MixOut

@[expose] public section

set_option maxRecDepth 16384

noncomputable section

open Idealize.ShloMosaic Idealize.ShloMosaic.TcCoe Idealize.SL.Sem Cert.Norm Cert.MixOut
open Idealize.ShloMosaic.Pipeline (Dat)

namespace Cert.Kernel4Ideal.MixOut

open Cert.Kernel4Ideal Cert.Kernel4Ideal.Gen

variable (m : (ℓ : Loc nD τ sig) → Buf (Elt Ideal) ℓ) (c : Dev nD)

/-- The windows' block indices at point `t`: batch `t / 9`, row block `t % 9`; the modulation is the context's on row block 0. -/
theorem idx : ∀ t : Fin cfg0.N, win0_0.index t = ![t.val / 9, t.val % 9, 0] ∧ win0_1.index t = ![t.val / 9, t.val % 9, 0]
    ∧ win0_2.index t = ![t.val / 9, if t.val % 9 = 0 then 0 else 1, 0, 0] ∧ win0_3.index t = ![0, 0] ∧ win0_4.index t = ![0, 0] ∧ win0_5.index t = ![0, 0]
    ∧ win0_8.index t = ![t.val / 9, t.val % 9, 0] ∧ win0_9.index t = ![t.val / 9, t.val % 9, 0] :=
  (by decide +kernel : ∀ t : Fin grid0.N, _)

/-- A point's batch. -/
def bat (t : Fin cfg0.N) : Fin 8 := ⟨t.val / 9, by have h : t.val < 72 := t.isLt; omega⟩
/-- A point's row of the array. -/
def row (t : Fin cfg0.N) (r : Fin 256) : Fin 2304 := ⟨t.val % 9 * 256 + r.val, by omega⟩

/-- The mixer's rows of a point's block. -/
theorem blk0 (t : Fin cfg0.N) (r : Fin 256) (k : Fin 1024) : iblk m c 0 t (ix3 0 r k) = m ((c : Thread nD τ).loc main_arg0) (ix3 (bat t) (row t r) k) := by
  unfold bat row
  blk_ext [iblk, V, idx t]

/-- The rows of a point's block. -/
theorem blk1 (t : Fin cfg0.N) (r : Fin 256) (k : Fin 1024) : iblk m c 1 t (ix3 0 r k) = m ((c : Thread nD τ).loc main_arg1) (ix3 (bat t) (row t r) k) := by
  unfold bat row
  blk_ext [iblk, V, idx t]

/-- The modulation of a point's rows. -/
theorem blk2 (t : Fin cfg0.N) (r : Fin 256) (s : Fin 6) (k : Fin 1024) :
    iblk m c 2 t (ix4 0 0 s k) = m ((c : Thread nD τ).loc main_arg2) (ix4 (bat t) (if (row t r).val < 256 then 0 else 1) s k) := by
  have hr : (if (row t r).val < 256 then (0 : Fin 2) else 1) = (⟨if t.val % 9 = 0 then 0 else 1, by split <;> omega⟩ : Fin 2) := by
    unfold row
    by_cases h : t.val % 9 = 0
    · simp [h]
    · have : ¬ (t.val % 9 * 256 + r.val < 256) := by omega
      simp [h, this]
  rw [hr]
  unfold bat
  blk_ext [iblk, V, idx t]

/-- The weights. -/
theorem blk3 (t : Fin cfg0.N) (k : Fin 1024) (f : Fin 1024) : iblk m c 3 t (ix2 k f) = m ((c : Thread nD τ).loc main_arg3) (ix2 k f) := by
  have h0 : V m c main_v4 (ix2 k f) = m ((c : Thread nD τ).loc main_arg3) (ix2 k f) := by
    entry_read
    rfl
  rw [← h0]
  blk_ext [iblk, idx t]

/-- The bias. -/
theorem blk4 (t : Fin cfg0.N) (k : Fin 1024) : iblk m c 4 t (ix2 0 k) = m ((c : Thread nD τ).loc main_arg4) (ix1 k) := by
  have h0 : V m c main_v5 (ix2 0 k) = m ((c : Thread nD τ).loc main_arg4) (ix1 k) := by
    entry_read
    show shapeCast S1x1024 (m ((c : Thread nD τ).loc main_arg4)) shapeCasts_S1024_S1x1024 (ix2 0 k) = _
    pointwise
  rw [← h0]
  blk_ext [iblk, idx t]

/-- The gain. -/
theorem blk5 (t : Fin cfg0.N) (k : Fin 1024) : iblk m c 5 t (ix2 0 k) = m ((c : Thread nD τ).loc main_arg5) (ix1 k) := by
  have h0 : V m c main_v6 (ix2 0 k) = m ((c : Thread nD τ).loc main_arg5) (ix1 k) := by
    entry_read
    show shapeCast S1x1024 (m ((c : Thread nD τ).loc main_arg5)) shapeCasts_S1024_S1x1024 (ix2 0 k) = _
    pointwise
  rw [← h0]
  blk_ext [iblk, idx t]

/-- A body's row with its gated projection is the reference's. -/
theorem mid_apply (t : Fin cfg0.N) (r : Fin 256) (f : Fin 1024) :
    k0_pay4 (F := Ideal) (iblk m c 0 t) (iblk m c 3 t) (iblk m c 4 t) (iblk m c 2 t) (iblk m c 1 t) (ix2 r f)
      = Cert.Reference4Ideal.MixOut.REFX (m ((c : Thread nD τ).loc main_arg0)) (m ((c : Thread nD τ).loc main_arg1)) (m ((c : Thread nD τ).loc main_arg2)) (m ((c : Thread nD τ).loc main_arg3)) (m ((c : Thread nD τ).loc main_arg4)) (ix3 (bat t) (row t r) f) := by
  refine (pay4_apply (iblk m c 0 t) (iblk m c 3 t) (iblk m c 4 t) (iblk m c 2 t) (iblk m c 1 t) r f).trans ?_
  simp only [fun k => blk0 m c t r k, fun k => blk1 m c t r k, fun s k => blk2 m c t r s k, fun k f => blk3 m c t k f, fun k => blk4 m c t k]
  exact (Cert.Reference4Ideal.MixOut.REFX_apply (m ((c : Thread nD τ).loc main_arg0)) (m ((c : Thread nD τ).loc main_arg1)) (m ((c : Thread nD τ).loc main_arg2)) (m ((c : Thread nD τ).loc main_arg3)) (m ((c : Thread nD τ).loc main_arg4)) (bat t) (row t r) f).symm

/-- A body's norm is the reference's. -/
theorem norm_apply (t : Fin cfg0.N) (r : Fin 256) (f : Fin 1024) :
    k0_pay8 (F := Ideal) (k0_pay3 (F := Ideal) (iblk m c 2 t)) (k0_pay6 (F := Ideal) (iblk m c 0 t) (iblk m c 3 t) (iblk m c 4 t) (iblk m c 2 t) (iblk m c 1 t) (iblk m c 5 t)) (ix3 0 r f)
      = Cert.Reference4Ideal.MixOut.REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (row t r) f) := by
  refine (pay8_apply (iblk m c 0 t) (iblk m c 3 t) (iblk m c 4 t) (iblk m c 2 t) (iblk m c 1 t) (iblk m c 5 t) r f).trans ?_
  simp only [fun k => mid_apply m c t r k, fun s k => blk2 m c t r s k, fun k => blk5 m c t k]
  exact (Cert.Reference4Ideal.MixOut.REFH_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat t) (row t r) f).symm

/-- Where a point's block lies in the first result. -/
theorem emb8 (t : Fin cfg0.N) (r : Fin 256) (f : Fin 1024) : ((View.whole main_v7_0).slice (win0_8.rect t)).emb (ix3 0 r f) = ix3 (bat t) (row t r) f := by
  obtain ⟨-, -, -, -, -, -, h, -⟩ := idx t
  funext a
  apply Fin.ext
  refine (Pipeline.Window.rect_emb_val win0_8 t (ix3 0 r f) a).trans ?_
  rw [h]
  fin_cases a <;> simp [bat, row, win0_8]

/-- Where a point's block lies in the second result. -/
theorem emb9 (t : Fin cfg0.N) (r : Fin 256) (f : Fin 1024) : ((View.whole main_v7_1).slice (win0_9.rect t)).emb (ix3 0 r f) = ix3 (bat t) (row t r) f := by
  obtain ⟨-, -, -, -, -, -, -, h⟩ := idx t
  funext a
  apply Fin.ext
  refine (Pipeline.Window.rect_emb_val win0_9 t (ix3 0 r f) a).trans ?_
  rw [h]
  fin_cases a <;> simp [bat, row, win0_9]

/-- The first result at a point's entry. -/
theorem point8 (t : Fin cfg0.N) (y : S1x256x1024.Idx) : k0_pay5 (F := Ideal) (iblk m c 0 t) (iblk m c 3 t) (iblk m c 4 t) (iblk m c 2 t) (iblk m c 1 t) y
    = Cert.Reference4Ideal.MixOut.REFX (m ((c : Thread nD τ).loc main_arg0)) (m ((c : Thread nD τ).loc main_arg1)) (m ((c : Thread nD τ).loc main_arg2)) (m ((c : Thread nD τ).loc main_arg3)) (m ((c : Thread nD τ).loc main_arg4)) (((View.whole main_v7_0).slice (win0_8.rect t)).emb y) := by
  obtain ⟨r, f, rfl⟩ : ∃ (r : Fin 256) (f : Fin 1024), y = ix3 0 r f :=
    ⟨y 1, y 2, by funext a; fin_cases a <;> first | rfl | exact Subsingleton.elim (α := Fin 1) _ _⟩
  refine (pay5_apply (iblk m c 0 t) (iblk m c 3 t) (iblk m c 4 t) (iblk m c 2 t) (iblk m c 1 t) r f).trans ?_
  refine (mid_apply m c t r f).trans ?_
  exact (congrArg (Cert.Reference4Ideal.MixOut.REFX (m ((c : Thread nD τ).loc main_arg0)) (m ((c : Thread nD τ).loc main_arg1)) (m ((c : Thread nD τ).loc main_arg2)) (m ((c : Thread nD τ).loc main_arg3)) (m ((c : Thread nD τ).loc main_arg4))) (emb8 t r f)).symm

/-- The second result at a point's entry. -/
theorem point9 (t : Fin cfg0.N) (y : S1x256x1024.Idx) : k0_pay8 (F := Ideal) (k0_pay3 (F := Ideal) (iblk m c 2 t)) (k0_pay6 (F := Ideal) (iblk m c 0 t) (iblk m c 3 t) (iblk m c 4 t) (iblk m c 2 t) (iblk m c 1 t) (iblk m c 5 t)) y
    = Cert.Reference4Ideal.MixOut.REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((View.whole main_v7_1).slice (win0_9.rect t)).emb y) := by
  obtain ⟨r, f, rfl⟩ : ∃ (r : Fin 256) (f : Fin 1024), y = ix3 0 r f :=
    ⟨y 1, y 2, by funext a; fin_cases a <;> first | rfl | exact Subsingleton.elim (α := Fin 1) _ _⟩
  refine (norm_apply m c t r f).trans ?_
  exact (congrArg (Cert.Reference4Ideal.MixOut.REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb9 t r f)).symm

/-- The first result array after the run. -/
theorem final8 : (dats m 0 c).arrAt 8 (cfgs 0).N = Cert.Reference4Ideal.MixOut.REFX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  exact point8 m c t y

set_option maxHeartbeats 1000000 in
/-- The second result array after the run. -/
theorem final9 : (dats m 0 c).arrAt 9 (cfgs 0).N = Cert.Reference4Ideal.MixOut.REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  have e := point9 m c t y
  unfold out0_9 k0_pay30 k0_pay29
  frame_out
  exact e

/-- The run ends with both result arrays as the windows leave them, and with its arguments unchanged. -/
theorem run_arrays (g : Dev nD → PrngReg) : θ_run defs (onTc (τ := τ) (main (F := Ideal))) ⟨m, fun _ => 0, g⟩ fun r => ∀ c : Dev nD,
    r.2.mem ((c : Thread nD τ).loc main_v7_0) = (dats m 0 c).arrAt 8 (cfgs 0).N
    ∧ r.2.mem ((c : Thread nD τ).loc main_v7_1) = (dats m 0 c).arrAt 9 (cfgs 0).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun r h c => ⟨(h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩)
    (run_main m g)

end Cert.Kernel4Ideal.MixOut

end
-- ==== Proof.QkvRef.lean ====
/- The projection to queries, keys and values as a formula: what the reference computes, read at an entry. -/
module

public import proofs.«01_k».proof.Proof.InProj
public import proofs.«01_k».proof.Proof.Gen.Reference5Ideal.Run

@[expose] public section

set_option maxRecDepth 16384

noncomputable section

open Idealize.ShloMosaic Cert.Norm

namespace Cert.Reference5Ideal.Qkv

open Cert.Reference5Ideal Cert.Reference5Ideal.Gen

/-- The context rows, normed and modulated. -/
def hCtx (X : FVec Ideal S8x2304x1024 .f32) (M : FVec Ideal S8x2x6x1024 .f32) (G : FVec Ideal S1024 .f32) : FVec Ideal S8x256x1024 .f32 :=
  addf (mulf (mulf (mulf (extractStridedSlice S8x256x1024 ![0, 0, 0] X slices_S8x2304x1024_S8x256x1024_0_0_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 0, 0] X slices_S8x2304x1024_S8x256x1024_0_0_0) (extractStridedSlice S8x256x1024 ![0, 0, 0] X slices_S8x2304x1024_S8x256x1024_0_0_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S8x1x1024_S8x256x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 0, 1, 0] M slices_S8x2x6x1024_S8x1x1x1024_0_0_1_0) shapeCasts_S8x1x1x1024_S8x1024))))) (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 0, 0] M slices_S8x2x6x1024_S8x1x1x1024_0_0_0_0) shapeCasts_S8x1x1x1024_S8x1024)))

/-- The latent rows, normed and modulated. -/
def hLat (X : FVec Ideal S8x2304x1024 .f32) (M : FVec Ideal S8x2x6x1024 .f32) (G : FVec Ideal S1024 .f32) : FVec Ideal S8x2048x1024 .f32 :=
  addf (mulf (mulf (mulf (extractStridedSlice S8x2048x1024 ![0, 256, 0] X slices_S8x2304x1024_S8x2048x1024_0_256_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 256, 0] X slices_S8x2304x1024_S8x2048x1024_0_256_0) (extractStridedSlice S8x2048x1024 ![0, 256, 0] X slices_S8x2304x1024_S8x2048x1024_0_256_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 1, 1, 0] M slices_S8x2x6x1024_S8x1x1x1024_0_1_1_0) shapeCasts_S8x1x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 0, 0] M slices_S8x2x6x1024_S8x1x1x1024_0_1_0_0) shapeCasts_S8x1x1x1024_S8x1024)))

/-- The context rows' projection with its bias. -/
def pCtx (X : FVec Ideal S8x2304x1024 .f32) (M : FVec Ideal S8x2x6x1024 .f32) (G : FVec Ideal S1024 .f32) (W : FVec Ideal S1024x1536 .f32) (B : FVec Ideal S1536 .f32) : FVec Ideal S8x256x1536 .f32 :=
  addf (Host.dotGeneral dot_S8x256x1024_S1024x1536_S8x256x1536_2_0_01_1_n_n none (hCtx X M G) W) (broadcastInDim S8x256x1536 ![0, 1, 2] bcast_S1x1x1536_S8x256x1536_0_1_2 (broadcastInDim S1x1x1536 ![2] bcast_S1536_S1x1x1536_2 B))

/-- The latent rows' projection with its bias. -/
def pLat (X : FVec Ideal S8x2304x1024 .f32) (M : FVec Ideal S8x2x6x1024 .f32) (G : FVec Ideal S1024 .f32) (W : FVec Ideal S1024x1536 .f32) (B : FVec Ideal S1536 .f32) : FVec Ideal S8x2048x1536 .f32 :=
  addf (Host.dotGeneral dot_S8x2048x1024_S1024x1536_S8x2048x1536_2_0_01_1_n_n none (hLat X M G) W) (broadcastInDim S8x2048x1536 ![0, 1, 2] bcast_S1x1x1536_S8x2048x1536_0_1_2 (broadcastInDim S1x1x1536 ![2] bcast_S1536_S1x1x1536_2 B))

/-- A table's entries of the latent rows: one for each axis and angle. -/
def tab (C : FVec Ideal S2304x128 .f32) : FVec Ideal S2048x1x2x16 .f32 :=
  shapeCast _ (extractStridedSlice S2048x1x2x1x16 ![0, 0, 0, 1, 0] (shapeCast _ (extractStridedSlice S2048x64 ![256, 0] C slices_S2304x128_S2048x64_256_0) shapeCasts_S2048x64_S2048x1x2x2x16) slices_S2048x1x2x2x16_S2048x1x2x1x16_0_0_0_1_0) shapeCasts_S2048x1x2x1x16_S2048x1x2x16

/-- A table's entry is that of the first head's lanes, in the second half of the axis. -/
theorem tab_apply (C : FVec Ideal S2304x128 .f32) (r : Fin 2048) (a : Fin 2) (i : Fin 16) :
    tab C (ix4 r 0 a i) = C (ix2 ⟨256 + r.val, by omega⟩ ⟨a.val * 32 + 16 + i.val, by omega⟩) := by
  pointwise [tab]

set_option maxHeartbeats 1000000 in
/-- A context row's entry. -/
theorem hCtx_apply (X : FVec Ideal S8x2304x1024 .f32) (M : FVec Ideal S8x2x6x1024 .f32) (G : FVec Ideal S1024 .f32) (b : Fin 8) (r : Fin 256) (k : Fin 1024) :
    hCtx X M G (ix3 b r k) = normMod (fun k => X (ix3 b ⟨r.val, by omega⟩ k)) (fun k => G (ix1 k)) (fun k => M (ix4 b 0 1 k)) (fun k => M (ix4 b 0 0 k)) k := by
  pointwise [hCtx, normMod]

set_option maxHeartbeats 1000000 in
/-- A latent row's entry. -/
theorem hLat_apply (X : FVec Ideal S8x2304x1024 .f32) (M : FVec Ideal S8x2x6x1024 .f32) (G : FVec Ideal S1024 .f32) (b : Fin 8) (r : Fin 2048) (k : Fin 1024) :
    hLat X M G (ix3 b r k) = normMod (fun k => X (ix3 b ⟨256 + r.val, by omega⟩ k)) (fun k => G (ix1 k)) (fun k => M (ix4 b 1 1 k)) (fun k => M (ix4 b 1 0 k)) k := by
  pointwise [hLat, normMod]

/-- The projection of a row at a column: a row's modulation is the context's on the first 256 rows, the latent's after them. -/
def prow (X : FVec Ideal S8x2304x1024 .f32) (M : FVec Ideal S8x2x6x1024 .f32) (G : FVec Ideal S1024 .f32) (W : FVec Ideal S1024x1536 .f32) (B : FVec Ideal S1536 .f32) (b : Fin 8) (r : Fin 2304) (f : Fin 1536) : EReal :=
  (∑ k, normMod (fun k => X (ix3 b r k)) (fun k => G (ix1 k)) (fun k => M (ix4 b (if r.val < 256 then 0 else 1) 1 k)) (fun k => M (ix4 b (if r.val < 256 then 0 else 1) 0 k)) k * W (ix2 k f)) + B (ix1 f)

/-- A context row's projection. -/
theorem pCtx_apply (X : FVec Ideal S8x2304x1024 .f32) (M : FVec Ideal S8x2x6x1024 .f32) (G : FVec Ideal S1024 .f32) (W : FVec Ideal S1024x1536 .f32) (B : FVec Ideal S1536 .f32) (b : Fin 8) (r : Fin 256) (f : Fin 1536) :
    pCtx X M G W B (ix3 b r f) = prow X M G W B b ⟨r.val, by omega⟩ f := by
  have h : r.val < 256 := r.isLt
  pointwise [pCtx, prow, if_pos h, hCtx_apply]

/-- A latent row's projection. -/
theorem pLat_apply (X : FVec Ideal S8x2304x1024 .f32) (M : FVec Ideal S8x2x6x1024 .f32) (G : FVec Ideal S1024 .f32) (W : FVec Ideal S1024x1536 .f32) (B : FVec Ideal S1536 .f32) (b : Fin 8) (r : Fin 2048) (f : Fin 1536) :
    pLat X M G W B (ix3 b r f) = prow X M G W B b ⟨256 + r.val, by omega⟩ f := by
  have h : ¬ (256 + r.val < 256) := by omega
  pointwise [pLat, prow, if_neg h, hLat_apply]

/-- The rotation of the queries' heads of the latent rows by the two axes' angles. -/
def ropeQ (T : FVec Ideal S8x2048x16x64 .f32) (c s : FVec Ideal S2048x1x2x16 .f32) : FVec Ideal S8x2048x16x64 .f32 :=
  shapeCast _ (concatenate S8x2048x16x2x32 4 [⟨S8x2048x16x2x16, (subf (mulf (extractStridedSlice S8x2048x16x2x16 ![0, 0, 0, 0, 0] (shapeCast _ T shapeCasts_S8x2048x16x64_S8x2048x16x2x32) slices_S8x2048x16x2x32_S8x2048x16x2x16_0_0_0_0_0) (broadcastInDim S8x2048x16x2x16 ![0, 1, 2, 3, 4] bcast_S1x2048x1x2x16_S8x2048x16x2x16_0_1_2_3_4 (broadcastInDim S1x2048x1x2x16 ![1, 2, 3, 4] bcast_S2048x1x2x16_S1x2048x1x2x16_1_2_3_4 c))) (mulf (extractStridedSlice S8x2048x16x2x16 ![0, 0, 0, 0, 16] (shapeCast _ T shapeCasts_S8x2048x16x64_S8x2048x16x2x32) slices_S8x2048x16x2x32_S8x2048x16x2x16_0_0_0_0_16) (broadcastInDim S8x2048x16x2x16 ![0, 1, 2, 3, 4] bcast_S1x2048x1x2x16_S8x2048x16x2x16_0_1_2_3_4 (broadcastInDim S1x2048x1x2x16 ![1, 2, 3, 4] bcast_S2048x1x2x16_S1x2048x1x2x16_1_2_3_4 s))))⟩, ⟨S8x2048x16x2x16, (addf (mulf (extractStridedSlice S8x2048x16x2x16 ![0, 0, 0, 0, 16] (shapeCast _ T shapeCasts_S8x2048x16x64_S8x2048x16x2x32) slices_S8x2048x16x2x32_S8x2048x16x2x16_0_0_0_0_16) (broadcastInDim S8x2048x16x2x16 ![0, 1, 2, 3, 4] bcast_S1x2048x1x2x16_S8x2048x16x2x16_0_1_2_3_4 (broadcastInDim S1x2048x1x2x16 ![1, 2, 3, 4] bcast_S2048x1x2x16_S1x2048x1x2x16_1_2_3_4 c))) (mulf (extractStridedSlice S8x2048x16x2x16 ![0, 0, 0, 0, 0] (shapeCast _ T shapeCasts_S8x2048x16x64_S8x2048x16x2x32) slices_S8x2048x16x2x32_S8x2048x16x2x16_0_0_0_0_0) (broadcastInDim S8x2048x16x2x16 ![0, 1, 2, 3, 4] bcast_S1x2048x1x2x16_S8x2048x16x2x16_0_1_2_3_4 (broadcastInDim S1x2048x1x2x16 ![1, 2, 3, 4] bcast_S2048x1x2x16_S1x2048x1x2x16_1_2_3_4 s))))⟩] concatenates_S8x2048x16x2x16_S8x2048x16x2x16_S8x2048x16x2x32_d4) shapeCasts_S8x2048x16x2x32_S8x2048x16x64

/-- A rotated entry. -/
theorem ropeQ_apply (T : FVec Ideal S8x2048x16x64 .f32) (c s : FVec Ideal S2048x1x2x16 .f32) (b : Fin 8) (r : Fin 2048) (h : Fin 16) (d : Fin 64) :
    ropeQ T c s (ix4 b r h d)
      = if w : d.val % 32 < 16
        then T (ix4 b r h d) * c (ix4 r 0 ⟨d.val / 32, by omega⟩ ⟨d.val % 16, by omega⟩) - T (ix4 b r h ⟨d.val + 16, by omega⟩) * s (ix4 r 0 ⟨d.val / 32, by omega⟩ ⟨d.val % 16, by omega⟩)
        else T (ix4 b r h d) * c (ix4 r 0 ⟨d.val / 32, by omega⟩ ⟨d.val % 16, by omega⟩) + T (ix4 b r h ⟨d.val - 16, by omega⟩) * s (ix4 r 0 ⟨d.val / 32, by omega⟩ ⟨d.val % 16, by omega⟩) := by
  pointwise [ropeQ]
  by_cases w : d.val % 32 < 16
  · have e1 : ∀ u, (⟨d.val / 32 * 32 + d.val % 32, u⟩ : Fin 64) = d := fun u => Fin.ext (by show d.val / 32 * 32 + d.val % 32 = d.val; omega)
    have e2 : ∀ u, (⟨d.val / 32 * 32 + (16 + d.val % 32), u⟩ : Fin 64) = ⟨d.val + 16, by omega⟩ := fun u => Fin.ext (by show d.val / 32 * 32 + (16 + d.val % 32) = d.val + 16; omega)
    have e3 : ∀ u, (⟨d.val % 32, u⟩ : Fin 16) = ⟨d.val % 16, by omega⟩ := fun u => Fin.ext (by show d.val % 32 = d.val % 16; omega)
    simp only [dif_pos w, e1, e2, e3]
  · have e1 : ∀ u, (⟨d.val / 32 * 32 + (16 + (d.val % 32 - 16)), u⟩ : Fin 64) = d := fun u => Fin.ext (by show d.val / 32 * 32 + (16 + (d.val % 32 - 16)) = d.val; omega)
    have e2 : ∀ u, (⟨d.val / 32 * 32 + (d.val % 32 - 16), u⟩ : Fin 64) = ⟨d.val - 16, by omega⟩ := fun u => Fin.ext (by show d.val / 32 * 32 + (d.val % 32 - 16) = d.val - 16; omega)
    have e3 : ∀ u, (⟨d.val % 32 - 16, u⟩ : Fin 16) = ⟨d.val % 16, by omega⟩ := fun u => Fin.ext (by show d.val % 32 - 16 = d.val % 16; omega)
    simp only [dif_neg w, e1, e2, e3]

/-- The rotation of the keys' heads of the latent rows by the two axes' angles. -/
def ropeK (T : FVec Ideal S8x2048x4x64 .f32) (c s : FVec Ideal S2048x1x2x16 .f32) : FVec Ideal S8x2048x4x64 .f32 :=
  shapeCast _ (concatenate S8x2048x4x2x32 4 [⟨S8x2048x4x2x16, (subf (mulf (extractStridedSlice S8x2048x4x2x16 ![0, 0, 0, 0, 0] (shapeCast _ T shapeCasts_S8x2048x4x64_S8x2048x4x2x32) slices_S8x2048x4x2x32_S8x2048x4x2x16_0_0_0_0_0) (broadcastInDim S8x2048x4x2x16 ![0, 1, 2, 3, 4] bcast_S1x2048x1x2x16_S8x2048x4x2x16_0_1_2_3_4 (broadcastInDim S1x2048x1x2x16 ![1, 2, 3, 4] bcast_S2048x1x2x16_S1x2048x1x2x16_1_2_3_4 c))) (mulf (extractStridedSlice S8x2048x4x2x16 ![0, 0, 0, 0, 16] (shapeCast _ T shapeCasts_S8x2048x4x64_S8x2048x4x2x32) slices_S8x2048x4x2x32_S8x2048x4x2x16_0_0_0_0_16) (broadcastInDim S8x2048x4x2x16 ![0, 1, 2, 3, 4] bcast_S1x2048x1x2x16_S8x2048x4x2x16_0_1_2_3_4 (broadcastInDim S1x2048x1x2x16 ![1, 2, 3, 4] bcast_S2048x1x2x16_S1x2048x1x2x16_1_2_3_4 s))))⟩, ⟨S8x2048x4x2x16, (addf (mulf (extractStridedSlice S8x2048x4x2x16 ![0, 0, 0, 0, 16] (shapeCast _ T shapeCasts_S8x2048x4x64_S8x2048x4x2x32) slices_S8x2048x4x2x32_S8x2048x4x2x16_0_0_0_0_16) (broadcastInDim S8x2048x4x2x16 ![0, 1, 2, 3, 4] bcast_S1x2048x1x2x16_S8x2048x4x2x16_0_1_2_3_4 (broadcastInDim S1x2048x1x2x16 ![1, 2, 3, 4] bcast_S2048x1x2x16_S1x2048x1x2x16_1_2_3_4 c))) (mulf (extractStridedSlice S8x2048x4x2x16 ![0, 0, 0, 0, 0] (shapeCast _ T shapeCasts_S8x2048x4x64_S8x2048x4x2x32) slices_S8x2048x4x2x32_S8x2048x4x2x16_0_0_0_0_0) (broadcastInDim S8x2048x4x2x16 ![0, 1, 2, 3, 4] bcast_S1x2048x1x2x16_S8x2048x4x2x16_0_1_2_3_4 (broadcastInDim S1x2048x1x2x16 ![1, 2, 3, 4] bcast_S2048x1x2x16_S1x2048x1x2x16_1_2_3_4 s))))⟩] concatenates_S8x2048x4x2x16_S8x2048x4x2x16_S8x2048x4x2x32_d4) shapeCasts_S8x2048x4x2x32_S8x2048x4x64

/-- A rotated entry. -/
theorem ropeK_apply (T : FVec Ideal S8x2048x4x64 .f32) (c s : FVec Ideal S2048x1x2x16 .f32) (b : Fin 8) (r : Fin 2048) (h : Fin 4) (d : Fin 64) :
    ropeK T c s (ix4 b r h d)
      = if w : d.val % 32 < 16
        then T (ix4 b r h d) * c (ix4 r 0 ⟨d.val / 32, by omega⟩ ⟨d.val % 16, by omega⟩) - T (ix4 b r h ⟨d.val + 16, by omega⟩) * s (ix4 r 0 ⟨d.val / 32, by omega⟩ ⟨d.val % 16, by omega⟩)
        else T (ix4 b r h d) * c (ix4 r 0 ⟨d.val / 32, by omega⟩ ⟨d.val % 16, by omega⟩) + T (ix4 b r h ⟨d.val - 16, by omega⟩) * s (ix4 r 0 ⟨d.val / 32, by omega⟩ ⟨d.val % 16, by omega⟩) := by
  pointwise [ropeK]
  by_cases w : d.val % 32 < 16
  · have e1 : ∀ u, (⟨d.val / 32 * 32 + d.val % 32, u⟩ : Fin 64) = d := fun u => Fin.ext (by show d.val / 32 * 32 + d.val % 32 = d.val; omega)
    have e2 : ∀ u, (⟨d.val / 32 * 32 + (16 + d.val % 32), u⟩ : Fin 64) = ⟨d.val + 16, by omega⟩ := fun u => Fin.ext (by show d.val / 32 * 32 + (16 + d.val % 32) = d.val + 16; omega)
    have e3 : ∀ u, (⟨d.val % 32, u⟩ : Fin 16) = ⟨d.val % 16, by omega⟩ := fun u => Fin.ext (by show d.val % 32 = d.val % 16; omega)
    simp only [dif_pos w, e1, e2, e3]
  · have e1 : ∀ u, (⟨d.val / 32 * 32 + (16 + (d.val % 32 - 16)), u⟩ : Fin 64) = d := fun u => Fin.ext (by show d.val / 32 * 32 + (16 + (d.val % 32 - 16)) = d.val; omega)
    have e2 : ∀ u, (⟨d.val / 32 * 32 + (d.val % 32 - 16), u⟩ : Fin 64) = ⟨d.val - 16, by omega⟩ := fun u => Fin.ext (by show d.val / 32 * 32 + (d.val % 32 - 16) = d.val - 16; omega)
    have e3 : ∀ u, (⟨d.val % 32 - 16, u⟩ : Fin 16) = ⟨d.val % 16, by omega⟩ := fun u => Fin.ext (by show d.val % 32 - 16 = d.val % 16; omega)
    simp only [dif_neg w, e1, e2, e3]

/-- The context rows' queries by heads. -/
def qCtx (P : FVec Ideal S8x256x1536 .f32) : FVec Ideal S8x256x16x64 .f32 :=
  shapeCast _ (extractStridedSlice S8x256x1024 ![0, 0, 0] P slices_S8x256x1536_S8x256x1024_0_0_0) shapeCasts_S8x256x1024_S8x256x16x64

/-- An entry of a head. -/
theorem qCtx_apply (P : FVec Ideal S8x256x1536 .f32) (b : Fin 8) (r : Fin 256) (h : Fin 16) (d : Fin 64) :
    qCtx P (ix4 b r h d) = P (ix3 b r ⟨(h.val * 64 + d.val), by omega⟩) := by
  pointwise [qCtx]

/-- The context rows' keys by heads. -/
def kCtx (P : FVec Ideal S8x256x1536 .f32) : FVec Ideal S8x256x4x64 .f32 :=
  shapeCast _ (extractStridedSlice S8x256x256 ![0, 0, 1024] P slices_S8x256x1536_S8x256x256_0_0_1024) shapeCasts_S8x256x256_S8x256x4x64

/-- An entry of a head. -/
theorem kCtx_apply (P : FVec Ideal S8x256x1536 .f32) (b : Fin 8) (r : Fin 256) (h : Fin 4) (d : Fin 64) :
    kCtx P (ix4 b r h d) = P (ix3 b r ⟨1024 + (h.val * 64 + d.val), by omega⟩) := by
  pointwise [kCtx]

/-- The context rows' values by heads. -/
def vCtx (P : FVec Ideal S8x256x1536 .f32) : FVec Ideal S8x256x4x64 .f32 :=
  shapeCast _ (extractStridedSlice S8x256x256 ![0, 0, 1280] P slices_S8x256x1536_S8x256x256_0_0_1280) shapeCasts_S8x256x256_S8x256x4x64

/-- An entry of a head. -/
theorem vCtx_apply (P : FVec Ideal S8x256x1536 .f32) (b : Fin 8) (r : Fin 256) (h : Fin 4) (d : Fin 64) :
    vCtx P (ix4 b r h d) = P (ix3 b r ⟨1280 + (h.val * 64 + d.val), by omega⟩) := by
  pointwise [vCtx]

/-- The latent rows' queries by heads. -/
def qLat (P : FVec Ideal S8x2048x1536 .f32) : FVec Ideal S8x2048x16x64 .f32 :=
  shapeCast _ (extractStridedSlice S8x2048x1024 ![0, 0, 0] P slices_S8x2048x1536_S8x2048x1024_0_0_0) shapeCasts_S8x2048x1024_S8x2048x16x64

/-- An entry of a head. -/
theorem qLat_apply (P : FVec Ideal S8x2048x1536 .f32) (b : Fin 8) (r : Fin 2048) (h : Fin 16) (d : Fin 64) :
    qLat P (ix4 b r h d) = P (ix3 b r ⟨(h.val * 64 + d.val), by omega⟩) := by
  pointwise [qLat]

/-- The latent rows' keys by heads. -/
def kLat (P : FVec Ideal S8x2048x1536 .f32) : FVec Ideal S8x2048x4x64 .f32 :=
  shapeCast _ (extractStridedSlice S8x2048x256 ![0, 0, 1024] P slices_S8x2048x1536_S8x2048x256_0_0_1024) shapeCasts_S8x2048x256_S8x2048x4x64

/-- An entry of a head. -/
theorem kLat_apply (P : FVec Ideal S8x2048x1536 .f32) (b : Fin 8) (r : Fin 2048) (h : Fin 4) (d : Fin 64) :
    kLat P (ix4 b r h d) = P (ix3 b r ⟨1024 + (h.val * 64 + d.val), by omega⟩) := by
  pointwise [kLat]

/-- The latent rows' values by heads. -/
def vLat (P : FVec Ideal S8x2048x1536 .f32) : FVec Ideal S8x2048x4x64 .f32 :=
  shapeCast _ (extractStridedSlice S8x2048x256 ![0, 0, 1280] P slices_S8x2048x1536_S8x2048x256_0_0_1280) shapeCasts_S8x2048x256_S8x2048x4x64

/-- An entry of a head. -/
theorem vLat_apply (P : FVec Ideal S8x2048x1536 .f32) (b : Fin 8) (r : Fin 2048) (h : Fin 4) (d : Fin 64) :
    vLat P (ix4 b r h d) = P (ix3 b r ⟨1280 + (h.val * 64 + d.val), by omega⟩) := by
  pointwise [vLat]

/-- The queries of all rows, scaled. -/
def qAll (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) : FVec Ideal S8x2304x1024 .f32 :=
  mulf (shapeCast _ (concatenate S8x2304x16x64 1 [⟨S8x256x16x64, (qCtx (pCtx X M G W B))⟩, ⟨S8x2048x16x64, (ropeQ (qLat (pLat X M G W B)) (tab C) (tab S))⟩] concatenates_S8x256x16x64_S8x2048x16x64_S8x2304x16x64_d1) shapeCasts_S8x2304x16x64_S8x2304x1024) (broadcastInDim S8x2304x1024 ![] bcast_S_S8x2304x1024 (constant S_ .f32 0x3E000000#32))

/-- The keys of all rows. -/
def kAll (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) : FVec Ideal S8x2304x4x64 .f32 :=
  concatenate S8x2304x4x64 1 [⟨S8x256x4x64, (kCtx (pCtx X M G W B))⟩, ⟨S8x2048x4x64, (ropeK (kLat (pLat X M G W B)) (tab C) (tab S))⟩] concatenates_S8x256x4x64_S8x2048x4x64_S8x2304x4x64_d1

/-- The values of all rows. -/
def vAll (X : FVec Ideal S8x2304x1024 .f32) (M : FVec Ideal S8x2x6x1024 .f32) (G : FVec Ideal S1024 .f32) (W : FVec Ideal S1024x1536 .f32) (B : FVec Ideal S1536 .f32) : FVec Ideal S8x2304x4x64 .f32 :=
  concatenate S8x2304x4x64 1 [⟨S8x256x4x64, (vCtx (pCtx X M G W B))⟩, ⟨S8x2048x4x64, (vLat (pLat X M G W B))⟩] concatenates_S8x256x4x64_S8x2048x4x64_S8x2304x4x64_d1

/-- Each head laid out as head, zeros, zeros, head. -/
def twice (T : FVec Ideal S8x2304x4x64 .f32) : FVec Ideal S8x2304x1024 .f32 :=
  shapeCast _ ((concatenate S8x2304x4x256 3 [⟨S8x2304x4x64, (T)⟩, ⟨S8x2304x4x64, ((broadcastInDim S8x2304x4x64 ![] bcast_S_S8x2304x4x64 (constant S_ .f32 0x00000000#32)))⟩, ⟨S8x2304x4x64, ((broadcastInDim S8x2304x4x64 ![] bcast_S_S8x2304x4x64 (constant S_ .f32 0x00000000#32)))⟩, ⟨S8x2304x4x64, (T)⟩] concatenates_S8x2304x4x64_S8x2304x4x64_S8x2304x4x64_S8x2304x4x64_S8x2304x4x256_d3)) shapeCasts_S8x2304x4x256_S8x2304x1024

/-- The result: queries, keys twice, values twice. -/
def REF (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) : FVec Ideal S8x2304x3072 .bf16 :=
  truncf .bf16 ((concatenate S8x2304x3072 2 [⟨S8x2304x1024, ((qAll X M G W B C S))⟩, ⟨S8x2304x1024, ((twice (kAll X M G W B C S)))⟩, ⟨S8x2304x1024, ((twice (vAll X M G W B)))⟩] concatenates_S8x2304x1024_S8x2304x1024_S8x2304x1024_S8x2304x3072_d2)) bitsLt_bf16_f32

/-- A row's columns of queries and keys, rotated by a row of the tables: the entry times its cosine, less or plus the axis' other half's entry times its sine. -/
def refRot (p : Fin 1536 → EReal) (c s : Fin 128 → EReal) (f : Fin 1280) : EReal :=
  if w : f.val % 32 < 16
  then p ⟨f.val, by omega⟩ * c ⟨f.val % 64 / 32 * 32 + 16 + f.val % 16, by omega⟩ - p ⟨f.val + 16, by omega⟩ * s ⟨f.val % 64 / 32 * 32 + 16 + f.val % 16, by omega⟩
  else p ⟨f.val, by omega⟩ * c ⟨f.val % 64 / 32 * 32 + 16 + f.val % 16, by omega⟩ + p ⟨f.val - 16, by omega⟩ * s ⟨f.val % 64 / 32 * 32 + 16 + f.val % 16, by omega⟩

/-- The columns of queries and keys of all rows: the latent rows' are rotated. -/
def cols (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) (b : Fin 8) (r : Fin 2304) (f : Fin 1280) : EReal :=
  if r.val < 256 then prow X M G W B b r ⟨f.val, by omega⟩ else refRot (prow X M G W B b r) (fun l => C (ix2 r l)) (fun l => S (ix2 r l)) f

/-- A rotated query. -/
theorem ropeQ_cols (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) (b : Fin 8) (r : Fin 2304) (hr : ¬ r.val < 256) (h : Fin 16) (d : Fin 64) (u) (f : Fin 1280) (hf : f.val = h.val * 64 + d.val) :
    ropeQ (qLat (pLat X M G W B)) (tab C) (tab S) (ix4 b ⟨r.val - 256, u⟩ h d) = cols X M G W B C S b r f := by
  have e0 : ∀ w, (⟨256 + (r.val - 256), w⟩ : Fin 2304) = r := fun w => Fin.ext (by show 256 + (r.val - 256) = r.val; omega)
  have e1 : ∀ w, (⟨d.val / 32 * 32 + 16 + d.val % 16, w⟩ : Fin 128) = ⟨f.val % 64 / 32 * 32 + 16 + f.val % 16, by omega⟩ := fun w => Fin.ext (by dsimp only; omega)
  have e2 : ∀ w, (⟨h.val * 64 + d.val, w⟩ : Fin 1536) = ⟨f.val, by omega⟩ := fun w => Fin.ext (by dsimp only; omega)
  rw [ropeQ_apply]
  simp only [qLat_apply, tab_apply, pLat_apply, e0, e1, e2]
  unfold cols refRot
  rw [if_neg hr]
  by_cases w : d.val % 32 < 16
  · rw [dif_pos w, dif_pos (show f.val % 32 < 16 by omega)]
    have e3 : ∀ w, (⟨h.val * 64 + (d.val + 16), w⟩ : Fin 1536) = ⟨f.val + 16, by omega⟩ := fun w => Fin.ext (by dsimp only; omega)
    simp only [e3]
  · rw [dif_neg w, dif_neg (show ¬ f.val % 32 < 16 by omega)]
    have e3 : ∀ w, (⟨h.val * 64 + (d.val - 16), w⟩ : Fin 1536) = ⟨f.val - 16, by omega⟩ := fun w => Fin.ext (by dsimp only; omega)
    simp only [e3]

/-- A rotated key. -/
theorem ropeK_cols (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) (b : Fin 8) (r : Fin 2304) (hr : ¬ r.val < 256) (h : Fin 4) (d : Fin 64) (u) (f : Fin 1280) (hf : f.val = 1024 + (h.val * 64 + d.val)) :
    ropeK (kLat (pLat X M G W B)) (tab C) (tab S) (ix4 b ⟨r.val - 256, u⟩ h d) = cols X M G W B C S b r f := by
  have e0 : ∀ w, (⟨256 + (r.val - 256), w⟩ : Fin 2304) = r := fun w => Fin.ext (by show 256 + (r.val - 256) = r.val; omega)
  have e1 : ∀ w, (⟨d.val / 32 * 32 + 16 + d.val % 16, w⟩ : Fin 128) = ⟨f.val % 64 / 32 * 32 + 16 + f.val % 16, by omega⟩ := fun w => Fin.ext (by dsimp only; omega)
  have e2 : ∀ w, (⟨1024 + (h.val * 64 + d.val), w⟩ : Fin 1536) = ⟨f.val, by omega⟩ := fun w => Fin.ext (by dsimp only; omega)
  rw [ropeK_apply]
  simp only [kLat_apply, tab_apply, pLat_apply, e0, e1, e2]
  unfold cols refRot
  rw [if_neg hr]
  by_cases w : d.val % 32 < 16
  · rw [dif_pos w, dif_pos (show f.val % 32 < 16 by omega)]
    have e3 : ∀ w, (⟨1024 + (h.val * 64 + (d.val + 16)), w⟩ : Fin 1536) = ⟨f.val + 16, by omega⟩ := fun w => Fin.ext (by dsimp only; omega)
    simp only [e3]
  · rw [dif_neg w, dif_neg (show ¬ f.val % 32 < 16 by omega)]
    have e3 : ∀ w, (⟨1024 + (h.val * 64 + (d.val - 16)), w⟩ : Fin 1536) = ⟨f.val - 16, by omega⟩ := fun w => Fin.ext (by dsimp only; omega)
    simp only [e3]

/-- The queries at an entry. -/
theorem qAll_apply (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) (b : Fin 8) (r : Fin 2304) (f : Fin 1024) :
    qAll X M G W B C S (ix3 b r f) = cols X M G W B C S b r ⟨f.val, by omega⟩ * Ideal.ofBits .f32 0x3E000000#32 := by
  pointwise [qAll]
  by_cases h : r.val < 256
  · rw [dif_pos h, qCtx_apply, pCtx_apply]
    unfold cols
    rw [if_pos h]
    have e2 : ∀ w, (⟨f.val / 64 * 64 + f.val % 64, w⟩ : Fin 1536) = ⟨f.val, by omega⟩ := fun w => Fin.ext (by dsimp only; omega)
    simp only [e2]
  · rw [dif_neg h, ropeQ_cols X M G W B C S b r h _ _ _ ⟨f.val, by omega⟩ (by dsimp only; omega)]

/-- The keys at an entry. -/
theorem kAll_apply (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) (b : Fin 8) (r : Fin 2304) (h : Fin 4) (d : Fin 64) :
    kAll X M G W B C S (ix4 b r h d) = cols X M G W B C S b r ⟨1024 + (h.val * 64 + d.val), by omega⟩ := by
  pointwise [kAll]
  by_cases w : r.val < 256
  · rw [dif_pos w, kCtx_apply, pCtx_apply]
    unfold cols
    rw [if_pos w]
  · rw [dif_neg w, ropeK_cols X M G W B C S b r w _ _ _ ⟨1024 + (h.val * 64 + d.val), by omega⟩ rfl]

/-- The values at an entry. -/
theorem vAll_apply (X : FVec Ideal S8x2304x1024 .f32) (M : FVec Ideal S8x2x6x1024 .f32) (G : FVec Ideal S1024 .f32) (W : FVec Ideal S1024x1536 .f32) (B : FVec Ideal S1536 .f32) (b : Fin 8) (r : Fin 2304) (h : Fin 4) (d : Fin 64) :
    vAll X M G W B (ix4 b r h d) = prow X M G W B b r ⟨1280 + (h.val * 64 + d.val), by omega⟩ := by
  pointwise [vAll]
  by_cases w : r.val < 256
  · rw [dif_pos w, vCtx_apply, pCtx_apply]
  · have e0 : ∀ w, (⟨256 + (r.val - 256), w⟩ : Fin 2304) = r := fun w => Fin.ext (by show 256 + (r.val - 256) = r.val; omega)
    rw [dif_neg w, vLat_apply, pLat_apply, e0]

/-- A head's four quarters: the head in the first and the last, zeros between. -/
theorem twice_apply (T : FVec Ideal S8x2304x4x64 .f32) (b : Fin 8) (r : Fin 2304) (e : Fin 1024) :
    twice T (ix3 b r e) = if e.val % 256 / 64 = 0 ∨ e.val % 256 / 64 = 3 then T (ix4 b r ⟨e.val / 256, by omega⟩ ⟨e.val % 64, by omega⟩) else 0 := by
  pointwise [twice]
  by_cases w : e.val % 256 < 64
  · rw [dif_pos w, if_pos (Or.inl (by omega))]
    exact congrArg (fun i => T (ix4 b r ⟨e.val / 256, by omega⟩ i)) (Fin.ext (by dsimp only; omega))
  · rw [dif_neg w]
    by_cases w' : e.val % 256 - 64 < 64
    · rw [dif_pos w', if_neg (by omega)]
    · rw [dif_neg w']
      by_cases w'' : e.val % 256 - 64 - 64 < 64
      · rw [dif_pos w'', if_neg (by omega)]
      · rw [dif_neg w'', if_pos (Or.inr (by omega))]
        exact congrArg (fun i => T (ix4 b r ⟨e.val / 256, by omega⟩ i)) (Fin.ext (by dsimp only; omega))

/-- The result at an entry. -/
theorem REF_apply (X : FVec Ideal S8x2304x1024 .f32) (M : FVec Ideal S8x2x6x1024 .f32) (G : FVec Ideal S1024 .f32) (W : FVec Ideal S1024x1536 .f32) (B : FVec Ideal S1536 .f32) (C S : FVec Ideal S2304x128 .f32) (b : Fin 8) (r : Fin 2304) (f : Fin 3072) :
    REF X M G W B C S (ix3 b r f) = if h : f.val < 1024 then qAll X M G W B C S (ix3 b r ⟨f.val, h⟩)
      else if h' : f.val < 2048 then twice (kAll X M G W B C S) (ix3 b r ⟨f.val - 1024, by omega⟩)
      else twice (vAll X M G W B) (ix3 b r ⟨f.val - 2048, by omega⟩) := by
  pointwise [REF]
  by_cases h : f.val < 1024
  · rw [dif_pos h, dif_pos h]
  · rw [dif_neg h, dif_neg h]
    by_cases h' : f.val < 2048
    · rw [dif_pos (show f.val - 1024 < 1024 by omega), dif_pos h']
    · have e : ∀ w, (⟨f.val - 1024 - 1024, w⟩ : Fin 1024) = ⟨f.val - 2048, by omega⟩ := fun w => Fin.ext (by dsimp only; omega)
      rw [dif_neg (show ¬ f.val - 1024 < 1024 by omega), dif_neg h', e]

end Cert.Reference5Ideal.Qkv

end
-- ==== Proof.QkvKernel.lean ====
/- What each store of the query, key and value projection holds, from the projected rows and the tables. -/
module

public import proofs.«01_k».proof.Proof.InProj
public import proofs.«01_k».proof.Proof.Gen.Kernel5Ideal.Skeleton

@[expose] public section

set_option maxRecDepth 16384

noncomputable section

open Idealize.ShloMosaic Cert.Norm

namespace Cert.Qkv

/-- A row's column of queries or keys, turned by the lanes' cosines and sines: the other half of its axis is 16 columns further or back. -/
def turn (p : Fin 1536 → EReal) (c s : Fin 128 → EReal) (f : Fin 1280) : EReal :=
  p ⟨f.val, by omega⟩ * c ⟨f.val % 128, by omega⟩
    + (if w : f.val % 32 < 16 then p ⟨f.val + 16, by omega⟩ else p ⟨f.val - 16, by omega⟩) * s ⟨f.val % 128, by omega⟩

/-- A head's 64 columns laid out in 256: in the first and the last quarter, zeros between. -/
def spread (T : Fin 256 → EReal) (e : Fin 1024) : EReal :=
  if e.val % 256 / 64 = 0 ∨ e.val % 256 / 64 = 3 then T ⟨e.val / 256 * 64 + e.val % 64, by omega⟩ else 0

/-- The packed row: scaled queries `q`, keys `k` spread out, values `v` spread out. -/
def pack (q : Fin 1024 → EReal) (k v : Fin 256 → EReal) (f : Fin 3072) : EReal :=
  if h : f.val < 1024 then q ⟨f.val, h⟩ * Ideal.ofBits .f32 0x3E000000#32
  else if h' : f.val < 2048 then spread k ⟨f.val - 1024, by omega⟩ else spread v ⟨f.val - 2048, by omega⟩

/-- A choice by a bit is the choice by what the bit says. -/
theorem sel_of (k : BitVec 1) (p : Prop) [Decidable p] (h : k = if p then 1#1 else 0#1) (a b : EReal) : Scalar.select k a b = if p then a else b := by
  subst h
  by_cases w : p
  · simp [Scalar.select, w]
  · simp [Scalar.select, w]

/-- A turned entry, in the form a block's 128 lanes have it. -/
theorem turn_of (p : Fin 1536 → EReal) (c s : Fin 128 → EReal) (f : Fin 1280) (l : Fin 128) (x a b : Fin 1536) (k : BitVec 1)
    (hf : f.val % 128 = l.val) (hx : x.val = f.val) (ha : l.val % 32 < 16 → a.val = f.val + 16) (hb : ¬ l.val % 32 < 16 → b.val = f.val - 16)
    (hk : k = if l.val % 32 < 16 then 1#1 else 0#1) :
    p x * c l + Scalar.select k (p a) (p b) * s l = turn p c s f := by
  rw [sel_of k _ hk]
  unfold turn
  have e0 : (⟨f.val, by omega⟩ : Fin 1536) = x := Fin.ext hx.symm
  have e1 : (⟨f.val % 128, by omega⟩ : Fin 128) = l := Fin.ext hf
  rw [e0, e1]
  by_cases w : l.val % 32 < 16
  · have e2 : (⟨f.val + 16, by omega⟩ : Fin 1536) = a := Fin.ext (ha w).symm
    rw [if_pos w, dif_pos (show f.val % 32 < 16 by omega), e2]
  · have e2 : (⟨f.val - 16, by omega⟩ : Fin 1536) = b := Fin.ext (hb w).symm
    rw [if_neg w, dif_neg (show ¬ f.val % 32 < 16 by omega), e2]

/-- A packed row's queries. -/
theorem pack_q (q : Fin 1024 → EReal) (k v : Fin 256 → EReal) (f : Fin 3072) (h : f.val < 1024) : pack q k v f = q ⟨f.val, h⟩ * Ideal.ofBits .f32 0x3E000000#32 := by
  unfold pack
  rw [dif_pos h]

/-- A packed row's keys. -/
theorem pack_k (q : Fin 1024 → EReal) (k v : Fin 256 → EReal) (f : Fin 3072) (h : 1024 ≤ f.val) (h' : f.val < 2048) : pack q k v f = spread k ⟨f.val - 1024, by omega⟩ := by
  unfold pack
  rw [dif_neg (by omega), dif_pos h']

/-- A packed row's values. -/
theorem pack_v (q : Fin 1024 → EReal) (k v : Fin 256 → EReal) (f : Fin 3072) (h : 2048 ≤ f.val) : pack q k v f = spread v ⟨f.val - 2048, by omega⟩ := by
  unfold pack
  rw [dif_neg (by omega), dif_neg (by omega)]

/-- A quarter of a head in the lower lanes of a block, zeros in the upper. -/
theorem spread_lo (T : Fin 256 → EReal) (e : Fin 1024) (l : ℕ) (k : BitVec 1) (A : EReal) (hk : k = if l < 64 then 1#1 else 0#1)
    (hl : l < 64 ↔ e.val % 256 / 64 = 0 ∨ e.val % 256 / 64 = 3) (hA : l < 64 → A = T ⟨e.val / 256 * 64 + e.val % 64, by omega⟩) :
    Scalar.select k A 0 = spread T e := by
  rw [sel_of k _ hk]
  unfold spread
  by_cases w : l < 64
  · rw [if_pos w, if_pos (hl.1 w), hA w]
  · rw [if_neg w, if_neg (fun h => w (hl.2 h))]

/-- A quarter of a head in the upper lanes of a block, zeros in the lower. -/
theorem spread_hi (T : Fin 256 → EReal) (e : Fin 1024) (l : ℕ) (k : BitVec 1) (A : EReal) (hk : k = if l < 64 then 1#1 else 0#1)
    (hl : ¬ l < 64 ↔ e.val % 256 / 64 = 0 ∨ e.val % 256 / 64 = 3) (hA : ¬ l < 64 → A = T ⟨e.val / 256 * 64 + e.val % 64, by omega⟩) :
    Scalar.select k 0 A = spread T e := by
  rw [sel_of k _ hk]
  unfold spread
  by_cases w : l < 64
  · rw [if_pos w, if_neg (fun h => (hl.2 h) w)]
  · rw [if_neg w, if_pos (hl.1 w), hA w]

end Cert.Qkv

namespace Cert.Kernel5Ideal.Qkv

open Cert.Kernel5Ideal Cert.Kernel5Ideal.Gen Cert.Qkv

set_option maxHeartbeats 2000000 in
/-- Lanes 0 to 127 of a packed row: queries. -/
theorem piece0 (P : FVec Ideal S256x1536 .f32) (C S : FVec Ideal S256x128 .f32) (r : Fin 256) (l : Fin 128) :
    (k0_pay8 (F := Ideal) S (k0_pay5 P) (k0_pay6 P C) k0_pay7 : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨0 + l.val, by omega⟩ := by
  pointwise [k0_pay8, k0_pay5, k0_pay6, k0_pay7]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨l.val, by omega⟩ l _ _ _ _
    (by dsimp only; omega) rfl (by intro w; dsimp only; omega) (by intro w; dsimp only; omega) (by revert l; decide +kernel))

set_option maxHeartbeats 2000000 in
/-- Lanes 128 to 255 of a packed row: queries. -/
theorem piece1 (P : FVec Ideal S256x1536 .f32) (C S : FVec Ideal S256x128 .f32) (r : Fin 256) (l : Fin 128) :
    (k0_pay12 (F := Ideal) S (k0_pay9 P) (k0_pay10 P C) k0_pay11 (Scalar.select (Scalar.cmpi .eq 2#32 0#32) 1#32 2#32) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨128 + l.val, by omega⟩ := by
  pointwise [k0_pay12, k0_pay9, k0_pay10, k0_pay11]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨128 + l.val, by omega⟩ l _ _ _ _
    (by dsimp only; omega) rfl (by intro w; dsimp only; omega) (by intro w; dsimp only; omega) (by revert l; decide +kernel))

set_option maxHeartbeats 2000000 in
/-- Lanes 256 to 383 of a packed row: queries. -/
theorem piece2 (P : FVec Ideal S256x1536 .f32) (C S : FVec Ideal S256x128 .f32) (r : Fin 256) (l : Fin 128) :
    (k0_pay17 (F := Ideal) S (k0_pay13 P) (k0_pay14 P C) (iota .tc S256x128 32 [1] iota_S256x128_d1_w32) 16#32 k0_pay15 k0_pay16 (Scalar.subi (Scalar.extui (Scalar.cmpi .sgt 16#32 0#32)) (Scalar.extui (Scalar.cmpi .slt 16#32 0#32))) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨256 + l.val, by omega⟩ := by
  pointwise [k0_pay17, k0_pay13, k0_pay14, k0_pay15, k0_pay16]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨256 + l.val, by omega⟩ l _ _ _ _
    (by dsimp only; omega) rfl (by intro w; dsimp only; omega) (by intro w; dsimp only; omega) (by revert l; decide +kernel))

set_option maxHeartbeats 2000000 in
/-- Lanes 384 to 511 of a packed row: queries. -/
theorem piece3 (P : FVec Ideal S256x1536 .f32) (C S : FVec Ideal S256x128 .f32) (r : Fin 256) (l : Fin 128) :
    (k0_pay22 (F := Ideal) (k0_pay19 P C) (k0_pay21 S (k0_pay18 P) (iota .tc S256x128 32 [1] iota_S256x128_d1_w32) 16#32 k0_pay20) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨384 + l.val, by omega⟩ := by
  pointwise [k0_pay22, k0_pay19, k0_pay21, k0_pay18, k0_pay20]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨384 + l.val, by omega⟩ l _ _ _ _
    (by dsimp only; omega) rfl (by intro w; dsimp only; omega) (by intro w; dsimp only; omega) (by revert l; decide +kernel))

set_option maxHeartbeats 2000000 in
/-- Lanes 512 to 639 of a packed row: queries. -/
theorem piece4 (P : FVec Ideal S256x1536 .f32) (C S : FVec Ideal S256x128 .f32) (r : Fin 256) (l : Fin 128) :
    (k0_pay28 (F := Ideal) S (k0_pay23 P) (k0_pay24 P C) (Scalar.select (Scalar.cmpi .eq 2#32 0#32) 1#32 2#32) k0_pay25 k0_pay26 k0_pay27 0#32 : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨512 + l.val, by omega⟩ := by
  pointwise [k0_pay28, k0_pay23, k0_pay24, k0_pay25, k0_pay26, k0_pay27]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨512 + l.val, by omega⟩ l _ _ _ _
    (by dsimp only; omega) rfl (by intro w; dsimp only; omega) (by intro w; dsimp only; omega) (by revert l; decide +kernel))

set_option maxHeartbeats 2000000 in
/-- Lanes 640 to 767 of a packed row: queries. -/
theorem piece5 (P : FVec Ideal S256x1536 .f32) (C S : FVec Ideal S256x128 .f32) (r : Fin 256) (l : Fin 128) :
    (k0_pay33 (F := Ideal) S (k0_pay29 P) (k0_pay30 P C) k0_pay31 k0_pay32 1#32 : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨640 + l.val, by omega⟩ := by
  pointwise [k0_pay33, k0_pay29, k0_pay30, k0_pay31, k0_pay32]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨640 + l.val, by omega⟩ l _ _ _ _
    (by dsimp only; omega) rfl (by intro w; dsimp only; omega) (by intro w; dsimp only; omega) (by revert l; decide +kernel))

set_option maxHeartbeats 2000000 in
/-- Lanes 768 to 895 of a packed row: queries. -/
theorem piece6 (P : FVec Ideal S256x1536 .f32) (C S : FVec Ideal S256x128 .f32) (r : Fin 256) (l : Fin 128) :
    (k0_pay40 (F := Ideal) (k0_pay39 S (k0_pay34 P) (k0_pay35 P C) (iota .tc S256x128 32 [1] iota_S256x128_d1_w32) 16#32 k0_pay36 k0_pay37 k0_pay38) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨768 + l.val, by omega⟩ := by
  pointwise [k0_pay40, k0_pay39, k0_pay34, k0_pay35, k0_pay36, k0_pay37, k0_pay38]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨768 + l.val, by omega⟩ l _ _ _ _
    (by dsimp only; omega) rfl (by intro w; dsimp only; omega) (by intro w; dsimp only; omega) (by revert l; decide +kernel))

set_option maxHeartbeats 2000000 in
/-- Lanes 896 to 1023 of a packed row: queries. -/
theorem piece7 (P : FVec Ideal S256x1536 .f32) (C S : FVec Ideal S256x128 .f32) (r : Fin 256) (l : Fin 128) :
    (k0_pay44 (F := Ideal) S (k0_pay41 P) (k0_pay42 P C) k0_pay43 0#32 : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨896 + l.val, by omega⟩ := by
  pointwise [k0_pay44, k0_pay41, k0_pay42, k0_pay43]
  refine Eq.trans ?_ (pack_q _ _ _ _ (by dsimp only; omega)).symm
  exact congrArg (· * Ideal.ofBits .f32 0x3E000000#32) (turn_of (fun i => P (ix2 r i)) (fun i => C (ix2 r i)) (fun i => S (ix2 r i)) ⟨896 + l.val, by omega⟩ l _ _ _ _
    (by dsimp only; omega) rfl (by intro w; dsimp only; omega) (by intro w; dsimp only; omega) (by revert l; decide +kernel))

set_option maxHeartbeats 2000000 in
/-- Lanes 1024 to 1151 of a packed row: keys. -/
theorem piece8 (P : FVec Ideal S256x1536 .f32) (C S : FVec Ideal S256x128 .f32) (r : Fin 256) (l : Fin 128) :
    (k0_pay52 (F := Ideal) S k0_pay4 (k0_pay45 P) (k0_pay46 P C) (k0_pay47) (Scalar.select (Scalar.cmpi .eq 2#32 0#32) 1#32 2#32) (k0_pay48) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1024 + l.val, by omega⟩ := by
  pointwise [k0_pay52, k0_pay4, k0_pay45, k0_pay46, k0_pay47, k0_pay48, k0_pay49, k0_pay51]
  refine Eq.trans ?_ (pack_k _ _ _ _ (by dsimp only; omega) (by dsimp only; omega)).symm
  refine spread_lo _ _ l.val _ _ (by revert l; decide +kernel) (by dsimp only; omega) fun w => ?_
  exact turn_of (fun i => P (ix2 r i)) (fun i => C (ix2 r i)) (fun i => S (ix2 r i)) ⟨1024 + ((1024 + l.val - 1024) / 256 * 64 + (1024 + l.val - 1024) % 64), by omega⟩ l _ _ _ _
    (by dsimp only; omega) (by dsimp only; omega) (by intro w; dsimp only at *; omega) (by intro w; dsimp only at *; omega) (by clear w; revert l; decide +kernel)

set_option maxHeartbeats 2000000 in
/-- Lanes 1152 to 1279 of a packed row: keys. -/
theorem piece9 (P : FVec Ideal S256x1536 .f32) (C S : FVec Ideal S256x128 .f32) (r : Fin 256) (l : Fin 128) :
    (k0_pay53 (F := Ideal) S k0_pay4 (k0_pay45 P) (k0_pay46 P C) (k0_pay47) (Scalar.select (Scalar.cmpi .eq 2#32 0#32) 1#32 2#32) (k0_pay48) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1152 + l.val, by omega⟩ := by
  pointwise [k0_pay53, k0_pay4, k0_pay45, k0_pay46, k0_pay47, k0_pay48, k0_pay51, k0_pay50, k0_pay49]
  refine Eq.trans ?_ (pack_k _ _ _ _ (by dsimp only; omega) (by dsimp only; omega)).symm
  refine spread_hi _ _ l.val _ _ (by revert l; decide +kernel) (by dsimp only; omega) fun w => ?_
  exact turn_of (fun i => P (ix2 r i)) (fun i => C (ix2 r i)) (fun i => S (ix2 r i)) ⟨1024 + ((1152 + l.val - 1024) / 256 * 64 + (1152 + l.val - 1024) % 64), by omega⟩ ⟨(l.val + 128 - 64) % 128, by omega⟩ _ _ _ _
    (by dsimp only; omega) (by dsimp only; omega) (by intro w; dsimp only at *; omega) (by intro w; dsimp only at *; omega) (by clear w; revert l; decide +kernel)

set_option maxHeartbeats 2000000 in
/-- Lanes 1280 to 1407 of a packed row: keys. -/
theorem piece10 (P : FVec Ideal S256x1536 .f32) (C S : FVec Ideal S256x128 .f32) (r : Fin 256) (l : Fin 128) :
    (k0_pay54 (F := Ideal) S k0_pay4 (k0_pay45 P) (k0_pay46 P C) (k0_pay47) (Scalar.select (Scalar.cmpi .eq 2#32 0#32) 1#32 2#32) (k0_pay48) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1280 + l.val, by omega⟩ := by
  pointwise [k0_pay54, k0_pay4, k0_pay45, k0_pay46, k0_pay47, k0_pay48, k0_pay50, k0_pay51, k0_pay49]
  refine Eq.trans ?_ (pack_k _ _ _ _ (by dsimp only; omega) (by dsimp only; omega)).symm
  refine spread_lo _ _ l.val _ _ (by revert l; decide +kernel) (by dsimp only; omega) fun w => ?_
  exact turn_of (fun i => P (ix2 r i)) (fun i => C (ix2 r i)) (fun i => S (ix2 r i)) ⟨1024 + ((1280 + l.val - 1024) / 256 * 64 + (1280 + l.val - 1024) % 64), by omega⟩ ⟨(l.val + 128 - 64) % 128, by omega⟩ _ _ _ _
    (by dsimp only; omega) (by dsimp only; omega) (by intro w; dsimp only at *; omega) (by intro w; dsimp only at *; omega) (by clear w; revert l; decide +kernel)

set_option maxHeartbeats 2000000 in
/-- Lanes 1408 to 1535 of a packed row: keys. -/
theorem piece11 (P : FVec Ideal S256x1536 .f32) (C S : FVec Ideal S256x128 .f32) (r : Fin 256) (l : Fin 128) :
    (k0_pay56 (k0_pay55 S k0_pay4 (k0_pay45 P) (k0_pay46 P C) (k0_pay47) (Scalar.select (Scalar.cmpi .eq 2#32 0#32) 1#32 2#32) (k0_pay48)) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1408 + l.val, by omega⟩ := by
  pointwise [k0_pay56, k0_pay55, k0_pay4, k0_pay45, k0_pay46, k0_pay47, k0_pay48, k0_pay51, k0_pay49]
  refine Eq.trans ?_ (pack_k _ _ _ _ (by dsimp only; omega) (by dsimp only; omega)).symm
  refine spread_hi _ _ l.val _ _ (by revert l; decide +kernel) (by dsimp only; omega) fun w => ?_
  exact turn_of (fun i => P (ix2 r i)) (fun i => C (ix2 r i)) (fun i => S (ix2 r i)) ⟨1024 + ((1408 + l.val - 1024) / 256 * 64 + (1408 + l.val - 1024) % 64), by omega⟩ l _ _ _ _
    (by dsimp only; omega) (by dsimp only; omega) (by intro w; dsimp only at *; omega) (by intro w; dsimp only at *; omega) (by clear w; revert l; decide +kernel)

set_option maxHeartbeats 2000000 in
/-- Lanes 1536 to 1663 of a packed row: keys. -/
theorem piece12 (P : FVec Ideal S256x1536 .f32) (C S : FVec Ideal S256x128 .f32) (r : Fin 256) (l : Fin 128) :
    (k0_pay65 (F := Ideal) S k0_pay4 (k0_pay57 P) (k0_pay58 P C) (k0_pay59) (k0_pay60) (k0_pay61) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1536 + l.val, by omega⟩ := by
  pointwise [k0_pay65, k0_pay4, k0_pay57, k0_pay58, k0_pay59, k0_pay60, k0_pay61, k0_pay62, k0_pay64]
  refine Eq.trans ?_ (pack_k _ _ _ _ (by dsimp only; omega) (by dsimp only; omega)).symm
  refine spread_lo _ _ l.val _ _ (by revert l; decide +kernel) (by dsimp only; omega) fun w => ?_
  exact turn_of (fun i => P (ix2 r i)) (fun i => C (ix2 r i)) (fun i => S (ix2 r i)) ⟨1024 + ((1536 + l.val - 1024) / 256 * 64 + (1536 + l.val - 1024) % 64), by omega⟩ l _ _ _ _
    (by dsimp only; omega) (by dsimp only; omega) (by intro w; dsimp only at *; omega) (by intro w; dsimp only at *; omega) (by clear w; revert l; decide +kernel)

set_option maxHeartbeats 2000000 in
/-- Lanes 1664 to 1791 of a packed row: keys. -/
theorem piece13 (P : FVec Ideal S256x1536 .f32) (C S : FVec Ideal S256x128 .f32) (r : Fin 256) (l : Fin 128) :
    (k0_pay66 (F := Ideal) S k0_pay4 (k0_pay57 P) (k0_pay58 P C) (k0_pay59) (k0_pay60) (k0_pay61) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1664 + l.val, by omega⟩ := by
  pointwise [k0_pay66, k0_pay4, k0_pay57, k0_pay58, k0_pay59, k0_pay60, k0_pay61, k0_pay64, k0_pay63, k0_pay62]
  refine Eq.trans ?_ (pack_k _ _ _ _ (by dsimp only; omega) (by dsimp only; omega)).symm
  refine spread_hi _ _ l.val _ _ (by revert l; decide +kernel) (by dsimp only; omega) fun w => ?_
  exact turn_of (fun i => P (ix2 r i)) (fun i => C (ix2 r i)) (fun i => S (ix2 r i)) ⟨1024 + ((1664 + l.val - 1024) / 256 * 64 + (1664 + l.val - 1024) % 64), by omega⟩ ⟨(l.val + 128 - 64) % 128, by omega⟩ _ _ _ _
    (by dsimp only; omega) (by dsimp only; omega) (by intro w; dsimp only at *; omega) (by intro w; dsimp only at *; omega) (by clear w; revert l; decide +kernel)

set_option maxHeartbeats 2000000 in
/-- Lanes 1792 to 1919 of a packed row: keys. -/
theorem piece14 (P : FVec Ideal S256x1536 .f32) (C S : FVec Ideal S256x128 .f32) (r : Fin 256) (l : Fin 128) :
    (k0_pay67 (F := Ideal) S k0_pay4 (k0_pay57 P) (k0_pay58 P C) (k0_pay59) (k0_pay60) (k0_pay61) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1792 + l.val, by omega⟩ := by
  pointwise [k0_pay67, k0_pay4, k0_pay57, k0_pay58, k0_pay59, k0_pay60, k0_pay61, k0_pay63, k0_pay64, k0_pay62]
  refine Eq.trans ?_ (pack_k _ _ _ _ (by dsimp only; omega) (by dsimp only; omega)).symm
  refine spread_lo _ _ l.val _ _ (by revert l; decide +kernel) (by dsimp only; omega) fun w => ?_
  exact turn_of (fun i => P (ix2 r i)) (fun i => C (ix2 r i)) (fun i => S (ix2 r i)) ⟨1024 + ((1792 + l.val - 1024) / 256 * 64 + (1792 + l.val - 1024) % 64), by omega⟩ ⟨(l.val + 128 - 64) % 128, by omega⟩ _ _ _ _
    (by dsimp only; omega) (by dsimp only; omega) (by intro w; dsimp only at *; omega) (by intro w; dsimp only at *; omega) (by clear w; revert l; decide +kernel)

set_option maxHeartbeats 2000000 in
/-- Lanes 1920 to 2047 of a packed row: keys. -/
theorem piece15 (P : FVec Ideal S256x1536 .f32) (C S : FVec Ideal S256x128 .f32) (r : Fin 256) (l : Fin 128) :
    (k0_pay68 (F := Ideal) S k0_pay4 (k0_pay57 P) (k0_pay58 P C) (k0_pay59) (k0_pay60) (k0_pay61) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨1920 + l.val, by omega⟩ := by
  pointwise [k0_pay68, k0_pay4, k0_pay57, k0_pay58, k0_pay59, k0_pay60, k0_pay61, k0_pay64, k0_pay62]
  refine Eq.trans ?_ (pack_k _ _ _ _ (by dsimp only; omega) (by dsimp only; omega)).symm
  refine spread_hi _ _ l.val _ _ (by revert l; decide +kernel) (by dsimp only; omega) fun w => ?_
  exact turn_of (fun i => P (ix2 r i)) (fun i => C (ix2 r i)) (fun i => S (ix2 r i)) ⟨1024 + ((1920 + l.val - 1024) / 256 * 64 + (1920 + l.val - 1024) % 64), by omega⟩ l _ _ _ _
    (by dsimp only; omega) (by dsimp only; omega) (by intro w; dsimp only at *; omega) (by intro w; dsimp only at *; omega) (by clear w; revert l; decide +kernel)

set_option maxHeartbeats 2000000 in
/-- Lanes 2048 to 2175 of a packed row: values. -/
theorem piece16 (P : FVec Ideal S256x1536 .f32) (C S : FVec Ideal S256x128 .f32) (r : Fin 256) (l : Fin 128) :
    (k0_pay75 (F := Ideal) (k0_pay72 P k0_pay4) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2048 + l.val, by omega⟩ := by
  pointwise [k0_pay75, k0_pay72, k0_pay4, k0_pay69, k0_pay71]
  refine Eq.trans ?_ (pack_v _ _ _ _ (by dsimp only; omega)).symm
  refine spread_lo _ _ l.val _ _ (by revert l; decide +kernel) (by dsimp only; omega) fun w => ?_
  exact congrArg (fun i => P (ix2 r i)) (Fin.ext (by dsimp only; omega))

set_option maxHeartbeats 2000000 in
/-- Lanes 2176 to 2303 of a packed row: values. -/
theorem piece17 (P : FVec Ideal S256x1536 .f32) (C S : FVec Ideal S256x128 .f32) (r : Fin 256) (l : Fin 128) :
    (k0_pay76 (F := Ideal) (k0_pay73 P k0_pay4) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2176 + l.val, by omega⟩ := by
  pointwise [k0_pay76, k0_pay73, k0_pay4, k0_pay71, k0_pay70, k0_pay69]
  refine Eq.trans ?_ (pack_v _ _ _ _ (by dsimp only; omega)).symm
  refine spread_hi _ _ l.val _ _ (by revert l; decide +kernel) (by dsimp only; omega) fun w => ?_
  exact congrArg (fun i => P (ix2 r i)) (Fin.ext (by dsimp only; omega))

set_option maxHeartbeats 2000000 in
/-- Lanes 2304 to 2431 of a packed row: values. -/
theorem piece18 (P : FVec Ideal S256x1536 .f32) (C S : FVec Ideal S256x128 .f32) (r : Fin 256) (l : Fin 128) :
    (k0_pay77 (F := Ideal) (k0_pay74 P k0_pay4) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2304 + l.val, by omega⟩ := by
  pointwise [k0_pay77, k0_pay74, k0_pay4, k0_pay70, k0_pay71, k0_pay69]
  refine Eq.trans ?_ (pack_v _ _ _ _ (by dsimp only; omega)).symm
  refine spread_lo _ _ l.val _ _ (by revert l; decide +kernel) (by dsimp only; omega) fun w => ?_
  exact congrArg (fun i => P (ix2 r i)) (Fin.ext (by dsimp only; omega))

set_option maxHeartbeats 2000000 in
/-- Lanes 2432 to 2559 of a packed row: values. -/
theorem piece19 (P : FVec Ideal S256x1536 .f32) (C S : FVec Ideal S256x128 .f32) (r : Fin 256) (l : Fin 128) :
    (k0_pay78 (F := Ideal) k0_pay4 (k0_pay69 P) (k0_pay71 (F := Ideal)) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2432 + l.val, by omega⟩ := by
  pointwise [k0_pay78, k0_pay4, k0_pay69, k0_pay71]
  refine Eq.trans ?_ (pack_v _ _ _ _ (by dsimp only; omega)).symm
  refine spread_hi _ _ l.val _ _ (by revert l; decide +kernel) (by dsimp only; omega) fun w => ?_
  exact congrArg (fun i => P (ix2 r i)) (Fin.ext (by dsimp only; omega))

set_option maxHeartbeats 2000000 in
/-- Lanes 2560 to 2687 of a packed row: values. -/
theorem piece20 (P : FVec Ideal S256x1536 .f32) (C S : FVec Ideal S256x128 .f32) (r : Fin 256) (l : Fin 128) :
    (k0_pay83 (F := Ideal) P k0_pay4 : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2560 + l.val, by omega⟩ := by
  pointwise [k0_pay83, k0_pay4, k0_pay79, k0_pay81]
  refine Eq.trans ?_ (pack_v _ _ _ _ (by dsimp only; omega)).symm
  refine spread_lo _ _ l.val _ _ (by revert l; decide +kernel) (by dsimp only; omega) fun w => ?_
  exact congrArg (fun i => P (ix2 r i)) (Fin.ext (by dsimp only; omega))

set_option maxHeartbeats 2000000 in
/-- Lanes 2688 to 2815 of a packed row: values. -/
theorem piece21 (P : FVec Ideal S256x1536 .f32) (C S : FVec Ideal S256x128 .f32) (r : Fin 256) (l : Fin 128) :
    (k0_pay84 (F := Ideal) P k0_pay4 : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2688 + l.val, by omega⟩ := by
  pointwise [k0_pay84, k0_pay4, k0_pay81, k0_pay80, k0_pay79]
  refine Eq.trans ?_ (pack_v _ _ _ _ (by dsimp only; omega)).symm
  refine spread_hi _ _ l.val _ _ (by revert l; decide +kernel) (by dsimp only; omega) fun w => ?_
  exact congrArg (fun i => P (ix2 r i)) (Fin.ext (by dsimp only; omega))

set_option maxHeartbeats 2000000 in
/-- Lanes 2816 to 2943 of a packed row: values. -/
theorem piece22 (P : FVec Ideal S256x1536 .f32) (C S : FVec Ideal S256x128 .f32) (r : Fin 256) (l : Fin 128) :
    (k0_pay1 (F := Ideal) (k0_pay85 P k0_pay4) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2816 + l.val, by omega⟩ := by
  pointwise [k0_pay1, k0_pay85, k0_pay4, k0_pay80, k0_pay81, k0_pay79]
  refine Eq.trans ?_ (pack_v _ _ _ _ (by dsimp only; omega)).symm
  refine spread_lo _ _ l.val _ _ (by revert l; decide +kernel) (by dsimp only; omega) fun w => ?_
  exact congrArg (fun i => P (ix2 r i)) (Fin.ext (by dsimp only; omega))

set_option maxHeartbeats 2000000 in
/-- Lanes 2944 to 3071 of a packed row: values. -/
theorem piece23 (P : FVec Ideal S256x1536 .f32) (C S : FVec Ideal S256x128 .f32) (r : Fin 256) (l : Fin 128) :
    (k0_pay2 (F := Ideal) (k0_pay82 P k0_pay4) : FVec Ideal S1x256x128 .bf16) (ix3 0 r l)
      = pack (fun f => turn (fun i => P (ix2 r i)) (fun i => C (ix2 r i)) (fun i => S (ix2 r i)) ⟨f.val, by omega⟩) (fun f => turn (fun i => P (ix2 r i)) (fun i => C (ix2 r i)) (fun i => S (ix2 r i)) ⟨1024 + f.val, by omega⟩) (fun f => P (ix2 r ⟨1280 + f.val, by omega⟩)) ⟨2944 + l.val, by omega⟩ := by
  pointwise [k0_pay2, k0_pay82, k0_pay4, k0_pay81, k0_pay79]
  refine Eq.trans ?_ (pack_v _ _ _ _ (by dsimp only; omega)).symm
  refine spread_hi _ _ l.val _ _ (by revert l; decide +kernel) (by dsimp only; omega) fun w => ?_
  exact congrArg (fun i => P (ix2 r i)) (Fin.ext (by dsimp only; omega))

end Cert.Kernel5Ideal.Qkv

end
-- ==== Proof.QkvPre.lean ====
/- What the precondition of the query, key and value projection says of the rotation's tables, entry by entry. -/
module

public import proofs.«01_k».proof.Proof.AttnPre
public import proofs.«01_k».proof.Proof.Gen.Pre_rotary_tables
public import Idealize.ShloMosaic.Lib.Pointwise

@[expose] public section
set_option maxRecDepth 16384
noncomputable section
open Idealize.ShloMosaic Idealize.ShloMosaic.TcCoe Idealize.SL.Sem

namespace Cert.Pre_rotary_tables.Qkv

open Cert.Pre_rotary_tables Cert.Pre_rotary_tables.Gen Cert.Pre_heads_twice.Attn

/-- What the rotation needs of its tables: they repeat over a pair of heads and over an axis' two halves, the first half of the sines negated, and the context rows are left as they are. -/
structure Tables (C S : FVec Ideal S2304x128 .f32) : Prop where
  /-- A lane's cosine is that of the first head's lane in the second half of its axis. -/
  cos : ∀ (r : Fin 2304) (l : Fin 128), C (ix2 r l) = C (ix2 r ⟨l.val % 64 / 32 * 32 + 16 + l.val % 16, by omega⟩)
  /-- In the first half of an axis the sine is negated. -/
  sin_fst : ∀ (r : Fin 2304) (l : Fin 128), l.val % 32 < 16 → S (ix2 r l) = -S (ix2 r ⟨l.val % 64 / 32 * 32 + 16 + l.val % 16, by omega⟩)
  /-- In the second half it is not. -/
  sin_snd : ∀ (r : Fin 2304) (l : Fin 128), ¬ l.val % 32 < 16 → S (ix2 r l) = S (ix2 r ⟨l.val % 64 / 32 * 32 + 16 + l.val % 16, by omega⟩)
  /-- The context rows' cosines are one. -/
  one : ∀ (r : Fin 2304) (l : Fin 128), r.val < 256 → C (ix2 r l) = 1
  /-- The context rows' sines are zero. -/
  zero : ∀ (r : Fin 2304) (l : Fin 128), r.val < 256 → S (ix2 r l) = 0

variable (X : FVec Ideal S8x2304x1024 .f32) (M : FVec Ideal S8x2x6x1024 .f32) (G : FVec Ideal S1024 .f32) (W : FVec Ideal S1024x1536 .f32) (B : FVec Ideal S1536 .f32) (C S : FVec Ideal S2304x128 .f32)

/-- The second head's cosines repeat the first's. -/
theorem cos_pair (h : (fn (F := Ideal) X M G W B C S).1 = fun _ => 1#1) (r : Fin 2304) (a j : Fin 2) (i : Fin 16) :
    C (ix2 r ⟨64 + a.val * 32 + j.val * 16 + i.val, by omega⟩) = C (ix2 r ⟨a.val * 32 + j.val * 16 + i.val, by omega⟩) := by
  have h1 := congrFun h (ix4 r a j i)
  simp only [fn, fn_part1] at h1
  pointwise at h1
  exact of_bit h1

/-- So do its sines. -/
theorem sin_pair (h : (fn (F := Ideal) X M G W B C S).2.1 = fun _ => 1#1) (r : Fin 2304) (a j : Fin 2) (i : Fin 16) :
    S (ix2 r ⟨64 + a.val * 32 + j.val * 16 + i.val, by omega⟩) = S (ix2 r ⟨a.val * 32 + j.val * 16 + i.val, by omega⟩) := by
  have h1 := congrFun h (ix4 r a j i)
  simp only [fn, fn_part1] at h1
  pointwise at h1
  exact of_bit h1

/-- An axis' first cosines are its second. -/
theorem cos_half (h : (fn (F := Ideal) X M G W B C S).2.2.1 = fun _ => 1#1) (r : Fin 2304) (p a : Fin 2) (i : Fin 16) :
    C (ix2 r ⟨p.val * 64 + a.val * 32 + i.val, by omega⟩) = C (ix2 r ⟨p.val * 64 + a.val * 32 + 16 + i.val, by omega⟩) := by
  have h1 := congrFun h (ix4 r p a i)
  simp only [fn, fn_part1] at h1
  pointwise at h1
  exact of_bit h1

/-- An axis' first sines are its second, negated. -/
theorem sin_half (h : (fn (F := Ideal) X M G W B C S).2.2.2.1 = fun _ => 1#1) (r : Fin 2304) (p a : Fin 2) (i : Fin 16) :
    S (ix2 r ⟨p.val * 64 + a.val * 32 + i.val, by omega⟩) = -S (ix2 r ⟨p.val * 64 + a.val * 32 + 16 + i.val, by omega⟩) := by
  have h1 := congrFun h (ix4 r p a i)
  simp only [fn, fn_part1] at h1
  pointwise at h1
  exact of_bit h1

/-- The context rows' cosines are one. -/
theorem cos_one (h : (fn (F := Ideal) X M G W B C S).2.2.2.2.1 = fun _ => 1#1) (r : Fin 256) (l : Fin 128) :
    C (ix2 ⟨r.val, by omega⟩ l) = 1 := by
  have h1 := congrFun h (ix2 r l)
  simp only [fn, fn_part1] at h1
  pointwise at h1
  refine (of_bit h1).trans ?_
  simp [Ideal.ofBits, Ideal.ieee]

/-- The context rows' sines are zero. -/
theorem sin_zero (h : (fn (F := Ideal) X M G W B C S).2.2.2.2.2 = fun _ => 1#1) (r : Fin 256) (l : Fin 128) :
    S (ix2 ⟨r.val, by omega⟩ l) = 0 := by
  have h1 := congrFun h (ix2 r l)
  simp only [fn, fn_part1] at h1
  pointwise at h1
  exact of_bit h1

/-- The precondition, as the facts the rotation needs. -/
theorem tables_of_pre (h1 : (fn (F := Ideal) X M G W B C S).1 = fun _ => 1#1) (h2 : (fn (F := Ideal) X M G W B C S).2.1 = fun _ => 1#1)
    (h3 : (fn (F := Ideal) X M G W B C S).2.2.1 = fun _ => 1#1) (h4 : (fn (F := Ideal) X M G W B C S).2.2.2.1 = fun _ => 1#1)
    (h5 : (fn (F := Ideal) X M G W B C S).2.2.2.2.1 = fun _ => 1#1) (h6 : (fn (F := Ideal) X M G W B C S).2.2.2.2.2 = fun _ => 1#1) : Tables C S := by
  have pairC : ∀ (r : Fin 2304) (l : Fin 128), C (ix2 r l) = C (ix2 r ⟨l.val % 64, by omega⟩) := by
    intro r l
    by_cases w : l.val < 64
    · exact congrArg (fun i => C (ix2 r i)) (Fin.ext (by dsimp only; omega))
    · refine Eq.trans (congrArg (fun i => C (ix2 r i)) (Fin.ext ?_)) ((cos_pair X M G W B C S h1 r ⟨l.val % 64 / 32, by omega⟩ ⟨l.val % 32 / 16, by omega⟩ ⟨l.val % 16, by omega⟩).trans (congrArg (fun i => C (ix2 r i)) (Fin.ext ?_)))
      · dsimp only; omega
      · dsimp only; omega
  have pairS : ∀ (r : Fin 2304) (l : Fin 128), S (ix2 r l) = S (ix2 r ⟨l.val % 64, by omega⟩) := by
    intro r l
    by_cases w : l.val < 64
    · exact congrArg (fun i => S (ix2 r i)) (Fin.ext (by dsimp only; omega))
    · refine Eq.trans (congrArg (fun i => S (ix2 r i)) (Fin.ext ?_)) ((sin_pair X M G W B C S h2 r ⟨l.val % 64 / 32, by omega⟩ ⟨l.val % 32 / 16, by omega⟩ ⟨l.val % 16, by omega⟩).trans (congrArg (fun i => S (ix2 r i)) (Fin.ext ?_)))
      · dsimp only; omega
      · dsimp only; omega
  refine ⟨fun r l => (pairC r l).trans ?_, fun r l w => (pairS r l).trans ?_, fun r l w => (pairS r l).trans ?_, fun r l w => ?_, fun r l w => ?_⟩
  · by_cases w : l.val % 32 < 16
    · refine Eq.trans (congrArg (fun i => C (ix2 r i)) (Fin.ext ?_)) ((cos_half X M G W B C S h3 r 0 ⟨l.val % 64 / 32, by omega⟩ ⟨l.val % 16, by omega⟩).trans (congrArg (fun i => C (ix2 r i)) (Fin.ext ?_)))
      · simp only [Fin.val_zero]; omega
      · simp only [Fin.val_zero]; omega
    · exact congrArg (fun i => C (ix2 r i)) (Fin.ext (by dsimp only; omega))
  · refine Eq.trans (congrArg (fun i => S (ix2 r i)) (Fin.ext ?_)) ((sin_half X M G W B C S h4 r 0 ⟨l.val % 64 / 32, by omega⟩ ⟨l.val % 16, by omega⟩).trans (congrArg (fun i => -S (ix2 r i)) (Fin.ext ?_)))
    · simp only [Fin.val_zero]; omega
    · simp only [Fin.val_zero]; omega
  · exact congrArg (fun i => S (ix2 r i)) (Fin.ext (by dsimp only; omega))
  · exact cos_one X M G W B C S h5 ⟨r.val, w⟩ l
  · exact sin_zero X M G W B C S h6 ⟨r.val, w⟩ l

end Cert.Pre_rotary_tables.Qkv

end
-- ==== Proof.QkvEq.lean ====
/- The rotation by full tables is the reference's by half tables, where the tables repeat: a row the reference packs is the row the stores pack. -/
module

public import proofs.«01_k».proof.Proof.QkvRef
public import proofs.«01_k».proof.Proof.QkvKernel
public import proofs.«01_k».proof.Proof.QkvPre

@[expose] public section
set_option maxRecDepth 16384
noncomputable section
open Idealize.ShloMosaic Cert.Norm Cert.Qkv

namespace Cert.Reference5Ideal.Qkv

open Cert.Reference5Ideal Cert.Reference5Ideal.Gen Cert.Pre_rotary_tables.Qkv

variable (X : FVec Ideal S8x2304x1024 .f32) (M : FVec Ideal S8x2x6x1024 .f32) (G : FVec Ideal S1024 .f32) (W : FVec Ideal S1024x1536 .f32) (B : FVec Ideal S1536 .f32) (C S : FVec Ideal S2304x128 .f32)

/-- The reference's columns are the turned ones: on the context rows the turn is none, on the latent rows the tables repeat. -/
theorem cols_eq (h : Tables C S) (b : Fin 8) (r : Fin 2304) (f : Fin 1280) :
    cols X M G W B C S b r f = turn (prow X M G W B b r) (fun l => C (ix2 r l)) (fun l => S (ix2 r l)) f := by
  unfold cols turn
  beta_reduce
  by_cases w : r.val < 256
  · rw [if_pos w, h.one r _ w, h.zero r _ w, mul_one, mul_zero, add_zero]
  · rw [if_neg w]
    unfold refRot
    beta_reduce
    have e : ∀ u, (⟨f.val % 128 % 64 / 32 * 32 + 16 + f.val % 128 % 16, u⟩ : Fin 128) = ⟨f.val % 64 / 32 * 32 + 16 + f.val % 16, by omega⟩ := fun u => Fin.ext (by dsimp only; omega)
    have hc := h.cos r ⟨f.val % 128, by omega⟩
    simp only [e] at hc
    rw [hc]
    by_cases v : f.val % 32 < 16
    · have hs := h.sin_fst r ⟨f.val % 128, by omega⟩ (by dsimp only; omega)
      simp only [e] at hs
      rw [dif_pos v, dif_pos v, hs, mul_neg, sub_eq_add_neg]
    · have hs := h.sin_snd r ⟨f.val % 128, by omega⟩ (by dsimp only; omega)
      simp only [e] at hs
      rw [dif_neg v, dif_neg v, hs]

/-- The result's rows are the packed ones. -/
theorem REF_eq (h : Tables C S) (b : Fin 8) (r : Fin 2304) (f : Fin 3072) :
    REF X M G W B C S (ix3 b r f)
      = pack (fun f => turn (prow X M G W B b r) (fun l => C (ix2 r l)) (fun l => S (ix2 r l)) ⟨f.val, by omega⟩) (fun f => turn (prow X M G W B b r) (fun l => C (ix2 r l)) (fun l => S (ix2 r l)) ⟨1024 + f.val, by omega⟩)
          (fun f => prow X M G W B b r ⟨1280 + f.val, by omega⟩) f := by
  rw [REF_apply]
  unfold pack spread
  by_cases w : f.val < 1024
  · rw [dif_pos w, dif_pos w, qAll_apply, cols_eq X M G W B C S h]
  · rw [dif_neg w, dif_neg w]
    by_cases v : f.val < 2048
    · rw [dif_pos v, dif_pos v, twice_apply, kAll_apply, cols_eq X M G W B C S h]
    · rw [dif_neg v, dif_neg v, twice_apply, vAll_apply]

end Cert.Reference5Ideal.Qkv

end
-- ==== Proof.QkvStore.lean ====
/- The stores of the query, key and value projection, in the form the body has them: each holds its lanes of the packed row. -/
module

public import proofs.«01_k».proof.Proof.Gen.Kernel5Ideal.Frame
public import proofs.«01_k».proof.Proof.QkvKernel

@[expose] public section

set_option maxRecDepth 16384

noncomputable section

open Idealize.ShloMosaic Idealize.ShloMosaic.TcCoe Cert.Norm Cert.Qkv

namespace Cert.Kernel5Ideal.Qkv

open Cert.Kernel5Ideal Cert.Kernel5Ideal.Gen

variable (x0 : FVec Ideal S1x256x1024 .f32) (x1 : FVec Ideal S1x1x6x1024 .f32) (x2 : FVec Ideal S1x1024 .f32) (x3 : FVec Ideal S1024x1536 .bf16) (x4 : FVec Ideal S1x1536 .f32) (x5 x6 : FVec Ideal S256x128 .f32) (x7 : FVec Ideal S1x1280 .f32)

/-- The lower half of the lanes. -/
theorem val87 : k0_pay87 (F := Ideal) x0 x1 x2 x3 x4 x5 x6 x7 = (k0_pay4 : IVec S256x128 1) := by
  unfold k0_pay87
  frame_out

/-- The first keys. -/
theorem val88 : k0_pay88 (F := Ideal) x0 x1 x2 x3 x4 x5 x6 x7 = (k0_pay45 (k0_pay86 (F := Ideal) x0 x1 x2 x3 x4 x5 x6 x7) : FVec Ideal S256x128 .f32) := by
  unfold k0_pay88
  frame_out

/-- The first keys times their cosines. -/
theorem val89 : k0_pay89 (F := Ideal) x0 x1 x2 x3 x4 x5 x6 x7 = (k0_pay46 (k0_pay86 (F := Ideal) x0 x1 x2 x3 x4 x5 x6 x7) x5 : FVec Ideal S256x128 .f32) := by
  unfold k0_pay89
  frame_out

/-- The lane index over 16, of the first keys. -/
theorem val90 : k0_pay90 (F := Ideal) x0 x1 x2 x3 x4 x5 x6 x7 = (k0_pay47 : IVec S256x128 32) := by
  unfold k0_pay90
  frame_out

/-- The divisor 2 in every lane. -/
theorem val91 : k0_pay91 (F := Ideal) x0 x1 x2 x3 x4 x5 x6 x7 = (k0_pay48 : IVec S256x128 32) := by
  unfold k0_pay91
  frame_out

/-- The second keys. -/
theorem val92 : k0_pay92 (F := Ideal) x0 x1 x2 x3 x4 x5 x6 x7 = (k0_pay57 (k0_pay86 (F := Ideal) x0 x1 x2 x3 x4 x5 x6 x7) : FVec Ideal S256x128 .f32) := by
  unfold k0_pay92
  frame_out

/-- The second keys times their cosines. -/
theorem val93 : k0_pay93 (F := Ideal) x0 x1 x2 x3 x4 x5 x6 x7 = (k0_pay58 (k0_pay86 (F := Ideal) x0 x1 x2 x3 x4 x5 x6 x7) x5 : FVec Ideal S256x128 .f32) := by
  unfold k0_pay93
  frame_out

/-- A remainder of the second keys' lane index. -/
theorem val94 : k0_pay94 (F := Ideal) x0 x1 x2 x3 x4 x5 x6 x7 = (k0_pay59 : IVec S256x128 32) := by
  unfold k0_pay94
  frame_out

/-- Whether that remainder is off. -/
theorem val95 : k0_pay95 (F := Ideal) x0 x1 x2 x3 x4 x5 x6 x7 = (k0_pay60 : IVec S256x128 1) := by
  unfold k0_pay95
  frame_out

/-- The remainder moved by 2. -/
theorem val96 : k0_pay96 (F := Ideal) x0 x1 x2 x3 x4 x5 x6 x7 = (k0_pay61 : IVec S256x128 32) := by
  unfold k0_pay96
  frame_out

/-- The store of lanes 0 to 127. -/
theorem store0 (r : Fin 256) (l : Fin 128) :
    (k0_pay8 x6 (k0_pay5 (k0_pay86 (F := Ideal) x0 x1 x2 x3 x4 x5 x6 x7)) (k0_pay6 (k0_pay86 (F := Ideal) x0 x1 x2 x3 x4 x5 x6 x7) x5) k0_pay7 : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨0 + l.val, by omega⟩ := by
  exact piece0 (k0_pay86 (F := Ideal) x0 x1 x2 x3 x4 x5 x6 x7) x5 x6 r l

/-- The store of lanes 128 to 255. -/
theorem store1 (r : Fin 256) (l : Fin 128) :
    (k0_pay12 x6 (k0_pay9 (k0_pay86 (F := Ideal) x0 x1 x2 x3 x4 x5 x6 x7)) (k0_pay10 (k0_pay86 (F := Ideal) x0 x1 x2 x3 x4 x5 x6 x7) x5) k0_pay11 (Scalar.select (Scalar.cmpi .eq 2#32 0#32) 1#32 2#32) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨128 + l.val, by omega⟩ := by
  exact piece1 (k0_pay86 (F := Ideal) x0 x1 x2 x3 x4 x5 x6 x7) x5 x6 r l

/-- The store of lanes 256 to 383. -/
theorem store2 (r : Fin 256) (l : Fin 128) :
    (k0_pay17 x6 (k0_pay13 (k0_pay86 (F := Ideal) x0 x1 x2 x3 x4 x5 x6 x7)) (k0_pay14 (k0_pay86 (F := Ideal) x0 x1 x2 x3 x4 x5 x6 x7) x5) (iota .tc S256x128 32 [1] iota_S256x128_d1_w32) 16#32 k0_pay15 k0_pay16 (Scalar.subi (Scalar.extui (Scalar.cmpi .sgt 16#32 0#32)) (Scalar.extui (Scalar.cmpi .slt 16#32 0#32))) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨256 + l.val, by omega⟩ := by
  exact piece2 (k0_pay86 (F := Ideal) x0 x1 x2 x3 x4 x5 x6 x7) x5 x6 r l

/-- The store of lanes 384 to 511. -/
theorem store3 (r : Fin 256) (l : Fin 128) :
    (k0_pay22 (k0_pay19 (k0_pay86 (F := Ideal) x0 x1 x2 x3 x4 x5 x6 x7) x5) (k0_pay21 x6 (k0_pay18 (k0_pay86 (F := Ideal) x0 x1 x2 x3 x4 x5 x6 x7)) (iota .tc S256x128 32 [1] iota_S256x128_d1_w32) 16#32 k0_pay20) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨384 + l.val, by omega⟩ := by
  exact piece3 (k0_pay86 (F := Ideal) x0 x1 x2 x3 x4 x5 x6 x7) x5 x6 r l

/-- The store of lanes 512 to 639. -/
theorem store4 (r : Fin 256) (l : Fin 128) :
    (k0_pay28 x6 (k0_pay23 (k0_pay86 (F := Ideal) x0 x1 x2 x3 x4 x5 x6 x7)) (k0_pay24 (k0_pay86 (F := Ideal) x0 x1 x2 x3 x4 x5 x6 x7) x5) (Scalar.select (Scalar.cmpi .eq 2#32 0#32) 1#32 2#32) k0_pay25 k0_pay26 k0_pay27 0#32 : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨512 + l.val, by omega⟩ := by
  exact piece4 (k0_pay86 (F := Ideal) x0 x1 x2 x3 x4 x5 x6 x7) x5 x6 r l

/-- The store of lanes 640 to 767. -/
theorem store5 (r : Fin 256) (l : Fin 128) :
    (k0_pay33 x6 (k0_pay29 (k0_pay86 (F := Ideal) x0 x1 x2 x3 x4 x5 x6 x7)) (k0_pay30 (k0_pay86 (F := Ideal) x0 x1 x2 x3 x4 x5 x6 x7) x5) k0_pay31 k0_pay32 1#32 : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨640 + l.val, by omega⟩ := by
  exact piece5 (k0_pay86 (F := Ideal) x0 x1 x2 x3 x4 x5 x6 x7) x5 x6 r l

/-- The store of lanes 768 to 895. -/
theorem store6 (r : Fin 256) (l : Fin 128) :
    (k0_pay40 (k0_pay39 x6 (k0_pay34 (k0_pay86 (F := Ideal) x0 x1 x2 x3 x4 x5 x6 x7)) (k0_pay35 (k0_pay86 (F := Ideal) x0 x1 x2 x3 x4 x5 x6 x7) x5) (iota .tc S256x128 32 [1] iota_S256x128_d1_w32) 16#32 k0_pay36 k0_pay37 k0_pay38) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨768 + l.val, by omega⟩ := by
  exact piece6 (k0_pay86 (F := Ideal) x0 x1 x2 x3 x4 x5 x6 x7) x5 x6 r l

/-- The store of lanes 896 to 1023. -/
theorem store7 (r : Fin 256) (l : Fin 128) :
    (k0_pay44 x6 (k0_pay41 (k0_pay86 (F := Ideal) x0 x1 x2 x3 x4 x5 x6 x7)) (k0_pay42 (k0_pay86 (F := Ideal) x0 x1 x2 x3 x4 x5 x6 x7) x5) k0_pay43 0#32 : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨896 + l.val, by omega⟩ := by
  exact piece7 (k0_pay86 (F := Ideal) x0 x1 x2 x3 x4 x5 x6 x7) x5 x6 r l

/-- The store of lanes 1024 to 1151. -/
theorem store8 (r : Fin 256) (l : Fin 128) :
    (k0_pay52 x6 (k0_pay87 (F := Ideal) x0 x1 x2 x3 x4 x5 x6 x7) (k0_pay88 (F := Ideal) x0 x1 x2 x3 x4 x5 x6 x7) (k0_pay89 (F := Ideal) x0 x1 x2 x3 x4 x5 x6 x7) (k0_pay90 (F := Ideal) x0 x1 x2 x3 x4 x5 x6 x7) (Scalar.select (Scalar.cmpi .eq 2#32 0#32) 1#32 2#32) (k0_pay91 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1024 + l.val, by omega⟩ := by
  rw [val87, val88, val89, val90, val91]
  exact piece8 (k0_pay86 (F := Ideal) x0 x1 x2 x3 x4 x5 x6 x7) x5 x6 r l

/-- The store of lanes 1152 to 1279. -/
theorem store9 (r : Fin 256) (l : Fin 128) :
    (k0_pay53 x6 (k0_pay87 (F := Ideal) x0 x1 x2 x3 x4 x5 x6 x7) (k0_pay88 (F := Ideal) x0 x1 x2 x3 x4 x5 x6 x7) (k0_pay89 (F := Ideal) x0 x1 x2 x3 x4 x5 x6 x7) (k0_pay90 (F := Ideal) x0 x1 x2 x3 x4 x5 x6 x7) (Scalar.select (Scalar.cmpi .eq 2#32 0#32) 1#32 2#32) (k0_pay91 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1152 + l.val, by omega⟩ := by
  rw [val87, val88, val89, val90, val91]
  exact piece9 (k0_pay86 (F := Ideal) x0 x1 x2 x3 x4 x5 x6 x7) x5 x6 r l

/-- The store of lanes 1280 to 1407. -/
theorem store10 (r : Fin 256) (l : Fin 128) :
    (k0_pay54 x6 (k0_pay87 (F := Ideal) x0 x1 x2 x3 x4 x5 x6 x7) (k0_pay88 (F := Ideal) x0 x1 x2 x3 x4 x5 x6 x7) (k0_pay89 (F := Ideal) x0 x1 x2 x3 x4 x5 x6 x7) (k0_pay90 (F := Ideal) x0 x1 x2 x3 x4 x5 x6 x7) (Scalar.select (Scalar.cmpi .eq 2#32 0#32) 1#32 2#32) (k0_pay91 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1280 + l.val, by omega⟩ := by
  rw [val87, val88, val89, val90, val91]
  exact piece10 (k0_pay86 (F := Ideal) x0 x1 x2 x3 x4 x5 x6 x7) x5 x6 r l

/-- The store of lanes 1408 to 1535. -/
theorem store11 (r : Fin 256) (l : Fin 128) :
    (k0_pay56 (k0_pay55 x6 (k0_pay87 (F := Ideal) x0 x1 x2 x3 x4 x5 x6 x7) (k0_pay88 (F := Ideal) x0 x1 x2 x3 x4 x5 x6 x7) (k0_pay89 (F := Ideal) x0 x1 x2 x3 x4 x5 x6 x7) (k0_pay90 (F := Ideal) x0 x1 x2 x3 x4 x5 x6 x7) (Scalar.select (Scalar.cmpi .eq 2#32 0#32) 1#32 2#32) (k0_pay91 (F := Ideal) x0 x1 x2 x3 x4 x5 x6 x7)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1408 + l.val, by omega⟩ := by
  rw [val87, val88, val89, val90, val91]
  exact piece11 (k0_pay86 (F := Ideal) x0 x1 x2 x3 x4 x5 x6 x7) x5 x6 r l

/-- The store of lanes 1536 to 1663. -/
theorem store12 (r : Fin 256) (l : Fin 128) :
    (k0_pay65 x6 (k0_pay87 (F := Ideal) x0 x1 x2 x3 x4 x5 x6 x7) (k0_pay92 (F := Ideal) x0 x1 x2 x3 x4 x5 x6 x7) (k0_pay93 (F := Ideal) x0 x1 x2 x3 x4 x5 x6 x7) (k0_pay94 (F := Ideal) x0 x1 x2 x3 x4 x5 x6 x7) (k0_pay95 (F := Ideal) x0 x1 x2 x3 x4 x5 x6 x7) (k0_pay96 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1536 + l.val, by omega⟩ := by
  rw [val87, val92, val93, val94, val95, val96]
  exact piece12 (k0_pay86 (F := Ideal) x0 x1 x2 x3 x4 x5 x6 x7) x5 x6 r l

/-- The store of lanes 1664 to 1791. -/
theorem store13 (r : Fin 256) (l : Fin 128) :
    (k0_pay66 x6 (k0_pay87 (F := Ideal) x0 x1 x2 x3 x4 x5 x6 x7) (k0_pay92 (F := Ideal) x0 x1 x2 x3 x4 x5 x6 x7) (k0_pay93 (F := Ideal) x0 x1 x2 x3 x4 x5 x6 x7) (k0_pay94 (F := Ideal) x0 x1 x2 x3 x4 x5 x6 x7) (k0_pay95 (F := Ideal) x0 x1 x2 x3 x4 x5 x6 x7) (k0_pay96 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1664 + l.val, by omega⟩ := by
  rw [val87, val92, val93, val94, val95, val96]
  exact piece13 (k0_pay86 (F := Ideal) x0 x1 x2 x3 x4 x5 x6 x7) x5 x6 r l

/-- The store of lanes 1792 to 1919. -/
theorem store14 (r : Fin 256) (l : Fin 128) :
    (k0_pay67 x6 (k0_pay87 (F := Ideal) x0 x1 x2 x3 x4 x5 x6 x7) (k0_pay92 (F := Ideal) x0 x1 x2 x3 x4 x5 x6 x7) (k0_pay93 (F := Ideal) x0 x1 x2 x3 x4 x5 x6 x7) (k0_pay94 (F := Ideal) x0 x1 x2 x3 x4 x5 x6 x7) (k0_pay95 (F := Ideal) x0 x1 x2 x3 x4 x5 x6 x7) (k0_pay96 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1792 + l.val, by omega⟩ := by
  rw [val87, val92, val93, val94, val95, val96]
  exact piece14 (k0_pay86 (F := Ideal) x0 x1 x2 x3 x4 x5 x6 x7) x5 x6 r l

/-- The store of lanes 1920 to 2047. -/
theorem store15 (r : Fin 256) (l : Fin 128) :
    (k0_pay68 x6 (k0_pay87 (F := Ideal) x0 x1 x2 x3 x4 x5 x6 x7) (k0_pay92 (F := Ideal) x0 x1 x2 x3 x4 x5 x6 x7) (k0_pay93 (F := Ideal) x0 x1 x2 x3 x4 x5 x6 x7) (k0_pay94 (F := Ideal) x0 x1 x2 x3 x4 x5 x6 x7) (k0_pay95 (F := Ideal) x0 x1 x2 x3 x4 x5 x6 x7) (k0_pay96 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨1920 + l.val, by omega⟩ := by
  rw [val87, val92, val93, val94, val95, val96]
  exact piece15 (k0_pay86 (F := Ideal) x0 x1 x2 x3 x4 x5 x6 x7) x5 x6 r l

/-- The store of lanes 2048 to 2175. -/
theorem store16 (r : Fin 256) (l : Fin 128) :
    (k0_pay75 (k0_pay72 (k0_pay86 (F := Ideal) x0 x1 x2 x3 x4 x5 x6 x7) (k0_pay87 (F := Ideal) x0 x1 x2 x3 x4 x5 x6 x7)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2048 + l.val, by omega⟩ := by
  rw [val87]
  exact piece16 (k0_pay86 (F := Ideal) x0 x1 x2 x3 x4 x5 x6 x7) x5 x6 r l

/-- The store of lanes 2176 to 2303. -/
theorem store17 (r : Fin 256) (l : Fin 128) :
    (k0_pay76 (k0_pay73 (k0_pay86 (F := Ideal) x0 x1 x2 x3 x4 x5 x6 x7) (k0_pay87 (F := Ideal) x0 x1 x2 x3 x4 x5 x6 x7)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2176 + l.val, by omega⟩ := by
  rw [val87]
  exact piece17 (k0_pay86 (F := Ideal) x0 x1 x2 x3 x4 x5 x6 x7) x5 x6 r l

/-- The store of lanes 2304 to 2431. -/
theorem store18 (r : Fin 256) (l : Fin 128) :
    (k0_pay77 (k0_pay74 (k0_pay86 (F := Ideal) x0 x1 x2 x3 x4 x5 x6 x7) (k0_pay87 (F := Ideal) x0 x1 x2 x3 x4 x5 x6 x7)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2304 + l.val, by omega⟩ := by
  rw [val87]
  exact piece18 (k0_pay86 (F := Ideal) x0 x1 x2 x3 x4 x5 x6 x7) x5 x6 r l

/-- The store of lanes 2432 to 2559. -/
theorem store19 (r : Fin 256) (l : Fin 128) :
    (k0_pay78 (k0_pay87 (F := Ideal) x0 x1 x2 x3 x4 x5 x6 x7) (k0_pay69 (k0_pay86 (F := Ideal) x0 x1 x2 x3 x4 x5 x6 x7)) (k0_pay71 (F := Ideal)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2432 + l.val, by omega⟩ := by
  rw [val87]
  exact piece19 (k0_pay86 (F := Ideal) x0 x1 x2 x3 x4 x5 x6 x7) x5 x6 r l

/-- The store of lanes 2560 to 2687. -/
theorem store20 (r : Fin 256) (l : Fin 128) :
    (k0_pay83 (k0_pay86 (F := Ideal) x0 x1 x2 x3 x4 x5 x6 x7) (k0_pay87 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2560 + l.val, by omega⟩ := by
  rw [val87]
  exact piece20 (k0_pay86 (F := Ideal) x0 x1 x2 x3 x4 x5 x6 x7) x5 x6 r l

/-- The store of lanes 2688 to 2815. -/
theorem store21 (r : Fin 256) (l : Fin 128) :
    (k0_pay84 (k0_pay86 (F := Ideal) x0 x1 x2 x3 x4 x5 x6 x7) (k0_pay87 (F := Ideal) x0 x1 x2 x3 x4 x5 x6 x7) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2688 + l.val, by omega⟩ := by
  rw [val87]
  exact piece21 (k0_pay86 (F := Ideal) x0 x1 x2 x3 x4 x5 x6 x7) x5 x6 r l

/-- The store of lanes 2816 to 2943. -/
theorem store22 (r : Fin 256) (l : Fin 128) :
    (k0_pay1 (k0_pay85 (k0_pay86 (F := Ideal) x0 x1 x2 x3 x4 x5 x6 x7) (k0_pay87 (F := Ideal) x0 x1 x2 x3 x4 x5 x6 x7)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2816 + l.val, by omega⟩ := by
  rw [val87]
  exact piece22 (k0_pay86 (F := Ideal) x0 x1 x2 x3 x4 x5 x6 x7) x5 x6 r l

/-- The store of lanes 2944 to 3071. -/
theorem store23 (r : Fin 256) (l : Fin 128) :
    (k0_pay2 (k0_pay82 (k0_pay86 (F := Ideal) x0 x1 x2 x3 x4 x5 x6 x7) (k0_pay87 (F := Ideal) x0 x1 x2 x3 x4 x5 x6 x7)) : FVec Ideal S1x256x128 .bf16) (ix3 0 r l)
      = pack (fun f => turn (fun i => k0_pay86 (F := Ideal) x0 x1 x2 x3 x4 x5 x6 x7 (ix2 r i)) (fun i => x5 (ix2 r i)) (fun i => x6 (ix2 r i)) ⟨f.val, by omega⟩) (fun f => turn (fun i => k0_pay86 (F := Ideal) x0 x1 x2 x3 x4 x5 x6 x7 (ix2 r i)) (fun i => x5 (ix2 r i)) (fun i => x6 (ix2 r i)) ⟨1024 + f.val, by omega⟩) (fun f => k0_pay86 (F := Ideal) x0 x1 x2 x3 x4 x5 x6 x7 (ix2 r ⟨1280 + f.val, by omega⟩)) ⟨2944 + l.val, by omega⟩ := by
  rw [val87]
  exact piece23 (k0_pay86 (F := Ideal) x0 x1 x2 x3 x4 x5 x6 x7) x5 x6 r l

end Cert.Kernel5Ideal.Qkv

end
-- ==== Proof.QkvValue.lean ====
/- The query, key and value projection: the result array after the run is the reference's term of the arguments. -/
module

public import proofs.«01_k».proof.Proof.Gen.Kernel5Ideal.Value
public import proofs.«01_k».proof.Proof.QkvEq
public import proofs.«01_k».proof.Proof.QkvStore

@[expose] public section

set_option maxRecDepth 16384

noncomputable section

open Idealize.ShloMosaic Idealize.ShloMosaic.TcCoe Idealize.SL.Sem Cert.Norm Cert.Qkv
open Idealize.ShloMosaic.Pipeline (Dat)

namespace Cert.Kernel5Ideal.Qkv

open Cert.Kernel5Ideal Cert.Kernel5Ideal.Gen

set_option maxHeartbeats 1000000 in
/-- The body's projection at row `r` and column `f`. -/
theorem pay3_apply (x0 : FVec Ideal S1x256x1024 .f32) (x1 : FVec Ideal S1x1x6x1024 .f32) (x2 : FVec Ideal S1x1024 .f32) (x3 : FVec Ideal S1024x1536 .bf16) (x4 : FVec Ideal S1x1536 .f32) (r : Fin 256) (f : Fin 1536) :
    k0_pay3 (F := Ideal) x0 x1 x2 x3 x4 (ix2 r f)
      = (∑ k, normMod (fun k => x0 (ix3 0 r k)) (fun k => x2 (ix2 0 k)) (fun k => x1 (ix4 0 0 1 k)) (fun k => x1 (ix4 0 0 0 k)) k * x3 (ix2 k f)) + x4 (ix2 0 f) := by
  pointwise [k0_pay3, normMod]

variable (m : (ℓ : Loc nD τ sig) → Buf (Elt Ideal) ℓ) (c : Dev nD)

/-- The windows' block indices at point `t`: batch `t / 9`, row block `t % 9`; the modulation is the context's on row block 0. -/
theorem idx : ∀ t : Fin cfg0.N, win0_0.index t = ![t.val / 9, t.val % 9, 0] ∧ win0_1.index t = ![t.val / 9, if t.val % 9 = 0 then 0 else 1, 0, 0]
    ∧ win0_2.index t = ![0, 0] ∧ win0_3.index t = ![0, 0] ∧ win0_4.index t = ![0, 0] ∧ win0_5.index t = ![t.val % 9, 0] ∧ win0_6.index t = ![t.val % 9, 0] ∧ win0_8.index t = ![t.val / 9, t.val % 9, 0] :=
  (by decide +kernel : ∀ t : Fin grid0.N, _)

/-- A point's batch. -/
def bat (t : Fin cfg0.N) : Fin 8 := ⟨t.val / 9, by have h : t.val < 72 := t.isLt; omega⟩
/-- A point's row of the array. -/
def row (t : Fin cfg0.N) (r : Fin 256) : Fin 2304 := ⟨t.val % 9 * 256 + r.val, by omega⟩

/-- The rows of a point's block. -/
theorem blk0 (t : Fin cfg0.N) (r : Fin 256) (k : Fin 1024) : iblk m c 0 t (ix3 0 r k) = m ((c : Thread nD τ).loc main_arg0) (ix3 (bat t) (row t r) k) := by
  unfold bat row
  blk_ext [iblk, V, idx t]

/-- The modulation of a point's rows. -/
theorem blk1 (t : Fin cfg0.N) (r : Fin 256) (s : Fin 6) (k : Fin 1024) :
    iblk m c 1 t (ix4 0 0 s k) = m ((c : Thread nD τ).loc main_arg1) (ix4 (bat t) (if (row t r).val < 256 then 0 else 1) s k) := by
  have hr : (if (row t r).val < 256 then (0 : Fin 2) else 1) = (⟨if t.val % 9 = 0 then 0 else 1, by split <;> omega⟩ : Fin 2) := by
    unfold row
    by_cases h : t.val % 9 = 0
    · simp [h]
    · have : ¬ (t.val % 9 * 256 + r.val < 256) := by omega
      simp [h, this]
  rw [hr]
  unfold bat
  blk_ext [iblk, V, idx t]

/-- The gain. -/
theorem blk2 (t : Fin cfg0.N) (k : Fin 1024) : iblk m c 2 t (ix2 0 k) = m ((c : Thread nD τ).loc main_arg2) (ix1 k) := by
  have h0 : V m c main_v0 (ix2 0 k) = m ((c : Thread nD τ).loc main_arg2) (ix1 k) := by
    entry_read
    show shapeCast S1x1024 (m ((c : Thread nD τ).loc main_arg2)) shapeCasts_S1024_S1x1024 (ix2 0 k) = _
    pointwise
  rw [← h0]
  blk_ext [iblk, idx t]

/-- The weights. -/
theorem blk3 (t : Fin cfg0.N) (k : Fin 1024) (f : Fin 1536) : iblk m c 3 t (ix2 k f) = m ((c : Thread nD τ).loc main_arg3) (ix2 k f) := by
  have h0 : V m c main_v1 (ix2 k f) = m ((c : Thread nD τ).loc main_arg3) (ix2 k f) := by
    have e : V m c main_v1 = truncf (F := Ideal) (φ := .f32) .bf16 (m ((c : Thread nD τ).loc main_arg3)) bitsLt_bf16_f32 := by
      first | (entry_read; rfl) | rfl | (hlo_run; rfl)
    rw [e]
    rfl
  rw [← h0]
  blk_ext [iblk, idx t]

/-- The bias. -/
theorem blk4 (t : Fin cfg0.N) (f : Fin 1536) : iblk m c 4 t (ix2 0 f) = m ((c : Thread nD τ).loc main_arg4) (ix1 f) := by
  have h0 : V m c main_v2 (ix2 0 f) = m ((c : Thread nD τ).loc main_arg4) (ix1 f) := by
    entry_read
    show shapeCast S1x1536 (m ((c : Thread nD τ).loc main_arg4)) shapeCasts_S1536_S1x1536 (ix2 0 f) = _
    pointwise
  rw [← h0]
  blk_ext [iblk, idx t]

/-- The cosines of a point's rows. -/
theorem blk5 (t : Fin cfg0.N) (r : Fin 256) (l : Fin 128) : iblk m c 5 t (ix2 r l) = m ((c : Thread nD τ).loc main_arg5) (ix2 (row t r) l) := by
  unfold row
  blk_ext [iblk, V, idx t]

/-- The sines of a point's rows. -/
theorem blk6 (t : Fin cfg0.N) (r : Fin 256) (l : Fin 128) : iblk m c 6 t (ix2 r l) = m ((c : Thread nD τ).loc main_arg6) (ix2 (row t r) l) := by
  unfold row
  blk_ext [iblk, V, idx t]

/-- The projection of a point's rows. -/
def proj (t : Fin cfg0.N) : FVec Ideal S256x1536 .f32 := k0_pay86 (F := Ideal) (iblk m c 0 t) (iblk m c 1 t) (iblk m c 2 t) (iblk m c 3 t) (iblk m c 4 t) (iblk m c 5 t) (iblk m c 6 t) (iblk m c 7 t)

/-- It is the body's product of the blocks read whole. -/
theorem proj_eq (t : Fin cfg0.N) : proj m c t = k0_pay3 (F := Ideal) (iblk m c 0 t) (iblk m c 1 t) (iblk m c 2 t) (iblk m c 3 t) (iblk m c 4 t) := by
  unfold proj k0_pay86
  frame_out

/-- It is the reference's. -/
theorem proj_apply (t : Fin cfg0.N) (r : Fin 256) (f : Fin 1536) :
    proj m c t (ix2 r f) = Cert.Reference5Ideal.Qkv.prow (m ((c : Thread nD τ).loc main_arg0)) (m ((c : Thread nD τ).loc main_arg1)) (m ((c : Thread nD τ).loc main_arg2)) (m ((c : Thread nD τ).loc main_arg3)) (m ((c : Thread nD τ).loc main_arg4)) (bat t) (row t r) f := by
  rw [proj_eq]
  refine (pay3_apply (iblk m c 0 t) (iblk m c 1 t) (iblk m c 2 t) (iblk m c 3 t) (iblk m c 4 t) r f).trans ?_
  simp only [fun k => blk0 m c t r k, fun s k => blk1 m c t r s k, fun k => blk2 m c t k, fun k f => blk3 m c t k f, fun f => blk4 m c t f, Cert.Reference5Ideal.Qkv.prow]

/-- Where a point's block lies in the result. -/
theorem emb8 (t : Fin cfg0.N) (r : Fin 256) (f : Fin 3072) : ((View.whole main_v4).slice (win0_8.rect t)).emb (ix3 0 r f) = ix3 (bat t) (row t r) f := by
  obtain ⟨-, -, -, -, -, -, -, h⟩ := idx t
  funext a
  apply Fin.ext
  refine (Pipeline.Window.rect_emb_val win0_8 t (ix3 0 r f) a).trans ?_
  rw [h]
  fin_cases a <;> simp [bat, row, win0_8]

/-- The store of 128 lanes from lane `128 * n` on holds the reference's entries there, if it holds the packed row's. -/
theorem point8 (hT : Cert.Pre_rotary_tables.Qkv.Tables (m ((c : Thread nD τ).loc main_arg5)) (m ((c : Thread nD τ).loc main_arg6))) (t : Fin cfg0.N) (y : S1x256x3072.Idx) (x : S1x256x128.Idx) (o : ℕ) (ho : o + 128 ≤ 3072)
    (h1 : (y 1 : ℕ) = (x 1 : ℕ)) (h2 : (y 2 : ℕ) = o + (x 2 : ℕ)) (Q : FVec Ideal S1x256x128 .bf16)
    (hQ : ∀ (r : Fin 256) (l : Fin 128), Q (ix3 0 r l)
      = pack (fun f => turn (fun i => proj m c t (ix2 r i)) (fun i => iblk m c 5 t (ix2 r i)) (fun i => iblk m c 6 t (ix2 r i)) ⟨f.val, by omega⟩) (fun f => turn (fun i => proj m c t (ix2 r i)) (fun i => iblk m c 5 t (ix2 r i)) (fun i => iblk m c 6 t (ix2 r i)) ⟨1024 + f.val, by omega⟩) (fun f => proj m c t (ix2 r ⟨1280 + f.val, by omega⟩)) ⟨o + l.val, by omega⟩) :
    Q x = Cert.Reference5Ideal.Qkv.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((View.whole main_v4).slice (win0_8.rect t)).emb y) := by
  obtain ⟨r, l, rfl⟩ : ∃ (r : Fin 256) (l : Fin 128), x = ix3 0 r l :=
    ⟨x 1, x 2, by funext a; fin_cases a <;> first | rfl | exact Subsingleton.elim (α := Fin 1) _ _⟩
  have hy : y = ix3 0 r ⟨o + l.val, by omega⟩ := by
    funext a
    fin_cases a
    · exact Subsingleton.elim (α := Fin 1) _ _
    · exact Fin.ext h1
    · exact Fin.ext h2
  rw [hy]
  refine Eq.trans ?_ (congrArg (Cert.Reference5Ideal.Qkv.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb8 t r ⟨o + l.val, by omega⟩)).symm
  refine (hQ r l).trans (Eq.trans ?_ (Cert.Reference5Ideal.Qkv.REF_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) hT (bat t) (row t r) ⟨o + l.val, by omega⟩).symm)
  simp only [fun r f => proj_apply m c t r f, fun r l => blk5 m c t r l, fun r l => blk6 m c t r l]

set_option maxHeartbeats 8000000 in
/-- The result array after the run. -/
theorem final8 (hT : Cert.Pre_rotary_tables.Qkv.Tables (m ((c : Thread nD τ).loc main_arg5)) (m ((c : Thread nD τ).loc main_arg6))) : (dats m 0 c).arrAt 8 (cfgs 0).N = Cert.Reference5Ideal.Qkv.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  frame_out
  canon_tiles x k
  · exact point8 m c hT t y x 2944 (by omega) k1 k2 _ (store23 (iblk m c 0 t) (iblk m c 1 t) (iblk m c 2 t) (iblk m c 3 t) (iblk m c 4 t) (iblk m c 5 t) (iblk m c 6 t) (iblk m c 7 t))
  · exact point8 m c hT t y x 2816 (by omega) k1 k2 _ (store22 (iblk m c 0 t) (iblk m c 1 t) (iblk m c 2 t) (iblk m c 3 t) (iblk m c 4 t) (iblk m c 5 t) (iblk m c 6 t) (iblk m c 7 t))
  · exact point8 m c hT t y x 2688 (by omega) k1 k2 _ (store21 (iblk m c 0 t) (iblk m c 1 t) (iblk m c 2 t) (iblk m c 3 t) (iblk m c 4 t) (iblk m c 5 t) (iblk m c 6 t) (iblk m c 7 t))
  · exact point8 m c hT t y x 2560 (by omega) k1 k2 _ (store20 (iblk m c 0 t) (iblk m c 1 t) (iblk m c 2 t) (iblk m c 3 t) (iblk m c 4 t) (iblk m c 5 t) (iblk m c 6 t) (iblk m c 7 t))
  · exact point8 m c hT t y x 2432 (by omega) k1 k2 _ (store19 (iblk m c 0 t) (iblk m c 1 t) (iblk m c 2 t) (iblk m c 3 t) (iblk m c 4 t) (iblk m c 5 t) (iblk m c 6 t) (iblk m c 7 t))
  · exact point8 m c hT t y x 2304 (by omega) k1 k2 _ (store18 (iblk m c 0 t) (iblk m c 1 t) (iblk m c 2 t) (iblk m c 3 t) (iblk m c 4 t) (iblk m c 5 t) (iblk m c 6 t) (iblk m c 7 t))
  · exact point8 m c hT t y x 2176 (by omega) k1 k2 _ (store17 (iblk m c 0 t) (iblk m c 1 t) (iblk m c 2 t) (iblk m c 3 t) (iblk m c 4 t) (iblk m c 5 t) (iblk m c 6 t) (iblk m c 7 t))
  · exact point8 m c hT t y x 2048 (by omega) k1 k2 _ (store16 (iblk m c 0 t) (iblk m c 1 t) (iblk m c 2 t) (iblk m c 3 t) (iblk m c 4 t) (iblk m c 5 t) (iblk m c 6 t) (iblk m c 7 t))
  · exact point8 m c hT t y x 1920 (by omega) k1 k2 _ (store15 (iblk m c 0 t) (iblk m c 1 t) (iblk m c 2 t) (iblk m c 3 t) (iblk m c 4 t) (iblk m c 5 t) (iblk m c 6 t) (iblk m c 7 t))
  · exact point8 m c hT t y x 1792 (by omega) k1 k2 _ (store14 (iblk m c 0 t) (iblk m c 1 t) (iblk m c 2 t) (iblk m c 3 t) (iblk m c 4 t) (iblk m c 5 t) (iblk m c 6 t) (iblk m c 7 t))
  · exact point8 m c hT t y x 1664 (by omega) k1 k2 _ (store13 (iblk m c 0 t) (iblk m c 1 t) (iblk m c 2 t) (iblk m c 3 t) (iblk m c 4 t) (iblk m c 5 t) (iblk m c 6 t) (iblk m c 7 t))
  · exact point8 m c hT t y x 1536 (by omega) k1 k2 _ (store12 (iblk m c 0 t) (iblk m c 1 t) (iblk m c 2 t) (iblk m c 3 t) (iblk m c 4 t) (iblk m c 5 t) (iblk m c 6 t) (iblk m c 7 t))
  · exact point8 m c hT t y x 1408 (by omega) k1 k2 _ (store11 (iblk m c 0 t) (iblk m c 1 t) (iblk m c 2 t) (iblk m c 3 t) (iblk m c 4 t) (iblk m c 5 t) (iblk m c 6 t) (iblk m c 7 t))
  · exact point8 m c hT t y x 1280 (by omega) k1 k2 _ (store10 (iblk m c 0 t) (iblk m c 1 t) (iblk m c 2 t) (iblk m c 3 t) (iblk m c 4 t) (iblk m c 5 t) (iblk m c 6 t) (iblk m c 7 t))
  · exact point8 m c hT t y x 1152 (by omega) k1 k2 _ (store9 (iblk m c 0 t) (iblk m c 1 t) (iblk m c 2 t) (iblk m c 3 t) (iblk m c 4 t) (iblk m c 5 t) (iblk m c 6 t) (iblk m c 7 t))
  · exact point8 m c hT t y x 1024 (by omega) k1 k2 _ (store8 (iblk m c 0 t) (iblk m c 1 t) (iblk m c 2 t) (iblk m c 3 t) (iblk m c 4 t) (iblk m c 5 t) (iblk m c 6 t) (iblk m c 7 t))
  · exact point8 m c hT t y x 896 (by omega) k1 k2 _ (store7 (iblk m c 0 t) (iblk m c 1 t) (iblk m c 2 t) (iblk m c 3 t) (iblk m c 4 t) (iblk m c 5 t) (iblk m c 6 t) (iblk m c 7 t))
  · exact point8 m c hT t y x 768 (by omega) k1 k2 _ (store6 (iblk m c 0 t) (iblk m c 1 t) (iblk m c 2 t) (iblk m c 3 t) (iblk m c 4 t) (iblk m c 5 t) (iblk m c 6 t) (iblk m c 7 t))
  · exact point8 m c hT t y x 640 (by omega) k1 k2 _ (store5 (iblk m c 0 t) (iblk m c 1 t) (iblk m c 2 t) (iblk m c 3 t) (iblk m c 4 t) (iblk m c 5 t) (iblk m c 6 t) (iblk m c 7 t))
  · exact point8 m c hT t y x 512 (by omega) k1 k2 _ (store4 (iblk m c 0 t) (iblk m c 1 t) (iblk m c 2 t) (iblk m c 3 t) (iblk m c 4 t) (iblk m c 5 t) (iblk m c 6 t) (iblk m c 7 t))
  · exact point8 m c hT t y x 384 (by omega) k1 k2 _ (store3 (iblk m c 0 t) (iblk m c 1 t) (iblk m c 2 t) (iblk m c 3 t) (iblk m c 4 t) (iblk m c 5 t) (iblk m c 6 t) (iblk m c 7 t))
  · exact point8 m c hT t y x 256 (by omega) k1 k2 _ (store2 (iblk m c 0 t) (iblk m c 1 t) (iblk m c 2 t) (iblk m c 3 t) (iblk m c 4 t) (iblk m c 5 t) (iblk m c 6 t) (iblk m c 7 t))
  · exact point8 m c hT t y x 128 (by omega) k1 k2 _ (store1 (iblk m c 0 t) (iblk m c 1 t) (iblk m c 2 t) (iblk m c 3 t) (iblk m c 4 t) (iblk m c 5 t) (iblk m c 6 t) (iblk m c 7 t))
  · exact point8 m c hT t y x 0 (by omega) k1 (k2.trans (Nat.zero_add _).symm) _ (store0 (iblk m c 0 t) (iblk m c 1 t) (iblk m c 2 t) (iblk m c 3 t) (iblk m c 4 t) (iblk m c 5 t) (iblk m c 6 t) (iblk m c 7 t))

end Cert.Kernel5Ideal.Qkv

end
-- ==== Proof.QkvNormPre.lean ====
/- The precondition of the projection with normed queries and keys says of the rotation's tables what the other projection's says. -/
module

public import proofs.«01_k».proof.Proof.QkvPre
public import proofs.«01_k».proof.Proof.Gen.Pre_rotary_tables_normed

@[expose] public section
set_option maxRecDepth 16384
noncomputable section
open Idealize.ShloMosaic Idealize.ShloMosaic.TcCoe Idealize.SL.Sem

namespace Cert.Pre_rotary_tables_normed.Qkv

open Cert.Pre_rotary_tables_normed Cert.Pre_rotary_tables_normed.Gen

variable (X : FVec Ideal S8x2304x1024 .f32) (M : FVec Ideal S8x2x6x1024 .f32) (G : FVec Ideal S1024 .f32) (W : FVec Ideal S1024x1536 .f32) (Gq Gk : FVec Ideal S64 .f32) (B : FVec Ideal Cert.Pre_rotary_tables.S1536 .f32) (C S : FVec Ideal S2304x128 .f32)

/-- The two preconditions are one condition on the tables, whatever the other arguments are. -/
theorem same_tables : fn (F := Ideal) X M G W Gq Gk C S = Cert.Pre_rotary_tables.fn (F := Ideal) X M G W B C S := rfl

/-- The precondition, as the facts the rotation needs. -/
theorem tables_of_pre (h1 : (fn (F := Ideal) X M G W Gq Gk C S).1 = fun _ => 1#1) (h2 : (fn (F := Ideal) X M G W Gq Gk C S).2.1 = fun _ => 1#1)
    (h3 : (fn (F := Ideal) X M G W Gq Gk C S).2.2.1 = fun _ => 1#1) (h4 : (fn (F := Ideal) X M G W Gq Gk C S).2.2.2.1 = fun _ => 1#1)
    (h5 : (fn (F := Ideal) X M G W Gq Gk C S).2.2.2.2.1 = fun _ => 1#1) (h6 : (fn (F := Ideal) X M G W Gq Gk C S).2.2.2.2.2 = fun _ => 1#1) :
    Cert.Pre_rotary_tables.Qkv.Tables C S := by
  rw [same_tables X M G W Gq Gk (fun _ => 0) C S] at h1 h2 h3 h4 h5 h6
  exact Cert.Pre_rotary_tables.Qkv.tables_of_pre X M G W (fun _ => 0) C S h1 h2 h3 h4 h5 h6

end Cert.Pre_rotary_tables_normed.Qkv

end
-- ==== Proof.QkvNormRef.lean ====
/- The projection to queries, keys and values with normed queries and keys: what the reference computes, read at an entry. -/
module

public import proofs.«01_k».proof.Proof.QkvEq
public import proofs.«01_k».proof.Proof.Gen.Reference7Ideal.Run

@[expose] public section

set_option maxRecDepth 16384

noncomputable section

open Idealize.ShloMosaic Cert.Norm

namespace Cert.Qkv

/-- A head's columns over their root mean square, times the gain. -/
def headNorm (p g : Fin 64 → EReal) (d : Fin 64) : EReal :=
  p d * Ideal.rsqrt (Ideal.div (∑ j, p j * p j) (Ideal.ofBits .f32 0x42800000#32) + Ideal.ofBits .f32 0x358637BD#32) * g d

/-- A row of the projection with its queries and keys normed head by head. -/
def normRow (p : Fin 1536 → EReal) (gq gk : Fin 64 → EReal) (f : Fin 1536) : EReal :=
  if f.val < 1280 then headNorm (fun d => p ⟨f.val / 64 * 64 + d.val, by omega⟩) (if f.val < 1024 then gq else gk) ⟨f.val % 64, by omega⟩ else p f

/-- Its queries. -/
theorem normRow_q (p : Fin 1536 → EReal) (gq gk : Fin 64 → EReal) (h : Fin 16) (d : Fin 64) (f : Fin 1536) (hf : f.val = h.val * 64 + d.val) :
    normRow p gq gk f = headNorm (fun d => p ⟨h.val * 64 + d.val, by omega⟩) gq d := by
  unfold normRow
  have e : ∀ u, (⟨f.val % 64, u⟩ : Fin 64) = d := fun u => Fin.ext (by dsimp only; omega)
  have e' : f.val / 64 = h.val := by omega
  simp only [if_pos (show f.val < 1280 by omega), if_pos (show f.val < 1024 by omega), e, e']

/-- Its keys. -/
theorem normRow_k (p : Fin 1536 → EReal) (gq gk : Fin 64 → EReal) (h : Fin 4) (d : Fin 64) (f : Fin 1536) (hf : f.val = 1024 + (h.val * 64 + d.val)) :
    normRow p gq gk f = headNorm (fun d => p ⟨1024 + (h.val * 64 + d.val), by omega⟩) gk d := by
  unfold normRow
  have e : ∀ u, (⟨f.val % 64, u⟩ : Fin 64) = d := fun u => Fin.ext (by dsimp only; omega)
  have e' : ∀ (j : Fin 64) u, (⟨f.val / 64 * 64 + j.val, u⟩ : Fin 1536) = ⟨1024 + (h.val * 64 + j.val), by omega⟩ := fun j u => Fin.ext (by dsimp only; omega)
  simp only [if_pos (show f.val < 1280 by omega), if_neg (show ¬ f.val < 1024 by omega), e, e']

/-- Its values are the projection's. -/
theorem normRow_v (p : Fin 1536 → EReal) (gq gk : Fin 64 → EReal) (f : Fin 1536) (hf : 1280 ≤ f.val) : normRow p gq gk f = p f := by
  unfold normRow
  rw [if_neg (by omega)]

end Cert.Qkv

namespace Cert.Reference7Ideal.Qkv

open Cert.Reference7Ideal Cert.Reference7Ideal.Gen Cert.Qkv
open Cert.Reference5Ideal.Qkv (hCtx hLat hCtx_apply hLat_apply tab tab_apply ropeQ ropeQ_apply ropeK ropeK_apply qCtx qCtx_apply kCtx kCtx_apply vCtx vCtx_apply qLat qLat_apply kLat kLat_apply vLat vLat_apply twice twice_apply refRot)

/-- The context rows' projection. -/
def pCtx (X : FVec Ideal S8x2304x1024 .f32) (M : FVec Ideal S8x2x6x1024 .f32) (G : FVec Ideal S1024 .f32) (W : FVec Ideal S1024x1536 .f32) : FVec Ideal S8x256x1536 .f32 :=
  Host.dotGeneral dot_S8x256x1024_S1024x1536_S8x256x1536_2_0_01_1_n_n none (hCtx X M G) W

/-- The latent rows' projection. -/
def pLat (X : FVec Ideal S8x2304x1024 .f32) (M : FVec Ideal S8x2x6x1024 .f32) (G : FVec Ideal S1024 .f32) (W : FVec Ideal S1024x1536 .f32) : FVec Ideal S8x2048x1536 .f32 :=
  Host.dotGeneral dot_S8x2048x1024_S1024x1536_S8x2048x1536_2_0_01_1_n_n none (hLat X M G) W

/-- The projection of a row at a column: a row's modulation is the context's on the first 256 rows, the latent's after them. -/
def prow (X : FVec Ideal S8x2304x1024 .f32) (M : FVec Ideal S8x2x6x1024 .f32) (G : FVec Ideal S1024 .f32) (W : FVec Ideal S1024x1536 .f32) (b : Fin 8) (r : Fin 2304) (f : Fin 1536) : EReal :=
  ∑ k, normMod (fun k => X (ix3 b r k)) (fun k => G (ix1 k)) (fun k => M (ix4 b (if r.val < 256 then 0 else 1) 1 k)) (fun k => M (ix4 b (if r.val < 256 then 0 else 1) 0 k)) k * W (ix2 k f)

/-- A context row's projection. -/
theorem pCtx_apply (X : FVec Ideal S8x2304x1024 .f32) (M : FVec Ideal S8x2x6x1024 .f32) (G : FVec Ideal S1024 .f32) (W : FVec Ideal S1024x1536 .f32) (b : Fin 8) (r : Fin 256) (f : Fin 1536) :
    pCtx X M G W (ix3 b r f) = prow X M G W b ⟨r.val, by omega⟩ f := by
  have h : r.val < 256 := r.isLt
  pointwise [pCtx, prow, if_pos h, hCtx_apply]

/-- A latent row's projection. -/
theorem pLat_apply (X : FVec Ideal S8x2304x1024 .f32) (M : FVec Ideal S8x2x6x1024 .f32) (G : FVec Ideal S1024 .f32) (W : FVec Ideal S1024x1536 .f32) (b : Fin 8) (r : Fin 2048) (f : Fin 1536) :
    pLat X M G W (ix3 b r f) = prow X M G W b ⟨256 + r.val, by omega⟩ f := by
  have h : ¬ (256 + r.val < 256) := by omega
  pointwise [pLat, prow, if_neg h, hLat_apply]

/-- A row with its queries and keys normed. -/
def nrow (X : FVec Ideal S8x2304x1024 .f32) (M : FVec Ideal S8x2x6x1024 .f32) (G : FVec Ideal S1024 .f32) (W : FVec Ideal S1024x1536 .f32) (Gq Gk : FVec Ideal S64 .f32) (b : Fin 8) (r : Fin 2304) : Fin 1536 → EReal := normRow (prow X M G W b r) (fun d => Gq (ix1 d)) (fun d => Gk (ix1 d))

/-- The context rows' queries, each head normed over its 64 columns and times the gain. -/
def nqCtx (T : FVec Ideal S8x256x16x64 .f32) (g : FVec Ideal S64 .f32) : FVec Ideal S8x256x16x64 .f32 :=
  mulf (mulf T (broadcastInDim S8x256x16x64 ![0, 1, 2, 3] bcast_S8x256x16x1_S8x256x16x64_0_1_2_3 (Host.rsqrt (addf (Host.divf (broadcastInDim S8x256x16x1 ![0, 1, 2] bcast_S8x256x16_S8x256x16x1_0_1_2 (Host.reduceAdd (mulf T T) (constant S_ .f32 0x00000000#32) reducesTo_S8x256x16x64_S8x256x16_d3 h_S_)) (broadcastInDim S8x256x16x1 ![] bcast_S_S8x256x16x1 (constant S_ .f32 0x42800000#32))) (broadcastInDim S8x256x16x1 ![] bcast_S_S8x256x16x1 (constant S_ .f32 0x358637BD#32)))))) (broadcastInDim S8x256x16x64 ![0, 1, 2, 3] bcast_S1x1x1x64_S8x256x16x64_0_1_2_3 (broadcastInDim S1x1x1x64 ![3] bcast_S64_S1x1x1x64_3 g))

/-- An entry of a normed head. -/
theorem nqCtx_apply (T : FVec Ideal S8x256x16x64 .f32) (g : FVec Ideal S64 .f32) (b : Fin 8) (r : Fin 256) (h : Fin 16) (d : Fin 64) :
    nqCtx T g (ix4 b r h d) = headNorm (fun d => T (ix4 b r h d)) (fun d => g (ix1 d)) d := by
  pointwise [nqCtx, headNorm]

/-- The context rows' keys, each head normed over its 64 columns and times the gain. -/
def nkCtx (T : FVec Ideal S8x256x4x64 .f32) (g : FVec Ideal S64 .f32) : FVec Ideal S8x256x4x64 .f32 :=
  mulf (mulf T (broadcastInDim S8x256x4x64 ![0, 1, 2, 3] bcast_S8x256x4x1_S8x256x4x64_0_1_2_3 (Host.rsqrt (addf (Host.divf (broadcastInDim S8x256x4x1 ![0, 1, 2] bcast_S8x256x4_S8x256x4x1_0_1_2 (Host.reduceAdd (mulf T T) (constant S_ .f32 0x00000000#32) reducesTo_S8x256x4x64_S8x256x4_d3 h_S_)) (broadcastInDim S8x256x4x1 ![] bcast_S_S8x256x4x1 (constant S_ .f32 0x42800000#32))) (broadcastInDim S8x256x4x1 ![] bcast_S_S8x256x4x1 (constant S_ .f32 0x358637BD#32)))))) (broadcastInDim S8x256x4x64 ![0, 1, 2, 3] bcast_S1x1x1x64_S8x256x4x64_0_1_2_3 (broadcastInDim S1x1x1x64 ![3] bcast_S64_S1x1x1x64_3 g))

/-- An entry of a normed head. -/
theorem nkCtx_apply (T : FVec Ideal S8x256x4x64 .f32) (g : FVec Ideal S64 .f32) (b : Fin 8) (r : Fin 256) (h : Fin 4) (d : Fin 64) :
    nkCtx T g (ix4 b r h d) = headNorm (fun d => T (ix4 b r h d)) (fun d => g (ix1 d)) d := by
  pointwise [nkCtx, headNorm]

/-- The latent rows' queries, each head normed over its 64 columns and times the gain. -/
def nqLat (T : FVec Ideal S8x2048x16x64 .f32) (g : FVec Ideal S64 .f32) : FVec Ideal S8x2048x16x64 .f32 :=
  mulf (mulf T (broadcastInDim S8x2048x16x64 ![0, 1, 2, 3] bcast_S8x2048x16x1_S8x2048x16x64_0_1_2_3 (Host.rsqrt (addf (Host.divf (broadcastInDim S8x2048x16x1 ![0, 1, 2] bcast_S8x2048x16_S8x2048x16x1_0_1_2 (Host.reduceAdd (mulf T T) (constant S_ .f32 0x00000000#32) reducesTo_S8x2048x16x64_S8x2048x16_d3 h_S_)) (broadcastInDim S8x2048x16x1 ![] bcast_S_S8x2048x16x1 (constant S_ .f32 0x42800000#32))) (broadcastInDim S8x2048x16x1 ![] bcast_S_S8x2048x16x1 (constant S_ .f32 0x358637BD#32)))))) (broadcastInDim S8x2048x16x64 ![0, 1, 2, 3] bcast_S1x1x1x64_S8x2048x16x64_0_1_2_3 (broadcastInDim S1x1x1x64 ![3] bcast_S64_S1x1x1x64_3 g))

/-- An entry of a normed head. -/
theorem nqLat_apply (T : FVec Ideal S8x2048x16x64 .f32) (g : FVec Ideal S64 .f32) (b : Fin 8) (r : Fin 2048) (h : Fin 16) (d : Fin 64) :
    nqLat T g (ix4 b r h d) = headNorm (fun d => T (ix4 b r h d)) (fun d => g (ix1 d)) d := by
  pointwise [nqLat, headNorm]

/-- The latent rows' keys, each head normed over its 64 columns and times the gain. -/
def nkLat (T : FVec Ideal S8x2048x4x64 .f32) (g : FVec Ideal S64 .f32) : FVec Ideal S8x2048x4x64 .f32 :=
  mulf (mulf T (broadcastInDim S8x2048x4x64 ![0, 1, 2, 3] bcast_S8x2048x4x1_S8x2048x4x64_0_1_2_3 (Host.rsqrt (addf (Host.divf (broadcastInDim S8x2048x4x1 ![0, 1, 2] bcast_S8x2048x4_S8x2048x4x1_0_1_2 (Host.reduceAdd (mulf T T) (constant S_ .f32 0x00000000#32) reducesTo_S8x2048x4x64_S8x2048x4_d3 h_S_)) (broadcastInDim S8x2048x4x1 ![] bcast_S_S8x2048x4x1 (constant S_ .f32 0x42800000#32))) (broadcastInDim S8x2048x4x1 ![] bcast_S_S8x2048x4x1 (constant S_ .f32 0x358637BD#32)))))) (broadcastInDim S8x2048x4x64 ![0, 1, 2, 3] bcast_S1x1x1x64_S8x2048x4x64_0_1_2_3 (broadcastInDim S1x1x1x64 ![3] bcast_S64_S1x1x1x64_3 g))

/-- An entry of a normed head. -/
theorem nkLat_apply (T : FVec Ideal S8x2048x4x64 .f32) (g : FVec Ideal S64 .f32) (b : Fin 8) (r : Fin 2048) (h : Fin 4) (d : Fin 64) :
    nkLat T g (ix4 b r h d) = headNorm (fun d => T (ix4 b r h d)) (fun d => g (ix1 d)) d := by
  pointwise [nkLat, headNorm]

/-- The queries of all rows, scaled. -/
def qAll (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) : FVec Ideal S8x2304x1024 .f32 :=
  mulf (shapeCast _ (concatenate S8x2304x16x64 1 [⟨S8x256x16x64, (nqCtx (qCtx (pCtx X M G W)) Gq)⟩, ⟨S8x2048x16x64, (ropeQ (nqLat (qLat (pLat X M G W)) Gq) (tab C) (tab S))⟩] concatenates_S8x256x16x64_S8x2048x16x64_S8x2304x16x64_d1) shapeCasts_S8x2304x16x64_S8x2304x1024) (broadcastInDim S8x2304x1024 ![] bcast_S_S8x2304x1024 (constant S_ .f32 0x3E000000#32))

/-- The keys of all rows. -/
def kAll (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) : FVec Ideal S8x2304x4x64 .f32 :=
  concatenate S8x2304x4x64 1 [⟨S8x256x4x64, (nkCtx (kCtx (pCtx X M G W)) Gk)⟩, ⟨S8x2048x4x64, (ropeK (nkLat (kLat (pLat X M G W)) Gk) (tab C) (tab S))⟩] concatenates_S8x256x4x64_S8x2048x4x64_S8x2304x4x64_d1

/-- The values of all rows. -/
def vAll (X : FVec Ideal S8x2304x1024 .f32) (M : FVec Ideal S8x2x6x1024 .f32) (G : FVec Ideal S1024 .f32) (W : FVec Ideal S1024x1536 .f32) : FVec Ideal S8x2304x4x64 .f32 :=
  concatenate S8x2304x4x64 1 [⟨S8x256x4x64, (vCtx (pCtx X M G W))⟩, ⟨S8x2048x4x64, (vLat (pLat X M G W))⟩] concatenates_S8x256x4x64_S8x2048x4x64_S8x2304x4x64_d1

/-- The result: queries, keys twice, values twice. -/
def REF (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) : FVec Ideal S8x2304x3072 .bf16 :=
  truncf .bf16 ((concatenate S8x2304x3072 2 [⟨S8x2304x1024, (qAll X M G W Gq Gk C S)⟩, ⟨S8x2304x1024, (twice (kAll X M G W Gq Gk C S))⟩, ⟨S8x2304x1024, (twice (vAll X M G W))⟩] concatenates_S8x2304x1024_S8x2304x1024_S8x2304x1024_S8x2304x3072_d2)) bitsLt_bf16_f32

/-- The columns of queries and keys of all rows: the latent rows' are rotated. -/
def cols (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (b : Fin 8) (r : Fin 2304) (f : Fin 1280) : EReal :=
  if r.val < 256 then nrow X M G W Gq Gk b r ⟨f.val, by omega⟩ else refRot (nrow X M G W Gq Gk b r) (fun l => C (ix2 r l)) (fun l => S (ix2 r l)) f

/-- A context row's query, normed. -/
theorem nqCtx_row (X : FVec Ideal S8x2304x1024 .f32) (M : FVec Ideal S8x2x6x1024 .f32) (G : FVec Ideal S1024 .f32) (W : FVec Ideal S1024x1536 .f32) (Gq Gk : FVec Ideal S64 .f32) (b : Fin 8) (r : Fin 256) (h : Fin 16) (d : Fin 64) (u) :
    nqCtx (qCtx (pCtx X M G W)) Gq (ix4 b r h d) = nrow X M G W Gq Gk b ⟨r.val, by omega⟩ ⟨h.val * 64 + d.val, u⟩ := by
  rw [nqCtx_apply]
  simp only [qCtx_apply, pCtx_apply]
  exact (normRow_q _ _ _ h d _ rfl).symm

/-- A context row's key, normed. -/
theorem nkCtx_row (X : FVec Ideal S8x2304x1024 .f32) (M : FVec Ideal S8x2x6x1024 .f32) (G : FVec Ideal S1024 .f32) (W : FVec Ideal S1024x1536 .f32) (Gq Gk : FVec Ideal S64 .f32) (b : Fin 8) (r : Fin 256) (h : Fin 4) (d : Fin 64) (u) :
    nkCtx (kCtx (pCtx X M G W)) Gk (ix4 b r h d) = nrow X M G W Gq Gk b ⟨r.val, by omega⟩ ⟨1024 + (h.val * 64 + d.val), u⟩ := by
  rw [nkCtx_apply]
  simp only [kCtx_apply, pCtx_apply]
  exact (normRow_k _ _ _ h d _ rfl).symm

/-- A latent row's query, normed. -/
theorem nqLat_row (X : FVec Ideal S8x2304x1024 .f32) (M : FVec Ideal S8x2x6x1024 .f32) (G : FVec Ideal S1024 .f32) (W : FVec Ideal S1024x1536 .f32) (Gq Gk : FVec Ideal S64 .f32) (b : Fin 8) (r : Fin 2048) (h : Fin 16) (d : Fin 64) :
    nqLat (qLat (pLat X M G W)) Gq (ix4 b r h d) = nrow X M G W Gq Gk b ⟨256 + r.val, by omega⟩ ⟨h.val * 64 + d.val, by omega⟩ := by
  rw [nqLat_apply]
  simp only [qLat_apply, pLat_apply]
  exact (normRow_q _ _ _ h d _ rfl).symm

/-- A latent row's key, normed. -/
theorem nkLat_row (X : FVec Ideal S8x2304x1024 .f32) (M : FVec Ideal S8x2x6x1024 .f32) (G : FVec Ideal S1024 .f32) (W : FVec Ideal S1024x1536 .f32) (Gq Gk : FVec Ideal S64 .f32) (b : Fin 8) (r : Fin 2048) (h : Fin 4) (d : Fin 64) :
    nkLat (kLat (pLat X M G W)) Gk (ix4 b r h d) = nrow X M G W Gq Gk b ⟨256 + r.val, by omega⟩ ⟨1024 + (h.val * 64 + d.val), by omega⟩ := by
  rw [nkLat_apply]
  simp only [kLat_apply, pLat_apply]
  exact (normRow_k _ _ _ h d _ rfl).symm

/-- A rotated query. -/
theorem ropeQ_cols (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (b : Fin 8) (r : Fin 2304) (hr : ¬ r.val < 256) (h : Fin 16) (d : Fin 64) (u) (f : Fin 1280) (hf : f.val = h.val * 64 + d.val) :
    ropeQ (nqLat (qLat (pLat X M G W)) Gq) (tab C) (tab S) (ix4 b ⟨r.val - 256, u⟩ h d) = cols X M G W Gq Gk C S b r f := by
  have e0 : ∀ w, (⟨256 + (r.val - 256), w⟩ : Fin 2304) = r := fun w => Fin.ext (by show 256 + (r.val - 256) = r.val; omega)
  have e1 : ∀ w, (⟨d.val / 32 * 32 + 16 + d.val % 16, w⟩ : Fin 128) = ⟨f.val % 64 / 32 * 32 + 16 + f.val % 16, by omega⟩ := fun w => Fin.ext (by dsimp only; omega)
  have e2 : ∀ w, (⟨h.val * 64 + d.val, w⟩ : Fin 1536) = ⟨f.val, by omega⟩ := fun w => Fin.ext (by dsimp only; omega)
  rw [ropeQ_apply]
  simp only [nqLat_row X M G W Gq Gk, tab_apply, e0, e1, e2]
  unfold cols refRot
  rw [if_neg hr]
  by_cases w : d.val % 32 < 16
  · rw [dif_pos w, dif_pos (show f.val % 32 < 16 by omega)]
    have e3 : ∀ w, (⟨h.val * 64 + (d.val + 16), w⟩ : Fin 1536) = ⟨f.val + 16, by omega⟩ := fun w => Fin.ext (by dsimp only; omega)
    simp only [e3]
  · rw [dif_neg w, dif_neg (show ¬ f.val % 32 < 16 by omega)]
    have e3 : ∀ w, (⟨h.val * 64 + (d.val - 16), w⟩ : Fin 1536) = ⟨f.val - 16, by omega⟩ := fun w => Fin.ext (by dsimp only; omega)
    simp only [e3]

/-- A rotated key. -/
theorem ropeK_cols (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (b : Fin 8) (r : Fin 2304) (hr : ¬ r.val < 256) (h : Fin 4) (d : Fin 64) (u) (f : Fin 1280) (hf : f.val = 1024 + (h.val * 64 + d.val)) :
    ropeK (nkLat (kLat (pLat X M G W)) Gk) (tab C) (tab S) (ix4 b ⟨r.val - 256, u⟩ h d) = cols X M G W Gq Gk C S b r f := by
  have e0 : ∀ w, (⟨256 + (r.val - 256), w⟩ : Fin 2304) = r := fun w => Fin.ext (by show 256 + (r.val - 256) = r.val; omega)
  have e1 : ∀ w, (⟨d.val / 32 * 32 + 16 + d.val % 16, w⟩ : Fin 128) = ⟨f.val % 64 / 32 * 32 + 16 + f.val % 16, by omega⟩ := fun w => Fin.ext (by dsimp only; omega)
  have e2 : ∀ w, (⟨1024 + (h.val * 64 + d.val), w⟩ : Fin 1536) = ⟨f.val, by omega⟩ := fun w => Fin.ext (by dsimp only; omega)
  rw [ropeK_apply]
  simp only [nkLat_row X M G W Gq Gk, tab_apply, e0, e1, e2]
  unfold cols refRot
  rw [if_neg hr]
  by_cases w : d.val % 32 < 16
  · rw [dif_pos w, dif_pos (show f.val % 32 < 16 by omega)]
    have e3 : ∀ w, (⟨1024 + (h.val * 64 + (d.val + 16)), w⟩ : Fin 1536) = ⟨f.val + 16, by omega⟩ := fun w => Fin.ext (by dsimp only; omega)
    simp only [e3]
  · rw [dif_neg w, dif_neg (show ¬ f.val % 32 < 16 by omega)]
    have e3 : ∀ w, (⟨1024 + (h.val * 64 + (d.val - 16)), w⟩ : Fin 1536) = ⟨f.val - 16, by omega⟩ := fun w => Fin.ext (by dsimp only; omega)
    simp only [e3]

/-- The queries at an entry. -/
theorem qAll_apply (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (b : Fin 8) (r : Fin 2304) (f : Fin 1024) :
    qAll X M G W Gq Gk C S (ix3 b r f) = cols X M G W Gq Gk C S b r ⟨f.val, by omega⟩ * Ideal.ofBits .f32 0x3E000000#32 := by
  pointwise [qAll]
  by_cases h : r.val < 256
  · rw [dif_pos h, nqCtx_row X M G W Gq Gk b ⟨r.val, h⟩ ⟨f.val / 64, by omega⟩ ⟨f.val % 64, by omega⟩ (by dsimp only; omega)]
    unfold cols
    rw [if_pos h]
    have e2 : ∀ w, (⟨f.val / 64 * 64 + f.val % 64, w⟩ : Fin 1536) = ⟨f.val, by omega⟩ := fun w => Fin.ext (by dsimp only; omega)
    simp only [e2]
  · rw [dif_neg h, ropeQ_cols X M G W Gq Gk C S b r h _ _ _ ⟨f.val, by omega⟩ (by dsimp only; omega)]

/-- The keys at an entry. -/
theorem kAll_apply (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (b : Fin 8) (r : Fin 2304) (h : Fin 4) (d : Fin 64) :
    kAll X M G W Gq Gk C S (ix4 b r h d) = cols X M G W Gq Gk C S b r ⟨1024 + (h.val * 64 + d.val), by omega⟩ := by
  pointwise [kAll]
  by_cases w : r.val < 256
  · rw [dif_pos w, nkCtx_row X M G W Gq Gk b ⟨r.val, w⟩ h d (by omega)]
    unfold cols
    rw [if_pos w]
  · rw [dif_neg w, ropeK_cols X M G W Gq Gk C S b r w _ _ _ ⟨1024 + (h.val * 64 + d.val), by omega⟩ rfl]

/-- The values at an entry. -/
theorem vAll_apply (X : FVec Ideal S8x2304x1024 .f32) (M : FVec Ideal S8x2x6x1024 .f32) (G : FVec Ideal S1024 .f32) (W : FVec Ideal S1024x1536 .f32) (Gq Gk : FVec Ideal S64 .f32) (b : Fin 8) (r : Fin 2304) (h : Fin 4) (d : Fin 64) :
    vAll X M G W (ix4 b r h d) = nrow X M G W Gq Gk b r ⟨1280 + (h.val * 64 + d.val), by omega⟩ := by
  refine Eq.trans ?_ (normRow_v _ _ _ _ (by dsimp only; omega)).symm
  pointwise [vAll]
  by_cases w : r.val < 256
  · rw [dif_pos w, vCtx_apply, pCtx_apply]
  · have e0 : ∀ w, (⟨256 + (r.val - 256), w⟩ : Fin 2304) = r := fun w => Fin.ext (by show 256 + (r.val - 256) = r.val; omega)
    rw [dif_neg w, vLat_apply, pLat_apply, e0]

/-- The result at an entry. -/
theorem REF_apply (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (b : Fin 8) (r : Fin 2304) (f : Fin 3072) :
    REF X M G W Gq Gk C S (ix3 b r f) = if h : f.val < 1024 then qAll X M G W Gq Gk C S (ix3 b r ⟨f.val, h⟩)
      else if h' : f.val < 2048 then twice (kAll X M G W Gq Gk C S) (ix3 b r ⟨f.val - 1024, by omega⟩)
      else twice (vAll X M G W) (ix3 b r ⟨f.val - 2048, by omega⟩) := by
  pointwise [REF]
  by_cases h : f.val < 1024
  · rw [dif_pos h, dif_pos h]
  · rw [dif_neg h, dif_neg h]
    by_cases h' : f.val < 2048
    · rw [dif_pos (show f.val - 1024 < 1024 by omega), dif_pos h']
    · have e : ∀ w, (⟨f.val - 1024 - 1024, w⟩ : Fin 1024) = ⟨f.val - 2048, by omega⟩ := fun w => Fin.ext (by dsimp only; omega)
      rw [dif_neg (show ¬ f.val - 1024 < 1024 by omega), dif_neg h', e]

open Cert.Pre_rotary_tables.Qkv (Tables)

/-- The reference's columns are the turned ones: on the context rows the turn is none, on the latent rows the tables repeat. -/
theorem cols_eq (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (h : Tables C S) (b : Fin 8) (r : Fin 2304) (f : Fin 1280) :
    cols X M G W Gq Gk C S b r f = turn (nrow X M G W Gq Gk b r) (fun l => C (ix2 r l)) (fun l => S (ix2 r l)) f := by
  unfold cols turn
  beta_reduce
  by_cases w : r.val < 256
  · rw [if_pos w, h.one r _ w, h.zero r _ w, mul_one, mul_zero, add_zero]
  · rw [if_neg w]
    unfold refRot
    beta_reduce
    have e : ∀ u, (⟨f.val % 128 % 64 / 32 * 32 + 16 + f.val % 128 % 16, u⟩ : Fin 128) = ⟨f.val % 64 / 32 * 32 + 16 + f.val % 16, by omega⟩ := fun u => Fin.ext (by dsimp only; omega)
    have hc := h.cos r ⟨f.val % 128, by omega⟩
    simp only [e] at hc
    rw [hc]
    by_cases v : f.val % 32 < 16
    · have hs := h.sin_fst r ⟨f.val % 128, by omega⟩ (by dsimp only; omega)
      simp only [e] at hs
      rw [dif_pos v, dif_pos v, hs, mul_neg, sub_eq_add_neg]
    · have hs := h.sin_snd r ⟨f.val % 128, by omega⟩ (by dsimp only; omega)
      simp only [e] at hs
      rw [dif_neg v, dif_neg v, hs]

/-- The result's rows are the packed ones. -/
theorem REF_eq (X : FVec Ideal S8x2304x1024 .f32) (M : FVec Ideal S8x2x6x1024 .f32) (G : FVec Ideal S1024 .f32) (W : FVec Ideal S1024x1536 .f32) (Gq Gk : FVec Ideal S64 .f32) (C S : FVec Ideal S2304x128 .f32) (h : Tables C S) (b : Fin 8) (r : Fin 2304) (f : Fin 3072) :
    REF X M G W Gq Gk C S (ix3 b r f)
      = pack (fun f => turn (nrow X M G W Gq Gk b r) (fun l => C (ix2 r l)) (fun l => S (ix2 r l)) ⟨f.val, by omega⟩) (fun f => turn (nrow X M G W Gq Gk b r) (fun l => C (ix2 r l)) (fun l => S (ix2 r l)) ⟨1024 + f.val, by omega⟩)
          (fun f => nrow X M G W Gq Gk b r ⟨1280 + f.val, by omega⟩) f := by
  rw [REF_apply]
  unfold pack spread
  by_cases w : f.val < 1024
  · rw [dif_pos w, dif_pos w, qAll_apply, cols_eq X M G W Gq Gk C S h]
  · rw [dif_neg w, dif_neg w]
    by_cases v : f.val < 2048
    · rw [dif_pos v, dif_pos v, twice_apply, kAll_apply, cols_eq X M G W Gq Gk C S h]
    · rw [dif_neg v, dif_neg v, twice_apply, vAll_apply X M G W Gq Gk]

end Cert.Reference7Ideal.Qkv

end
-- ==== Proof.QkvNormPiece.lean ====
/- What each store of the projection with normed queries and keys holds, from the normed blocks and the tables. -/
module

public import proofs.«01_k».proof.Proof.QkvKernel
public import proofs.«01_k».proof.Proof.Gen.Kernel7Ideal.Skeleton

@[expose] public section

set_option maxRecDepth 16384

noncomputable section

open Idealize.ShloMosaic Cert.Norm

namespace Cert.Kernel7Ideal.Qkv

open Cert.Kernel7Ideal Cert.Kernel7Ideal.Gen Cert.Qkv

set_option maxHeartbeats 2000000 in
/-- Lanes 0 to 127 of a packed row: queries. -/
theorem piece0 (p : Fin 1536 → EReal) (c : Fin 128 → EReal) (T U S : FVec Ideal S256x128 .f32) (r : Fin 256)
    (hT : ∀ l : Fin 128, T (ix2 r l) = p ⟨l.val, by omega⟩) (hU : ∀ l : Fin 128, U (ix2 r l) = p ⟨l.val, by omega⟩ * c l) (l : Fin 128) :
    (k0_pay15 (F := Ideal) S T U k0_pay12 k0_pay13 k0_pay14 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨0 + l.val, by omega⟩ := by
  pointwise [k0_pay15, k0_pay12, k0_pay13, k0_pay14]
  simp only [hT, hU]
  refine Eq.trans ?_ (pack_q _ _ _ _ (by dsimp only; omega)).symm
  exact congrArg (· * Ideal.ofBits .f32 0x3E000000#32) (turn_of p c (fun i => S (ix2 r i)) ⟨l.val, by omega⟩ l _ _ _ _
    (by dsimp only; omega) (by rfl) (by intro w; dsimp only; omega) (by intro w; dsimp only; omega) (by clear hT hU; revert l; decide +kernel))

set_option maxHeartbeats 2000000 in
/-- Lanes 128 to 255 of a packed row: queries. -/
theorem piece1 (p : Fin 1536 → EReal) (c : Fin 128 → EReal) (T U S : FVec Ideal S256x128 .f32) (r : Fin 256)
    (hT : ∀ l : Fin 128, T (ix2 r l) = p ⟨128 + l.val, by omega⟩) (hU : ∀ l : Fin 128, U (ix2 r l) = p ⟨128 + l.val, by omega⟩ * c l) (l : Fin 128) :
    (k0_pay21 (F := Ideal) S T U k0_pay19 k0_pay20 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨128 + l.val, by omega⟩ := by
  pointwise [k0_pay21, k0_pay19, k0_pay20]
  simp only [hT, hU]
  refine Eq.trans ?_ (pack_q _ _ _ _ (by dsimp only; omega)).symm
  exact congrArg (· * Ideal.ofBits .f32 0x3E000000#32) (turn_of p c (fun i => S (ix2 r i)) ⟨128 + l.val, by omega⟩ l _ _ _ _
    (by dsimp only; omega) (by rfl) (by intro w; dsimp only; omega) (by intro w; dsimp only; omega) (by clear hT hU; revert l; decide +kernel))

set_option maxHeartbeats 2000000 in
/-- Lanes 256 to 383 of a packed row: queries. -/
theorem piece2 (p : Fin 1536 → EReal) (c : Fin 128 → EReal) (T U S : FVec Ideal S256x128 .f32) (r : Fin 256)
    (hT : ∀ l : Fin 128, T (ix2 r l) = p ⟨256 + l.val, by omega⟩) (hU : ∀ l : Fin 128, U (ix2 r l) = p ⟨256 + l.val, by omega⟩ * c l) (l : Fin 128) :
    (k0_pay26 (F := Ideal) S T U (iota .tc S256x128 32 [1] iota_S256x128_d1_w32) 16#32 k0_pay24 k0_pay25 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨256 + l.val, by omega⟩ := by
  pointwise [k0_pay26, k0_pay24, k0_pay25]
  simp only [hT, hU]
  refine Eq.trans ?_ (pack_q _ _ _ _ (by dsimp only; omega)).symm
  exact congrArg (· * Ideal.ofBits .f32 0x3E000000#32) (turn_of p c (fun i => S (ix2 r i)) ⟨256 + l.val, by omega⟩ l _ _ _ _
    (by dsimp only; omega) (by rfl) (by intro w; dsimp only; omega) (by intro w; dsimp only; omega) (by clear hT hU; revert l; decide +kernel))

set_option maxHeartbeats 2000000 in
/-- Lanes 384 to 511 of a packed row: queries. -/
theorem piece3 (p : Fin 1536 → EReal) (c : Fin 128 → EReal) (T U S : FVec Ideal S256x128 .f32) (r : Fin 256)
    (hT : ∀ l : Fin 128, T (ix2 r l) = p ⟨384 + l.val, by omega⟩) (hU : ∀ l : Fin 128, U (ix2 r l) = p ⟨384 + l.val, by omega⟩ * c l) (l : Fin 128) :
    (k0_pay35 (F := Ideal) S T U (Scalar.select (Scalar.cmpi .eq 2#32 0#32) 1#32 2#32) k0_pay31 k0_pay32 k0_pay33 k0_pay34 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨384 + l.val, by omega⟩ := by
  pointwise [k0_pay35, k0_pay31, k0_pay32, k0_pay33, k0_pay34]
  simp only [hT, hU]
  refine Eq.trans ?_ (pack_q _ _ _ _ (by dsimp only; omega)).symm
  exact congrArg (· * Ideal.ofBits .f32 0x3E000000#32) (turn_of p c (fun i => S (ix2 r i)) ⟨384 + l.val, by omega⟩ l _ _ _ _
    (by dsimp only; omega) (by rfl) (by intro w; dsimp only; omega) (by intro w; dsimp only; omega) (by clear hT hU; revert l; decide +kernel))

set_option maxHeartbeats 2000000 in
/-- Lanes 512 to 639 of a packed row: queries. -/
theorem piece4 (p : Fin 1536 → EReal) (c : Fin 128 → EReal) (T U S : FVec Ideal S256x128 .f32) (r : Fin 256)
    (hT : ∀ l : Fin 128, T (ix2 r l) = p ⟨512 + l.val, by omega⟩) (hU : ∀ l : Fin 128, U (ix2 r l) = p ⟨512 + l.val, by omega⟩ * c l) (l : Fin 128) :
    (k0_pay40 (F := Ideal) S T U (iota .tc S256x128 32 [1] iota_S256x128_d1_w32) 16#32 k0_pay38 k0_pay39 0#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨512 + l.val, by omega⟩ := by
  pointwise [k0_pay40, k0_pay38, k0_pay39]
  simp only [hT, hU]
  refine Eq.trans ?_ (pack_q _ _ _ _ (by dsimp only; omega)).symm
  exact congrArg (· * Ideal.ofBits .f32 0x3E000000#32) (turn_of p c (fun i => S (ix2 r i)) ⟨512 + l.val, by omega⟩ l _ _ _ _
    (by dsimp only; omega) (by rfl) (by intro w; dsimp only; omega) (by intro w; dsimp only; omega) (by clear hT hU; revert l; decide +kernel))

set_option maxHeartbeats 2000000 in
/-- Lanes 640 to 767 of a packed row: queries. -/
theorem piece5 (p : Fin 1536 → EReal) (c : Fin 128 → EReal) (T U S : FVec Ideal S256x128 .f32) (r : Fin 256)
    (hT : ∀ l : Fin 128, T (ix2 r l) = p ⟨640 + l.val, by omega⟩) (hU : ∀ l : Fin 128, U (ix2 r l) = p ⟨640 + l.val, by omega⟩ * c l) (l : Fin 128) :
    (k0_pay44 (F := Ideal) S T U (Scalar.select (Scalar.cmpi .eq 2#32 0#32) 1#32 2#32) k0_pay43 0#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨640 + l.val, by omega⟩ := by
  pointwise [k0_pay44, k0_pay43]
  simp only [hT, hU]
  refine Eq.trans ?_ (pack_q _ _ _ _ (by dsimp only; omega)).symm
  exact congrArg (· * Ideal.ofBits .f32 0x3E000000#32) (turn_of p c (fun i => S (ix2 r i)) ⟨640 + l.val, by omega⟩ l _ _ _ _
    (by dsimp only; omega) (by rfl) (by intro w; dsimp only; omega) (by intro w; dsimp only; omega) (by clear hT hU; revert l; decide +kernel))

set_option maxHeartbeats 2000000 in
/-- Lanes 768 to 895 of a packed row: queries. -/
theorem piece6 (p : Fin 1536 → EReal) (c : Fin 128 → EReal) (T U S : FVec Ideal S256x128 .f32) (r : Fin 256)
    (hT : ∀ l : Fin 128, T (ix2 r l) = p ⟨768 + l.val, by omega⟩) (hU : ∀ l : Fin 128, U (ix2 r l) = p ⟨768 + l.val, by omega⟩ * c l) (l : Fin 128) :
    (k0_pay51 (F := Ideal) (k0_pay49 S T U (iota .tc S256x128 32 [1] iota_S256x128_d1_w32) 16#32 k0_pay47 k0_pay48) (k0_pay50 (F := Ideal)) : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨768 + l.val, by omega⟩ := by
  pointwise [k0_pay51, k0_pay49, k0_pay47, k0_pay48, k0_pay50]
  simp only [hT, hU]
  refine Eq.trans ?_ (pack_q _ _ _ _ (by dsimp only; omega)).symm
  exact congrArg (· * Ideal.ofBits .f32 0x3E000000#32) (turn_of p c (fun i => S (ix2 r i)) ⟨768 + l.val, by omega⟩ l _ _ _ _
    (by dsimp only; omega) (by rfl) (by intro w; dsimp only; omega) (by intro w; dsimp only; omega) (by clear hT hU; revert l; decide +kernel))

set_option maxHeartbeats 2000000 in
/-- Lanes 896 to 1023 of a packed row: queries. -/
theorem piece7 (p : Fin 1536 → EReal) (c : Fin 128 → EReal) (T U S : FVec Ideal S256x128 .f32) (r : Fin 256)
    (hT : ∀ l : Fin 128, T (ix2 r l) = p ⟨896 + l.val, by omega⟩) (hU : ∀ l : Fin 128, U (ix2 r l) = p ⟨896 + l.val, by omega⟩ * c l) (l : Fin 128) :
    (k0_pay55 (F := Ideal) S T U k0_pay54 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨896 + l.val, by omega⟩ := by
  pointwise [k0_pay55, k0_pay54]
  simp only [hT, hU]
  refine Eq.trans ?_ (pack_q _ _ _ _ (by dsimp only; omega)).symm
  exact congrArg (· * Ideal.ofBits .f32 0x3E000000#32) (turn_of p c (fun i => S (ix2 r i)) ⟨896 + l.val, by omega⟩ l _ _ _ _
    (by dsimp only; omega) (by rfl) (by intro w; dsimp only; omega) (by intro w; dsimp only; omega) (by clear hT hU; revert l; decide +kernel))

set_option maxHeartbeats 2000000 in
/-- Lanes 1024 to 1151 of a packed row: keys. -/
theorem piece8 (p : Fin 1536 → EReal) (c : Fin 128 → EReal) (T U S : FVec Ideal S256x128 .f32) (r : Fin 256)
    (hT : ∀ l : Fin 128, T (ix2 r l) = p ⟨1024 + l.val, by omega⟩) (hU : ∀ l : Fin 128, U (ix2 r l) = p ⟨1024 + l.val, by omega⟩ * c l) (l : Fin 128) :
    (k0_pay64 (F := Ideal) S k0_pay4 T U k0_pay60 112#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1024 + l.val, by omega⟩ := by
  pointwise [k0_pay64, k0_pay4, k0_pay60, k0_pay61, k0_pay63]
  simp only [hT, hU]
  refine Eq.trans ?_ (pack_k _ _ _ _ (by dsimp only; omega) (by dsimp only; omega)).symm
  refine spread_lo _ _ l.val _ _ (by clear hT hU; revert l; decide +kernel) (by dsimp only; omega) fun w => ?_
  exact turn_of p c (fun i => S (ix2 r i)) ⟨1024 + ((1024 + l.val - 1024) / 256 * 64 + (1024 + l.val - 1024) % 64), by omega⟩ l _ _ _ _
    (by dsimp only; omega) (by dsimp only; omega) (by intro w; dsimp only at *; omega) (by intro w; dsimp only at *; omega) (by clear w hT hU; revert l; decide +kernel)

set_option maxHeartbeats 2000000 in
/-- Lanes 1152 to 1279 of a packed row: keys. -/
theorem piece9 (p : Fin 1536 → EReal) (c : Fin 128 → EReal) (T U S : FVec Ideal S256x128 .f32) (r : Fin 256)
    (hT : ∀ l : Fin 128, T (ix2 r l) = p ⟨1024 + l.val, by omega⟩) (hU : ∀ l : Fin 128, U (ix2 r l) = p ⟨1024 + l.val, by omega⟩ * c l) (l : Fin 128) :
    (k0_pay65 (F := Ideal) S k0_pay4 T U k0_pay60 112#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1152 + l.val, by omega⟩ := by
  pointwise [k0_pay65, k0_pay4, k0_pay60, k0_pay63, k0_pay62, k0_pay61]
  simp only [hT, hU]
  refine Eq.trans ?_ (pack_k _ _ _ _ (by dsimp only; omega) (by dsimp only; omega)).symm
  refine spread_hi _ _ l.val _ _ (by clear hT hU; revert l; decide +kernel) (by dsimp only; omega) fun w => ?_
  exact turn_of p c (fun i => S (ix2 r i)) ⟨1024 + ((1152 + l.val - 1024) / 256 * 64 + (1152 + l.val - 1024) % 64), by omega⟩ ⟨(l.val + 128 - 64) % 128, by omega⟩ _ _ _ _
    (by dsimp only; omega) (by dsimp only; omega) (by intro w; dsimp only at *; omega) (by intro w; dsimp only at *; omega) (by clear w hT hU; revert l; decide +kernel)

set_option maxHeartbeats 2000000 in
/-- Lanes 1280 to 1407 of a packed row: keys. -/
theorem piece10 (p : Fin 1536 → EReal) (c : Fin 128 → EReal) (T U S : FVec Ideal S256x128 .f32) (r : Fin 256)
    (hT : ∀ l : Fin 128, T (ix2 r l) = p ⟨1024 + l.val, by omega⟩) (hU : ∀ l : Fin 128, U (ix2 r l) = p ⟨1024 + l.val, by omega⟩ * c l) (l : Fin 128) :
    (k0_pay66 (F := Ideal) S k0_pay4 T U k0_pay60 112#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1280 + l.val, by omega⟩ := by
  pointwise [k0_pay66, k0_pay4, k0_pay60, k0_pay62, k0_pay63, k0_pay61]
  simp only [hT, hU]
  refine Eq.trans ?_ (pack_k _ _ _ _ (by dsimp only; omega) (by dsimp only; omega)).symm
  refine spread_lo _ _ l.val _ _ (by clear hT hU; revert l; decide +kernel) (by dsimp only; omega) fun w => ?_
  exact turn_of p c (fun i => S (ix2 r i)) ⟨1024 + ((1280 + l.val - 1024) / 256 * 64 + (1280 + l.val - 1024) % 64), by omega⟩ ⟨(l.val + 128 - 64) % 128, by omega⟩ _ _ _ _
    (by dsimp only; omega) (by dsimp only; omega) (by intro w; dsimp only at *; omega) (by intro w; dsimp only at *; omega) (by clear w hT hU; revert l; decide +kernel)

set_option maxHeartbeats 2000000 in
/-- Lanes 1408 to 1535 of a packed row: keys. -/
theorem piece11 (p : Fin 1536 → EReal) (c : Fin 128 → EReal) (T U S : FVec Ideal S256x128 .f32) (r : Fin 256)
    (hT : ∀ l : Fin 128, T (ix2 r l) = p ⟨1024 + l.val, by omega⟩) (hU : ∀ l : Fin 128, U (ix2 r l) = p ⟨1024 + l.val, by omega⟩ * c l) (l : Fin 128) :
    (k0_pay67 (F := Ideal) S k0_pay4 T U k0_pay60 112#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1408 + l.val, by omega⟩ := by
  pointwise [k0_pay67, k0_pay4, k0_pay60, k0_pay63, k0_pay61]
  simp only [hT, hU]
  refine Eq.trans ?_ (pack_k _ _ _ _ (by dsimp only; omega) (by dsimp only; omega)).symm
  refine spread_hi _ _ l.val _ _ (by clear hT hU; revert l; decide +kernel) (by dsimp only; omega) fun w => ?_
  exact turn_of p c (fun i => S (ix2 r i)) ⟨1024 + ((1408 + l.val - 1024) / 256 * 64 + (1408 + l.val - 1024) % 64), by omega⟩ l _ _ _ _
    (by dsimp only; omega) (by dsimp only; omega) (by intro w; dsimp only at *; omega) (by intro w; dsimp only at *; omega) (by clear w hT hU; revert l; decide +kernel)

set_option maxHeartbeats 2000000 in
/-- Lanes 1536 to 1663 of a packed row: keys. -/
theorem piece12 (p : Fin 1536 → EReal) (c : Fin 128 → EReal) (T U S : FVec Ideal S256x128 .f32) (r : Fin 256)
    (hT : ∀ l : Fin 128, T (ix2 r l) = p ⟨1152 + l.val, by omega⟩) (hU : ∀ l : Fin 128, U (ix2 r l) = p ⟨1152 + l.val, by omega⟩ * c l) (l : Fin 128) :
    (k0_pay75 (F := Ideal) S k0_pay4 T U k0_pay71 0#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1536 + l.val, by omega⟩ := by
  pointwise [k0_pay75, k0_pay4, k0_pay71, k0_pay72, k0_pay74]
  simp only [hT, hU]
  refine Eq.trans ?_ (pack_k _ _ _ _ (by dsimp only; omega) (by dsimp only; omega)).symm
  refine spread_lo _ _ l.val _ _ (by clear hT hU; revert l; decide +kernel) (by dsimp only; omega) fun w => ?_
  exact turn_of p c (fun i => S (ix2 r i)) ⟨1024 + ((1536 + l.val - 1024) / 256 * 64 + (1536 + l.val - 1024) % 64), by omega⟩ l _ _ _ _
    (by dsimp only; omega) (by dsimp only; omega) (by intro w; dsimp only at *; omega) (by intro w; dsimp only at *; omega) (by clear w hT hU; revert l; decide +kernel)

set_option maxHeartbeats 2000000 in
/-- Lanes 1664 to 1791 of a packed row: keys. -/
theorem piece13 (p : Fin 1536 → EReal) (c : Fin 128 → EReal) (T U S : FVec Ideal S256x128 .f32) (r : Fin 256)
    (hT : ∀ l : Fin 128, T (ix2 r l) = p ⟨1152 + l.val, by omega⟩) (hU : ∀ l : Fin 128, U (ix2 r l) = p ⟨1152 + l.val, by omega⟩ * c l) (l : Fin 128) :
    (k0_pay76 (F := Ideal) S k0_pay4 T U k0_pay71 0#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1664 + l.val, by omega⟩ := by
  pointwise [k0_pay76, k0_pay4, k0_pay71, k0_pay74, k0_pay73, k0_pay72]
  simp only [hT, hU]
  refine Eq.trans ?_ (pack_k _ _ _ _ (by dsimp only; omega) (by dsimp only; omega)).symm
  refine spread_hi _ _ l.val _ _ (by clear hT hU; revert l; decide +kernel) (by dsimp only; omega) fun w => ?_
  exact turn_of p c (fun i => S (ix2 r i)) ⟨1024 + ((1664 + l.val - 1024) / 256 * 64 + (1664 + l.val - 1024) % 64), by omega⟩ ⟨(l.val + 128 - 64) % 128, by omega⟩ _ _ _ _
    (by dsimp only; omega) (by dsimp only; omega) (by intro w; dsimp only at *; omega) (by intro w; dsimp only at *; omega) (by clear w hT hU; revert l; decide +kernel)

set_option maxHeartbeats 2000000 in
/-- Lanes 1792 to 1919 of a packed row: keys. -/
theorem piece14 (p : Fin 1536 → EReal) (c : Fin 128 → EReal) (T U S : FVec Ideal S256x128 .f32) (r : Fin 256)
    (hT : ∀ l : Fin 128, T (ix2 r l) = p ⟨1152 + l.val, by omega⟩) (hU : ∀ l : Fin 128, U (ix2 r l) = p ⟨1152 + l.val, by omega⟩ * c l) (l : Fin 128) :
    (k0_pay77 (F := Ideal) S k0_pay4 T U k0_pay71 0#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1792 + l.val, by omega⟩ := by
  pointwise [k0_pay77, k0_pay4, k0_pay71, k0_pay73, k0_pay74, k0_pay72]
  simp only [hT, hU]
  refine Eq.trans ?_ (pack_k _ _ _ _ (by dsimp only; omega) (by dsimp only; omega)).symm
  refine spread_lo _ _ l.val _ _ (by clear hT hU; revert l; decide +kernel) (by dsimp only; omega) fun w => ?_
  exact turn_of p c (fun i => S (ix2 r i)) ⟨1024 + ((1792 + l.val - 1024) / 256 * 64 + (1792 + l.val - 1024) % 64), by omega⟩ ⟨(l.val + 128 - 64) % 128, by omega⟩ _ _ _ _
    (by dsimp only; omega) (by dsimp only; omega) (by intro w; dsimp only at *; omega) (by intro w; dsimp only at *; omega) (by clear w hT hU; revert l; decide +kernel)

set_option maxHeartbeats 2000000 in
/-- Lanes 1920 to 2047 of a packed row: keys. -/
theorem piece15 (p : Fin 1536 → EReal) (c : Fin 128 → EReal) (T U S : FVec Ideal S256x128 .f32) (r : Fin 256)
    (hT : ∀ l : Fin 128, T (ix2 r l) = p ⟨1152 + l.val, by omega⟩) (hU : ∀ l : Fin 128, U (ix2 r l) = p ⟨1152 + l.val, by omega⟩ * c l) (l : Fin 128) :
    (k0_pay78 (F := Ideal) S k0_pay4 T U k0_pay71 0#32 : FVec Ideal S1x256x128 .bf16) (ix3 0 r l) = pack (fun f => turn p c (fun i => S (ix2 r i)) ⟨f.val, by omega⟩) (fun f => turn p c (fun i => S (ix2 r i)) ⟨1024 + f.val, by omega⟩) (fun f => p ⟨1280 + f.val, by omega⟩) ⟨1920 + l.val, by omega⟩ := by
  pointwise [k0_pay78, k0_pay4, k0_pay71, k0_pay74, k0_pay72]
  simp only [hT, hU]
  refine Eq.trans ?_ (pack_k _ _ _ _ (by dsimp only; omega) (by dsimp only; omega)).symm
  refine spread_hi _ _ l.val _ _ (by clear hT hU; revert l; decide +kernel) (by dsimp only; omega) fun w => ?_
  exact turn_of p c (fun i => S (ix2 r i)) ⟨1024 + ((1920 + l.val - 1024) / 256 * 64 + (1920 + l.val - 1024) % 64), by omega⟩ l _ _ _ _
    (by dsimp only; omega) (by dsimp only; omega) (by intro w; dsimp only at *; omega) (by intro w; dsimp only at *; omega) (by clear w hT hU; revert l; decide +kernel)

set_option maxHeartbeats 2000000 in
/-- Lanes 2048 to 2175 of a packed row: values. -/
theorem piece16 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay86 (F := Ideal) (k0_pay85 P k0_pay4) : FVec Ideal S1x256x128 .bf16) (ix3 0 r l) = pack q k (fun f => p ⟨1280 + f.val, by omega⟩) ⟨2048 + l.val, by omega⟩ := by
  pointwise [k0_pay86, k0_pay85, k0_pay4, k0_pay79, k0_pay81]
  refine Eq.trans ?_ (pack_v _ _ _ _ (by dsimp only; omega)).symm
  refine spread_lo _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2176 to 2303 of a packed row: values. -/
theorem piece17 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay87 (F := Ideal) (k0_pay82 P k0_pay4) : FVec Ideal S1x256x128 .bf16) (ix3 0 r l) = pack q k (fun f => p ⟨1280 + f.val, by omega⟩) ⟨2176 + l.val, by omega⟩ := by
  pointwise [k0_pay87, k0_pay82, k0_pay4, k0_pay81, k0_pay80, k0_pay79]
  refine Eq.trans ?_ (pack_v _ _ _ _ (by dsimp only; omega)).symm
  refine spread_hi _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2304 to 2431 of a packed row: values. -/
theorem piece18 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay88 (F := Ideal) (k0_pay83 P k0_pay4) : FVec Ideal S1x256x128 .bf16) (ix3 0 r l) = pack q k (fun f => p ⟨1280 + f.val, by omega⟩) ⟨2304 + l.val, by omega⟩ := by
  pointwise [k0_pay88, k0_pay83, k0_pay4, k0_pay80, k0_pay81, k0_pay79]
  refine Eq.trans ?_ (pack_v _ _ _ _ (by dsimp only; omega)).symm
  refine spread_lo _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2432 to 2559 of a packed row: values. -/
theorem piece19 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay89 (F := Ideal) (k0_pay84 P k0_pay4) : FVec Ideal S1x256x128 .bf16) (ix3 0 r l) = pack q k (fun f => p ⟨1280 + f.val, by omega⟩) ⟨2432 + l.val, by omega⟩ := by
  pointwise [k0_pay89, k0_pay84, k0_pay4, k0_pay81, k0_pay79]
  refine Eq.trans ?_ (pack_v _ _ _ _ (by dsimp only; omega)).symm
  refine spread_hi _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2560 to 2687 of a packed row: values. -/
theorem piece20 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay94 (F := Ideal) P k0_pay4 : FVec Ideal S1x256x128 .bf16) (ix3 0 r l) = pack q k (fun f => p ⟨1280 + f.val, by omega⟩) ⟨2560 + l.val, by omega⟩ := by
  pointwise [k0_pay94, k0_pay4, k0_pay90, k0_pay92]
  refine Eq.trans ?_ (pack_v _ _ _ _ (by dsimp only; omega)).symm
  refine spread_lo _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2688 to 2815 of a packed row: values. -/
theorem piece21 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay95 (F := Ideal) P k0_pay4 : FVec Ideal S1x256x128 .bf16) (ix3 0 r l) = pack q k (fun f => p ⟨1280 + f.val, by omega⟩) ⟨2688 + l.val, by omega⟩ := by
  pointwise [k0_pay95, k0_pay4, k0_pay92, k0_pay91, k0_pay90]
  refine Eq.trans ?_ (pack_v _ _ _ _ (by dsimp only; omega)).symm
  refine spread_hi _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2816 to 2943 of a packed row: values. -/
theorem piece22 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay1 (F := Ideal) (k0_pay96 P k0_pay4) : FVec Ideal S1x256x128 .bf16) (ix3 0 r l) = pack q k (fun f => p ⟨1280 + f.val, by omega⟩) ⟨2816 + l.val, by omega⟩ := by
  pointwise [k0_pay1, k0_pay96, k0_pay4, k0_pay91, k0_pay92, k0_pay90]
  refine Eq.trans ?_ (pack_v _ _ _ _ (by dsimp only; omega)).symm
  refine spread_lo _ _ l.val _ _ (by revert l; decide +kernel) (by dsimp only; omega) fun w => ?_
  refine Eq.trans ?_ (hp _ (by dsimp only; omega)).symm
  exact congrArg (fun i => P (ix2 r i)) (Fin.ext (by dsimp only; omega))

set_option maxHeartbeats 2000000 in
/-- Lanes 2944 to 3071 of a packed row: values. -/
theorem piece23 (q : Fin 1024 → EReal) (k : Fin 256 → EReal) (p : Fin 1536 → EReal) (P : FVec Ideal S256x1536 .f32) (r : Fin 256)
    (hp : ∀ f : Fin 1536, 1280 ≤ f.val → p f = P (ix2 r f)) (l : Fin 128) :
    (k0_pay2 (F := Ideal) (k0_pay93 P k0_pay4) : FVec Ideal S1x256x128 .bf16) (ix3 0 r l) = pack q k (fun f => p ⟨1280 + f.val, by omega⟩) ⟨2944 + l.val, by omega⟩ := by
  pointwise [k0_pay2, k0_pay93, k0_pay4, k0_pay92, k0_pay90]
  refine Eq.trans ?_ (pack_v _ _ _ _ (by dsimp only; omega)).symm
  refine spread_hi _ _ l.val _ _ (by revert l; decide +kernel) (by dsimp only; omega) fun w => ?_
  refine Eq.trans ?_ (hp _ (by dsimp only; omega)).symm
  exact congrArg (fun i => P (ix2 r i)) (Fin.ext (by dsimp only; omega))

end Cert.Kernel7Ideal.Qkv

end
-- ==== Proof.QkvNormLanes.lean ====
/- A block of 128 normed lanes of the projection: the sums of a head's squares as a product with a matrix of zeros and ones, entry by entry. -/
module

public import proofs.«01_k».proof.Proof.InProj
public import proofs.«01_k».proof.Proof.Gen.Kernel7Ideal.Skeleton

@[expose] public section

set_option maxRecDepth 16384

noncomputable section

open Idealize.ShloMosaic Cert.Norm

namespace Cert.Kernel7Ideal.Qkv

open Cert.Kernel7Ideal Cert.Kernel7Ideal.Gen

/-- A row whose first 1280 columns are normed by their heads of 64 and scaled column by column. -/
def normCols (p : Fin 1536 → EReal) (g : Fin 1280 → EReal) (f : Fin 1536) : EReal :=
  if h : f.val < 1280 then
    p f * Ideal.rsqrt (Ideal.div (∑ d : Fin 64, p ⟨f.val / 64 * 64 + d.val, by omega⟩ * p ⟨f.val / 64 * 64 + d.val, by omega⟩) (Ideal.ofBits .f32 0x42800000#32) + Ideal.ofBits .f32 0x358637BD#32) * g ⟨f.val, h⟩
  else p f

/-- The heads' matrix is 1 where row and column lie in the same half, 0 elsewhere. -/
theorem same_half (k l : Fin 128) : k0_pay9 (F := Ideal) k0_pay5 k0_pay6 k0_pay7 k0_pay8 (ix2 k l) = if k.val / 64 = l.val / 64 then 1 else 0 := by
  have hr : ∀ k l : Fin 128, k0_pay5 (ix2 k l) = BitVec.ofNat 32 (k.val / 64) := by
    intro k l
    pointwise [k0_pay5]
    revert k
    decide +kernel
  have hc : ∀ l : Fin 128, Scalar.select
      (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32)))
          (Scalar.subi (Scalar.extui (Scalar.cmpi .sgt 64#32 0#32)) (Scalar.extui (Scalar.cmpi .slt 64#32 0#32))))
        (IntOp.cmpi .ne (IntOp.remsi .vector (BitVec.ofNat 32 l.val) 64#32) 0#32))
      (IntOp.subi (IntOp.divsi .vector (BitVec.ofNat 32 l.val) 64#32) 1#32)
      (IntOp.divsi .vector (BitVec.ofNat 32 l.val) 64#32) = BitVec.ofNat 32 (l.val / 64) := by
    decide +kernel
  have hs : ∀ a b : Fin 2, (FloatOps.sitofp .f32 (BitVec.setWidth 32 (IntOp.cmpi .eq (BitVec.ofNat 32 a.val) (BitVec.ofNat 32 b.val))) : Ideal .f32) = if a.val = b.val then (1 : EReal) else 0 := by
    intro a b
    fin_cases a <;> fin_cases b <;> simp [FloatOps.sitofp, IntOp.cmpi]
  pointwise [k0_pay9, k0_pay6, k0_pay7, k0_pay8]
  rw [hr, hc]
  exact hs ⟨k.val / 64, by omega⟩ ⟨l.val / 64, by omega⟩

/-- A sum over 128 lanes weighted by the heads' matrix is the sum over the lane's own half. -/
theorem half_sum (q : Fin 128 → EReal) (l : Fin 128) :
    ∑ k, q k * (if k.val / 64 = l.val / 64 then 1 else 0) = ∑ d : Fin 64, q ⟨l.val / 64 * 64 + d.val, by omega⟩ := by
  have e : ∑ k, q k * (if k.val / 64 = l.val / 64 then (1 : EReal) else 0)
      = (∑ d : Fin 64, q ⟨d.val, by omega⟩ * (if d.val / 64 = l.val / 64 then (1 : EReal) else 0)) + ∑ d : Fin 64, q ⟨64 + d.val, by omega⟩ * (if (64 + d.val) / 64 = l.val / 64 then (1 : EReal) else 0) :=
    Fin.sum_univ_add (a := 64) (b := 64) (fun k => q k * (if k.val / 64 = l.val / 64 then (1 : EReal) else 0))
  rw [e]
  by_cases h : l.val < 64
  · have h0 : l.val / 64 = 0 := by omega
    have a : ∀ d : Fin 64, (if d.val / 64 = l.val / 64 then (1 : EReal) else 0) = 1 := fun d => if_pos (by omega)
    have b : ∀ d : Fin 64, (if (64 + d.val) / 64 = l.val / 64 then (1 : EReal) else 0) = 0 := fun d => if_neg (by omega)
    simp only [a, b, mul_one, mul_zero, Finset.sum_const_zero, add_zero]
    refine Finset.sum_congr rfl fun d _ => congrArg q (Fin.ext ?_)
    dsimp only
    omega
  · have h0 : l.val / 64 = 1 := by omega
    have a : ∀ d : Fin 64, (if d.val / 64 = l.val / 64 then (1 : EReal) else 0) = 0 := fun d => if_neg (by omega)
    have b : ∀ d : Fin 64, (if (64 + d.val) / 64 = l.val / 64 then (1 : EReal) else 0) = 1 := fun d => if_pos (by omega)
    simp only [a, b, mul_one, mul_zero, Finset.sum_const_zero, zero_add]
    refine Finset.sum_congr rfl fun d _ => congrArg q (Fin.ext ?_)
    dsimp only
    omega

/-- Times the word for a 64th is over the word for 64. -/
theorem mul_64th (x : EReal) : x * Ideal.ofBits .f32 0x3C800000#32 = Ideal.div x (Ideal.ofBits .f32 0x42800000#32) := by
  have a : Ideal.ofBits .f32 0x42800000#32 = ((64 : ℝ) : EReal) := by
    simp [Ideal.ofBits, Ideal.ieee, -EReal.coe_mul]; norm_num
  have b : Ideal.ofBits .f32 0x3C800000#32 = (((64 : ℝ)⁻¹ : ℝ) : EReal) := by
    simp [Ideal.ofBits, Ideal.ieee, -EReal.coe_mul]; norm_num
  rw [a, b]
  unfold Ideal.div
  rw [if_neg (by norm_num), EReal.coe_inv]

/-- A lane of a normed block, in the form the body computes it. -/
theorem norm_lane (p : Fin 1536 → EReal) (g : Fin 1280 → EReal) (o : ℕ) (ho : o % 128 = 0) (w : Fin 128 → Fin 1536) (hw : ∀ k, (w k).val = o + k.val)
    (e : Fin 128 → EReal) (l : Fin 128) (he : ∀ k : Fin 128, e k = if k.val / 64 = l.val / 64 then 1 else 0) (f : Fin 1536) (hf : f.val = o + l.val) (h : f.val < 1280)
    (G : EReal) (hG : G = g ⟨f.val, h⟩) :
    p (w l) * Ideal.rsqrt ((∑ k, p (w k) * p (w k) * e k) * Ideal.ofBits .f32 0x3C800000#32 + Ideal.ofBits .f32 0x358637BD#32) * G = normCols p g f := by
  have e1 : w l = f := Fin.ext ((hw l).trans hf.symm)
  have e2 : ∀ d : Fin 64, w ⟨l.val / 64 * 64 + d.val, by omega⟩ = ⟨f.val / 64 * 64 + d.val, by omega⟩ := fun d => Fin.ext (by rw [hw]; dsimp only; omega)
  unfold normCols
  rw [dif_pos h, hG, e1]
  simp only [he]
  rw [half_sum (fun k => p (w k) * p (w k)) l, mul_64th]
  simp only [e2]

set_option maxHeartbeats 1000000 in
/-- Lanes 0 to 127, normed. -/
theorem lanes0 (P : FVec Ideal S256x1536 .f32) (a b d : IVec S128x128 32) (c : IVec S128x128 1) (he : ∀ k l : Fin 128, k0_pay9 (F := Ideal) a b c d (ix2 k l) = if k.val / 64 = l.val / 64 then 1 else 0)
    (G : FVec Ideal S1x128 .f32) (g : Fin 1280 → EReal) (hG : ∀ l : Fin 128, G (ix2 0 l) = g ⟨l.val, by omega⟩) (r : Fin 256) (l : Fin 128) :
    (k0_pay10 (F := Ideal) P a b c d G : FVec Ideal S256x128 .f32) (ix2 r l) = normCols (fun i => P (ix2 r i)) g ⟨l.val, by omega⟩ := by
  refine Eq.trans ?_ (norm_lane (fun i => P (ix2 r i)) g 0 (by omega) (fun k => ⟨k.val, by omega⟩) (fun k => by dsimp only; omega) (fun k => k0_pay9 (F := Ideal) a b c d (ix2 k l)) l (fun k => he k l) ⟨l.val, by omega⟩ (by dsimp only; omega) (by dsimp only; omega) (G (ix2 0 l)) (hG l))
  pointwise [k0_pay10]

/-- The same times the cosines. -/
theorem lanesCos0 (P : FVec Ideal S256x1536 .f32) (a b d : IVec S128x128 32) (c : IVec S128x128 1) (he : ∀ k l : Fin 128, k0_pay9 (F := Ideal) a b c d (ix2 k l) = if k.val / 64 = l.val / 64 then 1 else 0)
    (G : FVec Ideal S1x128 .f32) (g : Fin 1280 → EReal) (hG : ∀ l : Fin 128, G (ix2 0 l) = g ⟨l.val, by omega⟩) (C : FVec Ideal S256x128 .f32) (r : Fin 256) (l : Fin 128) :
    (k0_pay11 (F := Ideal) P C a b c d G : FVec Ideal S256x128 .f32) (ix2 r l) = normCols (fun i => P (ix2 r i)) g ⟨l.val, by omega⟩ * C (ix2 r l) := by
  exact congrArg (· * C (ix2 r l)) (lanes0 P a b d c he G g hG r l)

set_option maxHeartbeats 1000000 in
/-- Lanes 128 to 255, normed. -/
theorem lanes1 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨128 + l.val, by omega⟩) (r : Fin 256) (l : Fin 128) :
    (k0_pay17 (F := Ideal) (k0_pay16 P E) G : FVec Ideal S256x128 .f32) (ix2 r l) = normCols (fun i => P (ix2 r i)) g ⟨128 + l.val, by omega⟩ := by
  refine Eq.trans ?_ (norm_lane (fun i => P (ix2 r i)) g 128 (by omega) (fun k => ⟨128 + k.val, by omega⟩) (fun k => rfl) (fun k => E (ix2 k l)) l (fun k => he k l) ⟨128 + l.val, by omega⟩ (rfl) (by dsimp only; omega) (G (ix2 0 l)) (hG l))
  pointwise [k0_pay17, k0_pay16]

/-- The same times the cosines. -/
theorem lanesCos1 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨128 + l.val, by omega⟩) (C : FVec Ideal S256x128 .f32) (r : Fin 256) (l : Fin 128) :
    (k0_pay18 (F := Ideal) C (k0_pay16 P E) G : FVec Ideal S256x128 .f32) (ix2 r l) = normCols (fun i => P (ix2 r i)) g ⟨128 + l.val, by omega⟩ * C (ix2 r l) := by
  exact congrArg (· * C (ix2 r l)) (lanes1 P E he G g hG r l)

set_option maxHeartbeats 1000000 in
/-- Lanes 256 to 383, normed. -/
theorem lanes2 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨256 + l.val, by omega⟩) (r : Fin 256) (l : Fin 128) :
    (k0_pay22 (F := Ideal) P E G : FVec Ideal S256x128 .f32) (ix2 r l) = normCols (fun i => P (ix2 r i)) g ⟨256 + l.val, by omega⟩ := by
  refine Eq.trans ?_ (norm_lane (fun i => P (ix2 r i)) g 256 (by omega) (fun k => ⟨256 + k.val, by omega⟩) (fun k => rfl) (fun k => E (ix2 k l)) l (fun k => he k l) ⟨256 + l.val, by omega⟩ (rfl) (by dsimp only; omega) (G (ix2 0 l)) (hG l))
  pointwise [k0_pay22]

/-- The same times the cosines. -/
theorem lanesCos2 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨256 + l.val, by omega⟩) (C : FVec Ideal S256x128 .f32) (r : Fin 256) (l : Fin 128) :
    (k0_pay23 (F := Ideal) P C E G : FVec Ideal S256x128 .f32) (ix2 r l) = normCols (fun i => P (ix2 r i)) g ⟨256 + l.val, by omega⟩ * C (ix2 r l) := by
  exact congrArg (· * C (ix2 r l)) (lanes2 P E he G g hG r l)

set_option maxHeartbeats 1000000 in
/-- Lanes 384 to 511, normed. -/
theorem lanes3 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨384 + l.val, by omega⟩) (r : Fin 256) (l : Fin 128) :
    (k0_pay29 (F := Ideal) (k0_pay27 P) (k0_pay28 P E) G : FVec Ideal S256x128 .f32) (ix2 r l) = normCols (fun i => P (ix2 r i)) g ⟨384 + l.val, by omega⟩ := by
  refine Eq.trans ?_ (norm_lane (fun i => P (ix2 r i)) g 384 (by omega) (fun k => ⟨384 + k.val, by omega⟩) (fun k => rfl) (fun k => E (ix2 k l)) l (fun k => he k l) ⟨384 + l.val, by omega⟩ (rfl) (by dsimp only; omega) (G (ix2 0 l)) (hG l))
  pointwise [k0_pay29, k0_pay27, k0_pay28]

/-- The same times the cosines. -/
theorem lanesCos3 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨384 + l.val, by omega⟩) (C : FVec Ideal S256x128 .f32) (r : Fin 256) (l : Fin 128) :
    (k0_pay30 (F := Ideal) C (k0_pay27 P) (k0_pay28 P E) G : FVec Ideal S256x128 .f32) (ix2 r l) = normCols (fun i => P (ix2 r i)) g ⟨384 + l.val, by omega⟩ * C (ix2 r l) := by
  exact congrArg (· * C (ix2 r l)) (lanes3 P E he G g hG r l)

set_option maxHeartbeats 1000000 in
/-- Lanes 512 to 639, normed. -/
theorem lanes4 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨512 + l.val, by omega⟩) (r : Fin 256) (l : Fin 128) :
    (k0_pay36 (F := Ideal) P E G : FVec Ideal S256x128 .f32) (ix2 r l) = normCols (fun i => P (ix2 r i)) g ⟨512 + l.val, by omega⟩ := by
  refine Eq.trans ?_ (norm_lane (fun i => P (ix2 r i)) g 512 (by omega) (fun k => ⟨512 + k.val, by omega⟩) (fun k => rfl) (fun k => E (ix2 k l)) l (fun k => he k l) ⟨512 + l.val, by omega⟩ (rfl) (by dsimp only; omega) (G (ix2 0 l)) (hG l))
  pointwise [k0_pay36]

/-- The same times the cosines. -/
theorem lanesCos4 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨512 + l.val, by omega⟩) (C : FVec Ideal S256x128 .f32) (r : Fin 256) (l : Fin 128) :
    (k0_pay37 (F := Ideal) P C E G : FVec Ideal S256x128 .f32) (ix2 r l) = normCols (fun i => P (ix2 r i)) g ⟨512 + l.val, by omega⟩ * C (ix2 r l) := by
  exact congrArg (· * C (ix2 r l)) (lanes4 P E he G g hG r l)

set_option maxHeartbeats 1000000 in
/-- Lanes 640 to 767, normed. -/
theorem lanes5 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨640 + l.val, by omega⟩) (r : Fin 256) (l : Fin 128) :
    (k0_pay41 (F := Ideal) P E G : FVec Ideal S256x128 .f32) (ix2 r l) = normCols (fun i => P (ix2 r i)) g ⟨640 + l.val, by omega⟩ := by
  refine Eq.trans ?_ (norm_lane (fun i => P (ix2 r i)) g 640 (by omega) (fun k => ⟨640 + k.val, by omega⟩) (fun k => rfl) (fun k => E (ix2 k l)) l (fun k => he k l) ⟨640 + l.val, by omega⟩ (rfl) (by dsimp only; omega) (G (ix2 0 l)) (hG l))
  pointwise [k0_pay41]

/-- The same times the cosines. -/
theorem lanesCos5 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨640 + l.val, by omega⟩) (C : FVec Ideal S256x128 .f32) (r : Fin 256) (l : Fin 128) :
    (k0_pay42 (F := Ideal) P C E G : FVec Ideal S256x128 .f32) (ix2 r l) = normCols (fun i => P (ix2 r i)) g ⟨640 + l.val, by omega⟩ * C (ix2 r l) := by
  exact congrArg (· * C (ix2 r l)) (lanes5 P E he G g hG r l)

set_option maxHeartbeats 1000000 in
/-- Lanes 768 to 895, normed. -/
theorem lanes6 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨768 + l.val, by omega⟩) (r : Fin 256) (l : Fin 128) :
    (k0_pay45 (F := Ideal) P E G : FVec Ideal S256x128 .f32) (ix2 r l) = normCols (fun i => P (ix2 r i)) g ⟨768 + l.val, by omega⟩ := by
  refine Eq.trans ?_ (norm_lane (fun i => P (ix2 r i)) g 768 (by omega) (fun k => ⟨768 + k.val, by omega⟩) (fun k => rfl) (fun k => E (ix2 k l)) l (fun k => he k l) ⟨768 + l.val, by omega⟩ (rfl) (by dsimp only; omega) (G (ix2 0 l)) (hG l))
  pointwise [k0_pay45]

/-- The same times the cosines. -/
theorem lanesCos6 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨768 + l.val, by omega⟩) (C : FVec Ideal S256x128 .f32) (r : Fin 256) (l : Fin 128) :
    (k0_pay46 (F := Ideal) P C E G : FVec Ideal S256x128 .f32) (ix2 r l) = normCols (fun i => P (ix2 r i)) g ⟨768 + l.val, by omega⟩ * C (ix2 r l) := by
  exact congrArg (· * C (ix2 r l)) (lanes6 P E he G g hG r l)

set_option maxHeartbeats 1000000 in
/-- Lanes 896 to 1023, normed. -/
theorem lanes7 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨896 + l.val, by omega⟩) (r : Fin 256) (l : Fin 128) :
    (k0_pay52 (F := Ideal) P E G : FVec Ideal S256x128 .f32) (ix2 r l) = normCols (fun i => P (ix2 r i)) g ⟨896 + l.val, by omega⟩ := by
  refine Eq.trans ?_ (norm_lane (fun i => P (ix2 r i)) g 896 (by omega) (fun k => ⟨896 + k.val, by omega⟩) (fun k => rfl) (fun k => E (ix2 k l)) l (fun k => he k l) ⟨896 + l.val, by omega⟩ (rfl) (by dsimp only; omega) (G (ix2 0 l)) (hG l))
  pointwise [k0_pay52]

/-- The same times the cosines. -/
theorem lanesCos7 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨896 + l.val, by omega⟩) (C : FVec Ideal S256x128 .f32) (r : Fin 256) (l : Fin 128) :
    (k0_pay53 (F := Ideal) P C E G : FVec Ideal S256x128 .f32) (ix2 r l) = normCols (fun i => P (ix2 r i)) g ⟨896 + l.val, by omega⟩ * C (ix2 r l) := by
  exact congrArg (· * C (ix2 r l)) (lanes7 P E he G g hG r l)

set_option maxHeartbeats 1000000 in
/-- Lanes 1024 to 1151, normed. -/
theorem lanes8 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨1024 + l.val, by omega⟩) (r : Fin 256) (l : Fin 128) :
    (k0_pay58 (F := Ideal) (k0_pay56 P E) (k0_pay57 G) : FVec Ideal S256x128 .f32) (ix2 r l) = normCols (fun i => P (ix2 r i)) g ⟨1024 + l.val, by omega⟩ := by
  refine Eq.trans ?_ (norm_lane (fun i => P (ix2 r i)) g 1024 (by omega) (fun k => ⟨1024 + k.val, by omega⟩) (fun k => rfl) (fun k => E (ix2 k l)) l (fun k => he k l) ⟨1024 + l.val, by omega⟩ (rfl) (by dsimp only; omega) (G (ix2 0 l)) (hG l))
  pointwise [k0_pay58, k0_pay56, k0_pay57]

/-- The same times the cosines. -/
theorem lanesCos8 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨1024 + l.val, by omega⟩) (C : FVec Ideal S256x128 .f32) (r : Fin 256) (l : Fin 128) :
    (k0_pay59 (F := Ideal) C (k0_pay56 P E) (k0_pay57 G) : FVec Ideal S256x128 .f32) (ix2 r l) = normCols (fun i => P (ix2 r i)) g ⟨1024 + l.val, by omega⟩ * C (ix2 r l) := by
  exact congrArg (· * C (ix2 r l)) (lanes8 P E he G g hG r l)

set_option maxHeartbeats 1000000 in
/-- Lanes 1152 to 1279, normed. -/
theorem lanes9 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨1152 + l.val, by omega⟩) (r : Fin 256) (l : Fin 128) :
    (k0_pay69 (F := Ideal) (k0_pay68 P E) G : FVec Ideal S256x128 .f32) (ix2 r l) = normCols (fun i => P (ix2 r i)) g ⟨1152 + l.val, by omega⟩ := by
  refine Eq.trans ?_ (norm_lane (fun i => P (ix2 r i)) g 1152 (by omega) (fun k => ⟨1152 + k.val, by omega⟩) (fun k => rfl) (fun k => E (ix2 k l)) l (fun k => he k l) ⟨1152 + l.val, by omega⟩ (rfl) (by dsimp only; omega) (G (ix2 0 l)) (hG l))
  pointwise [k0_pay69, k0_pay68]

/-- The same times the cosines. -/
theorem lanesCos9 (P : FVec Ideal S256x1536 .f32) (E : FVec Ideal S128x128 .f32) (he : ∀ k l : Fin 128, E (ix2 k l) = if k.val / 64 = l.val / 64 then 1 else 0)
    (G : FVec Ideal S1x128 .f32) (g : Fin 1280 → EReal) (hG : ∀ l : Fin 128, G (ix2 0 l) = g ⟨1152 + l.val, by omega⟩) (C : FVec Ideal S256x128 .f32) (r : Fin 256) (l : Fin 128) :
    (k0_pay70 (F := Ideal) C (k0_pay68 P E) G : FVec Ideal S256x128 .f32) (ix2 r l) = normCols (fun i => P (ix2 r i)) g ⟨1152 + l.val, by omega⟩ * C (ix2 r l) := by
  exact congrArg (· * C (ix2 r l)) (lanes9 P E he G g hG r l)

end Cert.Kernel7Ideal.Qkv

end
-- ==== Proof.QkvNormStore.lean ====
/- The stores of the projection with normed queries and keys, in the form the body has them: each holds its lanes of the packed row. -/
module

public import proofs.«01_k».proof.Proof.Gen.Kernel7Ideal.Frame
public import proofs.«01_k».proof.Proof.QkvNormPiece
public import proofs.«01_k».proof.Proof.QkvNormLanes
public import Idealize.ShloMosaic.Lib.Pointwise

@[expose] public section

set_option maxRecDepth 16384

noncomputable section

open Idealize.ShloMosaic Idealize.ShloMosaic.TcCoe Cert.Norm Cert.Qkv

namespace Cert.Kernel7Ideal.Qkv

open Cert.Kernel7Ideal Cert.Kernel7Ideal.Gen

/-- A row of the projection, its queries and keys normed and scaled. -/
def rowN (P : FVec Ideal S256x1536 .f32) (G : FVec Ideal S1x1280 .f32) (r : Fin 256) : Fin 1536 → EReal := normCols (fun i => P (ix2 r i)) (fun f => G (ix2 0 f))

/-- The gains of lanes 0 to 127. -/
theorem gain0 (X : Vec Ideal S1x1280 .f32) (l : Fin 128) :
    View.ld X (Rect.unit (s := S1x1280) ![0, 0] S1x128.size inb_S1x1280_S1x128_0_0) (ix2 0 l) = X (ix2 0 ⟨l.val, by omega⟩) := by
  pointwise

/-- The gains of lanes 128 to 255. -/
theorem gain1 (X : Vec Ideal S1x1280 .f32) (l : Fin 128) :
    View.ld X (Rect.unit (s := S1x1280) ![0, 128] S1x128.size inb_S1x1280_S1x128_0_128) (ix2 0 l) = X (ix2 0 ⟨128 + l.val, by omega⟩) := by
  pointwise

/-- The gains of lanes 256 to 383. -/
theorem gain2 (X : Vec Ideal S1x1280 .f32) (l : Fin 128) :
    View.ld X (Rect.unit (s := S1x1280) ![0, 256] S1x128.size inb_S1x1280_S1x128_0_256) (ix2 0 l) = X (ix2 0 ⟨256 + l.val, by omega⟩) := by
  pointwise

/-- The gains of lanes 384 to 511. -/
theorem gain3 (X : Vec Ideal S1x1280 .f32) (l : Fin 128) :
    View.ld X (Rect.unit (s := S1x1280) ![0, 384] S1x128.size inb_S1x1280_S1x128_0_384) (ix2 0 l) = X (ix2 0 ⟨384 + l.val, by omega⟩) := by
  pointwise

/-- The gains of lanes 512 to 639. -/
theorem gain4 (X : Vec Ideal S1x1280 .f32) (l : Fin 128) :
    View.ld X (Rect.unit (s := S1x1280) ![0, 512] S1x128.size inb_S1x1280_S1x128_0_512) (ix2 0 l) = X (ix2 0 ⟨512 + l.val, by omega⟩) := by
  pointwise

/-- The gains of lanes 640 to 767. -/
theorem gain5 (X : Vec Ideal S1x1280 .f32) (l : Fin 128) :
    View.ld X (Rect.unit (s := S1x1280) ![0, 640] S1x128.size inb_S1x1280_S1x128_0_640) (ix2 0 l) = X (ix2 0 ⟨640 + l.val, by omega⟩) := by
  pointwise

/-- The gains of lanes 768 to 895. -/
theorem gain6 (X : Vec Ideal S1x1280 .f32) (l : Fin 128) :
    View.ld X (Rect.unit (s := S1x1280) ![0, 768] S1x128.size inb_S1x1280_S1x128_0_768) (ix2 0 l) = X (ix2 0 ⟨768 + l.val, by omega⟩) := by
  pointwise

/-- The gains of lanes 896 to 1023. -/
theorem gain7 (X : Vec Ideal S1x1280 .f32) (l : Fin 128) :
    View.ld X (Rect.unit (s := S1x1280) ![0, 896] S1x128.size inb_S1x1280_S1x128_0_896) (ix2 0 l) = X (ix2 0 ⟨896 + l.val, by omega⟩) := by
  pointwise

/-- The gains of lanes 1024 to 1151. -/
theorem gain8 (X : Vec Ideal S1x1280 .f32) (l : Fin 128) :
    View.ld X (Rect.unit (s := S1x1280) ![0, 1024] S1x128.size inb_S1x1280_S1x128_0_1024) (ix2 0 l) = X (ix2 0 ⟨1024 + l.val, by omega⟩) := by
  pointwise

/-- The gains of lanes 1152 to 1279. -/
theorem gain9 (X : Vec Ideal S1x1280 .f32) (l : Fin 128) :
    View.ld X (Rect.unit (s := S1x1280) ![0, 1152] S1x128.size inb_S1x1280_S1x128_0_1152) (ix2 0 l) = X (ix2 0 ⟨1152 + l.val, by omega⟩) := by
  pointwise

variable (x0 : FVec Ideal S1x256x1024 .f32) (x1 : FVec Ideal S1x1x6x1024 .f32) (x2 : FVec Ideal S1x1024 .f32) (x3 : FVec Ideal S1024x1536 .bf16) (x4 : FVec Ideal S1x1536 .f32) (x5 x6 : FVec Ideal S256x128 .f32) (x7 : Vec Ideal S1x1280 .f32)

/-- The lower half of the lanes. -/
theorem val98 : k0_pay98 (F := Ideal) x0 x1 x2 x3 x4 x5 x6 x7 = (k0_pay4 : IVec S256x128 1) := by
  unfold k0_pay98
  frame_out

/-- A row's half. -/
theorem val99 : k0_pay99 (F := Ideal) x0 x1 x2 x3 x4 x5 x6 x7 = (k0_pay5 : IVec S128x128 32) := by
  unfold k0_pay99
  frame_out

/-- A column over 64. -/
theorem val100 : k0_pay100 (F := Ideal) x0 x1 x2 x3 x4 x5 x6 x7 = (k0_pay6 : IVec S128x128 32) := by
  unfold k0_pay100
  frame_out

/-- Whether a column is off 0. -/
theorem val101 : k0_pay101 (F := Ideal) x0 x1 x2 x3 x4 x5 x6 x7 = (k0_pay7 : IVec S128x128 1) := by
  unfold k0_pay101
  frame_out

/-- A column's remainder by 64. -/
theorem val102 : k0_pay102 (F := Ideal) x0 x1 x2 x3 x4 x5 x6 x7 = (k0_pay8 : IVec S128x128 32) := by
  unfold k0_pay102
  frame_out

/-- The heads' matrix. -/
theorem val103 : k0_pay103 (F := Ideal) x0 x1 x2 x3 x4 x5 x6 x7 = (k0_pay9 (F := Ideal) k0_pay5 k0_pay6 k0_pay7 k0_pay8 : FVec Ideal S128x128 .f32) := by
  unfold k0_pay103
  rw [val99, val100, val101, val102]

/-- The second queries over their root mean square. -/
theorem val104 : k0_pay104 (F := Ideal) x0 x1 x2 x3 x4 x5 x6 x7 = (k0_pay16 (k0_pay97 (F := Ideal) x0 x1 x2 x3 x4 x5 x6 x7) (k0_pay103 (F := Ideal) x0 x1 x2 x3 x4 x5 x6 x7) : FVec Ideal S256x128 .f32) := by
  unfold k0_pay104
  frame_out

/-- The fourth queries. -/
theorem val105 : k0_pay105 (F := Ideal) x0 x1 x2 x3 x4 x5 x6 x7 = (k0_pay27 (k0_pay97 (F := Ideal) x0 x1 x2 x3 x4 x5 x6 x7) : FVec Ideal S256x128 .f32) := by
  unfold k0_pay105
  frame_out

/-- Their mean squares. -/
theorem val106 : k0_pay106 (F := Ideal) x0 x1 x2 x3 x4 x5 x6 x7 = (k0_pay28 (k0_pay97 (F := Ideal) x0 x1 x2 x3 x4 x5 x6 x7) (k0_pay103 (F := Ideal) x0 x1 x2 x3 x4 x5 x6 x7) : FVec Ideal S256x128 .f32) := by
  unfold k0_pay106
  frame_out

/-- The first keys over their root mean square. -/
theorem val107 : k0_pay107 (F := Ideal) x0 x1 x2 x3 x4 x5 x6 x7 = (k0_pay56 (k0_pay97 (F := Ideal) x0 x1 x2 x3 x4 x5 x6 x7) (k0_pay103 (F := Ideal) x0 x1 x2 x3 x4 x5 x6 x7) : FVec Ideal S256x128 .f32) := by
  unfold k0_pay107
  frame_out

/-- Their gains. -/
theorem val108 : k0_pay108 (F := Ideal) x0 x1 x2 x3 x4 x5 x6 x7 = (k0_pay57 (View.ld x7 r0_22) : FVec Ideal S256x128 .f32) := by
  unfold k0_pay108
  frame_out

/-- The first keys, normed. -/
theorem val109 : k0_pay109 (F := Ideal) x0 x1 x2 x3 x4 x5 x6 x7 = (k0_pay58 (k0_pay107 (F := Ideal) x0 x1 x2 x3 x4 x5 x6 x7) (k0_pay108 (F := Ideal) x0 x1 x2 x3 x4 x5 x6 x7) : FVec Ideal S256x128 .f32) := by
  unfold k0_pay109
  frame_out

/-- The same times their cosines. -/
theorem val110 : k0_pay110 (F := Ideal) x0 x1 x2 x3 x4 x5 x6 x7 = (k0_pay59 x5 (k0_pay107 (F := Ideal) x0 x1 x2 x3 x4 x5 x6 x7) (k0_pay108 (F := Ideal) x0 x1 x2 x3 x4 x5 x6 x7) : FVec Ideal S256x128 .f32) := by
  unfold k0_pay110
  frame_out

/-- Whether a lane lies in the first half of an axis. -/
theorem val111 : k0_pay111 (F := Ideal) x0 x1 x2 x3 x4 x5 x6 x7 = (k0_pay60 : IVec S256x128 1) := by
  unfold k0_pay111
  frame_out

/-- The second keys over their root mean square. -/
theorem val112 : k0_pay112 (F := Ideal) x0 x1 x2 x3 x4 x5 x6 x7 = (k0_pay68 (k0_pay97 (F := Ideal) x0 x1 x2 x3 x4 x5 x6 x7) (k0_pay103 (F := Ideal) x0 x1 x2 x3 x4 x5 x6 x7) : FVec Ideal S256x128 .f32) := by
  unfold k0_pay112
  frame_out

/-- The second keys, normed. -/
theorem val113 : k0_pay113 (F := Ideal) x0 x1 x2 x3 x4 x5 x6 x7 = (k0_pay69 (k0_pay112 (F := Ideal) x0 x1 x2 x3 x4 x5 x6 x7) (View.ld x7 r0_27) : FVec Ideal S256x128 .f32) := by
  unfold k0_pay113
  frame_out

/-- The same times their cosines. -/
theorem val114 : k0_pay114 (F := Ideal) x0 x1 x2 x3 x4 x5 x6 x7 = (k0_pay70 x5 (k0_pay112 (F := Ideal) x0 x1 x2 x3 x4 x5 x6 x7) (View.ld x7 r0_27) : FVec Ideal S256x128 .f32) := by
  unfold k0_pay114
  frame_out

/-- A lane's index over 16. -/
theorem val115 : k0_pay115 (F := Ideal) x0 x1 x2 x3 x4 x5 x6 x7 = (k0_pay71 : IVec S256x128 32) := by
  unfold k0_pay115
  frame_out

/-- The heads' matrix, entry by entry. -/
theorem heads (k l : Fin 128) : k0_pay103 (F := Ideal) x0 x1 x2 x3 x4 x5 x6 x7 (ix2 k l) = if k.val / 64 = l.val / 64 then 1 else 0 := by
  rw [val103]
  exact same_half k l

/-- The store of lanes 0 to 127. -/
theorem store0 (r : Fin 256) (l : Fin 128) :
    (k0_pay15 x6 (k0_pay10 (k0_pay97 (F := Ideal) x0 x1 x2 x3 x4 x5 x6 x7) (k0_pay99 (F := Ideal) x0 x1 x2 x3 x4 x5 x6 x7) (k0_pay100 (F := Ideal) x0 x1 x2 x3 x4 x5 x6 x7) (k0_pay101 (F := Ideal) x0 x1 x2 x3 x4 x5 x6 x7) (k0_pay102 (F := Ideal) x0 x1 x2 x3 x4 x5 x6 x7) (View.ld x7 r0_6)) (k0_pay11 (k0_pay97 (F := Ideal) x0 x1 x2 x3 x4 x5 x6 x7) x5 (k0_pay99 (F := Ideal) x0 x1 x2 x3 x4 x5 x6 x7) (k0_pay100 (F := Ideal) x0 x1 x2 x3 x4 x5 x6 x7) (k0_pay101 (F := Ideal) x0 x1 x2 x3 x4 x5 x6 x7) (k0_pay102 (F := Ideal) x0 x1 x2 x3 x4 x5 x6 x7) (View.ld x7 r0_6)) k0_pay12 k0_pay13 k0_pay14 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨0 + l.val, by omega⟩ := by
  rw [val99, val100, val101, val102]
  exact piece0 (rowN (k0_pay97 (F := Ideal) x0 x1 x2 x3 x4 x5 x6 x7) x7 r) (fun i => x5 (ix2 r i)) _ _ x6 r (lanes0 (k0_pay97 (F := Ideal) x0 x1 x2 x3 x4 x5 x6 x7) k0_pay5 k0_pay6 k0_pay8 k0_pay7 same_half (View.ld x7 r0_6) (fun f => x7 (ix2 0 f)) (gain0 x7) r) (lanesCos0 (k0_pay97 (F := Ideal) x0 x1 x2 x3 x4 x5 x6 x7) k0_pay5 k0_pay6 k0_pay8 k0_pay7 same_half (View.ld x7 r0_6) (fun f => x7 (ix2 0 f)) (gain0 x7) x5 r) l

/-- The store of lanes 128 to 255. -/
theorem store1 (r : Fin 256) (l : Fin 128) :
    (k0_pay21 x6 (k0_pay17 (k0_pay104 (F := Ideal) x0 x1 x2 x3 x4 x5 x6 x7) (View.ld x7 r0_8)) (k0_pay18 x5 (k0_pay104 (F := Ideal) x0 x1 x2 x3 x4 x5 x6 x7) (View.ld x7 r0_8)) k0_pay19 k0_pay20 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨128 + l.val, by omega⟩ := by
  rw [val104]
  exact piece1 (rowN (k0_pay97 (F := Ideal) x0 x1 x2 x3 x4 x5 x6 x7) x7 r) (fun i => x5 (ix2 r i)) _ _ x6 r (lanes1 (k0_pay97 (F := Ideal) x0 x1 x2 x3 x4 x5 x6 x7) (k0_pay103 (F := Ideal) x0 x1 x2 x3 x4 x5 x6 x7) (heads x0 x1 x2 x3 x4 x5 x6 x7) (View.ld x7 r0_8) (fun f => x7 (ix2 0 f)) (gain1 x7) r) (lanesCos1 (k0_pay97 (F := Ideal) x0 x1 x2 x3 x4 x5 x6 x7) (k0_pay103 (F := Ideal) x0 x1 x2 x3 x4 x5 x6 x7) (heads x0 x1 x2 x3 x4 x5 x6 x7) (View.ld x7 r0_8) (fun f => x7 (ix2 0 f)) (gain1 x7) x5 r) l

/-- The store of lanes 256 to 383. -/
theorem store2 (r : Fin 256) (l : Fin 128) :
    (k0_pay26 x6 (k0_pay22 (k0_pay97 (F := Ideal) x0 x1 x2 x3 x4 x5 x6 x7) (k0_pay103 (F := Ideal) x0 x1 x2 x3 x4 x5 x6 x7) (View.ld x7 r0_10)) (k0_pay23 (k0_pay97 (F := Ideal) x0 x1 x2 x3 x4 x5 x6 x7) x5 (k0_pay103 (F := Ideal) x0 x1 x2 x3 x4 x5 x6 x7) (View.ld x7 r0_10)) (iota .tc S256x128 32 [1] iota_S256x128_d1_w32) 16#32 k0_pay24 k0_pay25 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨256 + l.val, by omega⟩ := by
  exact piece2 (rowN (k0_pay97 (F := Ideal) x0 x1 x2 x3 x4 x5 x6 x7) x7 r) (fun i => x5 (ix2 r i)) _ _ x6 r (lanes2 (k0_pay97 (F := Ideal) x0 x1 x2 x3 x4 x5 x6 x7) (k0_pay103 (F := Ideal) x0 x1 x2 x3 x4 x5 x6 x7) (heads x0 x1 x2 x3 x4 x5 x6 x7) (View.ld x7 r0_10) (fun f => x7 (ix2 0 f)) (gain2 x7) r) (lanesCos2 (k0_pay97 (F := Ideal) x0 x1 x2 x3 x4 x5 x6 x7) (k0_pay103 (F := Ideal) x0 x1 x2 x3 x4 x5 x6 x7) (heads x0 x1 x2 x3 x4 x5 x6 x7) (View.ld x7 r0_10) (fun f => x7 (ix2 0 f)) (gain2 x7) x5 r) l

/-- The store of lanes 384 to 511. -/
theorem store3 (r : Fin 256) (l : Fin 128) :
    (k0_pay35 x6 (k0_pay29 (k0_pay105 (F := Ideal) x0 x1 x2 x3 x4 x5 x6 x7) (k0_pay106 (F := Ideal) x0 x1 x2 x3 x4 x5 x6 x7) (View.ld x7 r0_12)) (k0_pay30 x5 (k0_pay105 (F := Ideal) x0 x1 x2 x3 x4 x5 x6 x7) (k0_pay106 (F := Ideal) x0 x1 x2 x3 x4 x5 x6 x7) (View.ld x7 r0_12)) (Scalar.select (Scalar.cmpi .eq 2#32 0#32) 1#32 2#32) k0_pay31 k0_pay32 k0_pay33 k0_pay34 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨384 + l.val, by omega⟩ := by
  rw [val105, val106]
  exact piece3 (rowN (k0_pay97 (F := Ideal) x0 x1 x2 x3 x4 x5 x6 x7) x7 r) (fun i => x5 (ix2 r i)) _ _ x6 r (lanes3 (k0_pay97 (F := Ideal) x0 x1 x2 x3 x4 x5 x6 x7) (k0_pay103 (F := Ideal) x0 x1 x2 x3 x4 x5 x6 x7) (heads x0 x1 x2 x3 x4 x5 x6 x7) (View.ld x7 r0_12) (fun f => x7 (ix2 0 f)) (gain3 x7) r) (lanesCos3 (k0_pay97 (F := Ideal) x0 x1 x2 x3 x4 x5 x6 x7) (k0_pay103 (F := Ideal) x0 x1 x2 x3 x4 x5 x6 x7) (heads x0 x1 x2 x3 x4 x5 x6 x7) (View.ld x7 r0_12) (fun f => x7 (ix2 0 f)) (gain3 x7) x5 r) l

/-- The store of lanes 512 to 639. -/
theorem store4 (r : Fin 256) (l : Fin 128) :
    (k0_pay40 x6 (k0_pay36 (k0_pay97 (F := Ideal) x0 x1 x2 x3 x4 x5 x6 x7) (k0_pay103 (F := Ideal) x0 x1 x2 x3 x4 x5 x6 x7) (View.ld x7 r0_14)) (k0_pay37 (k0_pay97 (F := Ideal) x0 x1 x2 x3 x4 x5 x6 x7) x5 (k0_pay103 (F := Ideal) x0 x1 x2 x3 x4 x5 x6 x7) (View.ld x7 r0_14)) (iota .tc S256x128 32 [1] iota_S256x128_d1_w32) 16#32 k0_pay38 k0_pay39 0#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨512 + l.val, by omega⟩ := by
  exact piece4 (rowN (k0_pay97 (F := Ideal) x0 x1 x2 x3 x4 x5 x6 x7) x7 r) (fun i => x5 (ix2 r i)) _ _ x6 r (lanes4 (k0_pay97 (F := Ideal) x0 x1 x2 x3 x4 x5 x6 x7) (k0_pay103 (F := Ideal) x0 x1 x2 x3 x4 x5 x6 x7) (heads x0 x1 x2 x3 x4 x5 x6 x7) (View.ld x7 r0_14) (fun f => x7 (ix2 0 f)) (gain4 x7) r) (lanesCos4 (k0_pay97 (F := Ideal) x0 x1 x2 x3 x4 x5 x6 x7) (k0_pay103 (F := Ideal) x0 x1 x2 x3 x4 x5 x6 x7) (heads x0 x1 x2 x3 x4 x5 x6 x7) (View.ld x7 r0_14) (fun f => x7 (ix2 0 f)) (gain4 x7) x5 r) l

/-- The store of lanes 640 to 767. -/
theorem store5 (r : Fin 256) (l : Fin 128) :
    (k0_pay44 x6 (k0_pay41 (k0_pay97 (F := Ideal) x0 x1 x2 x3 x4 x5 x6 x7) (k0_pay103 (F := Ideal) x0 x1 x2 x3 x4 x5 x6 x7) (View.ld x7 r0_16)) (k0_pay42 (k0_pay97 (F := Ideal) x0 x1 x2 x3 x4 x5 x6 x7) x5 (k0_pay103 (F := Ideal) x0 x1 x2 x3 x4 x5 x6 x7) (View.ld x7 r0_16)) (Scalar.select (Scalar.cmpi .eq 2#32 0#32) 1#32 2#32) k0_pay43 0#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨640 + l.val, by omega⟩ := by
  exact piece5 (rowN (k0_pay97 (F := Ideal) x0 x1 x2 x3 x4 x5 x6 x7) x7 r) (fun i => x5 (ix2 r i)) _ _ x6 r (lanes5 (k0_pay97 (F := Ideal) x0 x1 x2 x3 x4 x5 x6 x7) (k0_pay103 (F := Ideal) x0 x1 x2 x3 x4 x5 x6 x7) (heads x0 x1 x2 x3 x4 x5 x6 x7) (View.ld x7 r0_16) (fun f => x7 (ix2 0 f)) (gain5 x7) r) (lanesCos5 (k0_pay97 (F := Ideal) x0 x1 x2 x3 x4 x5 x6 x7) (k0_pay103 (F := Ideal) x0 x1 x2 x3 x4 x5 x6 x7) (heads x0 x1 x2 x3 x4 x5 x6 x7) (View.ld x7 r0_16) (fun f => x7 (ix2 0 f)) (gain5 x7) x5 r) l

/-- The store of lanes 768 to 895. -/
theorem store6 (r : Fin 256) (l : Fin 128) :
    (k0_pay51 (k0_pay49 x6 (k0_pay45 (k0_pay97 (F := Ideal) x0 x1 x2 x3 x4 x5 x6 x7) (k0_pay103 (F := Ideal) x0 x1 x2 x3 x4 x5 x6 x7) (View.ld x7 r0_18)) (k0_pay46 (k0_pay97 (F := Ideal) x0 x1 x2 x3 x4 x5 x6 x7) x5 (k0_pay103 (F := Ideal) x0 x1 x2 x3 x4 x5 x6 x7) (View.ld x7 r0_18)) (iota .tc S256x128 32 [1] iota_S256x128_d1_w32) 16#32 k0_pay47 k0_pay48) (k0_pay50 (F := Ideal)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨768 + l.val, by omega⟩ := by
  exact piece6 (rowN (k0_pay97 (F := Ideal) x0 x1 x2 x3 x4 x5 x6 x7) x7 r) (fun i => x5 (ix2 r i)) _ _ x6 r (lanes6 (k0_pay97 (F := Ideal) x0 x1 x2 x3 x4 x5 x6 x7) (k0_pay103 (F := Ideal) x0 x1 x2 x3 x4 x5 x6 x7) (heads x0 x1 x2 x3 x4 x5 x6 x7) (View.ld x7 r0_18) (fun f => x7 (ix2 0 f)) (gain6 x7) r) (lanesCos6 (k0_pay97 (F := Ideal) x0 x1 x2 x3 x4 x5 x6 x7) (k0_pay103 (F := Ideal) x0 x1 x2 x3 x4 x5 x6 x7) (heads x0 x1 x2 x3 x4 x5 x6 x7) (View.ld x7 r0_18) (fun f => x7 (ix2 0 f)) (gain6 x7) x5 r) l

/-- The store of lanes 896 to 1023. -/
theorem store7 (r : Fin 256) (l : Fin 128) :
    (k0_pay55 x6 (k0_pay52 (k0_pay97 (F := Ideal) x0 x1 x2 x3 x4 x5 x6 x7) (k0_pay103 (F := Ideal) x0 x1 x2 x3 x4 x5 x6 x7) (View.ld x7 r0_20)) (k0_pay53 (k0_pay97 (F := Ideal) x0 x1 x2 x3 x4 x5 x6 x7) x5 (k0_pay103 (F := Ideal) x0 x1 x2 x3 x4 x5 x6 x7) (View.ld x7 r0_20)) k0_pay54 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨896 + l.val, by omega⟩ := by
  exact piece7 (rowN (k0_pay97 (F := Ideal) x0 x1 x2 x3 x4 x5 x6 x7) x7 r) (fun i => x5 (ix2 r i)) _ _ x6 r (lanes7 (k0_pay97 (F := Ideal) x0 x1 x2 x3 x4 x5 x6 x7) (k0_pay103 (F := Ideal) x0 x1 x2 x3 x4 x5 x6 x7) (heads x0 x1 x2 x3 x4 x5 x6 x7) (View.ld x7 r0_20) (fun f => x7 (ix2 0 f)) (gain7 x7) r) (lanesCos7 (k0_pay97 (F := Ideal) x0 x1 x2 x3 x4 x5 x6 x7) (k0_pay103 (F := Ideal) x0 x1 x2 x3 x4 x5 x6 x7) (heads x0 x1 x2 x3 x4 x5 x6 x7) (View.ld x7 r0_20) (fun f => x7 (ix2 0 f)) (gain7 x7) x5 r) l

/-- The store of lanes 1024 to 1151. -/
theorem store8 (r : Fin 256) (l : Fin 128) :
    (k0_pay64 x6 (k0_pay98 (F := Ideal) x0 x1 x2 x3 x4 x5 x6 x7) (k0_pay109 (F := Ideal) x0 x1 x2 x3 x4 x5 x6 x7) (k0_pay110 (F := Ideal) x0 x1 x2 x3 x4 x5 x6 x7) (k0_pay111 (F := Ideal) x0 x1 x2 x3 x4 x5 x6 x7) 112#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1024 + l.val, by omega⟩ := by
  rw [val98, val109, val110, val107, val108, val111]
  exact piece8 (rowN (k0_pay97 (F := Ideal) x0 x1 x2 x3 x4 x5 x6 x7) x7 r) (fun i => x5 (ix2 r i)) _ _ x6 r (lanes8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) r) (lanesCos8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) x5 r) l

/-- The store of lanes 1152 to 1279. -/
theorem store9 (r : Fin 256) (l : Fin 128) :
    (k0_pay65 x6 (k0_pay98 (F := Ideal) x0 x1 x2 x3 x4 x5 x6 x7) (k0_pay109 (F := Ideal) x0 x1 x2 x3 x4 x5 x6 x7) (k0_pay110 (F := Ideal) x0 x1 x2 x3 x4 x5 x6 x7) (k0_pay111 (F := Ideal) x0 x1 x2 x3 x4 x5 x6 x7) 112#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1152 + l.val, by omega⟩ := by
  rw [val98, val109, val110, val107, val108, val111]
  exact piece9 (rowN (k0_pay97 (F := Ideal) x0 x1 x2 x3 x4 x5 x6 x7) x7 r) (fun i => x5 (ix2 r i)) _ _ x6 r (lanes8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) r) (lanesCos8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) x5 r) l

/-- The store of lanes 1280 to 1407. -/
theorem store10 (r : Fin 256) (l : Fin 128) :
    (k0_pay66 x6 (k0_pay98 (F := Ideal) x0 x1 x2 x3 x4 x5 x6 x7) (k0_pay109 (F := Ideal) x0 x1 x2 x3 x4 x5 x6 x7) (k0_pay110 (F := Ideal) x0 x1 x2 x3 x4 x5 x6 x7) (k0_pay111 (F := Ideal) x0 x1 x2 x3 x4 x5 x6 x7) 112#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1280 + l.val, by omega⟩ := by
  rw [val98, val109, val110, val107, val108, val111]
  exact piece10 (rowN (k0_pay97 (F := Ideal) x0 x1 x2 x3 x4 x5 x6 x7) x7 r) (fun i => x5 (ix2 r i)) _ _ x6 r (lanes8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) r) (lanesCos8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) x5 r) l

/-- The store of lanes 1408 to 1535. -/
theorem store11 (r : Fin 256) (l : Fin 128) :
    (k0_pay67 x6 (k0_pay98 (F := Ideal) x0 x1 x2 x3 x4 x5 x6 x7) (k0_pay109 (F := Ideal) x0 x1 x2 x3 x4 x5 x6 x7) (k0_pay110 (F := Ideal) x0 x1 x2 x3 x4 x5 x6 x7) (k0_pay111 (F := Ideal) x0 x1 x2 x3 x4 x5 x6 x7) 112#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1408 + l.val, by omega⟩ := by
  rw [val98, val109, val110, val107, val108, val111]
  exact piece11 (rowN (k0_pay97 (F := Ideal) x0 x1 x2 x3 x4 x5 x6 x7) x7 r) (fun i => x5 (ix2 r i)) _ _ x6 r (lanes8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) r) (lanesCos8 (k0_pay97 (F := Ideal) x0 x1 x2 x3 x4 x5 x6 x7) (k0_pay103 (F := Ideal) x0 x1 x2 x3 x4 x5 x6 x7) (heads x0 x1 x2 x3 x4 x5 x6 x7) (View.ld x7 r0_22) (fun f => x7 (ix2 0 f)) (gain8 x7) x5 r) l

/-- The store of lanes 1536 to 1663. -/
theorem store12 (r : Fin 256) (l : Fin 128) :
    (k0_pay75 x6 (k0_pay98 (F := Ideal) x0 x1 x2 x3 x4 x5 x6 x7) (k0_pay113 (F := Ideal) x0 x1 x2 x3 x4 x5 x6 x7) (k0_pay114 (F := Ideal) x0 x1 x2 x3 x4 x5 x6 x7) (k0_pay115 (F := Ideal) x0 x1 x2 x3 x4 x5 x6 x7) 0#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1536 + l.val, by omega⟩ := by
  rw [val98, val113, val114, val112, val115]
  exact piece12 (rowN (k0_pay97 (F := Ideal) x0 x1 x2 x3 x4 x5 x6 x7) x7 r) (fun i => x5 (ix2 r i)) _ _ x6 r (lanes9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) r) (lanesCos9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) x5 r) l

/-- The store of lanes 1664 to 1791. -/
theorem store13 (r : Fin 256) (l : Fin 128) :
    (k0_pay76 x6 (k0_pay98 (F := Ideal) x0 x1 x2 x3 x4 x5 x6 x7) (k0_pay113 (F := Ideal) x0 x1 x2 x3 x4 x5 x6 x7) (k0_pay114 (F := Ideal) x0 x1 x2 x3 x4 x5 x6 x7) (k0_pay115 (F := Ideal) x0 x1 x2 x3 x4 x5 x6 x7) 0#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1664 + l.val, by omega⟩ := by
  rw [val98, val113, val114, val112, val115]
  exact piece13 (rowN (k0_pay97 (F := Ideal) x0 x1 x2 x3 x4 x5 x6 x7) x7 r) (fun i => x5 (ix2 r i)) _ _ x6 r (lanes9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) r) (lanesCos9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) x5 r) l

/-- The store of lanes 1792 to 1919. -/
theorem store14 (r : Fin 256) (l : Fin 128) :
    (k0_pay77 x6 (k0_pay98 (F := Ideal) x0 x1 x2 x3 x4 x5 x6 x7) (k0_pay113 (F := Ideal) x0 x1 x2 x3 x4 x5 x6 x7) (k0_pay114 (F := Ideal) x0 x1 x2 x3 x4 x5 x6 x7) (k0_pay115 (F := Ideal) x0 x1 x2 x3 x4 x5 x6 x7) 0#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1792 + l.val, by omega⟩ := by
  rw [val98, val113, val114, val112, val115]
  exact piece14 (rowN (k0_pay97 (F := Ideal) x0 x1 x2 x3 x4 x5 x6 x7) x7 r) (fun i => x5 (ix2 r i)) _ _ x6 r (lanes9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) r) (lanesCos9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) x5 r) l

/-- The store of lanes 1920 to 2047. -/
theorem store15 (r : Fin 256) (l : Fin 128) :
    (k0_pay78 x6 (k0_pay98 (F := Ideal) x0 x1 x2 x3 x4 x5 x6 x7) (k0_pay113 (F := Ideal) x0 x1 x2 x3 x4 x5 x6 x7) (k0_pay114 (F := Ideal) x0 x1 x2 x3 x4 x5 x6 x7) (k0_pay115 (F := Ideal) x0 x1 x2 x3 x4 x5 x6 x7) 0#32 : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨1920 + l.val, by omega⟩ := by
  rw [val98, val113, val114, val112, val115]
  exact piece15 (rowN (k0_pay97 (F := Ideal) x0 x1 x2 x3 x4 x5 x6 x7) x7 r) (fun i => x5 (ix2 r i)) _ _ x6 r (lanes9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) r) (lanesCos9 (k0_pay97 (F := Ideal) x0 x1 x2 x3 x4 x5 x6 x7) (k0_pay103 (F := Ideal) x0 x1 x2 x3 x4 x5 x6 x7) (heads x0 x1 x2 x3 x4 x5 x6 x7) (View.ld x7 r0_27) (fun f => x7 (ix2 0 f)) (gain9 x7) x5 r) l

/-- The store of lanes 2048 to 2175. -/
theorem store16 (r : Fin 256) (l : Fin 128) :
    (k0_pay86 (k0_pay85 (k0_pay97 (F := Ideal) x0 x1 x2 x3 x4 x5 x6 x7) (k0_pay98 (F := Ideal) x0 x1 x2 x3 x4 x5 x6 x7)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2048 + l.val, by omega⟩ := by
  rw [val98]
  exact piece16 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2176 to 2303. -/
theorem store17 (r : Fin 256) (l : Fin 128) :
    (k0_pay87 (k0_pay82 (k0_pay97 (F := Ideal) x0 x1 x2 x3 x4 x5 x6 x7) (k0_pay98 (F := Ideal) x0 x1 x2 x3 x4 x5 x6 x7)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2176 + l.val, by omega⟩ := by
  rw [val98]
  exact piece17 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2304 to 2431. -/
theorem store18 (r : Fin 256) (l : Fin 128) :
    (k0_pay88 (k0_pay83 (k0_pay97 (F := Ideal) x0 x1 x2 x3 x4 x5 x6 x7) (k0_pay98 (F := Ideal) x0 x1 x2 x3 x4 x5 x6 x7)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2304 + l.val, by omega⟩ := by
  rw [val98]
  exact piece18 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2432 to 2559. -/
theorem store19 (r : Fin 256) (l : Fin 128) :
    (k0_pay89 (k0_pay84 (k0_pay97 (F := Ideal) x0 x1 x2 x3 x4 x5 x6 x7) (k0_pay98 (F := Ideal) x0 x1 x2 x3 x4 x5 x6 x7)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2432 + l.val, by omega⟩ := by
  rw [val98]
  exact piece19 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2560 to 2687. -/
theorem store20 (r : Fin 256) (l : Fin 128) :
    (k0_pay94 (k0_pay97 (F := Ideal) x0 x1 x2 x3 x4 x5 x6 x7) (k0_pay98 (F := Ideal) x0 x1 x2 x3 x4 x5 x6 x7) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2560 + l.val, by omega⟩ := by
  rw [val98]
  exact piece20 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2688 to 2815. -/
theorem store21 (r : Fin 256) (l : Fin 128) :
    (k0_pay95 (k0_pay97 (F := Ideal) x0 x1 x2 x3 x4 x5 x6 x7) (k0_pay98 (F := Ideal) x0 x1 x2 x3 x4 x5 x6 x7) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2688 + l.val, by omega⟩ := by
  rw [val98]
  exact piece21 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2816 to 2943. -/
theorem store22 (r : Fin 256) (l : Fin 128) :
    (k0_pay1 (k0_pay96 (k0_pay97 (F := Ideal) x0 x1 x2 x3 x4 x5 x6 x7) (k0_pay98 (F := Ideal) x0 x1 x2 x3 x4 x5 x6 x7)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2816 + l.val, by omega⟩ := by
  rw [val98]
  exact piece22 _ _ (rowN (k0_pay97 (F := Ideal) x0 x1 x2 x3 x4 x5 x6 x7) x7 r) (k0_pay97 (F := Ideal) x0 x1 x2 x3 x4 x5 x6 x7) r (fun f hf => dif_neg (by omega)) l

/-- The store of lanes 2944 to 3071. -/
theorem store23 (r : Fin 256) (l : Fin 128) :
    (k0_pay2 (k0_pay93 (k0_pay97 (F := Ideal) x0 x1 x2 x3 x4 x5 x6 x7) (k0_pay98 (F := Ideal) x0 x1 x2 x3 x4 x5 x6 x7)) : FVec Ideal S1x256x128 .bf16) (ix3 0 r l)
      = pack (fun f => turn (rowN (k0_pay97 (F := Ideal) x0 x1 x2 x3 x4 x5 x6 x7) x7 r) (fun i => x5 (ix2 r i)) (fun i => x6 (ix2 r i)) ⟨f.val, by omega⟩) (fun f => turn (rowN (k0_pay97 (F := Ideal) x0 x1 x2 x3 x4 x5 x6 x7) x7 r) (fun i => x5 (ix2 r i)) (fun i => x6 (ix2 r i)) ⟨1024 + f.val, by omega⟩) (fun f => rowN (k0_pay97 (F := Ideal) x0 x1 x2 x3 x4 x5 x6 x7) x7 r ⟨1280 + f.val, by omega⟩) ⟨2944 + l.val, by omega⟩ := by
  rw [val98]
  exact piece23 _ _ (rowN (k0_pay97 (F := Ideal) x0 x1 x2 x3 x4 x5 x6 x7) x7 r) (k0_pay97 (F := Ideal) x0 x1 x2 x3 x4 x5 x6 x7) r (fun f hf => dif_neg (by omega)) l

end Cert.Kernel7Ideal.Qkv

end
-- ==== Proof.QkvNormValue.lean ====
/- The projection with normed queries and keys: the result array after the run is the reference's term of the arguments. -/
module

public import proofs.«01_k».proof.Proof.Gen.Kernel7Ideal.Value
public import proofs.«01_k».proof.Proof.QkvNormRef
public import proofs.«01_k».proof.Proof.QkvNormStore

@[expose] public section

set_option maxRecDepth 16384

noncomputable section

open Idealize.ShloMosaic Idealize.ShloMosaic.TcCoe Idealize.SL.Sem Cert.Norm Cert.Qkv
open Idealize.ShloMosaic.Pipeline (Dat)

namespace Cert.Kernel7Ideal.Qkv

open Cert.Kernel7Ideal Cert.Kernel7Ideal.Gen

set_option maxHeartbeats 1000000 in
/-- The body's projection at row `r` and column `f`. -/
theorem pay3_apply (x0 : FVec Ideal S1x256x1024 .f32) (x1 : FVec Ideal S1x1x6x1024 .f32) (x2 : FVec Ideal S1x1024 .f32) (x3 : FVec Ideal S1024x1536 .bf16) (x4 : FVec Ideal S1x1536 .f32) (r : Fin 256) (f : Fin 1536) :
    k0_pay3 (F := Ideal) x0 x1 x2 x3 x4 (ix2 r f)
      = (∑ k, normMod (fun k => x0 (ix3 0 r k)) (fun k => x2 (ix2 0 k)) (fun k => x1 (ix4 0 0 1 k)) (fun k => x1 (ix4 0 0 0 k)) k * x3 (ix2 k f)) + x4 (ix2 0 f) := by
  pointwise [k0_pay3, normMod]

variable (m : (ℓ : Loc nD τ sig) → Buf (Elt Ideal) ℓ) (c : Dev nD)

/-- The windows' block indices at point `t`: batch `t / 9`, row block `t % 9`; the modulation is the context's on row block 0. -/
theorem idx : ∀ t : Fin cfg0.N, win0_0.index t = ![t.val / 9, t.val % 9, 0] ∧ win0_1.index t = ![t.val / 9, if t.val % 9 = 0 then 0 else 1, 0, 0]
    ∧ win0_2.index t = ![0, 0] ∧ win0_3.index t = ![0, 0] ∧ win0_4.index t = ![0, 0] ∧ win0_5.index t = ![t.val % 9, 0] ∧ win0_6.index t = ![t.val % 9, 0] ∧ win0_7.index t = ![0, 0] ∧ win0_8.index t = ![t.val / 9, t.val % 9, 0] :=
  (by decide +kernel : ∀ t : Fin grid0.N, _)

/-- A point's batch. -/
def bat (t : Fin cfg0.N) : Fin 8 := ⟨t.val / 9, by have h : t.val < 72 := t.isLt; omega⟩
/-- A point's row of the array. -/
def row (t : Fin cfg0.N) (r : Fin 256) : Fin 2304 := ⟨t.val % 9 * 256 + r.val, by omega⟩

/-- The rows of a point's block. -/
theorem blk0 (t : Fin cfg0.N) (r : Fin 256) (k : Fin 1024) : iblk m c 0 t (ix3 0 r k) = m ((c : Thread nD τ).loc main_arg0) (ix3 (bat t) (row t r) k) := by
  unfold bat row
  blk_ext [iblk, V, idx t]

/-- The modulation of a point's rows. -/
theorem blk1 (t : Fin cfg0.N) (r : Fin 256) (s : Fin 6) (k : Fin 1024) :
    iblk m c 1 t (ix4 0 0 s k) = m ((c : Thread nD τ).loc main_arg1) (ix4 (bat t) (if (row t r).val < 256 then 0 else 1) s k) := by
  have hr : (if (row t r).val < 256 then (0 : Fin 2) else 1) = (⟨if t.val % 9 = 0 then 0 else 1, by split <;> omega⟩ : Fin 2) := by
    unfold row
    by_cases h : t.val % 9 = 0
    · simp [h]
    · have : ¬ (t.val % 9 * 256 + r.val < 256) := by omega
      simp [h, this]
  rw [hr]
  unfold bat
  blk_ext [iblk, V, idx t]

/-- The gain. -/
theorem blk2 (t : Fin cfg0.N) (k : Fin 1024) : iblk m c 2 t (ix2 0 k) = m ((c : Thread nD τ).loc main_arg2) (ix1 k) := by
  have h0 : V m c main_v8 (ix2 0 k) = m ((c : Thread nD τ).loc main_arg2) (ix1 k) := by
    entry_read
    show shapeCast S1x1024 (m ((c : Thread nD τ).loc main_arg2)) shapeCasts_S1024_S1x1024 (ix2 0 k) = _
    pointwise
  rw [← h0]
  blk_ext [iblk, idx t]

/-- The weights. -/
theorem blk3 (t : Fin cfg0.N) (k : Fin 1024) (f : Fin 1536) : iblk m c 3 t (ix2 k f) = m ((c : Thread nD τ).loc main_arg3) (ix2 k f) := by
  have h0 : V m c main_v9 (ix2 k f) = m ((c : Thread nD τ).loc main_arg3) (ix2 k f) := by
    have e : V m c main_v9 = truncf (F := Ideal) (φ := .f32) .bf16 (m ((c : Thread nD τ).loc main_arg3)) bitsLt_bf16_f32 := by
      first | (entry_read; rfl) | rfl | (hlo_run; rfl)
    rw [e]
    rfl
  rw [← h0]
  blk_ext [iblk, idx t]

/-- The bias is zero. -/
theorem blk4 (t : Fin cfg0.N) (f : Fin 1536) : iblk m c 4 t (ix2 0 f) = (0 : EReal) := by
  have h0 : V m c main_v10 (ix2 0 f) = (0 : EReal) := by
    have e : V m c main_v10 = broadcastInDim S1x1536 ![] bcast_S_S1x1536 (constant (F := Ideal) S_ .f32 0x00000000#32) := rfl
    rw [e]
    pointwise
  rw [← h0]
  blk_ext [iblk, idx t]

/-- The gains, column by column: the queries' heads repeat one, the keys' the other. -/
theorem blk7 (t : Fin cfg0.N) (f : Fin 1280) :
    iblk m c 7 t (ix2 0 f) = if f.val < 1024 then m ((c : Thread nD τ).loc main_arg4) (ix1 (⟨f.val % 64, by omega⟩ : Fin 64)) else m ((c : Thread nD τ).loc main_arg5) (ix1 (⟨f.val % 64, by omega⟩ : Fin 64)) := by
  have h0 : V m c main_v7 (ix2 0 f) = if f.val < 1024 then m ((c : Thread nD τ).loc main_arg4) (ix1 (⟨f.val % 64, by omega⟩ : Fin 64)) else m ((c : Thread nD τ).loc main_arg5) (ix1 (⟨f.val % 64, by omega⟩ : Fin 64)) := by
    entry_read
    show shapeCast S1x1280 (concatenate (α := Ideal .f32) S1280 0 [⟨S1024, shapeCast S1024 (broadcastInDim S16x64 ![0, 1] bcast_S1x64_S16x64_0_1 (shapeCast S1x64 (m ((c : Thread nD τ).loc main_arg4)) shapeCasts_S64_S1x64)) shapeCasts_S16x64_S1024⟩, ⟨S256, shapeCast S256 (broadcastInDim S4x64 ![0, 1] bcast_S1x64_S4x64_0_1 (shapeCast S1x64 (m ((c : Thread nD τ).loc main_arg5)) shapeCasts_S64_S1x64)) shapeCasts_S4x64_S256⟩] concatenates_S1024_S256_S1280_d0) shapeCasts_S1280_S1x1280 (ix2 0 f) = _
    pointwise
    by_cases h : f.val < 1024
    · rw [dif_pos h, if_pos h]
    · rw [dif_neg h, if_neg h]
      exact congrArg (fun i => m ((c : Thread nD τ).loc main_arg5) (ix1 i)) (Fin.ext (by dsimp only; omega))
  rw [← h0]
  blk_ext [iblk, idx t]

/-- The cosines of a point's rows. -/
theorem blk5 (t : Fin cfg0.N) (r : Fin 256) (l : Fin 128) : iblk m c 5 t (ix2 r l) = m ((c : Thread nD τ).loc main_arg6) (ix2 (row t r) l) := by
  unfold row
  blk_ext [iblk, V, idx t]

/-- The sines of a point's rows. -/
theorem blk6 (t : Fin cfg0.N) (r : Fin 256) (l : Fin 128) : iblk m c 6 t (ix2 r l) = m ((c : Thread nD τ).loc main_arg7) (ix2 (row t r) l) := by
  unfold row
  blk_ext [iblk, V, idx t]

/-- The projection of a point's rows. -/
def proj (t : Fin cfg0.N) : FVec Ideal S256x1536 .f32 := k0_pay97 (F := Ideal) (iblk m c 0 t) (iblk m c 1 t) (iblk m c 2 t) (iblk m c 3 t) (iblk m c 4 t) (iblk m c 5 t) (iblk m c 6 t) (iblk m c 7 t)

/-- It is the body's product of the blocks read whole. -/
theorem proj_eq (t : Fin cfg0.N) : proj m c t = k0_pay3 (F := Ideal) (iblk m c 0 t) (iblk m c 1 t) (iblk m c 2 t) (iblk m c 3 t) (iblk m c 4 t) := by
  unfold proj k0_pay97
  frame_out

/-- It is the reference's. -/
theorem proj_apply (t : Fin cfg0.N) (r : Fin 256) (f : Fin 1536) :
    proj m c t (ix2 r f) = Cert.Reference7Ideal.Qkv.prow (m ((c : Thread nD τ).loc main_arg0)) (m ((c : Thread nD τ).loc main_arg1)) (m ((c : Thread nD τ).loc main_arg2)) (m ((c : Thread nD τ).loc main_arg3)) (bat t) (row t r) f := by
  rw [proj_eq]
  refine (pay3_apply (iblk m c 0 t) (iblk m c 1 t) (iblk m c 2 t) (iblk m c 3 t) (iblk m c 4 t) r f).trans ?_
  simp only [fun k => blk0 m c t r k, fun s k => blk1 m c t r s k, fun k => blk2 m c t k, fun k f => blk3 m c t k f, fun f => blk4 m c t f, Cert.Reference7Ideal.Qkv.prow, add_zero]

/-- Normed column by column is normed head by head. -/
theorem normCols_eq (p : Fin 1536 → EReal) (g : Fin 1280 → EReal) (gq gk : Fin 64 → EReal) (hg : ∀ f : Fin 1280, g f = if f.val < 1024 then gq ⟨f.val % 64, by omega⟩ else gk ⟨f.val % 64, by omega⟩) (f : Fin 1536) :
    normCols p g f = normRow p gq gk f := by
  unfold normCols normRow
  by_cases h : f.val < 1280
  · rw [dif_pos h, if_pos h, hg]
    unfold headNorm
    have e : ∀ u, (⟨f.val / 64 * 64 + f.val % 64, u⟩ : Fin 1536) = f := fun u => Fin.ext (by dsimp only; omega)
    by_cases h' : f.val < 1024
    · simp only [if_pos h', e]
    · simp only [if_neg h', e]
  · rw [dif_neg h, if_neg h]

/-- The normed rows are the reference's. -/
theorem row_apply (t : Fin cfg0.N) (r : Fin 256) (f : Fin 1536) :
    rowN (proj m c t) (iblk m c 7 t) r f = Cert.Reference7Ideal.Qkv.nrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat t) (row t r) f := by
  unfold rowN Cert.Reference7Ideal.Qkv.nrow
  simp only [fun r f => proj_apply m c t r f]
  exact normCols_eq _ _ _ _ (fun f => blk7 m c t f) f

/-- Where a point's block lies in the result. -/
theorem emb8 (t : Fin cfg0.N) (r : Fin 256) (f : Fin 3072) : ((View.whole main_v11).slice (win0_8.rect t)).emb (ix3 0 r f) = ix3 (bat t) (row t r) f := by
  obtain ⟨-, -, -, -, -, -, -, -, h⟩ := idx t
  funext a
  apply Fin.ext
  refine (Pipeline.Window.rect_emb_val win0_8 t (ix3 0 r f) a).trans ?_
  rw [h]
  fin_cases a <;> simp [bat, row, win0_8]

/-- The store of 128 lanes from lane `128 * n` on holds the reference's entries there, if it holds the packed row's. -/
theorem point8 (hT : Cert.Pre_rotary_tables.Qkv.Tables (m ((c : Thread nD τ).loc main_arg6)) (m ((c : Thread nD τ).loc main_arg7))) (t : Fin cfg0.N) (y : S1x256x3072.Idx) (x : S1x256x128.Idx) (o : ℕ) (ho : o + 128 ≤ 3072)
    (h1 : (y 1 : ℕ) = (x 1 : ℕ)) (h2 : (y 2 : ℕ) = o + (x 2 : ℕ)) (Q : FVec Ideal S1x256x128 .bf16)
    (hQ : ∀ (r : Fin 256) (l : Fin 128), Q (ix3 0 r l)
      = pack (fun f => turn (rowN (proj m c t) (iblk m c 7 t) r) (fun i => iblk m c 5 t (ix2 r i)) (fun i => iblk m c 6 t (ix2 r i)) ⟨f.val, by omega⟩) (fun f => turn (rowN (proj m c t) (iblk m c 7 t) r) (fun i => iblk m c 5 t (ix2 r i)) (fun i => iblk m c 6 t (ix2 r i)) ⟨1024 + f.val, by omega⟩) (fun f => rowN (proj m c t) (iblk m c 7 t) r ⟨1280 + f.val, by omega⟩) ⟨o + l.val, by omega⟩) :
    Q x = Cert.Reference7Ideal.Qkv.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((View.whole main_v11).slice (win0_8.rect t)).emb y) := by
  obtain ⟨r, l, rfl⟩ : ∃ (r : Fin 256) (l : Fin 128), x = ix3 0 r l :=
    ⟨x 1, x 2, by funext a; fin_cases a <;> first | rfl | exact Subsingleton.elim (α := Fin 1) _ _⟩
  have hy : y = ix3 0 r ⟨o + l.val, by omega⟩ := by
    funext a
    fin_cases a
    · exact Subsingleton.elim (α := Fin 1) _ _
    · exact Fin.ext h1
    · exact Fin.ext h2
  rw [hy]
  refine Eq.trans ?_ (congrArg (Cert.Reference7Ideal.Qkv.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8 t r ⟨o + l.val, by omega⟩)).symm
  refine (hQ r l).trans (Eq.trans ?_ (Cert.Reference7Ideal.Qkv.REF_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hT (bat t) (row t r) ⟨o + l.val, by omega⟩).symm)
  have hr : rowN (proj m c t) (iblk m c 7 t) r = Cert.Reference7Ideal.Qkv.nrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat t) (row t r) := funext fun f => row_apply m c t r f
  simp only [hr, fun r l => blk5 m c t r l, fun r l => blk6 m c t r l]

set_option maxHeartbeats 8000000 in
/-- The result array after the run. -/
theorem final8 (hT : Cert.Pre_rotary_tables.Qkv.Tables (m ((c : Thread nD τ).loc main_arg6)) (m ((c : Thread nD τ).loc main_arg7))) : (dats m 0 c).arrAt 8 (cfgs 0).N = Cert.Reference7Ideal.Qkv.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  frame_out
  canon_tiles x k
  · exact point8 m c hT t y x 2944 (by omega) k1 k2 _ (store23 (iblk m c 0 t) (iblk m c 1 t) (iblk m c 2 t) (iblk m c 3 t) (iblk m c 4 t) (iblk m c 5 t) (iblk m c 6 t) (iblk m c 7 t))
  · exact point8 m c hT t y x 2816 (by omega) k1 k2 _ (store22 (iblk m c 0 t) (iblk m c 1 t) (iblk m c 2 t) (iblk m c 3 t) (iblk m c 4 t) (iblk m c 5 t) (iblk m c 6 t) (iblk m c 7 t))
  · exact point8 m c hT t y x 2688 (by omega) k1 k2 _ (store21 (iblk m c 0 t) (iblk m c 1 t) (iblk m c 2 t) (iblk m c 3 t) (iblk m c 4 t) (iblk m c 5 t) (iblk m c 6 t) (iblk m c 7 t))
  · exact point8 m c hT t y x 2560 (by omega) k1 k2 _ (store20 (iblk m c 0 t) (iblk m c 1 t) (iblk m c 2 t) (iblk m c 3 t) (iblk m c 4 t) (iblk m c 5 t) (iblk m c 6 t) (iblk m c 7 t))
  · exact point8 m c hT t y x 2432 (by omega) k1 k2 _ (store19 (iblk m c 0 t) (iblk m c 1 t) (iblk m c 2 t) (iblk m c 3 t) (iblk m c 4 t) (iblk m c 5 t) (iblk m c 6 t) (iblk m c 7 t))
  · exact point8 m c hT t y x 2304 (by omega) k1 k2 _ (store18 (iblk m c 0 t) (iblk m c 1 t) (iblk m c 2 t) (iblk m c 3 t) (iblk m c 4 t) (iblk m c 5 t) (iblk m c 6 t) (iblk m c 7 t))
  · exact point8 m c hT t y x 2176 (by omega) k1 k2 _ (store17 (iblk m c 0 t) (iblk m c 1 t) (iblk m c 2 t) (iblk m c 3 t) (iblk m c 4 t) (iblk m c 5 t) (iblk m c 6 t) (iblk m c 7 t))
  · exact point8 m c hT t y x 2048 (by omega) k1 k2 _ (store16 (iblk m c 0 t) (iblk m c 1 t) (iblk m c 2 t) (iblk m c 3 t) (iblk m c 4 t) (iblk m c 5 t) (iblk m c 6 t) (iblk m c 7 t))
  · exact point8 m c hT t y x 1920 (by omega) k1 k2 _ (store15 (iblk m c 0 t) (iblk m c 1 t) (iblk m c 2 t) (iblk m c 3 t) (iblk m c 4 t) (iblk m c 5 t) (iblk m c 6 t) (iblk m c 7 t))
  · exact point8 m c hT t y x 1792 (by omega) k1 k2 _ (store14 (iblk m c 0 t) (iblk m c 1 t) (iblk m c 2 t) (iblk m c 3 t) (iblk m c 4 t) (iblk m c 5 t) (iblk m c 6 t) (iblk m c 7 t))
  · exact point8 m c hT t y x 1664 (by omega) k1 k2 _ (store13 (iblk m c 0 t) (iblk m c 1 t) (iblk m c 2 t) (iblk m c 3 t) (iblk m c 4 t) (iblk m c 5 t) (iblk m c 6 t) (iblk m c 7 t))
  · exact point8 m c hT t y x 1536 (by omega) k1 k2 _ (store12 (iblk m c 0 t) (iblk m c 1 t) (iblk m c 2 t) (iblk m c 3 t) (iblk m c 4 t) (iblk m c 5 t) (iblk m c 6 t) (iblk m c 7 t))
  · exact point8 m c hT t y x 1408 (by omega) k1 k2 _ (store11 (iblk m c 0 t) (iblk m c 1 t) (iblk m c 2 t) (iblk m c 3 t) (iblk m c 4 t) (iblk m c 5 t) (iblk m c 6 t) (iblk m c 7 t))
  · exact point8 m c hT t y x 1280 (by omega) k1 k2 _ (store10 (iblk m c 0 t) (iblk m c 1 t) (iblk m c 2 t) (iblk m c 3 t) (iblk m c 4 t) (iblk m c 5 t) (iblk m c 6 t) (iblk m c 7 t))
  · exact point8 m c hT t y x 1152 (by omega) k1 k2 _ (store9 (iblk m c 0 t) (iblk m c 1 t) (iblk m c 2 t) (iblk m c 3 t) (iblk m c 4 t) (iblk m c 5 t) (iblk m c 6 t) (iblk m c 7 t))
  · exact point8 m c hT t y x 1024 (by omega) k1 k2 _ (store8 (iblk m c 0 t) (iblk m c 1 t) (iblk m c 2 t) (iblk m c 3 t) (iblk m c 4 t) (iblk m c 5 t) (iblk m c 6 t) (iblk m c 7 t))
  · exact point8 m c hT t y x 896 (by omega) k1 k2 _ (store7 (iblk m c 0 t) (iblk m c 1 t) (iblk m c 2 t) (iblk m c 3 t) (iblk m c 4 t) (iblk m c 5 t) (iblk m c 6 t) (iblk m c 7 t))
  · exact point8 m c hT t y x 768 (by omega) k1 k2 _ (store6 (iblk m c 0 t) (iblk m c 1 t) (iblk m c 2 t) (iblk m c 3 t) (iblk m c 4 t) (iblk m c 5 t) (iblk m c 6 t) (iblk m c 7 t))
  · exact point8 m c hT t y x 640 (by omega) k1 k2 _ (store5 (iblk m c 0 t) (iblk m c 1 t) (iblk m c 2 t) (iblk m c 3 t) (iblk m c 4 t) (iblk m c 5 t) (iblk m c 6 t) (iblk m c 7 t))
  · exact point8 m c hT t y x 512 (by omega) k1 k2 _ (store4 (iblk m c 0 t) (iblk m c 1 t) (iblk m c 2 t) (iblk m c 3 t) (iblk m c 4 t) (iblk m c 5 t) (iblk m c 6 t) (iblk m c 7 t))
  · exact point8 m c hT t y x 384 (by omega) k1 k2 _ (store3 (iblk m c 0 t) (iblk m c 1 t) (iblk m c 2 t) (iblk m c 3 t) (iblk m c 4 t) (iblk m c 5 t) (iblk m c 6 t) (iblk m c 7 t))
  · exact point8 m c hT t y x 256 (by omega) k1 k2 _ (store2 (iblk m c 0 t) (iblk m c 1 t) (iblk m c 2 t) (iblk m c 3 t) (iblk m c 4 t) (iblk m c 5 t) (iblk m c 6 t) (iblk m c 7 t))
  · exact point8 m c hT t y x 128 (by omega) k1 k2 _ (store1 (iblk m c 0 t) (iblk m c 1 t) (iblk m c 2 t) (iblk m c 3 t) (iblk m c 4 t) (iblk m c 5 t) (iblk m c 6 t) (iblk m c 7 t))
  · exact point8 m c hT t y x 0 (by omega) k1 (k2.trans (Nat.zero_add _).symm) _ (store0 (iblk m c 0 t) (iblk m c 1 t) (iblk m c 2 t) (iblk m c 3 t) (iblk m c 4 t) (iblk m c 5 t) (iblk m c 6 t) (iblk m c 7 t))

end Cert.Kernel7Ideal.Qkv

end
-- ==== Proof.GdnOut.lean ====
/- The output projection of the recurrent mixer as formulas: the gated, normalized row the body and the reference multiply with
   the weights, read at an entry. -/
module

public import proofs.«01_k».proof.Proof.MixOut
public import proofs.«01_k».proof.Proof.Gen.Kernel6Ideal.Skeleton
public import proofs.«01_k».proof.Proof.Gen.Reference6Ideal.Run

@[expose] public section

set_option maxRecDepth 16384

noncomputable section

open Idealize.ShloMosaic Cert.Norm Cert.MixOut

namespace Cert.MixOut

/-- A head's 128 lanes normalized by their root mean square, scaled by the gain, and gated: times `z · sigmoid z`. -/
def gatedHead (o g z : Fin 128 → EReal) (d : Fin 128) : EReal :=
  o d * Ideal.rsqrt (Ideal.div (∑ j, o j * o j) (Ideal.ofBits .f32 0x43000000#32) + Ideal.ofBits .f32 0x358637BD#32) * g d
    * (z d * Ideal.div 1 (1 + Ideal.exp (-z d)))

/-- The lane of a head in its row. -/
def lane (h : Fin 8) (d : Fin 128) : Fin 1024 := ⟨h.val * 128 + d.val, by omega⟩

/-- A row of eight heads, each normalized and gated. -/
def gated (o : Fin 1024 → EReal) (g : Fin 128 → EReal) (z : Fin 1024 → EReal) (k : Fin 1024) : EReal :=
  gatedHead (fun d => o (lane ⟨k.val / 128, by omega⟩ d)) g (fun d => z (lane ⟨k.val / 128, by omega⟩ d)) ⟨k.val % 128, by omega⟩

end Cert.MixOut

open Cert.MixOut

namespace Cert.Kernel6Ideal.GdnOut

open Cert.Kernel6Ideal Cert.Kernel6Ideal.Gen

section Heads

variable (G : FVec Ideal S1x128 .f32) (P : FVec Ideal S1x256x128 .bf16) (O B : FVec Ideal S1x256x128 .f32) (r : Fin 256) (d : Fin 128)

/-- A head of the body, from the block's lanes. -/
def hd : EReal := gatedHead (fun d => O (ix3 0 r d) + B (ix3 0 r d)) (fun d => G (ix2 0 d)) (fun d => P (ix3 0 r d)) d

/-- The first head. -/
theorem head0 : k0_pay4 (F := Ideal) G P O B (ix2 r d) = hd G P O B r d := by
  pointwise [k0_pay4, k0_pay3, hd, gatedHead, Ideal.logistic]

/-- The second head. -/
theorem head1 : k0_pay8 (F := Ideal) (k0_pay3 (F := Ideal) G) (k0_pay5 (F := Ideal) P) (k0_pay6 (F := Ideal) O B) (k0_pay7 (F := Ideal) O B) (ix2 r d) = hd G P O B r d := by
  pointwise [k0_pay8, k0_pay7, k0_pay6, k0_pay5, k0_pay3, hd, gatedHead, Ideal.logistic]

/-- The third head. -/
theorem head2 : k0_pay9 (F := Ideal) (k0_pay3 (F := Ideal) G) P O B (ix2 r d) = hd G P O B r d := by
  pointwise [k0_pay9, k0_pay3, hd, gatedHead, Ideal.logistic]

/-- The fourth head. -/
theorem head3 : k0_pay11 (F := Ideal) (k0_pay3 (F := Ideal) G) (k0_pay10 (F := Ideal) P) O B (ix2 r d) = hd G P O B r d := by
  pointwise [k0_pay11, k0_pay10, k0_pay3, hd, gatedHead, Ideal.logistic]

/-- The fifth head. -/
theorem head4 : k0_pay14 (F := Ideal) (k0_pay3 (F := Ideal) G) (k0_pay12 (F := Ideal) P) (k0_pay13 (F := Ideal) O B) (ix2 r d) = hd G P O B r d := by
  pointwise [k0_pay14, k0_pay13, k0_pay12, k0_pay3, hd, gatedHead, Ideal.logistic]

/-- The sixth head. -/
theorem head5 : k0_pay15 (F := Ideal) (k0_pay3 (F := Ideal) G) P O B (ix2 r d) = hd G P O B r d := by
  pointwise [k0_pay15, k0_pay3, hd, gatedHead, Ideal.logistic]

end Heads

set_option maxHeartbeats 2000000 in
/-- The eight heads side by side. -/
theorem heads (G : FVec Ideal S1x128 .f32) (a0 a1 a2 a3 a4 a5 : FVec Ideal S256x128 .bf16) (P6 P7 : FVec Ideal S1x256x128 .bf16) (O6 B6 O7 B7 : FVec Ideal S1x256x128 .f32)
    (r : Fin 256) (h : Fin 8) (d : Fin 128) :
    k0_pay19 (F := Ideal) (k0_pay3 (F := Ideal) G) a0 a1 a2 a3 a4 a5 (k0_pay16 (F := Ideal) P6) (k0_pay17 (F := Ideal) O6 B6) (k0_pay18 (F := Ideal) O6 B6) P7 O7 B7 (ix2 r (lane h d))
      = ![a0 (ix2 r d), a1 (ix2 r d), a2 (ix2 r d), a3 (ix2 r d), a4 (ix2 r d), a5 (ix2 r d), hd G P6 O6 B6 r d, hd G P7 O7 B7 r d] h := by
  fin_cases h <;> pointwise [k0_pay19, k0_pay18, k0_pay17, k0_pay16, k0_pay3, hd, gatedHead, lane, Ideal.logistic]
  all_goals (repeat (first | rw [dif_pos (by omega)] | rw [dif_neg (by omega)]))
  all_goals simp only [Nat.sub_sub, Nat.reduceAdd, Nat.add_sub_cancel_left, Fin.eta]

/-- A head from lanes read elsewhere. -/
theorem hd_congr (G : FVec Ideal S1x128 .f32) (P : FVec Ideal S1x256x128 .bf16) (O B : FVec Ideal S1x256x128 .f32) (r : Fin 256) (d : Fin 128) {g z o b : Fin 128 → EReal}
    (hG : ∀ d, G (ix2 0 d) = g d) (hP : ∀ d, P (ix3 0 r d) = z d) (hO : ∀ d, O (ix3 0 r d) = o d) (hB : ∀ d, B (ix3 0 r d) = b d) :
    hd G P O B r d = gatedHead (fun d => o d + b d) g z d := by
  unfold hd
  simp only [hG, hP, hO, hB]

/-- Any lane of the eight heads side by side, by its head and its place in it. -/
theorem lane_eq (k : Fin 1024) : lane ⟨k.val / 128, by omega⟩ ⟨k.val % 128, by omega⟩ = k := Fin.ext (by show k.val / 128 * 128 + k.val % 128 = k.val; omega)

set_option maxHeartbeats 1000000 in
/-- The body's row with its gated projection. -/
theorem pay22_apply (o : FVec Ideal S256x1024 .bf16) (w : FVec Ideal S1024x1024 .bf16) (z : FVec Ideal S1x1024 .f32) (md : FVec Ideal S1x1x6x1024 .f32) (x : FVec Ideal S1x256x1024 .f32) (r : Fin 256) (f : Fin 1024) :
    k0_pay22 (F := Ideal) o w (constant S256x1024 .f32 0x00000000#32) z md x (ix2 r f)
      = midRow (fun k => o (ix2 r k)) (fun k => x (ix3 0 r k)) (fun k => md (ix4 0 0 2 k)) (fun k => z (ix2 0 k)) (fun k f => w (ix2 k f)) f := by
  pointwise [k0_pay22, k0_pay21, midRow]

/-- The first store is that row. -/
theorem pay23_apply (o : FVec Ideal S256x1024 .bf16) (w : FVec Ideal S1024x1024 .bf16) (c : FVec Ideal S256x1024 .f32) (z : FVec Ideal S1x1024 .f32) (md : FVec Ideal S1x1x6x1024 .f32) (x : FVec Ideal S1x256x1024 .f32) (r : Fin 256) (f : Fin 1024) :
    k0_pay23 (F := Ideal) o w c z md x (ix3 0 r f) = k0_pay22 (F := Ideal) o w c z md x (ix2 r f) := by
  unfold k0_pay23
  pointwise

set_option maxHeartbeats 1000000 in
/-- The second store is that row's modulated norm. -/
theorem pay26_apply (o : FVec Ideal S256x1024 .bf16) (w : FVec Ideal S1024x1024 .bf16) (c : FVec Ideal S256x1024 .f32) (z : FVec Ideal S1x1024 .f32) (md : FVec Ideal S1x1x6x1024 .f32) (x : FVec Ideal S1x256x1024 .f32) (g : FVec Ideal S1x1024 .f32) (r : Fin 256) (f : Fin 1024) :
    k0_pay26 (F := Ideal) (k0_pay25 (F := Ideal) o w c z md x g) (ix3 0 r f)
      = normMod (fun k => k0_pay22 (F := Ideal) o w c z md x (ix2 r k)) (fun k => g (ix2 0 k)) (fun k => md (ix4 0 0 4 k)) (fun k => md (ix4 0 0 3 k)) f := by
  pointwise [k0_pay26, k0_pay25, k0_pay24, k0_pay21, normMod]

end Cert.Kernel6Ideal.GdnOut

namespace Cert.Reference6Ideal.GdnOut

open Cert.Reference6Ideal Cert.Reference6Ideal.Gen

/-- The mixer's two directions added, normalized within each head, scaled by the gain, and gated by the projection's last 1024 columns. -/
def gateRef (A B : FVec Ideal S8x2304x1024 .f32) (P : FVec Ideal S8x2304x4096 .bf16) (G : FVec Ideal S128 .f32) : FVec Ideal S8x2304x1024 .f32 :=
  shapeCast _ (mulf (mulf (mulf (shapeCast _ (addf A B) shapeCasts_S8x2304x1024_S8x2304x8x128) (broadcastInDim S8x2304x8x128 ![0, 1, 2, 3] bcast_S8x2304x8x1_S8x2304x8x128_0_1_2_3 (Host.rsqrt (addf (Host.divf (broadcastInDim S8x2304x8x1 ![0, 1, 2] bcast_S8x2304x8_S8x2304x8x1_0_1_2 (Host.reduceAdd (mulf (shapeCast _ (addf A B) shapeCasts_S8x2304x1024_S8x2304x8x128) (shapeCast _ (addf A B) shapeCasts_S8x2304x1024_S8x2304x8x128)) (constant S_ .f32 0x00000000#32) reducesTo_S8x2304x8x128_S8x2304x8_d3 h_S_)) (broadcastInDim S8x2304x8x1 ![] bcast_S_S8x2304x8x1 (constant S_ .f32 0x43000000#32))) (broadcastInDim S8x2304x8x1 ![] bcast_S_S8x2304x8x1 (constant S_ .f32 0x358637BD#32)))))) (broadcastInDim S8x2304x8x128 ![0, 1, 2, 3] bcast_S1x1x1x128_S8x2304x8x128_0_1_2_3 (broadcastInDim S1x1x1x128 ![3] bcast_S128_S1x1x1x128_3 G))) (mulf (shapeCast _ (extf .f32 (extractStridedSlice S8x2304x1024 ![0, 0, 3072] P slices_S8x2304x4096_S8x2304x1024_0_0_3072) bitsLt_bf16_f32) shapeCasts_S8x2304x1024_S8x2304x8x128) (Host.divf (broadcastInDim S8x2304x8x128 ![] bcast_S_S8x2304x8x128 (constant S_ .f32 0x3F800000#32)) (addf (broadcastInDim S8x2304x8x128 ![] bcast_S_S8x2304x8x128 (constant S_ .f32 0x3F800000#32)) (Host.exp (Host.negf (shapeCast _ (extf .f32 (extractStridedSlice S8x2304x1024 ![0, 0, 3072] P slices_S8x2304x4096_S8x2304x1024_0_0_3072) bitsLt_bf16_f32) shapeCasts_S8x2304x1024_S8x2304x8x128))))))) shapeCasts_S8x2304x8x128_S8x2304x1024

set_option maxHeartbeats 2000000 in
/-- The gated row at an entry. -/
theorem gateRef_apply (A B : FVec Ideal S8x2304x1024 .f32) (P : FVec Ideal S8x2304x4096 .bf16) (G : FVec Ideal S128 .f32) (b : Fin 8) (r : Fin 2304) (k : Fin 1024) :
    gateRef A B P G (ix3 b r k) = gated (fun j => A (ix3 b r j) + B (ix3 b r j)) (fun d => G (ix1 d)) (fun j => P (ix3 b r ⟨3072 + j.val, by omega⟩)) k := by
  pointwise [gateRef, gated, gatedHead, lane]
  have hk : k.val / 128 * 128 + k.val % 128 = k.val := by omega
  simp only [hk]

/-- The projection. -/
def yRef (O : FVec Ideal S8x2304x1024 .f32) (W : FVec Ideal S1024x1024 .f32) : FVec Ideal S8x2304x1024 .f32 :=
  Host.dotGeneral dot_S8x2304x1024_S1024x1024_S8x2304x1024_2_0_01_1_n_n none O W

/-- The context rows with their gated projection. -/
def xCtx (O : FVec Ideal S8x2304x1024 .f32) (X : FVec Ideal S8x2304x1024 .f32) (M : FVec Ideal S8x2x6x1024 .f32) (W : FVec Ideal S1024x1024 .f32) : FVec Ideal S8x256x1024 .f32 :=
  addf (extractStridedSlice S8x256x1024 ![0, 0, 0] X slices_S8x2304x1024_S8x256x1024_0_0_0) (mulf (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 2, 0] M slices_S8x2x6x1024_S8x1x1x1024_0_0_2_0) shapeCasts_S8x1x1x1024_S8x1024))) (extractStridedSlice S8x256x1024 ![0, 0, 0] (yRef O W) slices_S8x2304x1024_S8x256x1024_0_0_0))

/-- The latent rows with their gated projection. -/
def xLat (O : FVec Ideal S8x2304x1024 .f32) (X : FVec Ideal S8x2304x1024 .f32) (M : FVec Ideal S8x2x6x1024 .f32) (W : FVec Ideal S1024x1024 .f32) : FVec Ideal S8x2048x1024 .f32 :=
  addf (extractStridedSlice S8x2048x1024 ![0, 256, 0] X slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 2, 0] M slices_S8x2x6x1024_S8x1x1x1024_0_1_2_0) shapeCasts_S8x1x1x1024_S8x1024))) (extractStridedSlice S8x2048x1024 ![0, 256, 0] (yRef O W) slices_S8x2304x1024_S8x2048x1024_0_256_0))

/-- The modulated norm of context rows. -/
def hCtx (T : FVec Ideal S8x256x1024 .f32) (M : FVec Ideal S8x2x6x1024 .f32) (G : FVec Ideal S1024 .f32) : FVec Ideal S8x256x1024 .f32 :=
  addf (mulf (mulf (mulf T (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf T T) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S8x1x1024_S8x256x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 0, 4, 0] M slices_S8x2x6x1024_S8x1x1x1024_0_0_4_0) shapeCasts_S8x1x1x1024_S8x1024))))) (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 3, 0] M slices_S8x2x6x1024_S8x1x1x1024_0_0_3_0) shapeCasts_S8x1x1x1024_S8x1024)))

/-- The modulated norm of latent rows. -/
def hLat (T : FVec Ideal S8x2048x1024 .f32) (M : FVec Ideal S8x2x6x1024 .f32) (G : FVec Ideal S1024 .f32) : FVec Ideal S8x2048x1024 .f32 :=
  addf (mulf (mulf (mulf T (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf T T) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 1, 4, 0] M slices_S8x2x6x1024_S8x1x1x1024_0_1_4_0) shapeCasts_S8x1x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 3, 0] M slices_S8x2x6x1024_S8x1x1x1024_0_1_3_0) shapeCasts_S8x1x1x1024_S8x1024)))

/-- The projection at an entry. -/
theorem yRef_apply (O : FVec Ideal S8x2304x1024 .f32) (W : FVec Ideal S1024x1024 .f32) (b : Fin 8) (r : Fin 2304) (f : Fin 1024) :
    yRef O W (ix3 b r f) = ∑ k, O (ix3 b r k) * W (ix2 k f) := by
  pointwise [yRef]

/-- A context row's entry. -/
theorem xCtx_apply (O : FVec Ideal S8x2304x1024 .f32) (X : FVec Ideal S8x2304x1024 .f32) (M : FVec Ideal S8x2x6x1024 .f32) (W : FVec Ideal S1024x1024 .f32) (b : Fin 8) (r : Fin 256) (f : Fin 1024) :
    xCtx O X M W (ix3 b r f) = midRow (fun k => O (ix3 b ⟨r.val, by omega⟩ k)) (fun k => X (ix3 b ⟨r.val, by omega⟩ k)) (fun k => M (ix4 b 0 2 k)) (fun _ => 0) (fun k f => W (ix2 k f)) f := by
  unfold midRow
  rw [add_zero, ← yRef_apply O W b ⟨r.val, by omega⟩ f]
  pointwise [xCtx]

/-- A latent row's entry. -/
theorem xLat_apply (O : FVec Ideal S8x2304x1024 .f32) (X : FVec Ideal S8x2304x1024 .f32) (M : FVec Ideal S8x2x6x1024 .f32) (W : FVec Ideal S1024x1024 .f32) (b : Fin 8) (r : Fin 2048) (f : Fin 1024) :
    xLat O X M W (ix3 b r f) = midRow (fun k => O (ix3 b ⟨256 + r.val, by omega⟩ k)) (fun k => X (ix3 b ⟨256 + r.val, by omega⟩ k)) (fun k => M (ix4 b 1 2 k)) (fun _ => 0) (fun k f => W (ix2 k f)) f := by
  unfold midRow
  rw [add_zero, ← yRef_apply O W b ⟨256 + r.val, by omega⟩ f]
  pointwise [xLat]

set_option maxHeartbeats 1000000 in
/-- A context row's norm at an entry. -/
theorem hCtx_apply (T : FVec Ideal S8x256x1024 .f32) (M : FVec Ideal S8x2x6x1024 .f32) (G : FVec Ideal S1024 .f32) (b : Fin 8) (r : Fin 256) (k : Fin 1024) :
    hCtx T M G (ix3 b r k) = normMod (fun k => T (ix3 b r k)) (fun k => G (ix1 k)) (fun k => M (ix4 b 0 4 k)) (fun k => M (ix4 b 0 3 k)) k := by
  pointwise [hCtx, normMod]

set_option maxHeartbeats 1000000 in
/-- A latent row's norm at an entry. -/
theorem hLat_apply (T : FVec Ideal S8x2048x1024 .f32) (M : FVec Ideal S8x2x6x1024 .f32) (G : FVec Ideal S1024 .f32) (b : Fin 8) (r : Fin 2048) (k : Fin 1024) :
    hLat T M G (ix3 b r k) = normMod (fun k => T (ix3 b r k)) (fun k => G (ix1 k)) (fun k => M (ix4 b 1 4 k)) (fun k => M (ix4 b 1 3 k)) k := by
  pointwise [hLat, normMod]

/-- The first result: the rows with their gated projection. -/
def REFX (O : FVec Ideal S8x2304x1024 .f32) (X : FVec Ideal S8x2304x1024 .f32) (M : FVec Ideal S8x2x6x1024 .f32) (W : FVec Ideal S1024x1024 .f32) : FVec Ideal S8x2304x1024 .f32 :=
  concatenate S8x2304x1024 1 [⟨S8x256x1024, (xCtx O X M W)⟩, ⟨S8x2048x1024, (xLat O X M W)⟩] concatenates_S8x256x1024_S8x2048x1024_S8x2304x1024_d1

/-- The second result: their modulated norms. -/
def REFH (O : FVec Ideal S8x2304x1024 .f32) (X : FVec Ideal S8x2304x1024 .f32) (M : FVec Ideal S8x2x6x1024 .f32) (W : FVec Ideal S1024x1024 .f32) (G : FVec Ideal S1024 .f32) : FVec Ideal S8x2304x1024 .bf16 :=
  truncf .bf16 (concatenate S8x2304x1024 1 [⟨S8x256x1024, (hCtx (xCtx O X M W) M G)⟩, ⟨S8x2048x1024, (hLat (xLat O X M W) M G)⟩] concatenates_S8x256x1024_S8x2048x1024_S8x2304x1024_d1) bitsLt_bf16_f32

/-- The first result at an entry: a row's gate is the context's on the first 256 rows, the latent's after them. -/
theorem REFX_apply (O : FVec Ideal S8x2304x1024 .f32) (X : FVec Ideal S8x2304x1024 .f32) (M : FVec Ideal S8x2x6x1024 .f32) (W : FVec Ideal S1024x1024 .f32) (b : Fin 8) (r : Fin 2304) (f : Fin 1024) :
    REFX O X M W (ix3 b r f) = midRow (fun k => O (ix3 b r k)) (fun k => X (ix3 b r k)) (fun k => M (ix4 b (if r.val < 256 then 0 else 1) 2 k)) (fun _ => 0) (fun k f => W (ix2 k f)) f := by
  pointwise [REFX]
  by_cases h : r.val < 256
  · simp only [dif_pos h, if_pos h, xCtx_apply]
  · have hr : ∀ w, (⟨256 + (r.val - 256), w⟩ : Fin 2304) = r := fun w => Fin.ext (by show 256 + (r.val - 256) = r.val; omega)
    simp only [dif_neg h, if_neg h, xLat_apply, hr]

/-- The second result at an entry: the modulated norm of the first result's row. -/
theorem REFH_apply (O : FVec Ideal S8x2304x1024 .f32) (X : FVec Ideal S8x2304x1024 .f32) (M : FVec Ideal S8x2x6x1024 .f32) (W : FVec Ideal S1024x1024 .f32) (G : FVec Ideal S1024 .f32) (b : Fin 8) (r : Fin 2304) (f : Fin 1024) :
    REFH O X M W G (ix3 b r f) = normMod (fun k => REFX O X M W (ix3 b r k)) (fun k => G (ix1 k)) (fun k => M (ix4 b (if r.val < 256 then 0 else 1) 4 k)) (fun k => M (ix4 b (if r.val < 256 then 0 else 1) 3 k)) f := by
  simp only [REFX_apply]
  pointwise [REFH]
  by_cases h : r.val < 256
  · simp only [dif_pos h, if_pos h, hCtx_apply, xCtx_apply]
  · have hr : ∀ w, (⟨256 + (r.val - 256), w⟩ : Fin 2304) = r := fun w => Fin.ext (by show 256 + (r.val - 256) = r.val; omega)
    simp only [dif_neg h, if_neg h, hLat_apply, xLat_apply, hr]

end Cert.Reference6Ideal.GdnOut

end
-- ==== Proof.GdnOutValue.lean ====
/- The output projection of the recurrent mixer: the two result arrays after the run are the reference's terms of the arguments. -/
module

public import proofs.«01_k».proof.Proof.Gen.Kernel6Ideal.Frame
public import Idealize.ShloMosaic.Lib.Pipeline.Value
public import proofs.«01_k».proof.Proof.GdnOut

@[expose] public section

set_option maxRecDepth 16384

noncomputable section

open Idealize.ShloMosaic Idealize.ShloMosaic.TcCoe Idealize.SL.Sem Cert.Norm Cert.MixOut
open Idealize.ShloMosaic.Pipeline (Dat)

namespace Cert.Kernel6Ideal.GdnOut

open Cert.Kernel6Ideal Cert.Kernel6Ideal.Gen

variable (m : (ℓ : Loc nD τ sig) → Buf (Elt Ideal) ℓ) (c : Dev nD)

/-- The windows' block indices at point `t`: batch `t / 9`, row block `t % 9`; the modulation is the context's on row block 0; the
    gate is the projection's last block of columns. -/
theorem idx : ∀ t : Fin cfg0.N, win0_0.index t = ![t.val / 9, t.val % 9, 0] ∧ win0_1.index t = ![t.val / 9, t.val % 9, 0] ∧ win0_2.index t = ![t.val / 9, t.val % 9, 3]
    ∧ win0_3.index t = ![0, 0] ∧ win0_4.index t = ![t.val / 9, t.val % 9, 0]
    ∧ win0_5.index t = ![t.val / 9, if t.val % 9 = 0 then 0 else 1, 0, 0] ∧ win0_6.index t = ![0, 0] ∧ win0_7.index t = ![0, 0] ∧ win0_8.index t = ![0, 0]
    ∧ win0_11.index t = ![t.val / 9, t.val % 9, 0] ∧ win0_12.index t = ![t.val / 9, t.val % 9, 0] :=
  (by decide +kernel : ∀ t : Fin grid0.N, _)

/-- A point's batch. -/
def bat (t : Fin cfg0.N) : Fin 8 := ⟨t.val / 9, by have h : t.val < 72 := t.isLt; omega⟩
/-- A point's row of the array. -/
def row (t : Fin cfg0.N) (r : Fin 256) : Fin 2304 := ⟨t.val % 9 * 256 + r.val, by omega⟩

/-- The forward pass's rows of a point's block. -/
theorem blk0 (t : Fin cfg0.N) (r : Fin 256) (k : Fin 1024) : iblk m c 0 t (ix3 0 r k) = m ((c : Thread nD τ).loc main_arg0) (ix3 (bat t) (row t r) k) := by
  unfold bat row
  blk_ext [iblk, V, idx t]

/-- The backward pass's rows of a point's block. -/
theorem blk1 (t : Fin cfg0.N) (r : Fin 256) (k : Fin 1024) : iblk m c 1 t (ix3 0 r k) = m ((c : Thread nD τ).loc main_arg1) (ix3 (bat t) (row t r) k) := by
  unfold bat row
  blk_ext [iblk, V, idx t]

/-- The rows of a point's block. -/
theorem blk4 (t : Fin cfg0.N) (r : Fin 256) (k : Fin 1024) : iblk m c 4 t (ix3 0 r k) = m ((c : Thread nD τ).loc main_arg4) (ix3 (bat t) (row t r) k) := by
  unfold bat row
  blk_ext [iblk, V, idx t]

/-- The gate's columns of a point's block. -/
theorem blk2 (t : Fin cfg0.N) (r : Fin 256) (k : Fin 1024) : iblk m c 2 t (ix3 0 r k) = m ((c : Thread nD τ).loc main_arg2) (ix3 (bat t) (row t r) ⟨3072 + k.val, by omega⟩) := by
  unfold bat row
  blk_ext [iblk, V, idx t]

/-- The modulation of a point's rows. -/
theorem blk5 (t : Fin cfg0.N) (r : Fin 256) (s : Fin 6) (k : Fin 1024) :
    iblk m c 5 t (ix4 0 0 s k) = m ((c : Thread nD τ).loc main_arg5) (ix4 (bat t) (if (row t r).val < 256 then 0 else 1) s k) := by
  have hr : (if (row t r).val < 256 then (0 : Fin 2) else 1) = (⟨if t.val % 9 = 0 then 0 else 1, by split <;> omega⟩ : Fin 2) := by
    unfold row
    by_cases h : t.val % 9 = 0
    · simp [h]
    · have : ¬ (t.val % 9 * 256 + r.val < 256) := by omega
      simp [h, this]
  rw [hr]
  unfold bat
  blk_ext [iblk, V, idx t]

/-- The weights. -/
theorem blk6 (t : Fin cfg0.N) (k : Fin 1024) (f : Fin 1024) : iblk m c 6 t (ix2 k f) = m ((c : Thread nD τ).loc main_arg6) (ix2 k f) := by
  have h0 : V m c main_v4 (ix2 k f) = m ((c : Thread nD τ).loc main_arg6) (ix2 k f) := by
    entry_read
    rfl
  rw [← h0]
  blk_ext [iblk, idx t]

/-- The bias is zero. -/
theorem blk7 (t : Fin cfg0.N) (k : Fin 1024) : iblk m c 7 t (ix2 0 k) = (0 : EReal) := by
  have h0 : V m c main_v5 (ix2 0 k) = (0 : EReal) := by
    have h : V m c main_v5 = broadcastInDim S1x1024 ![] bcast_S_S1x1024 (constant S_ .f32 0x00000000#32 : FVec Ideal S_ .f32) := rfl
    rw [h]
    pointwise
  rw [← h0]
  blk_ext [iblk, idx t]

/-- The heads' gain. -/
theorem blk3 (t : Fin cfg0.N) (k : Fin 128) : iblk m c 3 t (ix2 0 k) = m ((c : Thread nD τ).loc main_arg3) (ix1 k) := by
  have h0 : V m c main_v7 (ix2 0 k) = m ((c : Thread nD τ).loc main_arg3) (ix1 k) := by
    entry_read
    show shapeCast S1x128 (m ((c : Thread nD τ).loc main_arg3)) shapeCasts_S128_S1x128 (ix2 0 k) = _
    pointwise
  rw [← h0]
  blk_ext [iblk, idx t]

/-- The norm's gain. -/
theorem blk8 (t : Fin cfg0.N) (k : Fin 1024) : iblk m c 8 t (ix2 0 k) = m ((c : Thread nD τ).loc main_arg7) (ix1 k) := by
  have h0 : V m c main_v6 (ix2 0 k) = m ((c : Thread nD τ).loc main_arg7) (ix1 k) := by
    entry_read
    show shapeCast S1x1024 (m ((c : Thread nD τ).loc main_arg7)) shapeCasts_S1024_S1x1024 (ix2 0 k) = _
    pointwise
  rw [← h0]
  blk_ext [iblk, idx t]

/-- Head 0's lanes of a block. -/
theorem ld0 {e : EltTy} (X : Vec Ideal S1x256x1024 e) (r : Fin 256) (d : Fin 128) :
    View.ld X (Rect.unit (s := S1x256x1024) ![0, 0, 0] S1x256x128.size inb_S1x256x1024_S1x256x128_0_0_0) (ix3 0 r d) = X (ix3 0 r (lane 0 d)) := by
  pointwise [lane]

/-- Head 1's lanes of a block. -/
theorem ld1 {e : EltTy} (X : Vec Ideal S1x256x1024 e) (r : Fin 256) (d : Fin 128) :
    View.ld X (Rect.unit (s := S1x256x1024) ![0, 0, 128] S1x256x128.size inb_S1x256x1024_S1x256x128_0_0_128) (ix3 0 r d) = X (ix3 0 r (lane 1 d)) := by
  pointwise [lane]

/-- Head 2's lanes of a block. -/
theorem ld2 {e : EltTy} (X : Vec Ideal S1x256x1024 e) (r : Fin 256) (d : Fin 128) :
    View.ld X (Rect.unit (s := S1x256x1024) ![0, 0, 256] S1x256x128.size inb_S1x256x1024_S1x256x128_0_0_256) (ix3 0 r d) = X (ix3 0 r (lane 2 d)) := by
  pointwise [lane]

/-- Head 3's lanes of a block. -/
theorem ld3 {e : EltTy} (X : Vec Ideal S1x256x1024 e) (r : Fin 256) (d : Fin 128) :
    View.ld X (Rect.unit (s := S1x256x1024) ![0, 0, 384] S1x256x128.size inb_S1x256x1024_S1x256x128_0_0_384) (ix3 0 r d) = X (ix3 0 r (lane 3 d)) := by
  pointwise [lane]

/-- Head 4's lanes of a block. -/
theorem ld4 {e : EltTy} (X : Vec Ideal S1x256x1024 e) (r : Fin 256) (d : Fin 128) :
    View.ld X (Rect.unit (s := S1x256x1024) ![0, 0, 512] S1x256x128.size inb_S1x256x1024_S1x256x128_0_0_512) (ix3 0 r d) = X (ix3 0 r (lane 4 d)) := by
  pointwise [lane]

/-- Head 5's lanes of a block. -/
theorem ld5 {e : EltTy} (X : Vec Ideal S1x256x1024 e) (r : Fin 256) (d : Fin 128) :
    View.ld X (Rect.unit (s := S1x256x1024) ![0, 0, 640] S1x256x128.size inb_S1x256x1024_S1x256x128_0_0_640) (ix3 0 r d) = X (ix3 0 r (lane 5 d)) := by
  pointwise [lane]

/-- Head 6's lanes of a block. -/
theorem ld6 {e : EltTy} (X : Vec Ideal S1x256x1024 e) (r : Fin 256) (d : Fin 128) :
    View.ld X (Rect.unit (s := S1x256x1024) ![0, 0, 768] S1x256x128.size inb_S1x256x1024_S1x256x128_0_0_768) (ix3 0 r d) = X (ix3 0 r (lane 6 d)) := by
  pointwise [lane]

/-- Head 7's lanes of a block. -/
theorem ld7 {e : EltTy} (X : Vec Ideal S1x256x1024 e) (r : Fin 256) (d : Fin 128) :
    View.ld X (Rect.unit (s := S1x256x1024) ![0, 0, 896] S1x256x128.size inb_S1x256x1024_S1x256x128_0_0_896) (ix3 0 r d) = X (ix3 0 r (lane 7 d)) := by
  pointwise [lane]

/-- The whole gain, read through its rectangle. -/
theorem ldG (X : Vec Ideal S1x128 .f32) (d : Fin 128) : View.ld X (Rect.unit (s := S1x128) ![0, 0] S1x128.size inb_S1x128_S1x128_0_0) (ix2 0 d) = X (ix2 0 d) := by
  pointwise

/-- The body's gated row, by head and lane. -/
theorem gate_lane (x0 x1 : FVec Ideal S1x256x1024 .f32) (x2 : FVec Ideal S1x256x1024 .bf16) (x3 : FVec Ideal S1x128 .f32) (x4 : FVec Ideal S1x256x1024 .f32) (x5 : FVec Ideal S1x1x6x1024 .f32) (x6 : FVec Ideal S1024x1024 .bf16) (x7 x8 : FVec Ideal S1x1024 .f32) (x9 : FVec Ideal S1024x128 .f32) (x10 : FVec Ideal S1x128 .f32) (r : Fin 256) (h : Fin 8) (d : Fin 128) :
    k0_pay51 (F := Ideal) x0 x1 x2 x3 x4 x5 x6 x7 x8 x9 x10 (ix2 r (lane h d))
      = gatedHead (fun d => x0 (ix3 0 r (lane h d)) + x1 (ix3 0 r (lane h d))) (fun d => x3 (ix2 0 d)) (fun d => x2 (ix3 0 r (lane h d))) d := by
  unfold k0_pay51 k0_pay49
  refine (heads (View.ld (Val := Elt Ideal) (e' := .f32) x3 r0_0) _ _ _ _ _ _ _ _ _ _ _ _ r h d).trans ?_
  fin_cases h
  · exact (head0 (View.ld (Val := Elt Ideal) (e' := .f32) x3 r0_0) (View.ld (Val := Elt Ideal) (e' := .bf16) x2 r0_1) (View.ld (Val := Elt Ideal) (e' := .f32) x0 r0_1) (View.ld (Val := Elt Ideal) (e' := .f32) x1 r0_1) r d).trans (hd_congr (View.ld (Val := Elt Ideal) (e' := .f32) x3 r0_0) (View.ld (Val := Elt Ideal) (e' := .bf16) x2 r0_1) (View.ld (Val := Elt Ideal) (e' := .f32) x0 r0_1) (View.ld (Val := Elt Ideal) (e' := .f32) x1 r0_1) r d (ldG x3) (ld0 (e := .bf16) x2 r) (ld0 (e := .f32) x0 r) (ld0 (e := .f32) x1 r))
  · exact (head1 (View.ld (Val := Elt Ideal) (e' := .f32) x3 r0_0) (View.ld (Val := Elt Ideal) (e' := .bf16) x2 r0_2) (View.ld (Val := Elt Ideal) (e' := .f32) x0 r0_2) (View.ld (Val := Elt Ideal) (e' := .f32) x1 r0_2) r d).trans (hd_congr (View.ld (Val := Elt Ideal) (e' := .f32) x3 r0_0) (View.ld (Val := Elt Ideal) (e' := .bf16) x2 r0_2) (View.ld (Val := Elt Ideal) (e' := .f32) x0 r0_2) (View.ld (Val := Elt Ideal) (e' := .f32) x1 r0_2) r d (ldG x3) (ld1 (e := .bf16) x2 r) (ld1 (e := .f32) x0 r) (ld1 (e := .f32) x1 r))
  · exact (head2 (View.ld (Val := Elt Ideal) (e' := .f32) x3 r0_0) (View.ld (Val := Elt Ideal) (e' := .bf16) x2 r0_3) (View.ld (Val := Elt Ideal) (e' := .f32) x0 r0_3) (View.ld (Val := Elt Ideal) (e' := .f32) x1 r0_3) r d).trans (hd_congr (View.ld (Val := Elt Ideal) (e' := .f32) x3 r0_0) (View.ld (Val := Elt Ideal) (e' := .bf16) x2 r0_3) (View.ld (Val := Elt Ideal) (e' := .f32) x0 r0_3) (View.ld (Val := Elt Ideal) (e' := .f32) x1 r0_3) r d (ldG x3) (ld2 (e := .bf16) x2 r) (ld2 (e := .f32) x0 r) (ld2 (e := .f32) x1 r))
  · exact (head3 (View.ld (Val := Elt Ideal) (e' := .f32) x3 r0_0) (View.ld (Val := Elt Ideal) (e' := .bf16) x2 r0_4) (View.ld (Val := Elt Ideal) (e' := .f32) x0 r0_4) (View.ld (Val := Elt Ideal) (e' := .f32) x1 r0_4) r d).trans (hd_congr (View.ld (Val := Elt Ideal) (e' := .f32) x3 r0_0) (View.ld (Val := Elt Ideal) (e' := .bf16) x2 r0_4) (View.ld (Val := Elt Ideal) (e' := .f32) x0 r0_4) (View.ld (Val := Elt Ideal) (e' := .f32) x1 r0_4) r d (ldG x3) (ld3 (e := .bf16) x2 r) (ld3 (e := .f32) x0 r) (ld3 (e := .f32) x1 r))
  · exact (head4 (View.ld (Val := Elt Ideal) (e' := .f32) x3 r0_0) (View.ld (Val := Elt Ideal) (e' := .bf16) x2 r0_5) (View.ld (Val := Elt Ideal) (e' := .f32) x0 r0_5) (View.ld (Val := Elt Ideal) (e' := .f32) x1 r0_5) r d).trans (hd_congr (View.ld (Val := Elt Ideal) (e' := .f32) x3 r0_0) (View.ld (Val := Elt Ideal) (e' := .bf16) x2 r0_5) (View.ld (Val := Elt Ideal) (e' := .f32) x0 r0_5) (View.ld (Val := Elt Ideal) (e' := .f32) x1 r0_5) r d (ldG x3) (ld4 (e := .bf16) x2 r) (ld4 (e := .f32) x0 r) (ld4 (e := .f32) x1 r))
  · exact (head5 (View.ld (Val := Elt Ideal) (e' := .f32) x3 r0_0) (View.ld (Val := Elt Ideal) (e' := .bf16) x2 r0_6) (View.ld (Val := Elt Ideal) (e' := .f32) x0 r0_6) (View.ld (Val := Elt Ideal) (e' := .f32) x1 r0_6) r d).trans (hd_congr (View.ld (Val := Elt Ideal) (e' := .f32) x3 r0_0) (View.ld (Val := Elt Ideal) (e' := .bf16) x2 r0_6) (View.ld (Val := Elt Ideal) (e' := .f32) x0 r0_6) (View.ld (Val := Elt Ideal) (e' := .f32) x1 r0_6) r d (ldG x3) (ld5 (e := .bf16) x2 r) (ld5 (e := .f32) x0 r) (ld5 (e := .f32) x1 r))
  · exact hd_congr (View.ld (Val := Elt Ideal) (e' := .f32) x3 r0_0) (View.ld (Val := Elt Ideal) (e' := .bf16) x2 r0_7) (View.ld (Val := Elt Ideal) (e' := .f32) x0 r0_7) (View.ld (Val := Elt Ideal) (e' := .f32) x1 r0_7) r d (ldG x3) (ld6 (e := .bf16) x2 r) (ld6 (e := .f32) x0 r) (ld6 (e := .f32) x1 r)
  · exact hd_congr (View.ld (Val := Elt Ideal) (e' := .f32) x3 r0_0) (View.ld (Val := Elt Ideal) (e' := .bf16) x2 r0_8) (View.ld (Val := Elt Ideal) (e' := .f32) x0 r0_8) (View.ld (Val := Elt Ideal) (e' := .f32) x1 r0_8) r d (ldG x3) (ld7 (e := .bf16) x2 r) (ld7 (e := .f32) x0 r) (ld7 (e := .f32) x1 r)

/-- The body's gated row. -/
theorem gate_row (x0 x1 : FVec Ideal S1x256x1024 .f32) (x2 : FVec Ideal S1x256x1024 .bf16) (x3 : FVec Ideal S1x128 .f32) (x4 : FVec Ideal S1x256x1024 .f32) (x5 : FVec Ideal S1x1x6x1024 .f32) (x6 : FVec Ideal S1024x1024 .bf16) (x7 x8 : FVec Ideal S1x1024 .f32) (x9 : FVec Ideal S1024x128 .f32) (x10 : FVec Ideal S1x128 .f32) (r : Fin 256) (k : Fin 1024) :
    k0_pay51 (F := Ideal) x0 x1 x2 x3 x4 x5 x6 x7 x8 x9 x10 (ix2 r k) = gated (fun j => x0 (ix3 0 r j) + x1 (ix3 0 r j)) (fun d => x3 (ix2 0 d)) (fun j => x2 (ix3 0 r j)) k := by
  have h := gate_lane x0 x1 x2 x3 x4 x5 x6 x7 x8 x9 x10 r ⟨k.val / 128, by omega⟩ ⟨k.val % 128, by omega⟩
  rw [lane_eq] at h
  exact h

/-- A body's gated row is the reference's. -/
theorem gate_apply (t : Fin cfg0.N) (r : Fin 256) (k : Fin 1024) :
    k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = (Cert.Reference6Ideal.GdnOut.gateRef (m ((c : Thread nD τ).loc main_arg0)) (m ((c : Thread nD τ).loc main_arg1)) (m ((c : Thread nD τ).loc main_arg2)) (m ((c : Thread nD τ).loc main_arg3))) (ix3 (bat t) (row t r) k) := by
  refine (gate_row (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [fun k => blk0 m c t r k, fun k => blk1 m c t r k, fun k => blk2 m c t r k, fun k => blk3 m c t k]
  exact (Cert.Reference6Ideal.GdnOut.gateRef_apply (m ((c : Thread nD τ).loc main_arg0)) (m ((c : Thread nD τ).loc main_arg1)) (m ((c : Thread nD τ).loc main_arg2)) (m ((c : Thread nD τ).loc main_arg3)) (bat t) (row t r) k).symm

/-- The weights pass through the body unchanged. -/
theorem w_apply (t : Fin cfg0.N) (k f : Fin 1024) : k0_pay20 (F := Ideal) (iblk m c 6 t) (ix2 k f) = m ((c : Thread nD τ).loc main_arg6) (ix2 k f) := by
  refine Eq.trans ?_ (blk6 m c t k f)
  pointwise [k0_pay20]

/-- A body's row with its gated projection is the reference's. -/
theorem mid_apply (t : Fin cfg0.N) (r : Fin 256) (f : Fin 1024) :
    k0_pay22 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (constant (F := Ideal) S256x1024 .f32 0x00000000#32) (iblk m c 7 t) (iblk m c 5 t) (iblk m c 4 t) (ix2 r f)
      = Cert.Reference6Ideal.GdnOut.REFX (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (ix3 (bat t) (row t r) f) := by
  refine (pay22_apply (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (iblk m c 7 t) (iblk m c 5 t) (iblk m c 4 t) r f).trans ?_
  simp only [fun k => gate_apply m c t r k, fun k => blk4 m c t r k, fun s k => blk5 m c t r s k, fun k f => w_apply m c t k f, fun k => blk7 m c t k]
  exact (Cert.Reference6Ideal.GdnOut.REFX_apply (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (bat t) (row t r) f).symm

/-- A body's norm is the reference's. -/
theorem norm_apply (t : Fin cfg0.N) (r : Fin 256) (f : Fin 1024) :
    k0_pay26 (F := Ideal) (k0_pay25 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (constant (F := Ideal) S256x1024 .f32 0x00000000#32) (iblk m c 7 t) (iblk m c 5 t) (iblk m c 4 t) (iblk m c 8 t)) (ix3 0 r f)
      = Cert.Reference6Ideal.GdnOut.REFH (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (ix3 (bat t) (row t r) f) := by
  refine (pay26_apply (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (constant (F := Ideal) S256x1024 .f32 0x00000000#32) (iblk m c 7 t) (iblk m c 5 t) (iblk m c 4 t) (iblk m c 8 t) r f).trans ?_
  simp only [fun k => mid_apply m c t r k, fun s k => blk5 m c t r s k, fun k => blk8 m c t k]
  exact (Cert.Reference6Ideal.GdnOut.REFH_apply (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (bat t) (row t r) f).symm

/-- Where a point's block lies in the first result. -/
theorem emb11 (t : Fin cfg0.N) (r : Fin 256) (f : Fin 1024) : ((View.whole main_v8_0).slice (win0_11.rect t)).emb (ix3 0 r f) = ix3 (bat t) (row t r) f := by
  obtain ⟨-, -, -, -, -, -, -, -, -, h, -⟩ := idx t
  funext a
  apply Fin.ext
  refine (Pipeline.Window.rect_emb_val win0_11 t (ix3 0 r f) a).trans ?_
  rw [h]
  fin_cases a <;> simp [bat, row, win0_11]

/-- Where a point's block lies in the second result. -/
theorem emb12 (t : Fin cfg0.N) (r : Fin 256) (f : Fin 1024) : ((View.whole main_v8_1).slice (win0_12.rect t)).emb (ix3 0 r f) = ix3 (bat t) (row t r) f := by
  obtain ⟨-, -, -, -, -, -, -, -, -, -, h⟩ := idx t
  funext a
  apply Fin.ext
  refine (Pipeline.Window.rect_emb_val win0_12 t (ix3 0 r f) a).trans ?_
  rw [h]
  fin_cases a <;> simp [bat, row, win0_12]

/-- The first result at a point's entry. -/
theorem point11 (t : Fin cfg0.N) (y : S1x256x1024.Idx) : k0_pay23 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (constant (F := Ideal) S256x1024 .f32 0x00000000#32) (iblk m c 7 t) (iblk m c 5 t) (iblk m c 4 t) y
    = Cert.Reference6Ideal.GdnOut.REFX (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (((View.whole main_v8_0).slice (win0_11.rect t)).emb y) := by
  obtain ⟨r, f, rfl⟩ : ∃ (r : Fin 256) (f : Fin 1024), y = ix3 0 r f :=
    ⟨y 1, y 2, by funext a; fin_cases a <;> first | rfl | exact Subsingleton.elim (α := Fin 1) _ _⟩
  refine (pay23_apply (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (constant (F := Ideal) S256x1024 .f32 0x00000000#32) (iblk m c 7 t) (iblk m c 5 t) (iblk m c 4 t) r f).trans ?_
  refine (mid_apply m c t r f).trans ?_
  exact (congrArg (Cert.Reference6Ideal.GdnOut.REFX (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (emb11 t r f)).symm

/-- The second result at a point's entry. -/
theorem point12 (t : Fin cfg0.N) (y : S1x256x1024.Idx) : k0_pay26 (F := Ideal) (k0_pay25 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (F := Ideal) (iblk m c 6 t)) (constant (F := Ideal) S256x1024 .f32 0x00000000#32) (iblk m c 7 t) (iblk m c 5 t) (iblk m c 4 t) (iblk m c 8 t)) y
    = Cert.Reference6Ideal.GdnOut.REFH (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (((View.whole main_v8_1).slice (win0_12.rect t)).emb y) := by
  obtain ⟨r, f, rfl⟩ : ∃ (r : Fin 256) (f : Fin 1024), y = ix3 0 r f :=
    ⟨y 1, y 2, by funext a; fin_cases a <;> first | rfl | exact Subsingleton.elim (α := Fin 1) _ _⟩
  refine (norm_apply m c t r f).trans ?_
  exact (congrArg (Cert.Reference6Ideal.GdnOut.REFH (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7))) (emb12 t r f)).symm

/-- The whole weights block, read through its rectangle, is the block. -/
theorem val52 (x0 x1 : FVec Ideal S1x256x1024 .f32) (x2 : FVec Ideal S1x256x1024 .bf16) (x3 : FVec Ideal S1x128 .f32) (x4 : FVec Ideal S1x256x1024 .f32) (x5 : FVec Ideal S1x1x6x1024 .f32) (x6 : FVec Ideal S1024x1024 .bf16) (x7 x8 : FVec Ideal S1x1024 .f32) (x9 : FVec Ideal S1024x128 .f32) (x10 : FVec Ideal S1x128 .f32) : k0_pay52 (F := Ideal) x0 x1 x2 x3 x4 x5 x6 x7 x8 x9 x10 = k0_pay20 (F := Ideal) x6 := by
  unfold k0_pay52
  frame_out

set_option maxHeartbeats 1000000 in
/-- The first result array after the run. -/
theorem final11 : (dats m 0 c).arrAt 11 (cfgs 0).N = Cert.Reference6Ideal.GdnOut.REFX (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  have e := point11 m c t y
  unfold out0_11
  rw [val52]
  frame_out
  exact e

set_option maxHeartbeats 1000000 in
/-- The second result array after the run. -/
theorem final12 : (dats m 0 c).arrAt 12 (cfgs 0).N = Cert.Reference6Ideal.GdnOut.REFH (Cert.Reference6Ideal.GdnOut.gateRef (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]
  have e := point12 m c t y
  unfold out0_12
  rw [val52]
  frame_out
  exact e

/-- The run ends with both result arrays as the windows leave them, and with its arguments unchanged. -/
theorem run_arrays (g : Dev nD → PrngReg) : θ_run defs (onTc (τ := τ) (main (F := Ideal))) ⟨m, fun _ => 0, g⟩ fun r => ∀ c : Dev nD,
    r.2.mem ((c : Thread nD τ).loc main_v8_0) = (dats m 0 c).arrAt 11 (cfgs 0).N
    ∧ r.2.mem ((c : Thread nD τ).loc main_v8_1) = (dats m 0 c).arrAt 12 (cfgs 0).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun r h c => ⟨(h c).1 11, (h c).1 12,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩)
    (run_main m g)

end Cert.Kernel6Ideal.GdnOut

end
-- ==== Proof.FinalNorm.lean ====
/- The norm after the last layer: what the body stores and what the reference computes are, at an entry, the same normed row of the
   latents, so the result array after the run is the reference's term of the arguments. -/
module

public import proofs.«01_k».proof.Proof.Gen.Kernel8Ideal.Skeleton
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Final

/-- The root-mean-square norm of a row: the row over its root mean square, times the gain. -/
def rmsRow (x g : Fin 1024 → EReal) (k : Fin 1024) : EReal :=
  x k * Ideal.rsqrt (Ideal.div (∑ j, x j * x j) (Ideal.ofBits .f32 0x44800000#32) + Ideal.ofBits .f32 0x358637BD#32) * g k

end Cert.Final

open Cert.Final

namespace Cert.Reference8Ideal.Final

open Cert.Reference8Ideal Cert.Reference8Ideal.Gen

/-- The reference's result. -/
def REF (X : FVec Ideal S8x2304x1024 .f32) (G : FVec Ideal S1024 .f32) : FVec Ideal S8x2048x1024 .f32 :=
  mulf (mulf (extractStridedSlice S8x2048x1024 ![0, 256, 0] X slices_S8x2304x1024_S8x2048x1024_0_256_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 256, 0] X slices_S8x2304x1024_S8x2048x1024_0_256_0) (extractStridedSlice S8x2048x1024 ![0, 256, 0] X slices_S8x2304x1024_S8x2048x1024_0_256_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))

set_option maxHeartbeats 1000000 in
/-- The reference's result at an entry: the normed row of the latents, which lie after the 256 context rows. -/
theorem REF_apply (X : FVec Ideal S8x2304x1024 .f32) (G : FVec Ideal S1024 .f32) (b : Fin 8) (r : Fin 2048) (k : Fin 1024) :
    REF X G (ix3 b r k) = rmsRow (fun k => X (ix3 b ⟨256 + r.val, by omega⟩ k)) (fun k => G (ix1 k)) k := by
  pointwise [REF, rmsRow]

end Cert.Reference8Ideal.Final

namespace Cert.Kernel8Ideal.Final

open Cert.Kernel8Ideal Cert.Kernel8Ideal.Gen

set_option maxHeartbeats 1000000 in
/-- What the body stores, at row `r` and column `k`. -/
theorem pay1_apply (x0 : FVec Ideal S1x256x1024 .f32) (x1 : FVec Ideal S1x1024 .f32) (r : Fin 256) (k : Fin 1024) :
    k0_pay1 (F := Ideal) x0 x1 (ix3 0 r k) = rmsRow (fun k => x0 (ix3 0 r k)) (fun k => x1 (ix2 0 k)) k := by
  pointwise [k0_pay1, rmsRow]

variable (m : (ℓ : Loc nD τ sig) → Buf (Elt Ideal) ℓ) (c : Dev nD)

/-- The windows' block indices at point `t`: batch `t / 8`; the stream's row block is one past the result's. -/
theorem idx : ∀ t : Fin cfg0.N, win0_0.index t = ![t.val / 8, t.val % 8 + 1, 0] ∧ win0_1.index t = ![0, 0] ∧ win0_2.index t = ![t.val / 8, t.val % 8, 0] :=
  (by decide +kernel : ∀ t : Fin grid0.N, _)

/-- A point's batch. -/
def bat (t : Fin cfg0.N) : Fin 8 := ⟨t.val / 8, by have h : t.val < 64 := t.isLt; omega⟩
/-- A point's row among the latents. -/
def row (t : Fin cfg0.N) (r : Fin 256) : Fin 2048 := ⟨t.val % 8 * 256 + r.val, by omega⟩

/-- The rows of a point's block. -/
theorem blk0 (t : Fin cfg0.N) (r : Fin 256) (k : Fin 1024) : iblk m c 0 t (ix3 0 r k) = m ((c : Thread nD τ).loc main_arg0) (ix3 (bat t) ⟨256 + (row t r).val, by omega⟩ k) := by
  have e : (⟨256 + (row t r).val, by omega⟩ : Fin 2304) = ⟨(t.val % 8 + 1) * 256 + r.val, by omega⟩ := Fin.ext (by show 256 + (t.val % 8 * 256 + r.val) = (t.val % 8 + 1) * 256 + r.val; omega)
  rw [e]
  unfold bat
  blk_ext [iblk, V, idx t]

/-- The gain. -/
theorem blk1 (t : Fin cfg0.N) (k : Fin 1024) : iblk m c 1 t (ix2 0 k) = m ((c : Thread nD τ).loc main_arg1) (ix1 k) := by
  have h0 : V m c main_v0 (ix2 0 k) = m ((c : Thread nD τ).loc main_arg1) (ix1 k) := by
    entry_read
    show shapeCast S1x1024 (m ((c : Thread nD τ).loc main_arg1)) shapeCasts_S1024_S1x1024 (ix2 0 k) = _
    pointwise
  rw [← h0]
  blk_ext [iblk, idx t]

/-- Where a point's block lies in the result. -/
theorem emb2 (t : Fin cfg0.N) (r : Fin 256) (k : Fin 1024) : ((View.whole main_v1).slice (win0_2.rect t)).emb (ix3 0 r k) = ix3 (bat t) (row t r) k := by
  obtain ⟨-, -, h⟩ := idx t
  funext a
  apply Fin.ext
  refine (Pipeline.Window.rect_emb_val win0_2 t (ix3 0 r k) a).trans ?_
  rw [h]
  fin_cases a <;> simp [bat, row, win0_2]

/-- The result at a point's entry. -/
theorem point2 (t : Fin cfg0.N) (y : S1x256x1024.Idx) : k0_pay1 (F := Ideal) (iblk m c 0 t) (iblk m c 1 t) y
    = Cert.Reference8Ideal.Final.REF (m ((c : Thread nD τ).loc main_arg0)) (m ((c : Thread nD τ).loc main_arg1)) (((View.whole main_v1).slice (win0_2.rect t)).emb y) := by
  obtain ⟨r, k, rfl⟩ : ∃ (r : Fin 256) (k : Fin 1024), y = ix3 0 r k :=
    ⟨y 1, y 2, by funext a; fin_cases a <;> first | rfl | exact Subsingleton.elim (α := Fin 1) _ _⟩
  refine (pay1_apply (iblk m c 0 t) (iblk m c 1 t) r k).trans ?_
  simp only [fun k => blk0 m c t r k, fun k => blk1 m c t k]
  refine Eq.trans ?_ (congrArg (Cert.Reference8Ideal.Final.REF (m ((c : Thread nD τ).loc main_arg0)) (m ((c : Thread nD τ).loc main_arg1))) (emb2 t r k)).symm
  exact (Cert.Reference8Ideal.Final.REF_apply _ _ (bat t) (row t r) k).symm

/-- The result array after the run. -/
theorem final2 : (dats m 0 c).arrAt 2 (cfgs 0).N = Cert.Reference8Ideal.Final.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point2 m c t y

end Cert.Kernel8Ideal.Final

end
-- ==== Proof.Combine.lean ====
/- The combination of the experts' rows: what the body stores and what the reference computes are, at an entry, the stream plus the
   modulation's gate times the sum of a token's four rows by their weights, so the result array after the run is the reference's term. -/
module

public import proofs.«01_k».proof.Proof.Gen.Kernel9Ideal.Skeleton
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Combine

/-- A token's number: batch by batch, row by row. -/
def tok (b : Fin 8) (r : Fin 2304) : Fin 18432 := ⟨b.val * 2304 + r.val, by omega⟩
/-- A column of the `p`-th of a token's four rows. -/
def part (p : Fin 4) (d : Fin 1024) : Fin 4096 := ⟨p.val * 1024 + d.val, by omega⟩

end Cert.Combine

open Cert.Combine

namespace Cert.Reference9Ideal.Combine

open Cert.Reference9Ideal Cert.Reference9Ideal.Gen

/-- The sum of each token's four rows by their weights. -/
def ysum (Y : FVec Ideal S18432x4096 .bf16) (W : FVec Ideal S8x2304x128 .f32) : FVec Ideal S8x2304x1024 .f32 :=
  Host.reduceAdd (mulf (broadcastInDim S8x2304x4x1024 ![0, 1, 2, 3] bcast_S8x2304x4x1_S8x2304x4x1024_0_1_2_3 (broadcastInDim S8x2304x4x1 ![0, 1, 2] bcast_S8x2304x4_S8x2304x4x1_0_1_2 (extractStridedSlice S8x2304x4 ![0, 0, 0] W slices_S8x2304x128_S8x2304x4_0_0_0))) (shapeCast _ (extf .f32 Y bitsLt_bf16_f32) shapeCasts_S18432x4096_S8x2304x4x1024)) (constant S_ .f32 0x00000000#32) reducesTo_S8x2304x4x1024_S8x2304x1024_d2 h_S_

set_option maxHeartbeats 1000000 in
/-- The sum at an entry. -/
theorem ysum_apply (Y : FVec Ideal S18432x4096 .bf16) (W : FVec Ideal S8x2304x128 .f32) (b : Fin 8) (r : Fin 2304) (d : Fin 1024) :
    ysum Y W (ix3 b r d) = W (ix3 b r 0) * Y (ix2 (tok b r) (part 0 d)) + W (ix3 b r 1) * Y (ix2 (tok b r) (part 1 d)) + W (ix3 b r 2) * Y (ix2 (tok b r) (part 2 d)) + W (ix3 b r 3) * Y (ix2 (tok b r) (part 3 d)) := by
  have h : ysum Y W (ix3 b r d) = ∑ p : Fin 4, W (ix3 b r ⟨p.val, by omega⟩) * Y (ix2 (tok b r) (part p d)) := by
    pointwise [ysum, tok, part]
  rw [h, Fin.sum_univ_four]
  rfl

/-- The context rows. -/
def xCtx (X : FVec Ideal S8x2304x1024 .f32) (Y : FVec Ideal S18432x4096 .bf16) (W : FVec Ideal S8x2304x128 .f32) (M : FVec Ideal S8x2x6x1024 .f32) : FVec Ideal S8x256x1024 .f32 :=
  addf (extractStridedSlice S8x256x1024 ![0, 0, 0] X slices_S8x2304x1024_S8x256x1024_0_0_0) (mulf (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 5, 0] M slices_S8x2x6x1024_S8x1x1x1024_0_0_5_0) shapeCasts_S8x1x1x1024_S8x1024))) (extractStridedSlice S8x256x1024 ![0, 0, 0] (ysum Y W) slices_S8x2304x1024_S8x256x1024_0_0_0))

/-- The latent rows. -/
def xLat (X : FVec Ideal S8x2304x1024 .f32) (Y : FVec Ideal S18432x4096 .bf16) (W : FVec Ideal S8x2304x128 .f32) (M : FVec Ideal S8x2x6x1024 .f32) : FVec Ideal S8x2048x1024 .f32 :=
  addf (extractStridedSlice S8x2048x1024 ![0, 256, 0] X slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 (shapeCast _ (extractStridedSlice S8x1x1x1024 ![0, 1, 5, 0] M slices_S8x2x6x1024_S8x1x1x1024_0_1_5_0) shapeCasts_S8x1x1x1024_S8x1024))) (extractStridedSlice S8x2048x1024 ![0, 256, 0] (ysum Y W) slices_S8x2304x1024_S8x2048x1024_0_256_0))

set_option maxHeartbeats 1000000 in
/-- A context row's entry. -/
theorem xCtx_apply (X : FVec Ideal S8x2304x1024 .f32) (Y : FVec Ideal S18432x4096 .bf16) (W : FVec Ideal S8x2304x128 .f32) (M : FVec Ideal S8x2x6x1024 .f32) (b : Fin 8) (r : Fin 256) (d : Fin 1024) :
    xCtx X Y W M (ix3 b r d) = X (ix3 b ⟨r.val, by omega⟩ d) + M (ix4 b 0 5 d) * ysum Y W (ix3 b ⟨r.val, by omega⟩ d) := by
  pointwise [xCtx]

set_option maxHeartbeats 1000000 in
/-- A latent row's entry. -/
theorem xLat_apply (X : FVec Ideal S8x2304x1024 .f32) (Y : FVec Ideal S18432x4096 .bf16) (W : FVec Ideal S8x2304x128 .f32) (M : FVec Ideal S8x2x6x1024 .f32) (b : Fin 8) (r : Fin 2048) (d : Fin 1024) :
    xLat X Y W M (ix3 b r d) = X (ix3 b ⟨256 + r.val, by omega⟩ d) + M (ix4 b 1 5 d) * ysum Y W (ix3 b ⟨256 + r.val, by omega⟩ d) := by
  pointwise [xLat]

/-- The reference's result. -/
def REF (X : FVec Ideal S8x2304x1024 .f32) (Y : FVec Ideal S18432x4096 .bf16) (W : FVec Ideal S8x2304x128 .f32) (M : FVec Ideal S8x2x6x1024 .f32) : FVec Ideal S8x2304x1024 .f32 :=
  concatenate S8x2304x1024 1 [⟨S8x256x1024, (xCtx X Y W M)⟩, ⟨S8x2048x1024, (xLat X Y W M)⟩] concatenates_S8x256x1024_S8x2048x1024_S8x2304x1024_d1

/-- The reference's result at an entry: a row's modulation is the context's on the first 256 rows, the latents' after them. -/
theorem REF_apply (X : FVec Ideal S8x2304x1024 .f32) (Y : FVec Ideal S18432x4096 .bf16) (W : FVec Ideal S8x2304x128 .f32) (M : FVec Ideal S8x2x6x1024 .f32) (b : Fin 8) (r : Fin 2304) (d : Fin 1024) :
    REF X Y W M (ix3 b r d) = X (ix3 b r d) + M (ix4 b (if r.val < 256 then 0 else 1) 5 d) * ysum Y W (ix3 b r d) := by
  pointwise [REF]
  by_cases h : r.val < 256
  · simp only [dif_pos h, if_pos h, xCtx_apply]
  · have hr : ∀ w, (⟨256 + (r.val - 256), w⟩ : Fin 2304) = r := fun w => Fin.ext (by show 256 + (r.val - 256) = r.val; omega)
    simp only [dif_neg h, if_neg h, xLat_apply, hr]

end Cert.Reference9Ideal.Combine

namespace Cert.Kernel9Ideal.Combine

open Cert.Kernel9Ideal Cert.Kernel9Ideal.Gen

set_option maxHeartbeats 1000000 in
/-- What the body stores, at row `r` and column `d`, from the four quarters of the experts' rows. -/
theorem pay1_apply (x2 : FVec Ideal S1x256x128 .f32) (y0 y1 y2 y3 : FVec Ideal S256x1024 .bf16) (x0 : FVec Ideal S1x256x1024 .f32) (x3 : FVec Ideal S1x1x6x1024 .f32) (r : Fin 256) (d : Fin 1024) :
    k0_pay1 (F := Ideal) x2 y0 y1 y2 y3 x0 x3 (ix3 0 r d)
      = x0 (ix3 0 r d) + x3 (ix4 0 0 5 d) * (x2 (ix3 0 r 0) * y0 (ix2 r d) + x2 (ix3 0 r 1) * y1 (ix2 r d) + x2 (ix3 0 r 2) * y2 (ix2 r d) + x2 (ix3 0 r 3) * y3 (ix2 r d)) := by
  pointwise [k0_pay1]

variable (m : (ℓ : Loc nD τ sig) → Buf (Elt Ideal) ℓ) (c : Dev nD)

/-- The windows' block indices at point `t`: batch `t / 9`, row block `t % 9`; the modulation is the context's on row block 0. -/
theorem idx : ∀ t : Fin cfg0.N, win0_0.index t = ![t.val / 9, t.val % 9, 0] ∧ win0_1.index t = ![t.val, 0] ∧ win0_2.index t = ![t.val / 9, t.val % 9, 0]
    ∧ win0_3.index t = ![t.val / 9, if t.val % 9 = 0 then 0 else 1, 0, 0] ∧ win0_4.index t = ![t.val / 9, t.val % 9, 0] :=
  (by decide +kernel : ∀ t : Fin grid0.N, _)

/-- A point's batch. -/
def bat (t : Fin cfg0.N) : Fin 8 := ⟨t.val / 9, by have h : t.val < 72 := t.isLt; omega⟩
/-- A point's row of the array. -/
def row (t : Fin cfg0.N) (r : Fin 256) : Fin 2304 := ⟨t.val % 9 * 256 + r.val, by omega⟩

/-- The stream's rows of a point's block. -/
theorem blk0 (t : Fin cfg0.N) (r : Fin 256) (k : Fin 1024) : iblk m c 0 t (ix3 0 r k) = m ((c : Thread nD τ).loc main_arg0) (ix3 (bat t) (row t r) k) := by
  unfold bat row
  blk_ext [iblk, V, idx t]

/-- The experts' rows of a point's block. -/
theorem blk1 (t : Fin cfg0.N) (r : Fin 256) (k : Fin 4096) : iblk m c 1 t (ix2 r k) = m ((c : Thread nD τ).loc main_arg1) (ix2 (tok (bat t) (row t r)) k) := by
  have e : tok (bat t) (row t r) = ⟨t.val * 256 + r.val, by have h : t.val < 72 := t.isLt; omega⟩ :=
    Fin.ext (by show t.val / 9 * 2304 + (t.val % 9 * 256 + r.val) = t.val * 256 + r.val; omega)
  rw [e]
  blk_ext [iblk, V, idx t]

/-- The weights of a point's rows. -/
theorem blk2 (t : Fin cfg0.N) (r : Fin 256) (k : Fin 128) : iblk m c 2 t (ix3 0 r k) = m ((c : Thread nD τ).loc main_arg2) (ix3 (bat t) (row t r) k) := by
  unfold bat row
  blk_ext [iblk, V, idx t]

/-- The modulation of a point's rows. -/
theorem blk3 (t : Fin cfg0.N) (r : Fin 256) (s : Fin 6) (k : Fin 1024) :
    iblk m c 3 t (ix4 0 0 s k) = m ((c : Thread nD τ).loc main_arg3) (ix4 (bat t) (if (row t r).val < 256 then 0 else 1) s k) := by
  have hr : (if (row t r).val < 256 then (0 : Fin 2) else 1) = (⟨if t.val % 9 = 0 then 0 else 1, by split <;> omega⟩ : Fin 2) := by
    unfold row
    by_cases h : t.val % 9 = 0
    · simp [h]
    · have : ¬ (t.val % 9 * 256 + r.val < 256) := by omega
      simp [h, this]
  rw [hr]
  unfold bat
  blk_ext [iblk, V, idx t]

/-- Quarter 0 of the experts' rows. -/
theorem ld0 (X : Vec Ideal S256x4096 .bf16) (r : Fin 256) (d : Fin 1024) :
    View.ld X (Rect.unit (s := S256x4096) ![0, 0] S256x1024.size inb_S256x4096_S256x1024_0_0) (ix2 r d) = X (ix2 r (part 0 d)) := by
  pointwise [part]

/-- Quarter 1 of the experts' rows. -/
theorem ld1 (X : Vec Ideal S256x4096 .bf16) (r : Fin 256) (d : Fin 1024) :
    View.ld X (Rect.unit (s := S256x4096) ![0, 1024] S256x1024.size inb_S256x4096_S256x1024_0_1024) (ix2 r d) = X (ix2 r (part 1 d)) := by
  pointwise [part]

/-- Quarter 2 of the experts' rows. -/
theorem ld2 (X : Vec Ideal S256x4096 .bf16) (r : Fin 256) (d : Fin 1024) :
    View.ld X (Rect.unit (s := S256x4096) ![0, 2048] S256x1024.size inb_S256x4096_S256x1024_0_2048) (ix2 r d) = X (ix2 r (part 2 d)) := by
  pointwise [part]

/-- Quarter 3 of the experts' rows. -/
theorem ld3 (X : Vec Ideal S256x4096 .bf16) (r : Fin 256) (d : Fin 1024) :
    View.ld X (Rect.unit (s := S256x4096) ![0, 3072] S256x1024.size inb_S256x4096_S256x1024_0_3072) (ix2 r d) = X (ix2 r (part 3 d)) := by
  pointwise [part]

/-- Where a point's block lies in the result. -/
theorem emb4 (t : Fin cfg0.N) (r : Fin 256) (k : Fin 1024) : ((View.whole main_v0).slice (win0_4.rect t)).emb (ix3 0 r k) = ix3 (bat t) (row t r) k := by
  obtain ⟨-, -, -, -, h⟩ := idx t
  funext a
  apply Fin.ext
  refine (Pipeline.Window.rect_emb_val win0_4 t (ix3 0 r k) a).trans ?_
  rw [h]
  fin_cases a <;> simp [bat, row, win0_4]

/-- The result at a point's entry. -/
theorem point4 (t : Fin cfg0.N) (y : S1x256x1024.Idx) :
    k0_pay1 (F := Ideal) (iblk m c 2 t) (View.ld (Val := Elt Ideal) (e' := .bf16) (iblk m c 1 t) r0_1) (View.ld (Val := Elt Ideal) (e' := .bf16) (iblk m c 1 t) r0_2) (View.ld (Val := Elt Ideal) (e' := .bf16) (iblk m c 1 t) r0_3) (View.ld (Val := Elt Ideal) (e' := .bf16) (iblk m c 1 t) r0_4) (iblk m c 0 t) (iblk m c 3 t) y
    = Cert.Reference9Ideal.Combine.REF (m ((c : Thread nD τ).loc main_arg0)) (m ((c : Thread nD τ).loc main_arg1)) (m ((c : Thread nD τ).loc main_arg2)) (m ((c : Thread nD τ).loc main_arg3)) (((View.whole main_v0).slice (win0_4.rect t)).emb y) := by
  obtain ⟨r, k, rfl⟩ : ∃ (r : Fin 256) (k : Fin 1024), y = ix3 0 r k :=
    ⟨y 1, y 2, by funext a; fin_cases a <;> first | rfl | exact Subsingleton.elim (α := Fin 1) _ _⟩
  refine (pay1_apply (iblk m c 2 t) _ _ _ _ (iblk m c 0 t) (iblk m c 3 t) r k).trans ?_
  have e0 := (ld0 (iblk m c 1 t) r k).trans (blk1 m c t r (part 0 k))
  have e1 := (ld1 (iblk m c 1 t) r k).trans (blk1 m c t r (part 1 k))
  have e2 := (ld2 (iblk m c 1 t) r k).trans (blk1 m c t r (part 2 k))
  have e3 := (ld3 (iblk m c 1 t) r k).trans (blk1 m c t r (part 3 k))
  rw [blk0 m c t r k, blk3 m c t r 5 k, e0, e1, e2, e3, blk2 m c t r 0, blk2 m c t r 1, blk2 m c t r 2, blk2 m c t r 3]
  refine Eq.trans ?_ (congrArg (Cert.Reference9Ideal.Combine.REF (m ((c : Thread nD τ).loc main_arg0)) (m ((c : Thread nD τ).loc main_arg1)) (m ((c : Thread nD τ).loc main_arg2)) (m ((c : Thread nD τ).loc main_arg3))) (emb4 t r k)).symm
  refine Eq.trans ?_ (Cert.Reference9Ideal.Combine.REF_apply _ _ _ _ (bat t) (row t r) k).symm
  rw [Cert.Reference9Ideal.Combine.ysum_apply]

/-- The result array after the run. -/
theorem final4 : (dats m 0 c).arrAt 4 (cfgs 0).N = Cert.Reference9Ideal.Combine.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

end Cert.Kernel9Ideal.Combine

end
-- ==== Proof.Adaln.lean ====
/- The modulation of the layers: what the body stores and what the reference computes are, at an entry, the silu of the
   conditioning row times a column of the layer's weights, with its bias, so the result array after the run is the reference's term. -/
module

public import proofs.«01_k».proof.Proof.Gen.Kernel10Ideal.Skeleton
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference10Ideal.Adaln

open Cert.Reference10Ideal Cert.Reference10Ideal.Gen

/-- The reference's result. -/
def REF (C : FVec Ideal S16x1024 .f32) (W : FVec Ideal S4x1024x6144 .f32) (B : FVec Ideal S4x6144 .f32) : FVec Ideal S4x16x6144 .f32 :=
  addf (transpose S4x16x6144 [0, 2, 1] (Host.dotGeneral dot_S4x1024x6144_S16x1024_S4x6144x16_1_1_02_0_n_n none W (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C)))))) transposes_S4x6144x16_S4x16x6144_0_2_1) (broadcastInDim S4x16x6144 ![0, 1, 2] bcast_S4x1x6144_S4x16x6144_0_1_2 (broadcastInDim S4x1x6144 ![0, 2] bcast_S4x6144_S4x1x6144_0_2 B))

set_option maxHeartbeats 1000000 in
/-- The reference's result at an entry. -/
theorem REF_apply (C : FVec Ideal S16x1024 .f32) (W : FVec Ideal S4x1024x6144 .f32) (B : FVec Ideal S4x6144 .f32) (l : Fin 4) (r : Fin 16) (f : Fin 6144) :
    REF C W B (ix3 l r f) = (∑ k : Fin 1024, W (ix3 l k f) * (C (ix2 r k) * Ideal.logistic (C (ix2 r k)))) + B (ix2 l f) := by
  pointwise [REF, Ideal.logistic]

end Cert.Reference10Ideal.Adaln

namespace Cert.Kernel10Ideal.Adaln

open Cert.Kernel10Ideal Cert.Kernel10Ideal.Gen

set_option maxHeartbeats 1000000 in
/-- What the body stores, at row `r` and column `f`. -/
theorem pay1_apply (x0 : FVec Ideal S16x1024 .f32) (x1 : FVec Ideal S1x1024x1536 .f32) (x2 : FVec Ideal S1x1x1536 .f32) (r : Fin 16) (f : Fin 1536) :
    k0_pay1 (F := Ideal) x0 x1 x2 (ix3 0 r f) = (∑ k : Fin 1024, x0 (ix2 r k) * Ideal.logistic (x0 (ix2 r k)) * x1 (ix3 0 k f)) + x2 (ix3 0 0 f) := by
  pointwise [k0_pay1, Ideal.logistic]

variable (m : (ℓ : Loc nD τ sig) → Buf (Elt Ideal) ℓ) (c : Dev nD)

/-- The windows' block indices at point `t`: layer `t / 4`, column block `t % 4`. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- A point's layer. -/
def lay (t : Fin cfg0.N) : Fin 4 := ⟨t.val / 4, by have h : t.val < 16 := t.isLt; omega⟩
/-- A point's column of the array. -/
def col (t : Fin cfg0.N) (f : Fin 1536) : Fin 6144 := ⟨t.val % 4 * 1536 + f.val, by omega⟩

/-- The conditioning rows. -/
theorem blk0 (t : Fin cfg0.N) (r : Fin 16) (k : Fin 1024) : iblk m c 0 t (ix2 r k) = m ((c : Thread nD τ).loc main_arg0) (ix2 r k) := by
  blk_ext [iblk, V, idx t]

/-- The weights of a point's layer and columns. -/
theorem blk1 (t : Fin cfg0.N) (k : Fin 1024) (f : Fin 1536) : iblk m c 1 t (ix3 0 k f) = m ((c : Thread nD τ).loc main_arg1) (ix3 (lay t) k (col t f)) := by
  unfold lay col
  blk_ext [iblk, V, idx t]

/-- The bias as the call takes it, with an axis of one. -/
theorem bias_read (B : FVec Ideal S4x6144 .f32) (l : Fin 4) (j : Fin 6144) : shapeCast S4x1x6144 B shapeCasts_S4x6144_S4x1x6144 (ix3 l 0 j) = B (ix2 l j) := by
  pointwise

/-- The bias of a point's layer and columns. -/
theorem blk2 (t : Fin cfg0.N) (f : Fin 1536) : iblk m c 2 t (ix3 0 0 f) = m ((c : Thread nD τ).loc main_arg2) (ix2 (lay t) (col t f)) := by
  have h0 : V m c main_v0 (ix3 (lay t) 0 (col t f)) = m ((c : Thread nD τ).loc main_arg2) (ix2 (lay t) (col t f)) := by
    entry_read
    show shapeCast S4x1x6144 (m ((c : Thread nD τ).loc main_arg2)) shapeCasts_S4x6144_S4x1x6144 (ix3 (lay t) 0 (col t f)) = _
    exact bias_read _ _ _
  rw [← h0]
  unfold lay col
  blk_ext [iblk, idx t]

/-- Where a point's block lies in the result. -/
theorem emb3 (t : Fin cfg0.N) (r : Fin 16) (f : Fin 1536) : ((View.whole main_v1).slice (win0_3.rect t)).emb (ix3 0 r f) = ix3 (lay t) r (col t f) := by
  obtain ⟨-, -, -, h⟩ := idx t
  funext a
  apply Fin.ext
  refine (Pipeline.Window.rect_emb_val win0_3 t (ix3 0 r f) a).trans ?_
  rw [h]
  fin_cases a <;> simp [lay, col, win0_3]

/-- The result at a point's entry. -/
theorem point3 (t : Fin cfg0.N) (y : S1x16x1536.Idx) : k0_pay1 (F := Ideal) (iblk m c 0 t) (iblk m c 1 t) (iblk m c 2 t) y
    = Cert.Reference10Ideal.Adaln.REF (m ((c : Thread nD τ).loc main_arg0)) (m ((c : Thread nD τ).loc main_arg1)) (m ((c : Thread nD τ).loc main_arg2)) (((View.whole main_v1).slice (win0_3.rect t)).emb y) := by
  obtain ⟨r, f, rfl⟩ : ∃ (r : Fin 16) (f : Fin 1536), y = ix3 0 r f :=
    ⟨y 1, y 2, by funext a; fin_cases a <;> first | rfl | exact Subsingleton.elim (α := Fin 1) _ _⟩
  refine (pay1_apply (iblk m c 0 t) (iblk m c 1 t) (iblk m c 2 t) r f).trans ?_
  simp only [fun k => blk0 m c t r k, fun k => blk1 m c t k f, blk2 m c t f]
  refine Eq.trans ?_ (congrArg (Cert.Reference10Ideal.Adaln.REF (m ((c : Thread nD τ).loc main_arg0)) (m ((c : Thread nD τ).loc main_arg1)) (m ((c : Thread nD τ).loc main_arg2))) (emb3 t r f)).symm
  refine Eq.trans ?_ (Cert.Reference10Ideal.Adaln.REF_apply _ _ _ (lay t) r (col t f)).symm
  exact congrArg (· + _) (Finset.sum_congr rfl fun k _ => mul_comm _ _)

/-- The result array after the run. -/
theorem final3 : (dats m 0 c).arrAt 3 (cfgs 0).N = Cert.Reference10Ideal.Adaln.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point3 m c t y

end Cert.Kernel10Ideal.Adaln

end
-- ==== Proof.GdnConvEq.lean ====
/- The short convolution of the gated delta rule: the mathematics both programs compute. -/
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Conv

/-- The entry `j - 2` rows away from row `r` if it lies in the same one of the two stretches of rows, the 256 context rows and the 2048 latent rows, else zero. -/
def tap (x : Fin 2304 → EReal) (j : ℕ) (r : Fin 2304) : EReal :=
  if h : 2 ≤ r.val + j ∧ r.val + j < 2306 ∧ (r.val < 256 ↔ r.val + j < 258) then x ⟨r.val + j - 2, by omega⟩ else 0

/-- The convolution of a column with its five weights. -/
def conv (x : Fin 2304 → EReal) (w : Fin 5 → EReal) (r : Fin 2304) : EReal :=
  tap x 0 r * w 0 + tap x 1 r * w 1 + tap x 2 r * w 2 + tap x 3 r * w 3 + tap x 4 r * w 4

/-- A number times its logistic. -/
def silu (y : EReal) : EReal := y * Ideal.logistic y

/-- A head's 128 columns over their length. -/
def unit (y : Fin 128 → EReal) (d : Fin 128) : EReal :=
  y d * Ideal.rsqrt ((∑ j, y j * y j) + Ideal.ofBits .f32 0x358637BD#32)

/-- A head's columns as they are stored: the first eight heads over their length and scaled, the next eight over their length, the last eight as they are. -/
def head (n : ℕ) (y : Fin 128 → EReal) (d : Fin 128) : EReal :=
  if n < 8 then unit y d * Ideal.ofBits .f32 0x3DB504F3#32 else if n < 16 then unit y d else y d

end Cert.Conv

end
-- ==== Proof.GdnConvSum.lean ====
/- The short convolution of the gated delta rule: the convolution the reference computes, read at an entry. -/
module

public import proofs.«01_k».proof.Proof.GdnConvEq
public import proofs.«01_k».proof.Proof.Gen.Reference11Ideal.Run

@[expose] public section

set_option maxRecDepth 16384

noncomputable section

open Idealize.ShloMosaic Idealize.ShloMosaic.TcCoe Idealize.SL.Sem
open Idealize.ShloMosaic.Pipeline (Dat)

namespace Cert.Reference11Ideal.Conv

open Cert.Reference11Ideal Cert.Reference11Ideal.Gen Cert.Conv

/-- The columns of the projection that are convolved. -/
def xF (X : FVec Ideal S8x2304x4096 .bf16) : FVec Ideal S8x2304x3072 .f32 :=
  extf .f32 (extractStridedSlice S8x2304x3072 ![0, 0, 0] X slices_S8x2304x4096_S8x2304x3072_0_0_0) bitsLt_bf16_f32

/-- An entry of them. -/
theorem xF_apply (X : FVec Ideal S8x2304x4096 .bf16) (b : Fin 8) (r : Fin 2304) (f : Fin 3072) : xF X (ix3 b r f) = X (ix3 b r ⟨f.val, by omega⟩) := by
  pointwise [xF]

/-- The context rows with two rows of zeros on either side. -/
def padCtx (X : FVec Ideal S8x2304x4096 .bf16) : FVec Ideal S8x260x3072 .f32 :=
  pad S8x260x3072 ![0, 2, 0] ![0, 2, 0] ![0, 0, 0] (extractStridedSlice S8x256x3072 ![0, 0, 0] (xF X) slices_S8x2304x3072_S8x256x3072_0_0_0) (sitofp .f32 (constantI S_ 32 0#32)) pads_S8x256x3072_S8x260x3072_000_220_000 h_S_

/-- The latent rows with two rows of zeros on either side. -/
def padLat (X : FVec Ideal S8x2304x4096 .bf16) : FVec Ideal S8x2052x3072 .f32 :=
  pad S8x2052x3072 ![0, 2, 0] ![0, 2, 0] ![0, 0, 0] (extractStridedSlice S8x2048x3072 ![0, 256, 0] (xF X) slices_S8x2304x3072_S8x2048x3072_0_256_0) (sitofp .f32 (constantI S_ 32 0#32)) pads_S8x2048x3072_S8x2052x3072_000_220_000 h_S_

/-- The whole number zero, as a number, is zero. -/
theorem zero_cast : (FloatOps.sitofp .f32 (0#32) : Ideal .f32) = 0 := by
  show (((0#32 : BitVec 32).toInt : ℝ) : EReal) = 0
  simp

set_option maxHeartbeats 1000000 in
/-- A padded context row is the row two rows before, or zero. -/
theorem padCtx_apply (X : FVec Ideal S8x2304x4096 .bf16) (b : Fin 8) (r : Fin 256) (j : ℕ) (hj : j < 5) (u : j + r.val < 260) (f : Fin 3072) :
    padCtx X (ix3 b ⟨j + r.val, u⟩ f) = tap (fun r => X (ix3 b r ⟨f.val, by omega⟩)) j ⟨r.val, by omega⟩ := by
  pointwise [padCtx, xF_apply, zero_cast]
  have hr := r.isLt
  unfold tap
  by_cases h : 2 ≤ j + r.val ∧ j + r.val - 2 < 256
  · have h' : 2 ≤ r.val + j ∧ r.val + j < 2306 ∧ (r.val < 256 ↔ r.val + j < 258) := by omega
    refine (dif_pos h).trans (Eq.trans ?_ (dif_pos h').symm)
    exact congrArg (fun i => X (ix3 b i ⟨f.val, by omega⟩)) (Fin.ext (by dsimp only; omega))
  · have h' : ¬ (2 ≤ r.val + j ∧ r.val + j < 2306 ∧ (r.val < 256 ↔ r.val + j < 258)) := by omega
    refine (dif_neg h).trans (Eq.trans ?_ (dif_neg h').symm)
    first | rfl | exact zero_cast

/-- The context rows' convolution, of the padded rows. -/
def sumCtx (P : FVec Ideal S8x260x3072 .f32) (W : FVec Ideal S5x3072 .f32) : FVec Ideal S8x256x3072 .f32 :=
  (addf (addf (addf (addf (addf (broadcastInDim S8x256x3072 ![] bcast_S_S8x256x3072 (constant S_ .f32 0x00000000#32)) (mulf (extractStridedSlice S8x256x3072 ![0, 0, 0] P slices_S8x260x3072_S8x256x3072_0_0_0) (broadcastInDim S8x256x3072 ![0, 1, 2] bcast_S1x1x3072_S8x256x3072_0_1_2 (broadcastInDim S1x1x3072 ![2] bcast_S3072_S1x1x3072_2 (shapeCast _ (extractStridedSlice S1x3072 ![0, 0] W slices_S5x3072_S1x3072_0_0) shapeCasts_S1x3072_S3072))))) (mulf (extractStridedSlice S8x256x3072 ![0, 1, 0] P slices_S8x260x3072_S8x256x3072_0_1_0) (broadcastInDim S8x256x3072 ![0, 1, 2] bcast_S1x1x3072_S8x256x3072_0_1_2 (broadcastInDim S1x1x3072 ![2] bcast_S3072_S1x1x3072_2 (shapeCast _ (extractStridedSlice S1x3072 ![1, 0] W slices_S5x3072_S1x3072_1_0) shapeCasts_S1x3072_S3072))))) (mulf (extractStridedSlice S8x256x3072 ![0, 2, 0] P slices_S8x260x3072_S8x256x3072_0_2_0) (broadcastInDim S8x256x3072 ![0, 1, 2] bcast_S1x1x3072_S8x256x3072_0_1_2 (broadcastInDim S1x1x3072 ![2] bcast_S3072_S1x1x3072_2 (shapeCast _ (extractStridedSlice S1x3072 ![2, 0] W slices_S5x3072_S1x3072_2_0) shapeCasts_S1x3072_S3072))))) (mulf (extractStridedSlice S8x256x3072 ![0, 3, 0] P slices_S8x260x3072_S8x256x3072_0_3_0) (broadcastInDim S8x256x3072 ![0, 1, 2] bcast_S1x1x3072_S8x256x3072_0_1_2 (broadcastInDim S1x1x3072 ![2] bcast_S3072_S1x1x3072_2 (shapeCast _ (extractStridedSlice S1x3072 ![3, 0] W slices_S5x3072_S1x3072_3_0) shapeCasts_S1x3072_S3072))))) (mulf (extractStridedSlice S8x256x3072 ![0, 4, 0] P slices_S8x260x3072_S8x256x3072_0_4_0) (broadcastInDim S8x256x3072 ![0, 1, 2] bcast_S1x1x3072_S8x256x3072_0_1_2 (broadcastInDim S1x1x3072 ![2] bcast_S3072_S1x1x3072_2 (shapeCast _ (extractStridedSlice S1x3072 ![4, 0] W slices_S5x3072_S1x3072_4_0) shapeCasts_S1x3072_S3072)))))

set_option maxHeartbeats 1000000 in
/-- An entry of it. -/
theorem sumCtx_apply (P : FVec Ideal S8x260x3072 .f32) (W : FVec Ideal S5x3072 .f32) (b : Fin 8) (r : Fin 256) (f : Fin 3072) :
    sumCtx P W (ix3 b r f) = P (ix3 b ⟨r.val, by omega⟩ f) * W (ix2 0 f) + P (ix3 b ⟨1 + r.val, by omega⟩ f) * W (ix2 1 f) + P (ix3 b ⟨2 + r.val, by omega⟩ f) * W (ix2 2 f)
      + P (ix3 b ⟨3 + r.val, by omega⟩ f) * W (ix2 3 f) + P (ix3 b ⟨4 + r.val, by omega⟩ f) * W (ix2 4 f) := by
  pointwise [sumCtx]

/-- It is the convolution. -/
theorem sumCtx_eq (X : FVec Ideal S8x2304x4096 .bf16) (W : FVec Ideal S5x3072 .f32) (b : Fin 8) (r : Fin 256) (f : Fin 3072) :
    sumCtx (padCtx X) W (ix3 b r f) = conv (fun r => X (ix3 b r ⟨f.val, by omega⟩)) (fun j => W (ix2 j f)) ⟨r.val, by omega⟩ := by
  have e0 : padCtx X (ix3 b ⟨r.val, by omega⟩ f) = tap (fun r => X (ix3 b r ⟨f.val, by omega⟩)) 0 ⟨r.val, by omega⟩ :=
    (congrArg (fun i => padCtx X (ix3 b i f)) (Fin.ext (by dsimp only; omega))).trans (padCtx_apply X b r 0 (by omega) (by omega) f)
  rw [sumCtx_apply, e0, padCtx_apply X b r 1 (by omega) _ f, padCtx_apply X b r 2 (by omega) _ f, padCtx_apply X b r 3 (by omega) _ f, padCtx_apply X b r 4 (by omega) _ f]
  rfl

set_option maxHeartbeats 1000000 in
/-- A padded latent row is the row two rows before, or zero. -/
theorem padLat_apply (X : FVec Ideal S8x2304x4096 .bf16) (b : Fin 8) (r : Fin 2048) (j : ℕ) (hj : j < 5) (u : j + r.val < 2052) (f : Fin 3072) :
    padLat X (ix3 b ⟨j + r.val, u⟩ f) = tap (fun r => X (ix3 b r ⟨f.val, by omega⟩)) j ⟨256 + r.val, by omega⟩ := by
  pointwise [padLat, xF_apply, zero_cast]
  have hr := r.isLt
  unfold tap
  by_cases h : 2 ≤ j + r.val ∧ j + r.val - 2 < 2048
  · have h' : 2 ≤ 256 + r.val + j ∧ 256 + r.val + j < 2306 ∧ (256 + r.val < 256 ↔ 256 + r.val + j < 258) := by omega
    refine (dif_pos h).trans (Eq.trans ?_ (dif_pos h').symm)
    exact congrArg (fun i => X (ix3 b i ⟨f.val, by omega⟩)) (Fin.ext (by dsimp only; omega))
  · have h' : ¬ (2 ≤ 256 + r.val + j ∧ 256 + r.val + j < 2306 ∧ (256 + r.val < 256 ↔ 256 + r.val + j < 258)) := by omega
    refine (dif_neg h).trans (Eq.trans ?_ (dif_neg h').symm)
    first | rfl | exact zero_cast

/-- The latent rows' convolution, of the padded rows. -/
def sumLat (P : FVec Ideal S8x2052x3072 .f32) (W : FVec Ideal S5x3072 .f32) : FVec Ideal S8x2048x3072 .f32 :=
  (addf (addf (addf (addf (addf (broadcastInDim S8x2048x3072 ![] bcast_S_S8x2048x3072 (constant S_ .f32 0x00000000#32)) (mulf (extractStridedSlice S8x2048x3072 ![0, 0, 0] P slices_S8x2052x3072_S8x2048x3072_0_0_0) (broadcastInDim S8x2048x3072 ![0, 1, 2] bcast_S1x1x3072_S8x2048x3072_0_1_2 (broadcastInDim S1x1x3072 ![2] bcast_S3072_S1x1x3072_2 (shapeCast _ (extractStridedSlice S1x3072 ![0, 0] W slices_S5x3072_S1x3072_0_0) shapeCasts_S1x3072_S3072))))) (mulf (extractStridedSlice S8x2048x3072 ![0, 1, 0] P slices_S8x2052x3072_S8x2048x3072_0_1_0) (broadcastInDim S8x2048x3072 ![0, 1, 2] bcast_S1x1x3072_S8x2048x3072_0_1_2 (broadcastInDim S1x1x3072 ![2] bcast_S3072_S1x1x3072_2 (shapeCast _ (extractStridedSlice S1x3072 ![1, 0] W slices_S5x3072_S1x3072_1_0) shapeCasts_S1x3072_S3072))))) (mulf (extractStridedSlice S8x2048x3072 ![0, 2, 0] P slices_S8x2052x3072_S8x2048x3072_0_2_0) (broadcastInDim S8x2048x3072 ![0, 1, 2] bcast_S1x1x3072_S8x2048x3072_0_1_2 (broadcastInDim S1x1x3072 ![2] bcast_S3072_S1x1x3072_2 (shapeCast _ (extractStridedSlice S1x3072 ![2, 0] W slices_S5x3072_S1x3072_2_0) shapeCasts_S1x3072_S3072))))) (mulf (extractStridedSlice S8x2048x3072 ![0, 3, 0] P slices_S8x2052x3072_S8x2048x3072_0_3_0) (broadcastInDim S8x2048x3072 ![0, 1, 2] bcast_S1x1x3072_S8x2048x3072_0_1_2 (broadcastInDim S1x1x3072 ![2] bcast_S3072_S1x1x3072_2 (shapeCast _ (extractStridedSlice S1x3072 ![3, 0] W slices_S5x3072_S1x3072_3_0) shapeCasts_S1x3072_S3072))))) (mulf (extractStridedSlice S8x2048x3072 ![0, 4, 0] P slices_S8x2052x3072_S8x2048x3072_0_4_0) (broadcastInDim S8x2048x3072 ![0, 1, 2] bcast_S1x1x3072_S8x2048x3072_0_1_2 (broadcastInDim S1x1x3072 ![2] bcast_S3072_S1x1x3072_2 (shapeCast _ (extractStridedSlice S1x3072 ![4, 0] W slices_S5x3072_S1x3072_4_0) shapeCasts_S1x3072_S3072)))))

set_option maxHeartbeats 1000000 in
/-- An entry of it. -/
theorem sumLat_apply (P : FVec Ideal S8x2052x3072 .f32) (W : FVec Ideal S5x3072 .f32) (b : Fin 8) (r : Fin 2048) (f : Fin 3072) :
    sumLat P W (ix3 b r f) = P (ix3 b ⟨r.val, by omega⟩ f) * W (ix2 0 f) + P (ix3 b ⟨1 + r.val, by omega⟩ f) * W (ix2 1 f) + P (ix3 b ⟨2 + r.val, by omega⟩ f) * W (ix2 2 f)
      + P (ix3 b ⟨3 + r.val, by omega⟩ f) * W (ix2 3 f) + P (ix3 b ⟨4 + r.val, by omega⟩ f) * W (ix2 4 f) := by
  pointwise [sumLat]

/-- It is the convolution. -/
theorem sumLat_eq (X : FVec Ideal S8x2304x4096 .bf16) (W : FVec Ideal S5x3072 .f32) (b : Fin 8) (r : Fin 2048) (f : Fin 3072) :
    sumLat (padLat X) W (ix3 b r f) = conv (fun r => X (ix3 b r ⟨f.val, by omega⟩)) (fun j => W (ix2 j f)) ⟨256 + r.val, by omega⟩ := by
  have e0 : padLat X (ix3 b ⟨r.val, by omega⟩ f) = tap (fun r => X (ix3 b r ⟨f.val, by omega⟩)) 0 ⟨256 + r.val, by omega⟩ :=
    (congrArg (fun i => padLat X (ix3 b i f)) (Fin.ext (by dsimp only; omega))).trans (padLat_apply X b r 0 (by omega) (by omega) f)
  rw [sumLat_apply, e0, padLat_apply X b r 1 (by omega) _ f, padLat_apply X b r 2 (by omega) _ f, padLat_apply X b r 3 (by omega) _ f, padLat_apply X b r 4 (by omega) _ f]
  rfl

end Cert.Reference11Ideal.Conv

end
-- ==== Proof.GdnConvHead.lean ====
/- The short convolution of the gated delta rule: the gated and normed heads the reference computes, read at an entry. -/
module

public import proofs.«01_k».proof.Proof.GdnConvEq
public import proofs.«01_k».proof.Proof.Gen.Reference11Ideal.Run

@[expose] public section

set_option maxRecDepth 16384

noncomputable section

open Idealize.ShloMosaic Idealize.ShloMosaic.TcCoe Idealize.SL.Sem
open Idealize.ShloMosaic.Pipeline (Dat)

namespace Cert.Reference11Ideal.Conv

open Cert.Reference11Ideal Cert.Reference11Ideal.Gen Cert.Conv

/-- The context rows, then the latent rows. -/
def rowsR (A : FVec Ideal S8x256x3072 .f32) (B : FVec Ideal S8x2048x3072 .f32) : FVec Ideal S8x2304x3072 .f32 :=
  concatenate S8x2304x3072 1 [⟨S8x256x3072, A⟩, ⟨S8x2048x3072, B⟩] concatenates_S8x256x3072_S8x2048x3072_S8x2304x3072_d1

/-- An entry of them. -/
theorem rowsR_apply (A : FVec Ideal S8x256x3072 .f32) (B : FVec Ideal S8x2048x3072 .f32) (b : Fin 8) (r : Fin 2304) (f : Fin 3072) :
    rowsR A B (ix3 b r f) = if h : r.val < 256 then A (ix3 b ⟨r.val, h⟩ f) else B (ix3 b ⟨r.val - 256, by omega⟩ f) := by
  pointwise [rowsR]

/-- The gated heads of the convolution. -/
def headsR (C : FVec Ideal S8x2304x3072 .f32) : FVec Ideal S8x2304x24x128 .f32 :=
  shapeCast _ (mulf C (Host.divf (broadcastInDim S8x2304x3072 ![] bcast_S_S8x2304x3072 (constant S_ .f32 0x3F800000#32)) (addf (broadcastInDim S8x2304x3072 ![] bcast_S_S8x2304x3072 (constant S_ .f32 0x3F800000#32)) (Host.exp (Host.negf C))))) shapeCasts_S8x2304x3072_S8x2304x24x128

/-- An entry of a gated head. -/
theorem headsR_apply (C : FVec Ideal S8x2304x3072 .f32) (b : Fin 8) (r : Fin 2304) (h : Fin 24) (d : Fin 128) :
    headsR C (ix4 b r h d) = silu (C (ix3 b r ⟨h.val * 128 + d.val, by omega⟩)) := by
  pointwise [headsR, silu, Ideal.logistic]

/-- The queries' heads. -/
def qR (H : FVec Ideal S8x2304x24x128 .f32) : FVec Ideal S8x2304x8x128 .f32 :=
  extractStridedSlice S8x2304x8x128 ![0, 0, 0, 0] H slices_S8x2304x24x128_S8x2304x8x128_0_0_0_0

/-- A query before the norm. -/
theorem qR_apply (H : FVec Ideal S8x2304x24x128 .f32) (b : Fin 8) (r : Fin 2304) (h : Fin 8) (d : Fin 128) : qR H (ix4 b r h d) = H (ix4 b r ⟨h.val, by omega⟩ d) := by
  pointwise [qR]

/-- The keys' heads. -/
def kR (H : FVec Ideal S8x2304x24x128 .f32) : FVec Ideal S8x2304x8x128 .f32 :=
  extractStridedSlice S8x2304x8x128 ![0, 0, 8, 0] H slices_S8x2304x24x128_S8x2304x8x128_0_0_8_0

/-- A key before the norm. -/
theorem kR_apply (H : FVec Ideal S8x2304x24x128 .f32) (b : Fin 8) (r : Fin 2304) (h : Fin 8) (d : Fin 128) : kR H (ix4 b r h d) = H (ix4 b r ⟨8 + h.val, by omega⟩ d) := by
  pointwise [kR]

/-- The values. -/
def vR (H : FVec Ideal S8x2304x24x128 .f32) : FVec Ideal S8x2304x8x128 .f32 :=
  (extractStridedSlice S8x2304x8x128 ![0, 0, 16, 0] H slices_S8x2304x24x128_S8x2304x8x128_0_0_16_0)

/-- A value. -/
theorem vR_apply (H : FVec Ideal S8x2304x24x128 .f32) (b : Fin 8) (r : Fin 2304) (h : Fin 8) (d : Fin 128) : vR H (ix4 b r h d) = H (ix4 b r ⟨16 + h.val, by omega⟩ d) := by
  pointwise [vR]

/-- The queries as they are stored. -/
def qN (T : FVec Ideal S8x2304x8x128 .f32) : FVec Ideal S8x2304x8x128 .f32 :=
  (mulf (mulf T (broadcastInDim S8x2304x8x128 ![0, 1, 2, 3] bcast_S8x2304x8x1_S8x2304x8x128_0_1_2_3 (Host.rsqrt (addf (broadcastInDim S8x2304x8x1 ![0, 1, 2] bcast_S8x2304x8_S8x2304x8x1_0_1_2 (Host.reduceAdd (mulf T T) (constant S_ .f32 0x00000000#32) reducesTo_S8x2304x8x128_S8x2304x8_d3 h_S_)) (broadcastInDim S8x2304x8x1 ![] bcast_S_S8x2304x8x1 (constant S_ .f32 0x358637BD#32)))))) (broadcastInDim S8x2304x8x128 ![] bcast_S_S8x2304x8x128 (constant S_ .f32 0x3DB504F3#32)))

/-- A query as it is stored. -/
theorem qN_apply (T : FVec Ideal S8x2304x8x128 .f32) (b : Fin 8) (r : Fin 2304) (h : Fin 8) (d : Fin 128) :
    qN T (ix4 b r h d) = unit (fun d => T (ix4 b r h d)) d * Ideal.ofBits .f32 0x3DB504F3#32 := by
  pointwise [qN, unit]

/-- The keys as they are stored. -/
def kN (T : FVec Ideal S8x2304x8x128 .f32) : FVec Ideal S8x2304x8x128 .f32 :=
  (mulf T (broadcastInDim S8x2304x8x128 ![0, 1, 2, 3] bcast_S8x2304x8x1_S8x2304x8x128_0_1_2_3 (Host.rsqrt (addf (broadcastInDim S8x2304x8x1 ![0, 1, 2] bcast_S8x2304x8_S8x2304x8x1_0_1_2 (Host.reduceAdd (mulf T T) (constant S_ .f32 0x00000000#32) reducesTo_S8x2304x8x128_S8x2304x8_d3 h_S_)) (broadcastInDim S8x2304x8x1 ![] bcast_S_S8x2304x8x1 (constant S_ .f32 0x358637BD#32))))))

/-- A key as it is stored. -/
theorem kN_apply (T : FVec Ideal S8x2304x8x128 .f32) (b : Fin 8) (r : Fin 2304) (h : Fin 8) (d : Fin 128) :
    kN T (ix4 b r h d) = unit (fun d => T (ix4 b r h d)) d := by
  pointwise [kN, unit]

/-- The heads of queries, keys and values side by side. -/
def catR (Q K V : FVec Ideal S8x2304x8x128 .f32) : FVec Ideal S8x2304x24x128 .f32 :=
  concatenate S8x2304x24x128 2 [⟨S8x2304x8x128, Q⟩, ⟨S8x2304x8x128, K⟩, ⟨S8x2304x8x128, V⟩] concatenates_S8x2304x8x128_S8x2304x8x128_S8x2304x8x128_S8x2304x24x128_d2

/-- An entry of them. -/
theorem catR_apply (Q K V : FVec Ideal S8x2304x8x128 .f32) (b : Fin 8) (r : Fin 2304) (h : Fin 24) (d : Fin 128) :
    catR Q K V (ix4 b r h d) = if w : h.val < 8 then Q (ix4 b r ⟨h.val, w⟩ d)
      else if w' : h.val - 8 < 8 then K (ix4 b r ⟨h.val - 8, w'⟩ d)
      else V (ix4 b r ⟨h.val - 8 - 8, by omega⟩ d) := by
  pointwise [catR]

/-- The heads as columns. -/
def flatR (H : FVec Ideal S8x2304x24x128 .f32) : FVec Ideal S8x2304x3072 .bf16 :=
  truncf .bf16 (shapeCast _ H shapeCasts_S8x2304x24x128_S8x2304x3072) bitsLt_bf16_f32

/-- A column of the heads. -/
theorem flatR_apply (H : FVec Ideal S8x2304x24x128 .f32) (b : Fin 8) (r : Fin 2304) (f : Fin 3072) :
    flatR H (ix3 b r f) = H (ix4 b r ⟨f.val / 128, by omega⟩ ⟨f.val % 128, by omega⟩) := by
  pointwise [flatR]

/-- Queries, keys and values as columns. -/
def packR (Q K V : FVec Ideal S8x2304x8x128 .f32) : FVec Ideal S8x2304x3072 .bf16 := flatR (catR Q K V)

/-- An entry of them. -/
theorem packR_apply (Q K V : FVec Ideal S8x2304x8x128 .f32) (b : Fin 8) (r : Fin 2304) (f : Fin 3072) :
    packR Q K V (ix3 b r f) = if h : f.val / 128 < 8 then Q (ix4 b r ⟨f.val / 128, h⟩ ⟨f.val % 128, by omega⟩)
      else if h' : f.val / 128 - 8 < 8 then K (ix4 b r ⟨f.val / 128 - 8, h'⟩ ⟨f.val % 128, by omega⟩)
      else V (ix4 b r ⟨f.val / 128 - 8 - 8, by omega⟩ ⟨f.val % 128, by omega⟩) := by
  unfold packR
  rw [flatR_apply, catR_apply]

end Cert.Reference11Ideal.Conv

end
-- ==== Proof.GdnConvBody.lean ====
/- The short convolution of the gated delta rule: what the body computes, read at an entry. -/
module

public import proofs.«01_k».proof.Proof.GdnConvEq
public import proofs.«01_k».proof.Proof.Gen.Kernel11Ideal.Skeleton

@[expose] public section

set_option maxRecDepth 16384

noncomputable section

open Idealize.ShloMosaic Idealize.ShloMosaic.TcCoe Idealize.SL.Sem
open Idealize.ShloMosaic.Pipeline (Dat)

namespace Cert.Kernel11Ideal.Conv

open Cert.Kernel11Ideal Cert.Kernel11Ideal.Gen Cert.Conv

/-- A row's position in its stretch of rows. -/
def pos (r : Fin 2304) : BitVec 32 :=
  Scalar.select (IntOp.cmpi CmpIPredicate.slt (BitVec.ofNat 32 r.val) 256#32) (BitVec.ofNat 32 r.val) (IntOp.subi (BitVec.ofNat 32 r.val) 256#32)

/-- The length of a row's stretch. -/
def len (r : Fin 2304) : BitVec 32 :=
  Scalar.select (IntOp.cmpi CmpIPredicate.slt (BitVec.ofNat 32 r.val) 256#32) 256#32 2048#32

/-- Whether the row `d` rows away lies in the stretch, as the body computes it. -/
def near (p n d : BitVec 32) : BitVec 1 :=
  IntOp.andi (IntOp.cmpi CmpIPredicate.sge (IntOp.addi p d) 0#32) (IntOp.cmpi CmpIPredicate.slt (IntOp.addi p d) n)

/-- The body's positions. -/
theorem pay5_apply (r : Fin 2304) : k0_pay5 (ix2 r 0) = pos r := by
  pointwise [k0_pay5, k0_pay4, pos]

/-- The body's lengths. -/
theorem pay6_apply (r : Fin 2304) : k0_pay6 (ix2 r 0) = len r := by
  pointwise [k0_pay6, k0_pay4, len]

/-- The test for tap 0 is whether the row lies in the stretch. -/
theorem near0 : ∀ r : Fin 2304, near (pos r) (len r) 4294967294#32 = if 2 ≤ r.val + 0 ∧ r.val + 0 < 2306 ∧ (r.val < 256 ↔ r.val + 0 < 258) then 1 else 0 := by
  decide +kernel

/-- The turned column under that test is tap 0. -/
theorem sel0 (x : Fin 2304 → EReal) (r : Fin 2304) : Scalar.select (near (pos r) (len r) 4294967294#32) (x ⟨(r.val + 2304 - 2) % 2304, Nat.mod_lt _ (by omega)⟩) 0 = tap x 0 r := by
  rw [near0]
  unfold tap
  by_cases h : 2 ≤ r.val + 0 ∧ r.val + 0 < 2306 ∧ (r.val < 256 ↔ r.val + 0 < 258)
  · rw [if_pos h, dif_pos h]
    refine (if_pos rfl).trans ?_
    exact congrArg x (Fin.ext (by dsimp only; omega))
  · rw [if_neg h, dif_neg h]
    exact if_neg (by decide)

/-- The test for tap 1 is whether the row lies in the stretch. -/
theorem near1 : ∀ r : Fin 2304, near (pos r) (len r) 4294967295#32 = if 2 ≤ r.val + 1 ∧ r.val + 1 < 2306 ∧ (r.val < 256 ↔ r.val + 1 < 258) then 1 else 0 := by
  decide +kernel

/-- The turned column under that test is tap 1. -/
theorem sel1 (x : Fin 2304 → EReal) (r : Fin 2304) : Scalar.select (near (pos r) (len r) 4294967295#32) (x ⟨(r.val + 2304 - 1) % 2304, Nat.mod_lt _ (by omega)⟩) 0 = tap x 1 r := by
  rw [near1]
  unfold tap
  by_cases h : 2 ≤ r.val + 1 ∧ r.val + 1 < 2306 ∧ (r.val < 256 ↔ r.val + 1 < 258)
  · rw [if_pos h, dif_pos h]
    refine (if_pos rfl).trans ?_
    exact congrArg x (Fin.ext (by dsimp only; omega))
  · rw [if_neg h, dif_neg h]
    exact if_neg (by decide)

/-- The test for tap 3 is whether the row lies in the stretch. -/
theorem near3 : ∀ r : Fin 2304, near (pos r) (len r) 1#32 = if 2 ≤ r.val + 3 ∧ r.val + 3 < 2306 ∧ (r.val < 256 ↔ r.val + 3 < 258) then 1 else 0 := by
  decide +kernel

/-- The turned column under that test is tap 3. -/
theorem sel3 (x : Fin 2304 → EReal) (r : Fin 2304) : Scalar.select (near (pos r) (len r) 1#32) (x ⟨(r.val + 2304 - 2303) % 2304, Nat.mod_lt _ (by omega)⟩) 0 = tap x 3 r := by
  rw [near3]
  unfold tap
  by_cases h : 2 ≤ r.val + 3 ∧ r.val + 3 < 2306 ∧ (r.val < 256 ↔ r.val + 3 < 258)
  · rw [if_pos h, dif_pos h]
    refine (if_pos rfl).trans ?_
    exact congrArg x (Fin.ext (by dsimp only; omega))
  · rw [if_neg h, dif_neg h]
    exact if_neg (by decide)

/-- The test for tap 4 is whether the row lies in the stretch. -/
theorem near4 : ∀ r : Fin 2304, near (pos r) (len r) 2#32 = if 2 ≤ r.val + 4 ∧ r.val + 4 < 2306 ∧ (r.val < 256 ↔ r.val + 4 < 258) then 1 else 0 := by
  decide +kernel

/-- The turned column under that test is tap 4. -/
theorem sel4 (x : Fin 2304 → EReal) (r : Fin 2304) : Scalar.select (near (pos r) (len r) 2#32) (x ⟨(r.val + 2304 - 2302) % 2304, Nat.mod_lt _ (by omega)⟩) 0 = tap x 4 r := by
  rw [near4]
  unfold tap
  by_cases h : 2 ≤ r.val + 4 ∧ r.val + 4 < 2306 ∧ (r.val < 256 ↔ r.val + 4 < 258)
  · rw [if_pos h, dif_pos h]
    refine (if_pos rfl).trans ?_
    exact congrArg x (Fin.ext (by dsimp only; omega))
  · rw [if_neg h, dif_neg h]
    exact if_neg (by decide)

/-- A row's own tap is the row. -/
theorem tap2 (x : Fin 2304 → EReal) (r : Fin 2304) : tap x 2 r = x r := by
  unfold tap
  have h : 2 ≤ r.val + 2 ∧ r.val + 2 < 2306 ∧ (r.val < 256 ↔ r.val + 2 < 258) := by omega
  rw [dif_pos h]
  exact congrArg x (Fin.ext (by dsimp only; omega))

/-- The body's columns. -/
theorem pay3_apply (v0 : FVec Ideal S1x2304x512 .bf16) (r : Fin 2304) (f : Fin 512) : k0_pay3 (F := Ideal) v0 (ix2 r f) = v0 (ix3 0 r f) := by
  pointwise [k0_pay3]

/-- A column times its weight and another, where a test holds, times its own. -/
theorem two_apply (x y : FVec Ideal S2304x512 .f32) (c : IVec S2304x1 1) (v w : FVec Ideal S1x512 .f32) (r : Fin 2304) (f : Fin 512) :
    addf (mulf x (broadcastTo S2304x512 v broadcasts_S1x512_S2304x512)) (mulf (select (broadcastTo S2304x512 (shapeCast S2304x1 c shapeCasts_S2304x1_S2304x1) broadcasts_S2304x1_S2304x512) y (broadcast S2304x512 (Scalar.ofBits (F := Ideal) .f32 0x00000000#32))) (broadcastTo S2304x512 w broadcasts_S1x512_S2304x512)) (ix2 r f)
      = x (ix2 r f) * v (ix2 0 f) + Scalar.select (c (ix2 r 0)) (y (ix2 r f)) 0 * w (ix2 0 f) := by
  pointwise

/-- The column turned by two rows. -/
theorem turn_apply (x : FVec Ideal S2304x512 .f32) (r : Fin 2304) (f : Fin 512) :
    dynamicRotate 0 2#32 none x rotates_S2304x512_d0 (ix2 r f) = x (ix2 ⟨(r.val + 2304 - 2) % 2304, Nat.mod_lt _ (by omega)⟩ f) := by
  pointwise

/-- The test for tap 0. -/
theorem test_apply (p n : IVec S2304x1 32) (r : Fin 2304) :
    andi (cmpi .sge (addi p (broadcast S2304x1 4294967294#32)) (broadcast S2304x1 0#32)) (cmpi .slt (addi p (broadcast S2304x1 4294967294#32)) n) (ix2 r 0)
      = near (p (ix2 r 0)) (n (ix2 r 0)) 4294967294#32 := by
  pointwise [near]

/-- The middle tap and tap 0. -/
theorem pay7_apply (v0 : FVec Ideal S1x2304x512 .bf16) (v12 v28 : FVec Ideal S1x512 .f32) (r : Fin 2304) (f : Fin 512) :
    k0_pay7 (F := Ideal) v0 v12 v28 (ix2 r f) = k0_pay3 (F := Ideal) v0 (ix2 r f) * v12 (ix2 0 f)
      + Scalar.select (near (k0_pay5 (ix2 r 0)) (k0_pay6 (ix2 r 0)) 4294967294#32) (k0_pay3 (F := Ideal) v0 (ix2 ⟨(r.val + 2304 - 2) % 2304, Nat.mod_lt _ (by omega)⟩ f)) 0 * v28 (ix2 0 f) := by
  unfold k0_pay7
  refine (two_apply _ _ _ _ _ r f).trans ?_
  rw [turn_apply, test_apply]

/-- The column turned by one row. -/
theorem pay8_apply (v0 : FVec Ideal S1x2304x512 .bf16) (r : Fin 2304) (f : Fin 512) :
    k0_pay8 (F := Ideal) v0 (ix2 r f) = k0_pay3 (F := Ideal) v0 (ix2 ⟨(r.val + 2304 - 1) % 2304, Nat.mod_lt _ (by omega)⟩ f) := by
  unfold k0_pay8
  generalize k0_pay3 (F := Ideal) v0 = x
  pointwise

/-- The lower half of the test for tap 1. -/
theorem pay9_apply (r : Fin 2304) : k0_pay9 (ix2 r 0) = IntOp.cmpi CmpIPredicate.sge (IntOp.addi (k0_pay5 (ix2 r 0)) 4294967295#32) 0#32 := by
  unfold k0_pay9
  generalize k0_pay5 = p
  pointwise

/-- The step of tap 1. -/
theorem pay10_apply (r : Fin 2304) : k0_pay10 (ix2 r 0) = 4294967295#32 := by
  pointwise [k0_pay10]

/-- Taps 1 and 3 added. -/
theorem pay11_apply (v2 : FVec Ideal S2304x512 .f32) (v8 v11 : IVec S2304x1 32) (v31 v32 : FVec Ideal S2304x512 .f32) (v36 : IVec S2304x1 1) (v37 : IVec S2304x1 32) (v45 v62 : FVec Ideal S1x512 .f32) (r : Fin 2304) (f : Fin 512) :
    k0_pay11 (F := Ideal) v2 v8 v11 v31 v32 v36 v37 v45 v62 (ix2 r f) = v31 (ix2 r f)
      + Scalar.select (IntOp.andi (v36 (ix2 r 0)) (IntOp.cmpi CmpIPredicate.slt (IntOp.addi (v8 (ix2 r 0)) (v37 (ix2 r 0))) (v11 (ix2 r 0)))) (v32 (ix2 r f)) 0 * v45 (ix2 0 f)
      + Scalar.select (near (v8 (ix2 r 0)) (v11 (ix2 r 0)) 1#32) (v2 (ix2 ⟨(r.val + 2304 - 2303) % 2304, Nat.mod_lt _ (by omega)⟩ f)) 0 * v62 (ix2 0 f) := by
  pointwise [k0_pay11, near]

/-- Tap 4. -/
theorem pay12_apply (v2 : FVec Ideal S2304x512 .f32) (v8 v11 : IVec S2304x1 32) (r : Fin 2304) (f : Fin 512) :
    k0_pay12 (F := Ideal) v2 v8 v11 (ix2 r f) = Scalar.select (near (v8 (ix2 r 0)) (v11 (ix2 r 0)) 2#32) (v2 (ix2 ⟨(r.val + 2304 - 2302) % 2304, Nat.mod_lt _ (by omega)⟩ f)) 0 := by
  pointwise [k0_pay12, near]

/-- The last weight. -/
theorem pay13_apply (v79 : FVec Ideal S1x512 .f32) (r : Fin 2304) (f : Fin 512) : k0_pay13 (F := Ideal) v79 (ix2 r f) = v79 (ix2 0 f) := by
  pointwise [k0_pay13]

/-- The gated sum. -/
theorem pay14_apply (x y z : FVec Ideal S2304x512 .f32) (r : Fin 2304) (f : Fin 512) :
    k0_pay14 (F := Ideal) x y z (ix2 r f) = silu (x (ix2 r f) + y (ix2 r f) * z (ix2 r f)) := by
  pointwise [k0_pay14, silu]

/-- What the body stores of a head: normed and scaled on the queries' and keys' columns, else as it is. -/
def stored (c : BitVec 1) (s : EReal) (y : Fin 128 → EReal) (d : Fin 128) : EReal := Scalar.select c (unit y d * s) (y d)

/-- The store at lane 0. -/
theorem pay16_apply (a : BitVec 32) (x y z : FVec Ideal S2304x512 .f32) (r : Fin 2304) (l : Fin 128) :
    k0_pay16 (F := Ideal) a x y z (ix3 0 r l) = stored (Scalar.cmpi .slt a 4#32) (k0_pay15 (F := Ideal) a) (fun d => k0_pay14 (F := Ideal) x y z (ix2 r ⟨d.val, by omega⟩)) l := by
  unfold k0_pay16
  generalize k0_pay14 (F := Ideal) x y z = w
  generalize k0_pay15 (F := Ideal) a = s
  pointwise [stored, unit]

/-- The store at lane 128. -/
theorem pay17_apply (a : BitVec 32) (x y z : FVec Ideal S2304x512 .f32) (r : Fin 2304) (l : Fin 128) :
    k0_pay17 (F := Ideal) a x y z (ix3 0 r l) = stored (Scalar.cmpi .slt a 4#32) (k0_pay15 (F := Ideal) a) (fun d => k0_pay14 (F := Ideal) x y z (ix2 r ⟨128 + d.val, by omega⟩)) l := by
  unfold k0_pay17
  generalize k0_pay14 (F := Ideal) x y z = w
  generalize k0_pay15 (F := Ideal) a = s
  pointwise [stored, unit]

/-- The store at lane 256. -/
theorem pay1_apply (c : BitVec 1) (s : Ideal .f32) (x y z : FVec Ideal S2304x512 .f32) (r : Fin 2304) (l : Fin 128) :
    k0_pay1 (F := Ideal) c s (k0_pay18 x y z) (k0_pay19 x y z) (ix3 0 r l) = stored c s (fun d => k0_pay14 (F := Ideal) x y z (ix2 r ⟨256 + d.val, by omega⟩)) l := by
  unfold k0_pay19 k0_pay18
  generalize k0_pay14 (F := Ideal) x y z = w
  pointwise [k0_pay1, stored, unit]

/-- The store at lane 384. -/
theorem pay2_apply (c : BitVec 1) (s : Ideal .f32) (w : FVec Ideal S2304x512 .f32) (r : Fin 2304) (l : Fin 128) :
    k0_pay2 (F := Ideal) w c s (ix3 0 r l) = stored c s (fun d => w (ix2 r ⟨384 + d.val, by omega⟩)) l := by
  pointwise [k0_pay2, stored, unit]

end Cert.Kernel11Ideal.Conv

end
-- ==== Proof.GdnConvValue.lean ====
/- The short convolution of the gated delta rule: the result array after the run is the reference's term of the arguments. -/
module

public import proofs.«01_k».proof.Proof.GdnConvSum
public import proofs.«01_k».proof.Proof.GdnConvHead
public import proofs.«01_k».proof.Proof.GdnConvBody
public import proofs.«01_k».proof.Proof.Gen.Kernel11Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference11Ideal.Conv

open Cert.Reference11Ideal Cert.Reference11Ideal.Gen Cert.Conv

/-- The convolution of all rows. -/
def convR (X : FVec Ideal S8x2304x4096 .bf16) (W : FVec Ideal S5x3072 .f32) : FVec Ideal S8x2304x3072 .f32 := rowsR (sumCtx (padCtx X) W) (sumLat (padLat X) W)

/-- The result. -/
def REF (X : FVec Ideal S8x2304x4096 .bf16) (W : FVec Ideal S5x3072 .f32) : FVec Ideal S8x2304x3072 .bf16 :=
  packR (qN (qR (headsR (convR X W)))) (kN (kR (headsR (convR X W)))) (vR (headsR (convR X W)))

/-- An entry of the convolution. -/
theorem convR_apply (X : FVec Ideal S8x2304x4096 .bf16) (W : FVec Ideal S5x3072 .f32) (b : Fin 8) (r : Fin 2304) (f : Fin 3072) :
    convR X W (ix3 b r f) = conv (fun r => X (ix3 b r ⟨f.val, by omega⟩)) (fun j => W (ix2 j f)) r := by
  unfold convR
  rw [rowsR_apply]
  by_cases h : r.val < 256
  · rw [dif_pos h]
    exact sumCtx_eq X W b ⟨r.val, h⟩ f
  · rw [dif_neg h]
    refine (sumLat_eq X W b ⟨r.val - 256, by omega⟩ f).trans ?_
    exact congrArg (conv _ _) (Fin.ext (by show 256 + (r.val - 256) = r.val; omega))

/-- The gated convolution of a row, by head and column. -/
def gated (X : FVec Ideal S8x2304x4096 .bf16) (W : FVec Ideal S5x3072 .f32) (b : Fin 8) (r : Fin 2304) (h : Fin 24) (d : Fin 128) : EReal :=
  silu (conv (fun r => X (ix3 b r ⟨h.val * 128 + d.val, by omega⟩)) (fun j => W (ix2 j ⟨h.val * 128 + d.val, by omega⟩)) r)

/-- A gated head of the reference. -/
theorem headsR_gated (X : FVec Ideal S8x2304x4096 .bf16) (W : FVec Ideal S5x3072 .f32) (b : Fin 8) (r : Fin 2304) (h : Fin 24) (d : Fin 128) :
    headsR (convR X W) (ix4 b r h d) = gated X W b r h d := by
  rw [headsR_apply, convR_apply]
  rfl

/-- The result at an entry. -/
theorem REF_apply (X : FVec Ideal S8x2304x4096 .bf16) (W : FVec Ideal S5x3072 .f32) (b : Fin 8) (r : Fin 2304) (f : Fin 3072) :
    REF X W (ix3 b r f) = head (f.val / 128) (gated X W b r ⟨f.val / 128, by omega⟩) ⟨f.val % 128, by omega⟩ := by
  unfold REF head
  rw [packR_apply]
  by_cases h : f.val / 128 < 8
  · rw [dif_pos h, if_pos h, qN_apply]
    simp only [qR_apply, headsR_gated]
  · rw [dif_neg h, if_neg h]
    by_cases h' : f.val / 128 < 16
    · have e : ∀ w, (⟨8 + (f.val / 128 - 8), w⟩ : Fin 24) = ⟨f.val / 128, by omega⟩ := fun w => Fin.ext (by dsimp only; omega)
      rw [dif_pos (show f.val / 128 - 8 < 8 by omega), if_pos h', kN_apply]
      simp only [kR_apply, headsR_gated, e]
    · have e : ∀ w, (⟨16 + (f.val / 128 - 8 - 8), w⟩ : Fin 24) = ⟨f.val / 128, by omega⟩ := fun w => Fin.ext (by dsimp only; omega)
      rw [dif_neg (show ¬ f.val / 128 - 8 < 8 by omega), if_neg h', vR_apply, headsR_gated, e]

end Cert.Reference11Ideal.Conv

namespace Cert.Kernel11Ideal.Conv

open Cert.Kernel11Ideal Cert.Kernel11Ideal.Gen Cert.Conv

/-- The rows of a block, read whole. -/
theorem ldx (X : Vec Ideal S1x2304x512 .bf16) : View.ld X r0_0 = X := by
  frame_out

/-- The weights of tap 0. -/
theorem ldw0 (X : Vec Ideal S5x512 .f32) (f : Fin 512) : View.ld X r0_2 (ix2 0 f) = X (ix2 0 f) := by
  pointwise

/-- The weights of tap 1. -/
theorem ldw1 (X : Vec Ideal S5x512 .f32) (f : Fin 512) : View.ld X r0_3 (ix2 0 f) = X (ix2 1 f) := by
  pointwise

/-- The weights of tap 2. -/
theorem ldw2 (X : Vec Ideal S5x512 .f32) (f : Fin 512) : View.ld X r0_1 (ix2 0 f) = X (ix2 2 f) := by
  pointwise

/-- The weights of tap 3. -/
theorem ldw3 (X : Vec Ideal S5x512 .f32) (f : Fin 512) : View.ld X r0_4 (ix2 0 f) = X (ix2 3 f) := by
  pointwise

/-- The weights of tap 4. -/
theorem ldw4 (X : Vec Ideal S5x512 .f32) (f : Fin 512) : View.ld X r0_5 (ix2 0 f) = X (ix2 4 f) := by
  pointwise

/-- The gated columns of a body. -/
def cols (i : grid0.Coords) (x0 : FVec Ideal S1x2304x512 .bf16) (x1 : FVec Ideal S5x512 .f32) : FVec Ideal S2304x512 .f32 :=
  k0_pay14 (F := Ideal) (k0_pay23 i x0 x1) (k0_pay24 i x0 x1) (k0_pay25 i x0 x1)

/-- An entry of them: the gated convolution of the block's column. -/
theorem cols_apply (i : grid0.Coords) (x0 : FVec Ideal S1x2304x512 .bf16) (x1 : FVec Ideal S5x512 .f32) (r : Fin 2304) (f : Fin 512) :
    cols i x0 x1 (ix2 r f) = silu (conv (fun r => x0 (ix3 0 r f)) (fun j => x1 (ix2 j f)) r) := by
  unfold cols
  rw [pay14_apply]
  unfold k0_pay23 k0_pay24 k0_pay25 k0_pay20 k0_pay21 k0_pay22
  rw [pay11_apply, pay12_apply, pay13_apply, pay7_apply, pay8_apply, pay9_apply, pay10_apply, pay5_apply, pay6_apply]
  rw [ldx, ldw0, ldw1, ldw2, ldw3, ldw4]
  simp only [fun r f => pay3_apply x0 r f]
  have e0 := sel0 (fun r => x0 (ix3 0 r f)) r
  have e1 := sel1 (fun r => x0 (ix3 0 r f)) r
  have e3 := sel3 (fun r => x0 (ix3 0 r f)) r
  have e4 := sel4 (fun r => x0 (ix3 0 r f)) r
  have e2 := tap2 (fun r => x0 (ix3 0 r f)) r
  unfold near at e1
  beta_reduce at e0 e1 e2 e3 e4
  rw [e0, e1, e3, e4, ← e2]
  unfold conv
  congr 1
  rw [add_comm (tap _ 2 r * _) (tap _ 0 r * _), add_right_comm (tap _ 0 r * _) (tap _ 2 r * _) (tap _ 1 r * _)]

variable (m : (ℓ : Loc nD τ sig) → Buf (Elt Ideal) ℓ) (c : Dev nD)

/-- The windows' block indices at point `t`: batch `t / 6`, columns' block `t % 6`. -/
theorem idx : ∀ t : Fin cfg0.N, win0_0.index t = ![t.val / 6, 0, t.val % 6] ∧ win0_1.index t = ![0, t.val % 6] ∧ win0_2.index t = ![t.val / 6, 0, t.val % 6] :=
  (by decide +kernel : ∀ t : Fin grid0.N, _)

/-- A point's columns' block is its second coordinate. -/
theorem coord : ∀ t : Fin cfg0.N, (grid0.coords t 1).val = t.val % 6 :=
  (by decide +kernel : ∀ t : Fin grid0.N, _)

/-- A point's batch. -/
def bat (t : Fin cfg0.N) : Fin 8 := ⟨t.val / 6, by have h : t.val < 48 := t.isLt; omega⟩

/-- A point's column. -/
def col (t : Fin cfg0.N) (f : Fin 512) : Fin 3072 := ⟨t.val % 6 * 512 + f.val, by omega⟩

/-- A point's rows. -/
theorem blk0 (t : Fin cfg0.N) (r : Fin 2304) (f : Fin 512) : iblk m c 0 t (ix3 0 r f) = m ((c : Thread nD τ).loc main_arg0) (ix3 (bat t) r ⟨t.val % 6 * 512 + f.val, by omega⟩) := by
  unfold bat
  blk_ext [iblk, V, idx t]

/-- A point's weights. -/
theorem blk1 (t : Fin cfg0.N) (j : Fin 5) (f : Fin 512) : iblk m c 1 t (ix2 j f) = m ((c : Thread nD τ).loc main_arg1) (ix2 j (col t f)) := by
  unfold col
  blk_ext [iblk, V, idx t]

/-- Where a point's block lies in the result. -/
theorem emb2 (t : Fin cfg0.N) (r : Fin 2304) (f : Fin 512) : ((View.whole main_v0).slice (win0_2.rect t)).emb (ix3 0 r f) = ix3 (bat t) r (col t f) := by
  obtain ⟨-, -, h⟩ := idx t
  funext a
  apply Fin.ext
  refine (Pipeline.Window.rect_emb_val win0_2 t (ix3 0 r f) a).trans ?_
  rw [h]
  fin_cases a <;> simp [bat, col, win0_2]

/-- What is stored of head `k` of a block's four is what the head's number among the 24 says. -/
theorem stored_eq (n : ℕ) (hn : n < 6) (k : ℕ) (hk : k < 4) (y : Fin 128 → EReal) (d : Fin 128) :
    stored (Scalar.cmpi .slt (BitVec.ofNat 32 n) 4#32) (k0_pay15 (F := Ideal) (BitVec.ofNat 32 n)) y d = head (n * 4 + k) y d := by
  unfold stored head k0_pay15
  have one : (Ideal.ofBits .f32 0x3F800000#32 : EReal) = 1 := by pointwise
  by_cases h : n < 2
  · rw [if_pos (show n * 4 + k < 8 by omega)]
    interval_cases n <;> rfl
  · rw [if_neg (show ¬ n * 4 + k < 8 by omega)]
    by_cases h' : n < 4
    · rw [if_pos (show n * 4 + k < 16 by omega)]
      have e : unit y d * Ideal.ofBits .f32 0x3F800000#32 = unit y d := by rw [one, mul_one]
      refine Eq.trans ?_ e
      interval_cases n <;> rfl
    · rw [if_neg (show ¬ n * 4 + k < 16 by omega)]
      interval_cases n <;> rfl

/-- A point's columns are the reference's gated convolution. -/
theorem cols_eq (t : Fin cfg0.N) (r : Fin 2304) (k : Fin 4) (d : Fin 128) (u) (w) :
    cols (grid0.coords t) (iblk m c 0 t) (iblk m c 1 t) (ix2 r ⟨k.val * 128 + d.val, u⟩) = Cert.Reference11Ideal.Conv.gated (m ((c : Thread nD τ).loc main_arg0)) (m ((c : Thread nD τ).loc main_arg1)) (bat t) r ⟨t.val % 6 * 4 + k.val, w⟩ d := by
  refine (cols_apply (grid0.coords t) (iblk m c 0 t) (iblk m c 1 t) r ⟨k.val * 128 + d.val, u⟩).trans ?_
  unfold Cert.Reference11Ideal.Conv.gated
  have e0 : ∀ v w, (⟨t.val % 6 * 512 + (k.val * 128 + d.val), v⟩ : Fin 4096) = ⟨(t.val % 6 * 4 + k.val) * 128 + d.val, w⟩ := fun v w => Fin.ext (by dsimp only; omega)
  have e1 : ∀ w, col t ⟨k.val * 128 + d.val, u⟩ = ⟨(t.val % 6 * 4 + k.val) * 128 + d.val, w⟩ := fun w => Fin.ext (by show t.val % 6 * 512 + (k.val * 128 + d.val) = (t.val % 6 * 4 + k.val) * 128 + d.val; omega)
  refine congrArg silu (congrArg₂ (fun x w => conv x w r) (funext fun r => ?_) (funext fun j => ?_))
  · exact (blk0 m c t r ⟨k.val * 128 + d.val, u⟩).trans (congrArg (fun i => (m ((c : Thread nD τ).loc main_arg0)) (ix3 (bat t) r i)) (e0 _ _))
  · exact (blk1 m c t j ⟨k.val * 128 + d.val, u⟩).trans (congrArg (fun i => (m ((c : Thread nD τ).loc main_arg1)) (ix2 j i)) (e1 _))

/-- The store of head `k` of a point's four holds the reference's entries there. -/
theorem point2 (t : Fin cfg0.N) (y : S1x2304x512.Idx) (x : S1x2304x128.Idx) (k : Fin 4) (o : ℕ) (ho : o = k.val * 128)
    (h1 : (y 1 : ℕ) = (x 1 : ℕ)) (h2 : (y 2 : ℕ) = o + (x 2 : ℕ)) (Q : FVec Ideal S1x2304x128 .bf16)
    (hQ : ∀ (r : Fin 2304) (l : Fin 128), Q (ix3 0 r l)
      = stored (Scalar.cmpi .slt (BitVec.ofNat 32 (grid0.coords t 1).val) 4#32) (k0_pay15 (F := Ideal) (BitVec.ofNat 32 (grid0.coords t 1).val)) (fun d => cols (grid0.coords t) (iblk m c 0 t) (iblk m c 1 t) (ix2 r ⟨k.val * 128 + d.val, by omega⟩)) l) :
    Q x = Cert.Reference11Ideal.Conv.REF (m ((c : Thread nD τ).loc main_arg0)) (m ((c : Thread nD τ).loc main_arg1)) (((View.whole main_v0).slice (win0_2.rect t)).emb y) := by
  obtain ⟨r, l, rfl⟩ : ∃ (r : Fin 2304) (l : Fin 128), x = ix3 0 r l :=
    ⟨x 1, x 2, by funext a; fin_cases a <;> first | rfl | exact Subsingleton.elim (α := Fin 1) _ _⟩
  have hy : y = ix3 0 r ⟨k.val * 128 + l.val, by omega⟩ := by
    funext a
    fin_cases a
    · exact Subsingleton.elim (α := Fin 1) _ _
    · exact Fin.ext h1
    · exact Fin.ext (h2.trans (congrArg (· + l.val) ho))
  rw [hy]
  refine Eq.trans ?_ (congrArg (Cert.Reference11Ideal.Conv.REF (m ((c : Thread nD τ).loc main_arg0)) (m ((c : Thread nD τ).loc main_arg1))) (emb2 t r ⟨k.val * 128 + l.val, by omega⟩)).symm
  refine (hQ r l).trans (Eq.trans ?_ (Cert.Reference11Ideal.Conv.REF_apply (m ((c : Thread nD τ).loc main_arg0)) (m ((c : Thread nD τ).loc main_arg1)) (bat t) r (col t ⟨k.val * 128 + l.val, by omega⟩)).symm)
  have ht : t.val % 6 < 6 := Nat.mod_lt _ (by omega)
  rw [coord t, stored_eq (t.val % 6) ht k.val k.isLt]
  have e1 : (col t ⟨k.val * 128 + l.val, by omega⟩).val / 128 = t.val % 6 * 4 + k.val := by show (t.val % 6 * 512 + (k.val * 128 + l.val)) / 128 = _; omega
  have e2 : ∀ u w, (⟨(col t ⟨k.val * 128 + l.val, u⟩).val % 128, w⟩ : Fin 128) = l := fun u w => Fin.ext (by show (t.val % 6 * 512 + (k.val * 128 + l.val)) % 128 = l.val; omega)
  simp only [e1, e2]
  exact congrArg (fun z => head (t.val % 6 * 4 + k.val) z l) (funext fun d => cols_eq m c t r k d _ _)

set_option maxHeartbeats 2000000 in
/-- The result array after the run. -/
theorem final2 : (dats m 0 c).arrAt 2 (cfgs 0).N = Cert.Reference11Ideal.Conv.REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  canon_tiles x k
  · exact point2 m c t y x 3 384 rfl k1 k2 _ fun r l => pay2_apply _ _ _ r l
  · exact point2 m c t y x 2 256 rfl k1 k2 _ fun r l => pay1_apply _ _ _ _ _ r l
  · exact point2 m c t y x 1 128 rfl k1 k2 _ fun r l => pay17_apply _ _ _ _ r l
  · exact point2 m c t y x 0 0 rfl k1 (k2.trans (Nat.zero_add _).symm) _ fun r l => (pay16_apply _ _ _ _ r l).trans (by simp only [Fin.val_zero, Nat.zero_mul, Nat.zero_add]; rfl)

end Cert.Kernel11Ideal.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Pre_rotary_tables_normed
public import proofs.«01_k».proof.Proof.Gen.Pre_rotary_tables
public import proofs.«01_k».proof.Proof.Gen.Pre_heads_twice
public import proofs.«01_k».proof.Proof.Gen.Pre_tables_in_range
public import proofs.«01_k».proof.Proof.ExpertsTables
public import proofs.«01_k».proof.Proof.ExpertsValue
public import proofs.«01_k».proof.Proof.InProjValue
public import proofs.«01_k».proof.Proof.AttnValue
public import proofs.«01_k».proof.Proof.MixOutValue
public import proofs.«01_k».proof.Proof.QkvValue
public import proofs.«01_k».proof.Proof.QkvNormPre
public import proofs.«01_k».proof.Proof.QkvNormValue
public import proofs.«01_k».proof.Proof.GdnOutValue
public import proofs.«01_k».proof.Proof.FinalNorm
public import proofs.«01_k».proof.Proof.Combine
public import proofs.«01_k».proof.Proof.Adaln
public import proofs.«01_k».proof.Proof.GdnConvValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

attribute [local instance] Cert.Pre_tables_in_range.Gen.facts Cert.Kernel.Gen.facts Cert.KernelIdeal.Gen.facts Cert.ReferenceIdeal.Gen.facts
  Cert.Kernel2.Gen.facts Cert.Kernel2Ideal.Gen.facts Cert.Reference2Ideal.Gen.facts
  Cert.Kernel3.Gen.facts Cert.Kernel3Ideal.Gen.facts Cert.Reference3Ideal.Gen.facts Cert.Pre_heads_twice.Gen.facts
  Cert.Kernel4.Gen.facts Cert.Kernel4Ideal.Gen.facts Cert.Reference4Ideal.Gen.facts
  Cert.Kernel5.Gen.facts Cert.Kernel5Ideal.Gen.facts Cert.Reference5Ideal.Gen.facts Cert.Pre_rotary_tables.Gen.facts

/-- The precondition on the arguments puts every window of the kernel inside its array. -/
theorem ok_Kernel (m : (ℓ : Loc Cert.Kernel.nD Cert.Kernel.τ Cert.Kernel.sig) → Buf (Elt Bits) ℓ) (h : Pre_Kernel m) : Cert.Kernel.Experts.Ok m := by
  have hIn := Cert.Kernel.Experts.inRange_of_pre (h 0).1 (h 0).2
  have hT : Cert.Kernel.Experts.tilesOf (Cert.Kernel.Experts.tbl m) = m (((0 : Dev Cert.Kernel.nD) : Thread Cert.Kernel.nD Cert.Kernel.τ).loc Cert.Kernel.main_arg1) :=
    Cert.Kernel.Experts.V_kept m 0 Cert.Kernel.main_arg1 (by decide) (by decide) (by decide) (by decide)
  have hU : Cert.Kernel.Experts.usedOf (Cert.Kernel.Experts.tbl m) = m (((0 : Dev Cert.Kernel.nD) : Thread Cert.Kernel.nD Cert.Kernel.τ).loc Cert.Kernel.main_arg2) :=
    Cert.Kernel.Experts.V_kept m 0 Cert.Kernel.main_arg2 (by decide) (by decide) (by decide) (by decide)
  exact Cert.Kernel.Experts.ok_of_inRange _ (by rw [hT, hU]; exact hIn)

/-- The same of the idealized kernel, with the range of its tables on every device. -/
theorem inRange_KernelIdeal (m : (ℓ : Loc Cert.KernelIdeal.nD Cert.KernelIdeal.τ Cert.KernelIdeal.sig) → Buf (Elt Ideal) ℓ) (h : Pre_KernelIdeal m) (c : Dev Cert.KernelIdeal.nD) :
    Cert.KernelIdeal.Experts.InRange (m ((c : Thread Cert.KernelIdeal.nD Cert.KernelIdeal.τ).loc Cert.KernelIdeal.main_arg1)) (m ((c : Thread Cert.KernelIdeal.nD Cert.KernelIdeal.τ).loc Cert.KernelIdeal.main_arg2)) :=
  Cert.KernelIdeal.Experts.inRange_of_pre (h c).1 (h c).2

/-- Every window of the idealized kernel lies inside its array. -/
theorem ok_KernelIdeal (m : (ℓ : Loc Cert.KernelIdeal.nD Cert.KernelIdeal.τ Cert.KernelIdeal.sig) → Buf (Elt Ideal) ℓ) (h : Pre_KernelIdeal m) : Cert.KernelIdeal.Experts.Ok m := by
  have hIn := inRange_KernelIdeal m h 0
  exact Cert.KernelIdeal.Experts.ok_of_inRange _ (by rw [Cert.KernelIdeal.Experts.tilesOf_eq m 0, Cert.KernelIdeal.Experts.usedOf_eq m 0]; exact hIn)

/-- The kernel runs to its end, leaving its arguments unchanged and every counter at zero. -/
theorem frame_Kernel : quiescent_Kernel := fun m g h =>
  (θ_run Cert.Kernel.defs _ _).mono (fun _ hr => ⟨fun c => (hr.1 c).2, hr.2⟩) (Cert.Kernel.Experts.run m g (ok_Kernel m h))

/-- So does the idealized kernel. -/
theorem frame_KernelIdeal : quiescent_KernelIdeal := fun m g h =>
  (θ_run Cert.KernelIdeal.defs _ _).mono (fun _ hr => ⟨fun c => (hr.1 c).2, hr.2⟩) (Cert.KernelIdeal.Experts.run m g (ok_KernelIdeal m h))

/-- So does the reference, which has no counter. -/
theorem frame_ReferenceIdeal : quiescent_ReferenceIdeal := fun m g _ =>
  (θ_run Cert.ReferenceIdeal.defs _ _).mono (fun r hr => ⟨fun c => (hr c).2, sem_eq_zero_of_no_sems rfl r.2⟩) (Cert.ReferenceIdeal.Value.run m g)

/-- Kernel and reference end with the same result. -/
theorem same_result : algebraic_KernelIdeal_ReferenceIdeal := by
  intro m g m' g' hpre hagree
  refine ⟨fun c => (Cert.KernelIdeal.Experts.dats m (ok_KernelIdeal m hpre) 0 c).arrAt 5 (Cert.KernelIdeal.Experts.cfgM m (ok_KernelIdeal m hpre)).N,
    (θ_run Cert.KernelIdeal.defs _ _).mono (fun _ hr => hr.1) (Cert.KernelIdeal.Experts.run m g (ok_KernelIdeal m hpre)),
    (θ_run Cert.ReferenceIdeal.defs _ _).mono (fun r hr c => ⟨?_, (hr c).2⟩) (Cert.ReferenceIdeal.Value.run m' g')⟩
  obtain ⟨h0, h1, h2, h3, h4, h5, h6⟩ := hagree c
  refine (hr c).1.trans (Eq.trans ?_ (Cert.KernelIdeal.Experts.final m (ok_KernelIdeal m hpre) c (inRange_KernelIdeal m hpre c)).symm)
  rw [← h0, ← h1, ← h2, ← h3, ← h4, ← h5, ← h6]
  rfl

/-- The input projection runs to its end, leaving its arguments unchanged and every counter at zero. -/
theorem frame_Kernel2 : quiescent_Kernel2 := fun m g _ => Cert.Kernel2.Gen.frame m g

/-- So does the idealized input projection. -/
theorem frame_Kernel2Ideal : quiescent_Kernel2Ideal := fun m g _ => Cert.Kernel2Ideal.Gen.frame m g

/-- So does its reference, which has no counter. -/
theorem frame_Reference2Ideal : quiescent_Reference2Ideal := fun m g _ =>
  (θ_run Cert.Reference2Ideal.defs _ _).mono (fun r hr => ⟨fun c => (hr c).2.2, sem_eq_zero_of_no_sems rfl r.2⟩) (Cert.Reference2Ideal.Value.run m g)

/-- The input projection and its reference end with the same two results. -/
theorem same_result2 : algebraic_Kernel2Ideal_Reference2Ideal := by
  intro m g m' g' _ hagree
  refine ⟨fun c => (Cert.Kernel2Ideal.Gen.dats m 0 c).arrAt 4 (Cert.Kernel2Ideal.cfgs 0).N, fun c => (Cert.Kernel2Ideal.Gen.dats m 0 c).arrAt 5 (Cert.Kernel2Ideal.cfgs 0).N,
    Cert.Kernel2Ideal.Value.run_blocks m g,
    (θ_run Cert.Reference2Ideal.defs _ _).mono (fun r hr c => ⟨?_, ?_, (hr c).2.2⟩) (Cert.Reference2Ideal.Value.run m' g')⟩
  · obtain ⟨h0, h1, h2, h3⟩ := hagree c
    refine (hr c).1.trans (Eq.trans ?_ (Cert.Kernel2Ideal.InProj.final4 m c).symm)
    rw [← h0, ← h1, ← h2, ← h3]
    rfl
  · obtain ⟨h0, h1, h2, h3⟩ := hagree c
    refine (hr c).2.1.trans (Eq.trans ?_ (Cert.Kernel2Ideal.InProj.final5 m c).symm)
    rw [← h0, ← h1, ← h2, ← h3]
    rfl

/-- The attention runs to its end, leaving its argument unchanged and every counter at zero. -/
theorem frame_Kernel3 : quiescent_Kernel3 := fun m g _ => Cert.Kernel3.Gen.frame m g

/-- So does the idealized attention. -/
theorem frame_Kernel3Ideal : quiescent_Kernel3Ideal := fun m g _ => Cert.Kernel3Ideal.Gen.frame m g

/-- The same under the precondition on the layout. -/
theorem frame_Kernel3Ideal_pre : quiescent_Kernel3Ideal_pre_heads_twice := fun m g _ => Cert.Kernel3Ideal.Gen.frame m g

/-- So does its reference, which has no counter. -/
theorem frame_Reference3Ideal : quiescent_Reference3Ideal := fun m g _ =>
  (θ_run Cert.Reference3Ideal.defs _ _).mono (fun r hr => ⟨fun c => (hr c).2, sem_eq_zero_of_no_sems rfl r.2⟩) (Cert.Reference3Ideal.Value.run m g)

/-- The same under the precondition on the layout. -/
theorem frame_Reference3Ideal_pre : quiescent_Reference3Ideal_pre_heads_twice := fun m g _ =>
  (θ_run Cert.Reference3Ideal.defs _ _).mono (fun r hr => ⟨fun c => (hr c).2, sem_eq_zero_of_no_sems rfl r.2⟩) (Cert.Reference3Ideal.Value.run m g)

/-- The attention and its reference end with the same result. -/
theorem same_result3 : algebraic_Kernel3Ideal_Reference3Ideal_pre_heads_twice := by
  intro m g m' g' hpre hagree
  refine ⟨fun c => (Cert.Kernel3Ideal.Gen.dats m 0 c).arrAt 4 (Cert.Kernel3Ideal.cfgs 0).N,
    Cert.Kernel3Ideal.Value.run_blocks m g,
    (θ_run Cert.Reference3Ideal.defs _ _).mono (fun r hr c => ⟨?_, (hr c).2⟩) (Cert.Reference3Ideal.Value.run m' g')⟩
  obtain ⟨p1, p2, p3, p4⟩ := hpre c
  refine (hr c).1.trans (Eq.trans ?_ (Cert.Kernel3Ideal.Attn.final m c (Cert.Kernel3Ideal.Attn.twice_of_pre _ p1 p2 p3 p4)).symm)
  rw [← hagree c]
  rfl

/-- The output projection runs to its end, leaving its arguments unchanged and every counter at zero. -/
theorem frame_Kernel4 : quiescent_Kernel4 := fun m g _ => Cert.Kernel4.Gen.frame m g

/-- So does the idealized output projection. -/
theorem frame_Kernel4Ideal : quiescent_Kernel4Ideal := fun m g _ => Cert.Kernel4Ideal.Gen.frame m g

/-- So does its reference, which has no counter. -/
theorem frame_Reference4Ideal : quiescent_Reference4Ideal := fun m g _ =>
  (θ_run Cert.Reference4Ideal.defs _ _).mono (fun r hr => ⟨fun c => (hr c).2.2, sem_eq_zero_of_no_sems rfl r.2⟩) (Cert.Reference4Ideal.Value.run m g)

/-- The output projection and its reference end with the same two results. -/
theorem same_result4 : algebraic_Kernel4Ideal_Reference4Ideal := by
  intro m g m' g' _ hagree
  refine ⟨fun c => (Cert.Kernel4Ideal.Gen.dats m 0 c).arrAt 8 (Cert.Kernel4Ideal.cfgs 0).N, fun c => (Cert.Kernel4Ideal.Gen.dats m 0 c).arrAt 9 (Cert.Kernel4Ideal.cfgs 0).N,
    Cert.Kernel4Ideal.MixOut.run_arrays m g,
    (θ_run Cert.Reference4Ideal.defs _ _).mono (fun r hr c => ⟨?_, ?_, (hr c).2.2⟩) (Cert.Reference4Ideal.Value.run m' g')⟩
  · obtain ⟨h0, h1, h2, h3, h4, h5, h6, h7⟩ := hagree c
    refine (hr c).1.trans (Eq.trans ?_ (Cert.Kernel4Ideal.MixOut.final8 m c).symm)
    rw [← h0, ← h1, ← h2, ← h3, ← h4]
    rfl
  · obtain ⟨h0, h1, h2, h3, h4, h5, h6, h7⟩ := hagree c
    refine (hr c).2.1.trans (Eq.trans ?_ (Cert.Kernel4Ideal.MixOut.final9 m c).symm)
    rw [← h0, ← h1, ← h2, ← h3, ← h4, ← h5]
    rfl

/-- The projection to queries, keys and values runs to its end, leaving its arguments unchanged and every counter at zero. -/
theorem frame_Kernel5 : quiescent_Kernel5 := fun m g _ => Cert.Kernel5.Gen.frame m g

/-- So does the idealized projection. -/
theorem frame_Kernel5Ideal : quiescent_Kernel5Ideal := fun m g _ => Cert.Kernel5Ideal.Gen.frame m g

/-- The same under the precondition on the rotary tables. -/
theorem frame_Kernel5Ideal_pre : quiescent_Kernel5Ideal_pre_rotary_tables := fun m g _ => Cert.Kernel5Ideal.Gen.frame m g

/-- So does its reference, which has no counter. -/
theorem frame_Reference5Ideal : quiescent_Reference5Ideal := fun m g _ =>
  (θ_run Cert.Reference5Ideal.defs _ _).mono (fun r hr => ⟨fun c => (hr c).2, sem_eq_zero_of_no_sems rfl r.2⟩) (Cert.Reference5Ideal.Value.run m g)

/-- The same under the precondition on the rotary tables. -/
theorem frame_Reference5Ideal_pre : quiescent_Reference5Ideal_pre_rotary_tables := fun m g _ =>
  (θ_run Cert.Reference5Ideal.defs _ _).mono (fun r hr => ⟨fun c => (hr c).2, sem_eq_zero_of_no_sems rfl r.2⟩) (Cert.Reference5Ideal.Value.run m g)

/-- The projection to queries, keys and values and its reference end with the same result. -/
theorem same_result5 : algebraic_Kernel5Ideal_Reference5Ideal_pre_rotary_tables := by
  intro m g m' g' hpre hagree
  refine ⟨fun c => (Cert.Kernel5Ideal.Gen.dats m 0 c).arrAt 8 (Cert.Kernel5Ideal.cfgs 0).N,
    Cert.Kernel5Ideal.Value.run_blocks m g,
    (θ_run Cert.Reference5Ideal.defs _ _).mono (fun r hr c => ⟨?_, (hr c).2⟩) (Cert.Reference5Ideal.Value.run m' g')⟩
  obtain ⟨p1, p2, p3, p4, p5, p6⟩ := hpre c
  obtain ⟨h0, h1, h2, h3, h4, h5, h6⟩ := hagree c
  refine (hr c).1.trans (Eq.trans ?_ (Cert.Kernel5Ideal.Qkv.final8 m c (Cert.Pre_rotary_tables.Qkv.tables_of_pre _ _ _ _ _ _ _ p1 p2 p3 p4 p5 p6)).symm)
  rw [← h0, ← h1, ← h2, ← h3, ← h4, ← h5, ← h6]
  rfl

/-- The output projection after the gated delta rule runs to its end, leaving its arguments unchanged and every counter at zero. -/
theorem frame_Kernel6 : quiescent_Kernel6 := fun m g _ => Cert.Kernel6.Gen.frame m g

/-- So does the idealized output projection. -/
theorem frame_Kernel6Ideal : quiescent_Kernel6Ideal := fun m g _ => Cert.Kernel6Ideal.Gen.frame m g

/-- So does its reference, which has no counter. -/
theorem frame_Reference6Ideal : quiescent_Reference6Ideal := fun m g _ =>
  (θ_run Cert.Reference6Ideal.defs _ _).mono (fun r hr => ⟨fun c => (hr c).2.2, sem_eq_zero_of_no_sems rfl r.2⟩) (Cert.Reference6Ideal.Value.run m g)

/-- The output projection after the gated delta rule and its reference end with the same two results. -/
theorem same_result6 : algebraic_Kernel6Ideal_Reference6Ideal := by
  intro m g m' g' _ hagree
  refine ⟨fun c => (Cert.Kernel6Ideal.Gen.dats m 0 c).arrAt 11 (Cert.Kernel6Ideal.cfgs 0).N, fun c => (Cert.Kernel6Ideal.Gen.dats m 0 c).arrAt 12 (Cert.Kernel6Ideal.cfgs 0).N,
    Cert.Kernel6Ideal.GdnOut.run_arrays m g,
    (θ_run Cert.Reference6Ideal.defs _ _).mono (fun r hr c => ⟨?_, ?_, (hr c).2.2⟩) (Cert.Reference6Ideal.Value.run m' g')⟩
  · obtain ⟨h0, h1, h2, h3, h4, h5, h6, h7, h8, h9⟩ := hagree c
    refine (hr c).1.trans (Eq.trans ?_ (Cert.Kernel6Ideal.GdnOut.final11 m c).symm)
    rw [← h0, ← h1, ← h2, ← h3, ← h4, ← h5, ← h6]
    rfl
  · obtain ⟨h0, h1, h2, h3, h4, h5, h6, h7, h8, h9⟩ := hagree c
    refine (hr c).2.1.trans (Eq.trans ?_ (Cert.Kernel6Ideal.GdnOut.final12 m c).symm)
    rw [← h0, ← h1, ← h2, ← h3, ← h4, ← h5, ← h6, ← h7]
    rfl

/-- The projection with normed queries and keys runs to its end, leaving its arguments unchanged and every counter at zero. -/
theorem frame_Kernel7 : quiescent_Kernel7 := fun m g _ => Cert.Kernel7.Gen.frame m g

/-- So does the idealized projection with norms. -/
theorem frame_Kernel7Ideal : quiescent_Kernel7Ideal := fun m g _ => Cert.Kernel7Ideal.Gen.frame m g

/-- The same under the precondition on the rotary tables. -/
theorem frame_Kernel7Ideal_pre : quiescent_Kernel7Ideal_pre_rotary_tables_normed := fun m g _ => Cert.Kernel7Ideal.Gen.frame m g

/-- So does its reference, which has no counter. -/
theorem frame_Reference7Ideal : quiescent_Reference7Ideal := fun m g _ =>
  (θ_run Cert.Reference7Ideal.defs _ _).mono (fun r hr => ⟨fun c => (hr c).2, sem_eq_zero_of_no_sems rfl r.2⟩) (Cert.Reference7Ideal.Value.run m g)

/-- The same under the precondition on the rotary tables. -/
theorem frame_Reference7Ideal_pre : quiescent_Reference7Ideal_pre_rotary_tables_normed := fun m g _ =>
  (θ_run Cert.Reference7Ideal.defs _ _).mono (fun r hr => ⟨fun c => (hr c).2, sem_eq_zero_of_no_sems rfl r.2⟩) (Cert.Reference7Ideal.Value.run m g)

/-- The projection with normed queries and keys and its reference end with the same result. -/
theorem same_result7 : algebraic_Kernel7Ideal_Reference7Ideal_pre_rotary_tables_normed := by
  intro m g m' g' hpre hagree
  refine ⟨fun c => (Cert.Kernel7Ideal.Gen.dats m 0 c).arrAt 8 (Cert.Kernel7Ideal.cfgs 0).N,
    Cert.Kernel7Ideal.Value.run_blocks m g,
    (θ_run Cert.Reference7Ideal.defs _ _).mono (fun r hr c => ⟨?_, (hr c).2⟩) (Cert.Reference7Ideal.Value.run m' g')⟩
  obtain ⟨p1, p2, p3, p4, p5, p6⟩ := hpre c
  obtain ⟨h0, h1, h2, h3, h4, h5, h6, h7⟩ := hagree c
  refine (hr c).1.trans (Eq.trans ?_ (Cert.Kernel7Ideal.Qkv.final8 m c (Cert.Pre_rotary_tables_normed.Qkv.tables_of_pre _ _ _ _ _ _ _ _ p1 p2 p3 p4 p5 p6)).symm)
  rw [← h0, ← h1, ← h2, ← h3, ← h4, ← h5, ← h6, ← h7]
  rfl

/-- The last norm runs to its end, leaving its arguments unchanged and every counter at zero. -/
theorem frame_Kernel8 : quiescent_Kernel8 := fun m g _ => Cert.Kernel8.Gen.frame m g

/-- So does its idealization. -/
theorem frame_Kernel8Ideal : quiescent_Kernel8Ideal := fun m g _ => Cert.Kernel8Ideal.Gen.frame m g

/-- So does its reference, which has no counter. -/
theorem frame_Reference8Ideal : quiescent_Reference8Ideal := fun m g _ =>
  (θ_run Cert.Reference8Ideal.defs _ _).mono (fun r hr => ⟨fun c => (hr c).2, sem_eq_zero_of_no_sems rfl r.2⟩) (Cert.Reference8Ideal.Value.run m g)

/-- The last norm and its reference end with the same array. -/
theorem same_result8 : algebraic_Kernel8Ideal_Reference8Ideal := by
  intro m g m' g' _ hagree
  refine ⟨fun c => (Cert.Kernel8Ideal.Gen.dats m 0 c).arrAt 2 (Cert.Kernel8Ideal.cfgs 0).N,
    Cert.Kernel8Ideal.Value.run_blocks m g,
    (θ_run Cert.Reference8Ideal.defs _ _).mono (fun r hr c => ⟨?_, (hr c).2⟩) (Cert.Reference8Ideal.Value.run m' g')⟩
  obtain ⟨h0, h1⟩ := hagree c
  refine (hr c).1.trans (Eq.trans ?_ (Cert.Kernel8Ideal.Final.final2 m c).symm)
  rw [← h0, ← h1]
  rfl

/-- The combination of the experts' rows runs to its end, leaving its arguments unchanged and every counter at zero. -/
theorem frame_Kernel9 : quiescent_Kernel9 := fun m g _ => Cert.Kernel9.Gen.frame m g

/-- So does its idealization. -/
theorem frame_Kernel9Ideal : quiescent_Kernel9Ideal := fun m g _ => Cert.Kernel9Ideal.Gen.frame m g

/-- So does its reference, which has no counter. -/
theorem frame_Reference9Ideal : quiescent_Reference9Ideal := fun m g _ =>
  (θ_run Cert.Reference9Ideal.defs _ _).mono (fun r hr => ⟨fun c => (hr c).2, sem_eq_zero_of_no_sems rfl r.2⟩) (Cert.Reference9Ideal.Value.run m g)

/-- The combination of the experts' rows and its reference end with the same array. -/
theorem same_result9 : algebraic_Kernel9Ideal_Reference9Ideal := by
  intro m g m' g' _ hagree
  refine ⟨fun c => (Cert.Kernel9Ideal.Gen.dats m 0 c).arrAt 4 (Cert.Kernel9Ideal.cfgs 0).N,
    Cert.Kernel9Ideal.Value.run_blocks m g,
    (θ_run Cert.Reference9Ideal.defs _ _).mono (fun r hr c => ⟨?_, (hr c).2⟩) (Cert.Reference9Ideal.Value.run m' g')⟩
  obtain ⟨h0, h1, h2, h3⟩ := hagree c
  refine (hr c).1.trans (Eq.trans ?_ (Cert.Kernel9Ideal.Combine.final4 m c).symm)
  rw [← h0, ← h1, ← h2, ← h3]
  rfl

/-- The modulation of the layers runs to its end, leaving its arguments unchanged and every counter at zero. -/
theorem frame_Kernel10 : quiescent_Kernel10 := fun m g _ => Cert.Kernel10.Gen.frame m g

/-- So does its idealization. -/
theorem frame_Kernel10Ideal : quiescent_Kernel10Ideal := fun m g _ => Cert.Kernel10Ideal.Gen.frame m g

/-- So does its reference, which has no counter. -/
theorem frame_Reference10Ideal : quiescent_Reference10Ideal := fun m g _ =>
  (θ_run Cert.Reference10Ideal.defs _ _).mono (fun r hr => ⟨fun c => (hr c).2, sem_eq_zero_of_no_sems rfl r.2⟩) (Cert.Reference10Ideal.Value.run m g)

/-- The convolution of the gated delta rule runs to its end, leaving its arguments unchanged and every counter at zero. -/
theorem frame_Kernel11 : quiescent_Kernel11 := fun m g _ => Cert.Kernel11.Gen.frame m g

/-- So does its idealization. -/
theorem frame_Kernel11Ideal : quiescent_Kernel11Ideal := fun m g _ => Cert.Kernel11Ideal.Gen.frame m g

/-- So does its reference, which has no counter. -/
theorem frame_Reference11Ideal : quiescent_Reference11Ideal := fun m g _ =>
  (θ_run Cert.Reference11Ideal.defs _ _).mono (fun r hr => ⟨fun c => (hr c).2, sem_eq_zero_of_no_sems rfl r.2⟩) (Cert.Reference11Ideal.Value.run m g)

/-- The convolution of the gated delta rule and its reference end with the same array. -/
theorem same_result11 : algebraic_Kernel11Ideal_Reference11Ideal := by
  intro m g m' g' _ hagree
  refine ⟨fun c => (Cert.Kernel11Ideal.Gen.dats m 0 c).arrAt 2 (Cert.Kernel11Ideal.cfgs 0).N,
    Cert.Kernel11Ideal.Value.run_blocks m g,
    (θ_run Cert.Reference11Ideal.defs _ _).mono (fun r hr c => ⟨?_, (hr c).2⟩) (Cert.Reference11Ideal.Value.run m' g')⟩
  obtain ⟨h0, h1⟩ := hagree c
  refine (hr c).1.trans (Eq.trans ?_ (Cert.Kernel11Ideal.Conv.final2 m c).symm)
  rw [← h0, ← h1]
  rfl

/-- The modulation of the layers and its reference end with the same array. -/
theorem same_result10 : algebraic_Kernel10Ideal_Reference10Ideal := by
  intro m g m' g' _ hagree
  refine ⟨fun c => (Cert.Kernel10Ideal.Gen.dats m 0 c).arrAt 3 (Cert.Kernel10Ideal.cfgs 0).N,
    Cert.Kernel10Ideal.Value.run_blocks m g,
    (θ_run Cert.Reference10Ideal.defs _ _).mono (fun r hr c => ⟨?_, (hr c).2⟩) (Cert.Reference10Ideal.Value.run m' g')⟩
  obtain ⟨h0, h1, h2⟩ := hagree c
  refine (hr c).1.trans (Eq.trans ?_ (Cert.Kernel10Ideal.Adaln.final3 m c).symm)
  rw [← h0, ← h1, ← h2]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_tables_in_range.Gen.facts, Cert.Pre_heads_twice.Gen.facts, Cert.Pre_rotary_tables.Gen.facts, Cert.Pre_rotary_tables_normed.Gen.facts,
  frame_Kernel, frame_KernelIdeal, frame_ReferenceIdeal, frame_Kernel2, frame_Kernel2Ideal, frame_Reference2Ideal,
  frame_Kernel3, frame_Kernel3Ideal, frame_Kernel3Ideal_pre, frame_Reference3Ideal, frame_Reference3Ideal_pre,
  frame_Kernel4, frame_Kernel4Ideal, frame_Reference4Ideal,
  frame_Kernel5, frame_Kernel5Ideal, frame_Kernel5Ideal_pre, frame_Reference5Ideal, frame_Reference5Ideal_pre,
  frame_Kernel6, frame_Kernel6Ideal, frame_Reference6Ideal,
  frame_Kernel7, frame_Kernel7Ideal, frame_Kernel7Ideal_pre, frame_Reference7Ideal, frame_Reference7Ideal_pre,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  trivial, same_result, trivial, same_result2, trivial, same_result3, trivial, same_result4, trivial, same_result5, trivial, same_result6, trivial, same_result7, trivial, same_result8, trivial, same_result9, trivial, same_result10, trivial, same_result11⟩

end Cert.Proof

end
